-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Coarse (m : (ℓ : Loc Cert.Coarse.nD Cert.Coarse.τ Cert.Coarse.sig) → Buf (Elt Bits) ℓ) : Prop :=
  True

def Pre_CoarseIdeal (m : (ℓ : Loc Cert.CoarseIdeal.nD Cert.CoarseIdeal.τ Cert.CoarseIdeal.sig) → Buf (Elt Ideal) ℓ) : Prop :=
  True

def Pre_CoarseReferenceIdeal (m : (ℓ : Loc Cert.CoarseReferenceIdeal.nD Cert.CoarseReferenceIdeal.τ Cert.CoarseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Coarse [hCoarse : Cert.Coarse.Facts] : Prop :=
  ∀ (m : (ℓ : Loc Cert.Coarse.nD Cert.Coarse.τ Cert.Coarse.sig) → Buf (Elt Bits) ℓ) (g : Dev Cert.Coarse.nD → PrngReg), Pre_Coarse m →
    θ_run (Cert.Coarse.defs (F := Bits)) (onTc (τ := Cert.Coarse.τ) (Cert.Coarse.main (F := Bits))) ⟨m, fun _ => 0, g⟩ (fun r => (∀ c : Dev Cert.Coarse.nD,
      r.2.mem ((c.tc : Thread Cert.Coarse.nD Cert.Coarse.τ).loc Cert.Coarse.main_arg0) = m ((c.tc : Thread Cert.Coarse.nD Cert.Coarse.τ).loc Cert.Coarse.main_arg0)
      ∧ r.2.mem ((c.tc : Thread Cert.Coarse.nD Cert.Coarse.τ).loc Cert.Coarse.main_arg1) = m ((c.tc : Thread Cert.Coarse.nD Cert.Coarse.τ).loc Cert.Coarse.main_arg1)
      ∧ r.2.mem ((c.tc : Thread Cert.Coarse.nD Cert.Coarse.τ).loc Cert.Coarse.main_arg2) = m ((c.tc : Thread Cert.Coarse.nD Cert.Coarse.τ).loc Cert.Coarse.main_arg2)
      ∧ r.2.mem ((c.tc : Thread Cert.Coarse.nD Cert.Coarse.τ).loc Cert.Coarse.main_arg3) = m ((c.tc : Thread Cert.Coarse.nD Cert.Coarse.τ).loc Cert.Coarse.main_arg3)
      ∧ r.2.mem ((c.tc : Thread Cert.Coarse.nD Cert.Coarse.τ).loc Cert.Coarse.main_arg4) = m ((c.tc : Thread Cert.Coarse.nD Cert.Coarse.τ).loc Cert.Coarse.main_arg4))
      ∧ r.2.sem = fun _ => 0)

def quiescent_CoarseIdeal [hCoarseIdeal : Cert.CoarseIdeal.Facts] : Prop :=
  ∀ (m : (ℓ : Loc Cert.CoarseIdeal.nD Cert.CoarseIdeal.τ Cert.CoarseIdeal.sig) → Buf (Elt Ideal) ℓ) (g : Dev Cert.CoarseIdeal.nD → PrngReg), Pre_CoarseIdeal m →
    θ_run (Cert.CoarseIdeal.defs (F := Ideal)) (onTc (τ := Cert.CoarseIdeal.τ) (Cert.CoarseIdeal.main (F := Ideal))) ⟨m, fun _ => 0, g⟩ (fun r => (∀ c : Dev Cert.CoarseIdeal.nD,
      r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
      ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
      ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2)
      ∧ r.2.mem ((c.tc : Thread Cert.CoarseIdeal.nD Cert.CoarseIdeal.τ).loc Cert.CoarseIdeal.main_arg3) = m ((c.tc : Thread Cert.CoarseIdeal.nD Cert.CoarseIdeal.τ).loc Cert.CoarseIdeal.main_arg3)
      ∧ r.2.mem ((c.tc : Thread Cert.CoarseIdeal.nD Cert.CoarseIdeal.τ).loc Cert.CoarseIdeal.main_arg4) = m ((c.tc : Thread Cert.CoarseIdeal.nD Cert.CoarseIdeal.τ).loc Cert.CoarseIdeal.main_arg4))
      ∧ r.2.sem = fun _ => 0)

def quiescent_CoarseReferenceIdeal [hCoarseReferenceIdeal : Cert.CoarseReferenceIdeal.Facts] : Prop :=
  ∀ (m : (ℓ : Loc Cert.CoarseReferenceIdeal.nD Cert.CoarseReferenceIdeal.τ Cert.CoarseReferenceIdeal.sig) → Buf (Elt Ideal) ℓ) (g : Dev Cert.CoarseReferenceIdeal.nD → PrngReg), Pre_CoarseReferenceIdeal m →
    θ_run (Cert.CoarseReferenceIdeal.defs (F := Ideal)) (onTc (τ := Cert.CoarseReferenceIdeal.τ) (Cert.CoarseReferenceIdeal.main (F := Ideal))) ⟨m, fun _ => 0, g⟩ (fun r => (∀ c : Dev Cert.CoarseReferenceIdeal.nD,
      r.2.mem ((c.tc : Thread Cert.CoarseReferenceIdeal.nD Cert.CoarseReferenceIdeal.τ).loc Cert.CoarseReferenceIdeal.main_arg0) = m ((c.tc : Thread Cert.CoarseReferenceIdeal.nD Cert.CoarseReferenceIdeal.τ).loc Cert.CoarseReferenceIdeal.main_arg0)
      ∧ r.2.mem ((c.tc : Thread Cert.CoarseReferenceIdeal.nD Cert.CoarseReferenceIdeal.τ).loc Cert.CoarseReferenceIdeal.main_arg1) = m ((c.tc : Thread Cert.CoarseReferenceIdeal.nD Cert.CoarseReferenceIdeal.τ).loc Cert.CoarseReferenceIdeal.main_arg1)
      ∧ r.2.mem ((c.tc : Thread Cert.CoarseReferenceIdeal.nD Cert.CoarseReferenceIdeal.τ).loc Cert.CoarseReferenceIdeal.main_arg2) = m ((c.tc : Thread Cert.CoarseReferenceIdeal.nD Cert.CoarseReferenceIdeal.τ).loc Cert.CoarseReferenceIdeal.main_arg2)
      ∧ r.2.mem ((c.tc : Thread Cert.CoarseReferenceIdeal.nD Cert.CoarseReferenceIdeal.τ).loc Cert.CoarseReferenceIdeal.main_arg3) = m ((c.tc : Thread Cert.CoarseReferenceIdeal.nD Cert.CoarseReferenceIdeal.τ).loc Cert.CoarseReferenceIdeal.main_arg3)
      ∧ r.2.mem ((c.tc : Thread Cert.CoarseReferenceIdeal.nD Cert.CoarseReferenceIdeal.τ).loc Cert.CoarseReferenceIdeal.main_arg4) = m ((c.tc : Thread Cert.CoarseReferenceIdeal.nD Cert.CoarseReferenceIdeal.τ).loc Cert.CoarseReferenceIdeal.main_arg4))
      ∧ r.2.sem = fun _ => 0)

def preserves_Kernel_KernelIdeal : Prop :=
  IdealRules.bf16_pair.BufferStatement Cert.KernelIdeal.S2x10x2x128x2x128 Cert.KernelIdeal.S2x10x2x128x1x128
  ∧ IdealRules.bf16_pair.Statement Cert.KernelIdeal.S2x10x2x128x2x128 Cert.KernelIdeal.S2x10x2x128x1x128
  ∧ IdealRules.bf16_pair.SelectZeroStatement Cert.KernelIdeal.S2x10x2x128x128
  ∧ IdealRules.bf16_pair.Statement Cert.KernelIdeal.S1x4x1x120x2x128 Cert.KernelIdeal.S1x4x1x120x1x128
  ∧ IdealRules.bf16_pair.Statement Cert.KernelIdeal.S4x240x128 Cert.KernelIdeal.S4x120x128
  ∧ IdealRules.bf16_pair.SelectZeroStatement Cert.KernelIdeal.S4x1x128
  ∧ IdealRules.bf16_pair.Statement Cert.KernelIdeal.S1x4x1x1x2x128 Cert.KernelIdeal.S1x4x1x1x1x128
  ∧ IdealRules.bf16_pair.SelectZeroStatement Cert.KernelIdeal.S120x128
  ∧ IdealRules.bf16_pair.Statement Cert.KernelIdeal.S1x1x1x120x2x128 Cert.KernelIdeal.S1x1x1x120x1x128
  ∧ IdealRules.bf16_pair.SelectZeroStatement Cert.KernelIdeal.S1x128
  ∧ IdealRules.bf16_pair.Statement Cert.KernelIdeal.S1x1x1x1x2x128 Cert.KernelIdeal.S1x1x1x1x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Coarse_CoarseIdeal : Prop :=
  IdealRules.bf16_pair.BufferStatement Cert.CoarseIdeal.S2x2x368x2x128 Cert.CoarseIdeal.S2x2x368x1x128
  ∧ IdealRules.bf16_pair.Statement Cert.CoarseIdeal.S2x2x368x2x128 Cert.CoarseIdeal.S2x2x368x1x128
  ∧ IdealRules.bf16_pair.SelectZeroStatement Cert.CoarseIdeal.S2x2x368x128
  ∧ IdealRules.bf16_pair.Statement Cert.CoarseIdeal.S1x1x240x2x128 Cert.CoarseIdeal.S1x1x240x1x128
  ∧ IdealRules.bf16_pair.Statement Cert.CoarseIdeal.S480x128 Cert.CoarseIdeal.S240x128
  ∧ IdealRules.bf16_pair.SelectZeroStatement Cert.CoarseIdeal.S240x128
  ∧ IdealRules.bf16_pair.Statement Cert.CoarseIdeal.S1x1x60x2x128 Cert.CoarseIdeal.S1x1x60x1x128
  ∧ IdealRules.bf16_pair.SelectZeroStatement Cert.CoarseIdeal.S60x128

def algebraic_CoarseIdeal_CoarseReferenceIdeal [hCoarseIdeal : Cert.CoarseIdeal.Facts] [hCoarseReferenceIdeal : Cert.CoarseReferenceIdeal.Facts] : Prop :=
  ∀ (m : (ℓ : Loc Cert.CoarseIdeal.nD Cert.CoarseIdeal.τ Cert.CoarseIdeal.sig) → Buf (Elt Ideal) ℓ) (g : Dev Cert.CoarseIdeal.nD → PrngReg)
    (m' : (ℓ : Loc Cert.CoarseReferenceIdeal.nD Cert.CoarseReferenceIdeal.τ Cert.CoarseReferenceIdeal.sig) → Buf (Elt Ideal) ℓ) (g' : Dev Cert.CoarseReferenceIdeal.nD → PrngReg), Pre_CoarseIdeal m →
    (∀ c : Dev Cert.CoarseIdeal.nD,
      m' ((c.tc : Thread Cert.CoarseReferenceIdeal.nD Cert.CoarseReferenceIdeal.τ).loc Cert.CoarseReferenceIdeal.main_arg0) = m ((c.tc : Thread Cert.CoarseIdeal.nD Cert.CoarseIdeal.τ).loc Cert.CoarseIdeal.main_arg0)
      ∧ m' ((c.tc : Thread Cert.CoarseReferenceIdeal.nD Cert.CoarseReferenceIdeal.τ).loc Cert.CoarseReferenceIdeal.main_arg1) = m ((c.tc : Thread Cert.CoarseIdeal.nD Cert.CoarseIdeal.τ).loc Cert.CoarseIdeal.main_arg1)
      ∧ m' ((c.tc : Thread Cert.CoarseReferenceIdeal.nD Cert.CoarseReferenceIdeal.τ).loc Cert.CoarseReferenceIdeal.main_arg2) = m ((c.tc : Thread Cert.CoarseIdeal.nD Cert.CoarseIdeal.τ).loc Cert.CoarseIdeal.main_arg2)
      ∧ m' ((c.tc : Thread Cert.CoarseReferenceIdeal.nD Cert.CoarseReferenceIdeal.τ).loc Cert.CoarseReferenceIdeal.main_arg3) = m ((c.tc : Thread Cert.CoarseIdeal.nD Cert.CoarseIdeal.τ).loc Cert.CoarseIdeal.main_arg3)
      ∧ m' ((c.tc : Thread Cert.CoarseReferenceIdeal.nD Cert.CoarseReferenceIdeal.τ).loc Cert.CoarseReferenceIdeal.main_arg4) = m ((c.tc : Thread Cert.CoarseIdeal.nD Cert.CoarseIdeal.τ).loc Cert.CoarseIdeal.main_arg4)) →
    ∃ (v0 : (c : Dev Cert.CoarseIdeal.nD) → Buf (Elt Ideal) ((c.tc : Thread Cert.CoarseIdeal.nD Cert.CoarseIdeal.τ).loc Cert.CoarseIdeal.main_v10)),
      θ_run (Cert.CoarseIdeal.defs (F := Ideal)) (onTc (τ := Cert.CoarseIdeal.τ) (Cert.CoarseIdeal.main (F := Ideal))) ⟨m, fun _ => 0, g⟩ (fun r => ∀ c : Dev Cert.CoarseIdeal.nD,
          r.2.mem ((c.tc : Thread Cert.CoarseIdeal.nD Cert.CoarseIdeal.τ).loc Cert.CoarseIdeal.main_v10) = v0 c
          ∧ r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
          ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
          ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2)
          ∧ r.2.mem ((c.tc : Thread Cert.CoarseIdeal.nD Cert.CoarseIdeal.τ).loc Cert.CoarseIdeal.main_arg3) = m ((c.tc : Thread Cert.CoarseIdeal.nD Cert.CoarseIdeal.τ).loc Cert.CoarseIdeal.main_arg3)
          ∧ r.2.mem ((c.tc : Thread Cert.CoarseIdeal.nD Cert.CoarseIdeal.τ).loc Cert.CoarseIdeal.main_arg4) = m ((c.tc : Thread Cert.CoarseIdeal.nD Cert.CoarseIdeal.τ).loc Cert.CoarseIdeal.main_arg4))
      ∧ θ_run (Cert.CoarseReferenceIdeal.defs (F := Ideal)) (onTc (τ := Cert.CoarseReferenceIdeal.τ) (Cert.CoarseReferenceIdeal.main (F := Ideal))) ⟨m', fun _ => 0, g'⟩ (fun r => ∀ c : Dev Cert.CoarseReferenceIdeal.nD,
          r.2.mem ((c.tc : Thread Cert.CoarseReferenceIdeal.nD Cert.CoarseReferenceIdeal.τ).loc Cert.CoarseReferenceIdeal.main_v5) = v0 c
          ∧ r.2.mem ((c.tc : Thread Cert.CoarseReferenceIdeal.nD Cert.CoarseReferenceIdeal.τ).loc Cert.CoarseReferenceIdeal.main_arg0) = m' ((c.tc : Thread Cert.CoarseReferenceIdeal.nD Cert.CoarseReferenceIdeal.τ).loc Cert.CoarseReferenceIdeal.main_arg0)
          ∧ r.2.mem ((c.tc : Thread Cert.CoarseReferenceIdeal.nD Cert.CoarseReferenceIdeal.τ).loc Cert.CoarseReferenceIdeal.main_arg1) = m' ((c.tc : Thread Cert.CoarseReferenceIdeal.nD Cert.CoarseReferenceIdeal.τ).loc Cert.CoarseReferenceIdeal.main_arg1)
          ∧ r.2.mem ((c.tc : Thread Cert.CoarseReferenceIdeal.nD Cert.CoarseReferenceIdeal.τ).loc Cert.CoarseReferenceIdeal.main_arg2) = m' ((c.tc : Thread Cert.CoarseReferenceIdeal.nD Cert.CoarseReferenceIdeal.τ).loc Cert.CoarseReferenceIdeal.main_arg2)
          ∧ r.2.mem ((c.tc : Thread Cert.CoarseReferenceIdeal.nD Cert.CoarseReferenceIdeal.τ).loc Cert.CoarseReferenceIdeal.main_arg3) = m' ((c.tc : Thread Cert.CoarseReferenceIdeal.nD Cert.CoarseReferenceIdeal.τ).loc Cert.CoarseReferenceIdeal.main_arg3)
          ∧ r.2.mem ((c.tc : Thread Cert.CoarseReferenceIdeal.nD Cert.CoarseReferenceIdeal.τ).loc Cert.CoarseReferenceIdeal.main_arg4) = m' ((c.tc : Thread Cert.CoarseReferenceIdeal.nD Cert.CoarseReferenceIdeal.τ).loc Cert.CoarseReferenceIdeal.main_arg4))

def Claim : Prop :=
  ∃ (hKernel : Cert.Kernel.Facts) (hKernelIdeal : Cert.KernelIdeal.Facts) (hReferenceIdeal : Cert.ReferenceIdeal.Facts) (hCoarse : Cert.Coarse.Facts) (hCoarseIdeal : Cert.CoarseIdeal.Facts) (hCoarseReferenceIdeal : Cert.CoarseReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Coarse (hCoarse := hCoarse)
    ∧ quiescent_CoarseIdeal (hCoarseIdeal := hCoarseIdeal)
    ∧ quiescent_CoarseReferenceIdeal (hCoarseReferenceIdeal := hCoarseReferenceIdeal)
    ∧ preserves_Kernel_KernelIdeal
    ∧ algebraic_KernelIdeal_ReferenceIdeal (hKernelIdeal := hKernelIdeal) (hReferenceIdeal := hReferenceIdeal)
    ∧ preserves_Coarse_CoarseIdeal
    ∧ algebraic_CoarseIdeal_CoarseReferenceIdeal (hCoarseIdeal := hCoarseIdeal) (hCoarseReferenceIdeal := hCoarseReferenceIdeal)
-- ==== Kernel.lean ====
abbrev S6x136x240x256 : Shape := ⟨4, ![6, 136, 240, 256]⟩
abbrev S6x136x240x8 : Shape := ⟨4, ![6, 136, 240, 8]⟩
abbrev S3x3x256x256 : Shape := ⟨4, ![3, 3, 256, 256]⟩
abbrev S256 : Shape := ⟨1, ![256]⟩
abbrev S816x240x256 : Shape := ⟨3, ![816, 240, 256]⟩
abbrev S6x136x240x8x1 : Shape := ⟨5, ![6, 136, 240, 8, 1]⟩
abbrev S6x136x240x8x32 : Shape := ⟨5, ![6, 136, 240, 8, 32]⟩
abbrev S2304x256 : Shape := ⟨2, ![2304, 256]⟩
abbrev S1x256 : Shape := ⟨2, ![1, 256]⟩
abbrev S16x240x256 : Shape := ⟨3, ![16, 240, 256]⟩
abbrev S2x10x2x128x128 : Shape := ⟨5, ![2, 10, 2, 128, 128]⟩
abbrev S1x4x1x120x128 : Shape := ⟨5, ![1, 4, 1, 120, 128]⟩
abbrev S4x120x128 : Shape := ⟨3, ![4, 120, 128]⟩
abbrev S4x240x128 : Shape := ⟨3, ![4, 240, 128]⟩
abbrev S960x128 : Shape := ⟨2, ![960, 128]⟩
abbrev S960x256 : Shape := ⟨2, ![960, 256]⟩
abbrev S960x2304 : Shape := ⟨2, ![960, 2304]⟩
abbrev S4x240x256 : Shape := ⟨3, ![4, 240, 256]⟩
abbrev S4x1x128 : Shape := ⟨3, ![4, 1, 128]⟩
abbrev S1x4x1x1x128 : Shape := ⟨5, ![1, 4, 1, 1, 128]⟩
abbrev S1x120x128 : Shape := ⟨3, ![1, 120, 128]⟩
abbrev S120x128 : Shape := ⟨2, ![120, 128]⟩
abbrev S1x1x1x120x128 : Shape := ⟨5, ![1, 1, 1, 120, 128]⟩
abbrev S1x1x128 : Shape := ⟨3, ![1, 1, 128]⟩
abbrev S1x128 : Shape := ⟨2, ![1, 128]⟩
abbrev S1x1x1x1x128 : Shape := ⟨5, ![1, 1, 1, 1, 128]⟩

abbrev nBuf : Space → Nat
  | .hbm => 13
  | .vmem => 13
  | .smem => 0
  | _ => 0

abbrev bufTy : (tb : Table) → Fin (tcTables nBuf tb) → BufTy
  | .hbm, ⟨0, _⟩ => ⟨S6x136x240x256, .fp8e4m3⟩
  | .hbm, ⟨1, _⟩ => ⟨S6x136x240x8, .f32⟩
  | .hbm, ⟨2, _⟩ => ⟨S3x3x256x256, .fp8e4m3⟩
  | .hbm, ⟨3, _⟩ => ⟨S256, .f32⟩
  | .hbm, ⟨4, _⟩ => ⟨S256, .f32⟩
  | .hbm, ⟨5, _⟩ => ⟨S816x240x256, .fp8e4m3⟩
  | .hbm, ⟨6, _⟩ => ⟨S6x136x240x8x1, .f32⟩
  | .hbm, ⟨7, _⟩ => ⟨S6x136x240x8x32, .f32⟩
  | .hbm, ⟨8, _⟩ => ⟨S816x240x256, .f32⟩
  | .hbm, ⟨9, _⟩ => ⟨S2304x256, .fp8e4m3⟩
  | .hbm, ⟨10, _⟩ => ⟨S1x256, .f32⟩
  | .hbm, ⟨11, _⟩ => ⟨S1x256, .f32⟩
  | .hbm, ⟨12, _⟩ => ⟨S816x240x256, .bf16⟩
  | .local _ .vmem, ⟨0, _⟩ => ⟨S16x240x256, .fp8e4m3⟩
  | .local _ .vmem, ⟨1, _⟩ => ⟨S16x240x256, .fp8e4m3⟩
  | .local _ .vmem, ⟨2, _⟩ => ⟨S16x240x256, .f32⟩
  | .local _ .vmem, ⟨3, _⟩ => ⟨S16x240x256, .f32⟩
  | .local _ .vmem, ⟨4, _⟩ => ⟨S2304x256, .fp8e4m3⟩
  | .local _ .vmem, ⟨5, _⟩ => ⟨S1x256, .f32⟩
  | .local _ .vmem, ⟨6, _⟩ => ⟨S1x256, .f32⟩
  | .local _ .vmem, ⟨7, _⟩ => ⟨S16x240x256, .bf16⟩
  | .local _ .vmem, ⟨8, _⟩ => ⟨S16x240x256, .bf16⟩
  | .local _ .vmem, ⟨9, _⟩ => ⟨S2x10x2x128x128, .i32⟩
  | .local _ .vmem, ⟨10, _⟩ => ⟨S2x10x2x128x128, .i32⟩
  | .local _ .vmem, ⟨11, _⟩ => ⟨S2x10x2x128x128, .i32⟩
  | .local _ .vmem, ⟨12, _⟩ => ⟨S2x10x2x128x128, .i32⟩
  | _, _ => ⟨S6x136x240x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![52], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S16x240x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x240x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x240x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S6x136x240x256 : Shape := ⟨4, ![6, 136, 240, 256]⟩
abbrev S6x136x240x8 : Shape := ⟨4, ![6, 136, 240, 8]⟩
abbrev S3x3x256x256 : Shape := ⟨4, ![3, 3, 256, 256]⟩
abbrev S256 : Shape := ⟨1, ![256]⟩
abbrev S816x240x256 : Shape := ⟨3, ![816, 240, 256]⟩
abbrev S6x136x240x8x1 : Shape := ⟨5, ![6, 136, 240, 8, 1]⟩
abbrev S6x136x240x8x32 : Shape := ⟨5, ![6, 136, 240, 8, 32]⟩
abbrev S2304x256 : Shape := ⟨2, ![2304, 256]⟩
abbrev S1x256 : Shape := ⟨2, ![1, 256]⟩
abbrev S16x240x256 : Shape := ⟨3, ![16, 240, 256]⟩
abbrev S2x10x2x128x128 : Shape := ⟨5, ![2, 10, 2, 128, 128]⟩
abbrev S2x10x2x128x2x128 : Shape := ⟨6, ![2, 10, 2, 128, 2, 128]⟩
abbrev S2x10x2x128x1x128 : Shape := ⟨6, ![2, 10, 2, 128, 1, 128]⟩
abbrev S1x4x1x120x128 : Shape := ⟨5, ![1, 4, 1, 120, 128]⟩
abbrev S1x4x1x120x2x128 : Shape := ⟨6, ![1, 4, 1, 120, 2, 128]⟩
abbrev S1x4x1x120x1x128 : Shape := ⟨6, ![1, 4, 1, 120, 1, 128]⟩
abbrev S4x120x128 : Shape := ⟨3, ![4, 120, 128]⟩
abbrev S4x240x128 : Shape := ⟨3, ![4, 240, 128]⟩
abbrev S960x128 : Shape := ⟨2, ![960, 128]⟩
abbrev S960x256 : Shape := ⟨2, ![960, 256]⟩
abbrev S960x2304 : Shape := ⟨2, ![960, 2304]⟩
abbrev S4x240x256 : Shape := ⟨3, ![4, 240, 256]⟩
abbrev S4x1x128 : Shape := ⟨3, ![4, 1, 128]⟩
abbrev S1x4x1x1x128 : Shape := ⟨5, ![1, 4, 1, 1, 128]⟩
abbrev S1x4x1x1x2x128 : Shape := ⟨6, ![1, 4, 1, 1, 2, 128]⟩
abbrev S1x4x1x1x1x128 : Shape := ⟨6, ![1, 4, 1, 1, 1, 128]⟩
abbrev S1x120x128 : Shape := ⟨3, ![1, 120, 128]⟩
abbrev S120x128 : Shape := ⟨2, ![120, 128]⟩
abbrev S1x1x1x120x128 : Shape := ⟨5, ![1, 1, 1, 120, 128]⟩
abbrev S1x1x1x120x2x128 : Shape := ⟨6, ![1, 1, 1, 120, 2, 128]⟩
abbrev S1x1x1x120x1x128 : Shape := ⟨6, ![1, 1, 1, 120, 1, 128]⟩
abbrev S1x1x128 : Shape := ⟨3, ![1, 1, 128]⟩
abbrev S1x128 : Shape := ⟨2, ![1, 128]⟩
abbrev S1x1x1x1x128 : Shape := ⟨5, ![1, 1, 1, 1, 128]⟩
abbrev S1x1x1x1x2x128 : Shape := ⟨6, ![1, 1, 1, 1, 2, 128]⟩
abbrev S1x1x1x1x1x128 : Shape := ⟨6, ![1, 1, 1, 1, 1, 128]⟩

abbrev nBuf : Space → Nat
  | .hbm => 13
  | .vmem => 13
  | .smem => 0
  | _ => 0

abbrev bufTy : (tb : Table) → Fin (tcTables nBuf tb) → BufTy
  | .hbm, ⟨0, _⟩ => ⟨S6x136x240x256, .fp8e4m3⟩
  | .hbm, ⟨1, _⟩ => ⟨S6x136x240x8, .f32⟩
  | .hbm, ⟨2, _⟩ => ⟨S3x3x256x256, .fp8e4m3⟩
  | .hbm, ⟨3, _⟩ => ⟨S256, .f32⟩
  | .hbm, ⟨4, _⟩ => ⟨S256, .f32⟩
  | .hbm, ⟨5, _⟩ => ⟨S816x240x256, .fp8e4m3⟩
  | .hbm, ⟨6, _⟩ => ⟨S6x136x240x8x1, .f32⟩
  | .hbm, ⟨7, _⟩ => ⟨S6x136x240x8x32, .f32⟩
  | .hbm, ⟨8, _⟩ => ⟨S816x240x256, .f32⟩
  | .hbm, ⟨9, _⟩ => ⟨S2304x256, .fp8e4m3⟩
  | .hbm, ⟨10, _⟩ => ⟨S1x256, .f32⟩
  | .hbm, ⟨11, _⟩ => ⟨S1x256, .f32⟩
  | .hbm, ⟨12, _⟩ => ⟨S816x240x256, .bf16⟩
  | .local _ .vmem, ⟨0, _⟩ => ⟨S16x240x256, .fp8e4m3⟩
  | .local _ .vmem, ⟨1, _⟩ => ⟨S16x240x256, .fp8e4m3⟩
  | .local _ .vmem, ⟨2, _⟩ => ⟨S16x240x256, .f32⟩
  | .local _ .vmem, ⟨3, _⟩ => ⟨S16x240x256, .f32⟩
  | .local _ .vmem, ⟨4, _⟩ => ⟨S2304x256, .fp8e4m3⟩
  | .local _ .vmem, ⟨5, _⟩ => ⟨S1x256, .f32⟩
  | .local _ .vmem, ⟨6, _⟩ => ⟨S1x256, .f32⟩
  | .local _ .vmem, ⟨7, _⟩ => ⟨S16x240x256, .bf16⟩
  | .local _ .vmem, ⟨8, _⟩ => ⟨S16x240x256, .bf16⟩
  | .local _ .vmem, ⟨9, _⟩ => ⟨S2x10x2x128x2x128, .bf16⟩
  | .local _ .vmem, ⟨10, _⟩ => ⟨S2x10x2x128x2x128, .bf16⟩
  | .local _ .vmem, ⟨11, _⟩ => ⟨S2x10x2x128x2x128, .bf16⟩
  | .local _ .vmem, ⟨12, _⟩ => ⟨S2x10x2x128x2x128, .bf16⟩
  | _, _ => ⟨S6x136x240x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![52], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S16x240x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x240x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x240x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S6x136x240x256 : Shape := ⟨4, ![6, 136, 240, 256]⟩
abbrev S6x136x240x8 : Shape := ⟨4, ![6, 136, 240, 8]⟩
abbrev S3x3x256x256 : Shape := ⟨4, ![3, 3, 256, 256]⟩
abbrev S256 : Shape := ⟨1, ![256]⟩
abbrev S6x136x240x8x1 : Shape := ⟨5, ![6, 136, 240, 8, 1]⟩
abbrev S6x136x240x8x32 : Shape := ⟨5, ![6, 136, 240, 8, 32]⟩
abbrev S1x256 : Shape := ⟨2, ![1, 256]⟩
abbrev S816x240x256 : Shape := ⟨3, ![816, 240, 256]⟩
abbrev S6x1x240x256 : Shape := ⟨4, ![6, 1, 240, 256]⟩
abbrev S6x137x240x256 : Shape := ⟨4, ![6, 137, 240, 256]⟩
abbrev S6x138x240x256 : Shape := ⟨4, ![6, 138, 240, 256]⟩
abbrev S6x138x1x256 : Shape := ⟨4, ![6, 138, 1, 256]⟩
abbrev S6x138x241x256 : Shape := ⟨4, ![6, 138, 241, 256]⟩
abbrev S6x138x242x256 : Shape := ⟨4, ![6, 138, 242, 256]⟩
abbrev S195840x256 : Shape := ⟨2, ![195840, 256]⟩
abbrev S1x1x256x256 : Shape := ⟨4, ![1, 1, 256, 256]⟩
abbrev S256x256 : Shape := ⟨2, ![256, 256]⟩

abbrev nBuf : Space → Nat
  | .hbm => 11
  | .vmem => 6
  | .smem => 0
  | _ => 0

abbrev bufTy : (tb : Table) → Fin (tcTables nBuf tb) → BufTy
  | .hbm, ⟨0, _⟩ => ⟨S6x136x240x256, .fp8e4m3⟩
  | .hbm, ⟨1, _⟩ => ⟨S6x136x240x8, .f32⟩
  | .hbm, ⟨2, _⟩ => ⟨S3x3x256x256, .fp8e4m3⟩
  | .hbm, ⟨3, _⟩ => ⟨S256, .f32⟩
  | .hbm, ⟨4, _⟩ => ⟨S256, .f32⟩
  | .hbm, ⟨5, _⟩ => ⟨S6x136x240x8x1, .f32⟩
  | .hbm, ⟨6, _⟩ => ⟨S6x136x240x8x32, .f32⟩
  | .hbm, ⟨7, _⟩ => ⟨S6x136x240x256, .f32⟩
  | .hbm, ⟨8, _⟩ => ⟨S1x256, .f32⟩
  | .hbm, ⟨9, _⟩ => ⟨S1x256, .f32⟩
  | .hbm, ⟨10, _⟩ => ⟨S816x240x256, .bf16⟩
  | .local _ .vmem, ⟨0, _⟩ => ⟨S6x136x240x256, .fp8e4m3⟩
  | .local _ .vmem, ⟨1, _⟩ => ⟨S6x136x240x256, .f32⟩
  | .local _ .vmem, ⟨2, _⟩ => ⟨S3x3x256x256, .fp8e4m3⟩
  | .local _ .vmem, ⟨3, _⟩ => ⟨S1x256, .f32⟩
  | .local _ .vmem, ⟨4, _⟩ => ⟨S1x256, .f32⟩
  | .local _ .vmem, ⟨5, _⟩ => ⟨S816x240x256, .bf16⟩
  | _, _ => ⟨S6x136x240x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x136x240x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x136x240x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x256x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S816x240x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Coarse.lean ====
abbrev S6x68x120x256 : Shape := ⟨4, ![6, 68, 120, 256]⟩
abbrev S6x68x120x8 : Shape := ⟨4, ![6, 68, 120, 8]⟩
abbrev S3x3x256x256 : Shape := ⟨4, ![3, 3, 256, 256]⟩
abbrev S256 : Shape := ⟨1, ![256]⟩
abbrev S408x120x256 : Shape := ⟨3, ![408, 120, 256]⟩
abbrev S6x68x120x8x1 : Shape := ⟨5, ![6, 68, 120, 8, 1]⟩
abbrev S6x68x120x8x32 : Shape := ⟨5, ![6, 68, 120, 8, 32]⟩
abbrev S2304x256 : Shape := ⟨2, ![2304, 256]⟩
abbrev S1x256 : Shape := ⟨2, ![1, 256]⟩
abbrev S408x15x16x128 : Shape := ⟨4, ![408, 15, 16, 128]⟩
abbrev S8x120x256 : Shape := ⟨3, ![8, 120, 256]⟩
abbrev S8x15x16x128 : Shape := ⟨4, ![8, 15, 16, 128]⟩
abbrev S2x2x368x128 : Shape := ⟨4, ![2, 2, 368, 128]⟩
abbrev S1x1x240x128 : Shape := ⟨4, ![1, 1, 240, 128]⟩
abbrev S240x128 : Shape := ⟨2, ![240, 128]⟩
abbrev S480x128 : Shape := ⟨2, ![480, 128]⟩
abbrev S480x256 : Shape := ⟨2, ![480, 256]⟩
abbrev S480x2304 : Shape := ⟨2, ![480, 2304]⟩
abbrev S8x128 : Shape := ⟨2, ![8, 128]⟩
abbrev S16x128 : Shape := ⟨2, ![16, 128]⟩
abbrev S1x1x16x128 : Shape := ⟨4, ![1, 1, 16, 128]⟩
abbrev S4x120x128 : Shape := ⟨3, ![4, 120, 128]⟩
abbrev S1x1x60x128 : Shape := ⟨4, ![1, 1, 60, 128]⟩
abbrev S60x128 : Shape := ⟨2, ![60, 128]⟩
abbrev S408x15x2x8x128 : Shape := ⟨5, ![408, 15, 2, 8, 128]⟩
abbrev S408x15x8x2x128 : Shape := ⟨5, ![408, 15, 8, 2, 128]⟩

abbrev nBuf : Space → Nat
  | .hbm => 16
  | .vmem => 15
  | .smem => 0
  | _ => 0

abbrev bufTy : (tb : Table) → Fin (tcTables nBuf tb) → BufTy
  | .hbm, ⟨0, _⟩ => ⟨S6x68x120x256, .fp8e4m3⟩
  | .hbm, ⟨1, _⟩ => ⟨S6x68x120x8, .f32⟩
  | .hbm, ⟨2, _⟩ => ⟨S3x3x256x256, .fp8e4m3⟩
  | .hbm, ⟨3, _⟩ => ⟨S256, .f32⟩
  | .hbm, ⟨4, _⟩ => ⟨S256, .f32⟩
  | .hbm, ⟨5, _⟩ => ⟨S408x120x256, .fp8e4m3⟩
  | .hbm, ⟨6, _⟩ => ⟨S6x68x120x8x1, .f32⟩
  | .hbm, ⟨7, _⟩ => ⟨S6x68x120x8x32, .f32⟩
  | .hbm, ⟨8, _⟩ => ⟨S408x120x256, .f32⟩
  | .hbm, ⟨9, _⟩ => ⟨S2304x256, .fp8e4m3⟩
  | .hbm, ⟨10, _⟩ => ⟨S1x256, .f32⟩
  | .hbm, ⟨11, _⟩ => ⟨S1x256, .f32⟩
  | .hbm, ⟨12, _⟩ => ⟨S408x15x16x128, .bf16⟩
  | .hbm, ⟨13, _⟩ => ⟨S408x15x2x8x128, .bf16⟩
  | .hbm, ⟨14, _⟩ => ⟨S408x15x8x2x128, .bf16⟩
  | .hbm, ⟨15, _⟩ => ⟨S408x120x256, .bf16⟩
  | .local _ .vmem, ⟨0, _⟩ => ⟨S8x120x256, .fp8e4m3⟩
  | .local _ .vmem, ⟨1, _⟩ => ⟨S8x120x256, .fp8e4m3⟩
  | .local _ .vmem, ⟨2, _⟩ => ⟨S8x120x256, .f32⟩
  | .local _ .vmem, ⟨3, _⟩ => ⟨S8x120x256, .f32⟩
  | .local _ .vmem, ⟨4, _⟩ => ⟨S2304x256, .fp8e4m3⟩
  | .local _ .vmem, ⟨5, _⟩ => ⟨S1x256, .f32⟩
  | .local _ .vmem, ⟨6, _⟩ => ⟨S1x256, .f32⟩
  | .local _ .vmem, ⟨7, _⟩ => ⟨S8x15x16x128, .bf16⟩
  | .local _ .vmem, ⟨8, _⟩ => ⟨S8x15x16x128, .bf16⟩
  | .local _ .vmem, ⟨9, _⟩ => ⟨S2x2x368x128, .i32⟩
  | .local _ .vmem, ⟨10, _⟩ => ⟨S2x2x368x128, .i32⟩
  | .local _ .vmem, ⟨11, _⟩ => ⟨S2x2x368x128, .i32⟩
  | .local _ .vmem, ⟨12, _⟩ => ⟨S2x2x368x128, .i32⟩
  | .local _ .vmem, ⟨13, _⟩ => ⟨S2x2x368x128, .i32⟩
  | .local _ .vmem, ⟨14, _⟩ => ⟨S2x2x368x128, .i32⟩
  | _, _ => ⟨S6x68x120x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![52], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S8x120x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x120x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x15x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CoarseIdeal.lean ====
abbrev S6x68x120x256 : Shape := ⟨4, ![6, 68, 120, 256]⟩
abbrev S6x68x120x8 : Shape := ⟨4, ![6, 68, 120, 8]⟩
abbrev S3x3x256x256 : Shape := ⟨4, ![3, 3, 256, 256]⟩
abbrev S256 : Shape := ⟨1, ![256]⟩
abbrev S408x120x256 : Shape := ⟨3, ![408, 120, 256]⟩
abbrev S6x68x120x8x1 : Shape := ⟨5, ![6, 68, 120, 8, 1]⟩
abbrev S6x68x120x8x32 : Shape := ⟨5, ![6, 68, 120, 8, 32]⟩
abbrev S2304x256 : Shape := ⟨2, ![2304, 256]⟩
abbrev S1x256 : Shape := ⟨2, ![1, 256]⟩
abbrev S408x15x16x128 : Shape := ⟨4, ![408, 15, 16, 128]⟩
abbrev S8x120x256 : Shape := ⟨3, ![8, 120, 256]⟩
abbrev S8x15x16x128 : Shape := ⟨4, ![8, 15, 16, 128]⟩
abbrev S2x2x368x128 : Shape := ⟨4, ![2, 2, 368, 128]⟩
abbrev S2x2x368x2x128 : Shape := ⟨5, ![2, 2, 368, 2, 128]⟩
abbrev S2x2x368x1x128 : Shape := ⟨5, ![2, 2, 368, 1, 128]⟩
abbrev S1x1x240x128 : Shape := ⟨4, ![1, 1, 240, 128]⟩
abbrev S1x1x240x2x128 : Shape := ⟨5, ![1, 1, 240, 2, 128]⟩
abbrev S1x1x240x1x128 : Shape := ⟨5, ![1, 1, 240, 1, 128]⟩
abbrev S240x128 : Shape := ⟨2, ![240, 128]⟩
abbrev S480x128 : Shape := ⟨2, ![480, 128]⟩
abbrev S480x256 : Shape := ⟨2, ![480, 256]⟩
abbrev S480x2304 : Shape := ⟨2, ![480, 2304]⟩
abbrev S8x128 : Shape := ⟨2, ![8, 128]⟩
abbrev S16x128 : Shape := ⟨2, ![16, 128]⟩
abbrev S1x1x16x128 : Shape := ⟨4, ![1, 1, 16, 128]⟩
abbrev S4x120x128 : Shape := ⟨3, ![4, 120, 128]⟩
abbrev S1x1x60x128 : Shape := ⟨4, ![1, 1, 60, 128]⟩
abbrev S1x1x60x2x128 : Shape := ⟨5, ![1, 1, 60, 2, 128]⟩
abbrev S1x1x60x1x128 : Shape := ⟨5, ![1, 1, 60, 1, 128]⟩
abbrev S60x128 : Shape := ⟨2, ![60, 128]⟩
abbrev S408x15x2x8x128 : Shape := ⟨5, ![408, 15, 2, 8, 128]⟩
abbrev S408x15x8x2x128 : Shape := ⟨5, ![408, 15, 8, 2, 128]⟩

abbrev nBuf : Space → Nat
  | .hbm => 16
  | .vmem => 15
  | .smem => 0
  | _ => 0

abbrev bufTy : (tb : Table) → Fin (tcTables nBuf tb) → BufTy
  | .hbm, ⟨0, _⟩ => ⟨S6x68x120x256, .fp8e4m3⟩
  | .hbm, ⟨1, _⟩ => ⟨S6x68x120x8, .f32⟩
  | .hbm, ⟨2, _⟩ => ⟨S3x3x256x256, .fp8e4m3⟩
  | .hbm, ⟨3, _⟩ => ⟨S256, .f32⟩
  | .hbm, ⟨4, _⟩ => ⟨S256, .f32⟩
  | .hbm, ⟨5, _⟩ => ⟨S408x120x256, .fp8e4m3⟩
  | .hbm, ⟨6, _⟩ => ⟨S6x68x120x8x1, .f32⟩
  | .hbm, ⟨7, _⟩ => ⟨S6x68x120x8x32, .f32⟩
  | .hbm, ⟨8, _⟩ => ⟨S408x120x256, .f32⟩
  | .hbm, ⟨9, _⟩ => ⟨S2304x256, .fp8e4m3⟩
  | .hbm, ⟨10, _⟩ => ⟨S1x256, .f32⟩
  | .hbm, ⟨11, _⟩ => ⟨S1x256, .f32⟩
  | .hbm, ⟨12, _⟩ => ⟨S408x15x16x128, .bf16⟩
  | .hbm, ⟨13, _⟩ => ⟨S408x15x2x8x128, .bf16⟩
  | .hbm, ⟨14, _⟩ => ⟨S408x15x8x2x128, .bf16⟩
  | .hbm, ⟨15, _⟩ => ⟨S408x120x256, .bf16⟩
  | .local _ .vmem, ⟨0, _⟩ => ⟨S8x120x256, .fp8e4m3⟩
  | .local _ .vmem, ⟨1, _⟩ => ⟨S8x120x256, .fp8e4m3⟩
  | .local _ .vmem, ⟨2, _⟩ => ⟨S8x120x256, .f32⟩
  | .local _ .vmem, ⟨3, _⟩ => ⟨S8x120x256, .f32⟩
  | .local _ .vmem, ⟨4, _⟩ => ⟨S2304x256, .fp8e4m3⟩
  | .local _ .vmem, ⟨5, _⟩ => ⟨S1x256, .f32⟩
  | .local _ .vmem, ⟨6, _⟩ => ⟨S1x256, .f32⟩
  | .local _ .vmem, ⟨7, _⟩ => ⟨S8x15x16x128, .bf16⟩
  | .local _ .vmem, ⟨8, _⟩ => ⟨S8x15x16x128, .bf16⟩
  | .local _ .vmem, ⟨9, _⟩ => ⟨S2x2x368x2x128, .bf16⟩
  | .local _ .vmem, ⟨10, _⟩ => ⟨S2x2x368x2x128, .bf16⟩
  | .local _ .vmem, ⟨11, _⟩ => ⟨S2x2x368x2x128, .bf16⟩
  | .local _ .vmem, ⟨12, _⟩ => ⟨S2x2x368x2x128, .bf16⟩
  | .local _ .vmem, ⟨13, _⟩ => ⟨S2x2x368x2x128, .bf16⟩
  | .local _ .vmem, ⟨14, _⟩ => ⟨S2x2x368x2x128, .bf16⟩
  | _, _ => ⟨S6x68x120x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![52], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c50_i32 : BitVec 32 := 50#32
  let v0 : BitVec 32 := Scalar.minsi arg0 c50_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S8x120x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x120x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x15x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CoarseReferenceIdeal.lean ====
abbrev S6x68x120x256 : Shape := ⟨4, ![6, 68, 120, 256]⟩
abbrev S6x68x120x8 : Shape := ⟨4, ![6, 68, 120, 8]⟩
abbrev S3x3x256x256 : Shape := ⟨4, ![3, 3, 256, 256]⟩
abbrev S256 : Shape := ⟨1, ![256]⟩
abbrev S6x68x120x8x1 : Shape := ⟨5, ![6, 68, 120, 8, 1]⟩
abbrev S6x68x120x8x32 : Shape := ⟨5, ![6, 68, 120, 8, 32]⟩
abbrev S1x256 : Shape := ⟨2, ![1, 256]⟩
abbrev S408x120x256 : Shape := ⟨3, ![408, 120, 256]⟩
abbrev S6x1x120x256 : Shape := ⟨4, ![6, 1, 120, 256]⟩
abbrev S6x69x120x256 : Shape := ⟨4, ![6, 69, 120, 256]⟩
abbrev S6x70x120x256 : Shape := ⟨4, ![6, 70, 120, 256]⟩
abbrev S6x70x1x256 : Shape := ⟨4, ![6, 70, 1, 256]⟩
abbrev S6x70x121x256 : Shape := ⟨4, ![6, 70, 121, 256]⟩
abbrev S6x70x122x256 : Shape := ⟨4, ![6, 70, 122, 256]⟩
abbrev S48960x256 : Shape := ⟨2, ![48960, 256]⟩
abbrev S1x1x256x256 : Shape := ⟨4, ![1, 1, 256, 256]⟩
abbrev S256x256 : Shape := ⟨2, ![256, 256]⟩

abbrev nBuf : Space → Nat
  | .hbm => 11
  | .vmem => 6
  | .smem => 0
  | _ => 0

abbrev bufTy : (tb : Table) → Fin (tcTables nBuf tb) → BufTy
  | .hbm, ⟨0, _⟩ => ⟨S6x68x120x256, .fp8e4m3⟩
  | .hbm, ⟨1, _⟩ => ⟨S6x68x120x8, .f32⟩
  | .hbm, ⟨2, _⟩ => ⟨S3x3x256x256, .fp8e4m3⟩
  | .hbm, ⟨3, _⟩ => ⟨S256, .f32⟩
  | .hbm, ⟨4, _⟩ => ⟨S256, .f32⟩
  | .hbm, ⟨5, _⟩ => ⟨S6x68x120x8x1, .f32⟩
  | .hbm, ⟨6, _⟩ => ⟨S6x68x120x8x32, .f32⟩
  | .hbm, ⟨7, _⟩ => ⟨S6x68x120x256, .f32⟩
  | .hbm, ⟨8, _⟩ => ⟨S1x256, .f32⟩
  | .hbm, ⟨9, _⟩ => ⟨S1x256, .f32⟩
  | .hbm, ⟨10, _⟩ => ⟨S408x120x256, .bf16⟩
  | .local _ .vmem, ⟨0, _⟩ => ⟨S6x68x120x256, .fp8e4m3⟩
  | .local _ .vmem, ⟨1, _⟩ => ⟨S6x68x120x256, .f32⟩
  | .local _ .vmem, ⟨2, _⟩ => ⟨S3x3x256x256, .fp8e4m3⟩
  | .local _ .vmem, ⟨3, _⟩ => ⟨S1x256, .f32⟩
  | .local _ .vmem, ⟨4, _⟩ => ⟨S1x256, .f32⟩
  | .local _ .vmem, ⟨5, _⟩ => ⟨S408x120x256, .bf16⟩
  | _, _ => ⟨S6x68x120x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x68x120x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x68x120x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x256x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S408x120x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Canon.lean ====
/-
  The kernel body's stores, written once for both parities of the grid point. The body keeps two sets of planes: the set
  it fills at this point (`E` the even plane, `O` the odd plane) and the set the point before filled (`NE`, `NO`), from
  which it convolves. Each list below is what has been stored into one buffer so far, last first.
-/
module

public import proofs.«01_k».proof.Proof.Gen.KernelIdeal.Frame
public import Idealize.ShloMosaic.Lib.Pipeline.ValueKit

@[expose] public section

set_option maxRecDepth 16384

noncomputable section

namespace Cert.KernelIdeal.Val

open Idealize.ShloMosaic Idealize.SL.Sem Cert.KernelIdeal.Gen

/-- A plane of padded rows: unit, slot, half of the channels, word, pixel of the word, lane. -/
abbrev Plane := Vec Ideal S2x10x2x128x2x128 .bf16
abbrev Raw := Vec Ideal S1x4x1x120x2x128 .bf16
abbrev Q4 := Vec Ideal S4x240x128 .fp8e4m3
abbrev M4 := Vec Ideal S4x240x128 .f32

/-! ## The body's values, by what they compute -/

/-- Four rows' even pixels, code times scale. -/
def lo (q : Q4) (s : M4) : FVec Ideal S4x120x128 .bf16 := k0_pay20 q s
/-- Four rows' odd pixels. -/
def hi (q : Q4) (s : M4) : FVec Ideal S4x120x128 .bf16 := k0_pay21 q s
/-- Four rows for the even plane. -/
def xeP (q : Q4) (s : M4) : Raw := k0_pay25 (lo q s) (hi q s)
/-- Four rows for the odd plane: an odd pixel and the even pixel after it, as read back from the even plane. -/
def xoP (q : Q4) (s : M4) (raw : Raw) : Raw := k0_pay30 (hi q s) raw
/-- The left edge of four rows of the odd plane: the padding and the first pixel. -/
def edP (q : Q4) (s : M4) : Vec Ideal S1x4x1x1x2x128 .bf16 := k0_pay32 (k0_pay28 (lo q s)) (k0_pay29 (lo q s) (hi q s))
/-- The first of the four rows, kept or cleared, for the unit above. -/
def tE (v : BitVec 1) (q : Q4) (s : M4) : Vec Ideal S1x1x1x120x2x128 .bf16 := k0_pay33 v (lo q s) (hi q s)
def tO (v : BitVec 1) (q : Q4) (s : M4) (raw : Raw) : Vec Ideal S1x1x1x120x2x128 .bf16 := k0_pay34 v (hi q s) (k0_pay26 raw)
def tX (v : BitVec 1) (q : Q4) (s : M4) : Vec Ideal S1x1x1x1x2x128 .bf16 :=
  k0_pay51 v (k0_pay28 (lo q s)) (k0_pay29 (lo q s) (hi q s))
/-- The last of the four rows, kept or cleared, for the unit below. -/
def bE (v : BitVec 1) (q : Q4) (s : M4) : Vec Ideal S1x1x1x120x2x128 .bf16 := k0_pay84 v (lo q s) (hi q s)
def bO (v : BitVec 1) (q : Q4) (s : M4) (raw : Raw) : Vec Ideal S1x1x1x120x2x128 .bf16 := k0_pay85 v (hi q s) (k0_pay26 raw)
def bX (v : BitVec 1) (q : Q4) (s : M4) : Vec Ideal S1x1x1x1x2x128 .bf16 :=
  k0_pay2 v (k0_pay28 (lo q s)) (k0_pay29 (lo q s) (hi q s))
/-- One tap of the convolution: both halves of the channels side by side. -/
def tap (a b : Raw) : FVec Ideal S960x256 .bf16 := k0_pay5 a b
/-- Four rows of the convolution from the nine taps. -/
def cvP (t0 t1 t2 t3 t4 t5 t6 t7 : FVec Ideal S960x256 .bf16) (a b : Raw) (w : Vec Ideal S2304x256 .fp8e4m3)
    (s c : Vec Ideal S1x256 .f32) : FVec Ideal S4x240x256 .bf16 :=
  k0_pay18 t0 t1 t2 t3 t4 t5 t6 t7 (k0_pay15 a) (k0_pay16 b) (k0_pay17 b) w s c

/-! ## The row masks -/

/-- Whether unit `u` of the point has a unit above it, below it, in its image. -/
def kA (i : grid0.Coords) (u : BitVec 32) : BitVec 1 :=
  Scalar.cmpi .ne (Scalar.remsi (Scalar.addi (Scalar.muli 2#32 (BitVec.ofNat 32 (i 0).val)) u) 17#32) 0#32
def kB (i : grid0.Coords) (u : BitVec 32) : BitVec 1 :=
  Scalar.cmpi .ne (Scalar.remsi (Scalar.addi (Scalar.muli 2#32 (BitVec.ofNat 32 (i 0).val)) u) 17#32) 16#32

/-! ## The lists -/

section Lists

abbrev Pieces := List (View.Piece (Elt Ideal) S2x10x2x128x2x128 .bf16)

def q00 (M1 : Memref sig .tc .vmem S16x240x256 .fp8e4m3) (f1 : M1.view.ty.Contents (Elt Ideal)) : Q4 := View.readAt (Elt Ideal) M1.view (Rect.unit (s := S16x240x256) ![0, 0, 0] S4x240x128.size inb_S16x240x256_S4x240x128_0_0_0).toLoadRect f1
def s00 (M2 : Memref sig .tc .vmem S16x240x256 .f32) (f2 : M2.view.ty.Contents (Elt Ideal)) : Val.M4 := View.readAt (Elt Ideal) M2.view (Rect.unit (s := S16x240x256) ![0, 0, 0] S4x240x128.size inb_S16x240x256_S4x240x128_0_0_0).toLoadRect f2
def q01 (M1 : Memref sig .tc .vmem S16x240x256 .fp8e4m3) (f1 : M1.view.ty.Contents (Elt Ideal)) : Q4 := View.readAt (Elt Ideal) M1.view (Rect.unit (s := S16x240x256) ![0, 0, 128] S4x240x128.size inb_S16x240x256_S4x240x128_0_0_128).toLoadRect f1
def s01 (M2 : Memref sig .tc .vmem S16x240x256 .f32) (f2 : M2.view.ty.Contents (Elt Ideal)) : Val.M4 := View.readAt (Elt Ideal) M2.view (Rect.unit (s := S16x240x256) ![0, 0, 128] S4x240x128.size inb_S16x240x256_S4x240x128_0_0_128).toLoadRect f2
def q10 (M1 : Memref sig .tc .vmem S16x240x256 .fp8e4m3) (f1 : M1.view.ty.Contents (Elt Ideal)) : Q4 := View.readAt (Elt Ideal) M1.view (Rect.unit (s := S16x240x256) ![4, 0, 0] S4x240x128.size inb_S16x240x256_S4x240x128_4_0_0).toLoadRect f1
def s10 (M2 : Memref sig .tc .vmem S16x240x256 .f32) (f2 : M2.view.ty.Contents (Elt Ideal)) : Val.M4 := View.readAt (Elt Ideal) M2.view (Rect.unit (s := S16x240x256) ![4, 0, 0] S4x240x128.size inb_S16x240x256_S4x240x128_4_0_0).toLoadRect f2
def q11 (M1 : Memref sig .tc .vmem S16x240x256 .fp8e4m3) (f1 : M1.view.ty.Contents (Elt Ideal)) : Q4 := View.readAt (Elt Ideal) M1.view (Rect.unit (s := S16x240x256) ![4, 0, 128] S4x240x128.size inb_S16x240x256_S4x240x128_4_0_128).toLoadRect f1
def s11 (M2 : Memref sig .tc .vmem S16x240x256 .f32) (f2 : M2.view.ty.Contents (Elt Ideal)) : Val.M4 := View.readAt (Elt Ideal) M2.view (Rect.unit (s := S16x240x256) ![4, 0, 128] S4x240x128.size inb_S16x240x256_S4x240x128_4_0_128).toLoadRect f2
def q20 (M1 : Memref sig .tc .vmem S16x240x256 .fp8e4m3) (f1 : M1.view.ty.Contents (Elt Ideal)) : Q4 := View.readAt (Elt Ideal) M1.view (Rect.unit (s := S16x240x256) ![8, 0, 0] S4x240x128.size inb_S16x240x256_S4x240x128_8_0_0).toLoadRect f1
def s20 (M2 : Memref sig .tc .vmem S16x240x256 .f32) (f2 : M2.view.ty.Contents (Elt Ideal)) : Val.M4 := View.readAt (Elt Ideal) M2.view (Rect.unit (s := S16x240x256) ![8, 0, 0] S4x240x128.size inb_S16x240x256_S4x240x128_8_0_0).toLoadRect f2
def q21 (M1 : Memref sig .tc .vmem S16x240x256 .fp8e4m3) (f1 : M1.view.ty.Contents (Elt Ideal)) : Q4 := View.readAt (Elt Ideal) M1.view (Rect.unit (s := S16x240x256) ![8, 0, 128] S4x240x128.size inb_S16x240x256_S4x240x128_8_0_128).toLoadRect f1
def s21 (M2 : Memref sig .tc .vmem S16x240x256 .f32) (f2 : M2.view.ty.Contents (Elt Ideal)) : Val.M4 := View.readAt (Elt Ideal) M2.view (Rect.unit (s := S16x240x256) ![8, 0, 128] S4x240x128.size inb_S16x240x256_S4x240x128_8_0_128).toLoadRect f2
def q30 (M1 : Memref sig .tc .vmem S16x240x256 .fp8e4m3) (f1 : M1.view.ty.Contents (Elt Ideal)) : Q4 := View.readAt (Elt Ideal) M1.view (Rect.unit (s := S16x240x256) ![12, 0, 0] S4x240x128.size inb_S16x240x256_S4x240x128_12_0_0).toLoadRect f1
def s30 (M2 : Memref sig .tc .vmem S16x240x256 .f32) (f2 : M2.view.ty.Contents (Elt Ideal)) : Val.M4 := View.readAt (Elt Ideal) M2.view (Rect.unit (s := S16x240x256) ![12, 0, 0] S4x240x128.size inb_S16x240x256_S4x240x128_12_0_0).toLoadRect f2
def q31 (M1 : Memref sig .tc .vmem S16x240x256 .fp8e4m3) (f1 : M1.view.ty.Contents (Elt Ideal)) : Q4 := View.readAt (Elt Ideal) M1.view (Rect.unit (s := S16x240x256) ![12, 0, 128] S4x240x128.size inb_S16x240x256_S4x240x128_12_0_128).toLoadRect f1
def s31 (M2 : Memref sig .tc .vmem S16x240x256 .f32) (f2 : M2.view.ty.Contents (Elt Ideal)) : Val.M4 := View.readAt (Elt Ideal) M2.view (Rect.unit (s := S16x240x256) ![12, 0, 128] S4x240x128.size inb_S16x240x256_S4x240x128_12_0_128).toLoadRect f2
/-- Rows 0 to 3 of the point's block of results. -/
def cv0 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw)
    (NE : Memref sig .tc .vmem S2x10x2x128x2x128 .bf16) (fNE : NE.view.ty.Contents (Elt Ideal)) (NO : Memref sig .tc .vmem S2x10x2x128x2x128 .bf16) (fNO : NO.view.ty.Contents (Elt Ideal))
    (M3 : Memref sig .tc .vmem S2304x256 .fp8e4m3) (f3 : M3.view.ty.Contents (Elt Ideal)) (M4 : Memref sig .tc .vmem S1x256 .f32) (f4 : M4.view.ty.Contents (Elt Ideal))
    (M5 : Memref sig .tc .vmem S1x256 .f32) (f5 : M5.view.ty.Contents (Elt Ideal)) : FVec Ideal S4x240x256 .bf16 :=
  cvP (tap (View.readAt (Elt Ideal) NO.view (Rect.unit (s := S2x10x2x128x2x128) ![0, 0, 0, 7, 0, 0] S1x4x1x120x2x128.size inb_S2x10x2x128x2x128_S1x4x1x120x2x128_0_0_0_7_0_0).toLoadRect fNO) (View.readAt (Elt Ideal) NO.view (Rect.unit (s := S2x10x2x128x2x128) ![0, 0, 1, 7, 0, 0] S1x4x1x120x2x128.size inb_S2x10x2x128x2x128_S1x4x1x120x2x128_0_0_1_7_0_0).toLoadRect fNO))
    (tap (View.readAt (Elt Ideal) NE.view (Rect.unit (s := S2x10x2x128x2x128) ![0, 0, 0, 0, 0, 0] S1x4x1x120x2x128.size inb_S2x10x2x128x2x128_S1x4x1x120x2x128_0_0_0_0_0_0).toLoadRect fNE) (View.readAt (Elt Ideal) NE.view (Rect.unit (s := S2x10x2x128x2x128) ![0, 0, 1, 0, 0, 0] S1x4x1x120x2x128.size inb_S2x10x2x128x2x128_S1x4x1x120x2x128_0_0_1_0_0_0).toLoadRect fNE))
    (tap (View.readAt (Elt Ideal) NO.view (Rect.unit (s := S2x10x2x128x2x128) ![0, 0, 0, 8, 0, 0] S1x4x1x120x2x128.size inb_S2x10x2x128x2x128_S1x4x1x120x2x128_0_0_0_8_0_0).toLoadRect fNO) (View.readAt (Elt Ideal) NO.view (Rect.unit (s := S2x10x2x128x2x128) ![0, 0, 1, 8, 0, 0] S1x4x1x120x2x128.size inb_S2x10x2x128x2x128_S1x4x1x120x2x128_0_0_1_8_0_0).toLoadRect fNO))
    (tap (View.readAt (Elt Ideal) NO.view (Rect.unit (s := S2x10x2x128x2x128) ![0, 1, 0, 7, 0, 0] S1x4x1x120x2x128.size inb_S2x10x2x128x2x128_S1x4x1x120x2x128_0_1_0_7_0_0).toLoadRect fNO) (View.readAt (Elt Ideal) NO.view (Rect.unit (s := S2x10x2x128x2x128) ![0, 1, 1, 7, 0, 0] S1x4x1x120x2x128.size inb_S2x10x2x128x2x128_S1x4x1x120x2x128_0_1_1_7_0_0).toLoadRect fNO))
    (tap (View.readAt (Elt Ideal) NE.view (Rect.unit (s := S2x10x2x128x2x128) ![0, 1, 0, 0, 0, 0] S1x4x1x120x2x128.size inb_S2x10x2x128x2x128_S1x4x1x120x2x128_0_1_0_0_0_0).toLoadRect fNE) (View.readAt (Elt Ideal) NE.view (Rect.unit (s := S2x10x2x128x2x128) ![0, 1, 1, 0, 0, 0] S1x4x1x120x2x128.size inb_S2x10x2x128x2x128_S1x4x1x120x2x128_0_1_1_0_0_0).toLoadRect fNE))
    (tap (View.readAt (Elt Ideal) NO.view (Rect.unit (s := S2x10x2x128x2x128) ![0, 1, 0, 8, 0, 0] S1x4x1x120x2x128.size inb_S2x10x2x128x2x128_S1x4x1x120x2x128_0_1_0_8_0_0).toLoadRect fNO) (View.readAt (Elt Ideal) NO.view (Rect.unit (s := S2x10x2x128x2x128) ![0, 1, 1, 8, 0, 0] S1x4x1x120x2x128.size inb_S2x10x2x128x2x128_S1x4x1x120x2x128_0_1_1_8_0_0).toLoadRect fNO))
    (tap (View.readAt (Elt Ideal) NO.view (Rect.unit (s := S2x10x2x128x2x128) ![0, 2, 0, 7, 0, 0] S1x4x1x120x2x128.size inb_S2x10x2x128x2x128_S1x4x1x120x2x128_0_2_0_7_0_0).toLoadRect fNO) (View.readAt (Elt Ideal) NO.view (Rect.unit (s := S2x10x2x128x2x128) ![0, 2, 1, 7, 0, 0] S1x4x1x120x2x128.size inb_S2x10x2x128x2x128_S1x4x1x120x2x128_0_2_1_7_0_0).toLoadRect fNO))
    (tap (View.readAt (Elt Ideal) NE.view (Rect.unit (s := S2x10x2x128x2x128) ![0, 2, 0, 0, 0, 0] S1x4x1x120x2x128.size inb_S2x10x2x128x2x128_S1x4x1x120x2x128_0_2_0_0_0_0).toLoadRect fNE) (View.readAt (Elt Ideal) NE.view (Rect.unit (s := S2x10x2x128x2x128) ![0, 2, 1, 0, 0, 0] S1x4x1x120x2x128.size inb_S2x10x2x128x2x128_S1x4x1x120x2x128_0_2_1_0_0_0).toLoadRect fNE))
    (View.readAt (Elt Ideal) NO.view (Rect.unit (s := S2x10x2x128x2x128) ![0, 2, 0, 8, 0, 0] S1x4x1x120x2x128.size inb_S2x10x2x128x2x128_S1x4x1x120x2x128_0_2_0_8_0_0).toLoadRect fNO) (View.readAt (Elt Ideal) NO.view (Rect.unit (s := S2x10x2x128x2x128) ![0, 2, 1, 8, 0, 0] S1x4x1x120x2x128.size inb_S2x10x2x128x2x128_S1x4x1x120x2x128_0_2_1_8_0_0).toLoadRect fNO)
    (View.readAt (Elt Ideal) M3.view (Rect.unit (s := S2304x256) ![0, 0] S2304x256.size inb_S2304x256_S2304x256_0_0).toLoadRect f3)
    (View.readAt (Elt Ideal) M4.view (Rect.unit (s := S1x256) ![0, 0] S1x256.size inb_S1x256_S1x256_0_0).toLoadRect f4)
    (View.readAt (Elt Ideal) M5.view (Rect.unit (s := S1x256) ![0, 0] S1x256.size inb_S1x256_S1x256_0_0).toLoadRect f5)
def lE1 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![0, 1, 0, 0, 0, 0] S1x4x1x120x2x128.size inb_S2x10x2x128x2x128_S1x4x1x120x2x128_0_1_0_0_0_0), xeP (q00 M1 f1) (s00 M2 f2)⟩ :: []
def raw00 (i : grid0.Coords) (M1 : Memref sig .tc .vmem S16x240x256 .fp8e4m3) (f1 : M1.view.ty.Contents (Elt Ideal))
    (M2 : Memref sig .tc .vmem S16x240x256 .f32) (f2 : M2.view.ty.Contents (Elt Ideal))
    (E : Memref sig .tc .vmem S2x10x2x128x2x128 .bf16) (fE : E.view.ty.Contents (Elt Ideal)) : Raw := View.readAt (Elt Ideal) E.view (Rect.unit (s := S2x10x2x128x2x128) ![0, 1, 0, 1, 0, 0] S1x4x1x120x2x128.size inb_S2x10x2x128x2x128_S1x4x1x120x2x128_0_1_0_1_0_0).toLoadRect (E.view.writes (Elt Ideal) fE (lE1 i M1 f1 M2 f2))
def lO1 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 1, 0, 8, 0, 0] S1x4x1x120x2x128.size inb_S2x10x2x128x2x128_S1x4x1x120x2x128_0_1_0_8_0_0), xoP (q00 M1 f1) (s00 M2 f2) R00⟩ :: []
def lO2 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 1, 0, 7, 0, 0] S1x4x1x1x2x128.size inb_S2x10x2x128x2x128_S1x4x1x1x2x128_0_1_0_7_0_0), edP (q00 M1 f1) (s00 M2 f2)⟩ :: lO1 i M1 f1 M2 f2 R00 R01 R10 R11 R20 R21 R30 R31
def lNE1 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![1, 9, 0, 0, 0, 0] S1x1x1x120x2x128.size inb_S2x10x2x128x2x128_S1x1x1x120x2x128_1_9_0_0_0_0), tE (kA i 0#32) (q00 M1 f1) (s00 M2 f2)⟩ :: []
def lNO1 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 9, 0, 8, 0, 0] S1x1x1x120x2x128.size inb_S2x10x2x128x2x128_S1x1x1x120x2x128_1_9_0_8_0_0), tO (kA i 0#32) (q00 M1 f1) (s00 M2 f2) R00⟩ :: []
def lNO2 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 9, 0, 7, 0, 0] S1x1x1x1x2x128.size inb_S2x10x2x128x2x128_S1x1x1x1x2x128_1_9_0_7_0_0), tX (kA i 0#32) (q00 M1 f1) (s00 M2 f2)⟩ :: lNO1 i M1 f1 M2 f2 R00 R01 R10 R11 R20 R21 R30 R31
def lE2 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![0, 1, 1, 0, 0, 0] S1x4x1x120x2x128.size inb_S2x10x2x128x2x128_S1x4x1x120x2x128_0_1_1_0_0_0), xeP (q01 M1 f1) (s01 M2 f2)⟩ :: lE1 i M1 f1 M2 f2
def raw01 (i : grid0.Coords) (M1 : Memref sig .tc .vmem S16x240x256 .fp8e4m3) (f1 : M1.view.ty.Contents (Elt Ideal))
    (M2 : Memref sig .tc .vmem S16x240x256 .f32) (f2 : M2.view.ty.Contents (Elt Ideal))
    (E : Memref sig .tc .vmem S2x10x2x128x2x128 .bf16) (fE : E.view.ty.Contents (Elt Ideal)) : Raw := View.readAt (Elt Ideal) E.view (Rect.unit (s := S2x10x2x128x2x128) ![0, 1, 1, 1, 0, 0] S1x4x1x120x2x128.size inb_S2x10x2x128x2x128_S1x4x1x120x2x128_0_1_1_1_0_0).toLoadRect (E.view.writes (Elt Ideal) fE (lE2 i M1 f1 M2 f2))
def lO3 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 1, 1, 8, 0, 0] S1x4x1x120x2x128.size inb_S2x10x2x128x2x128_S1x4x1x120x2x128_0_1_1_8_0_0), xoP (q01 M1 f1) (s01 M2 f2) R01⟩ :: lO2 i M1 f1 M2 f2 R00 R01 R10 R11 R20 R21 R30 R31
def lO4 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 1, 1, 7, 0, 0] S1x4x1x1x2x128.size inb_S2x10x2x128x2x128_S1x4x1x1x2x128_0_1_1_7_0_0), edP (q01 M1 f1) (s01 M2 f2)⟩ :: lO3 i M1 f1 M2 f2 R00 R01 R10 R11 R20 R21 R30 R31
def lNE2 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![1, 9, 1, 0, 0, 0] S1x1x1x120x2x128.size inb_S2x10x2x128x2x128_S1x1x1x120x2x128_1_9_1_0_0_0), tE (kA i 0#32) (q01 M1 f1) (s01 M2 f2)⟩ :: lNE1 i M1 f1 M2 f2
def lNO3 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 9, 1, 8, 0, 0] S1x1x1x120x2x128.size inb_S2x10x2x128x2x128_S1x1x1x120x2x128_1_9_1_8_0_0), tO (kA i 0#32) (q01 M1 f1) (s01 M2 f2) R01⟩ :: lNO2 i M1 f1 M2 f2 R00 R01 R10 R11 R20 R21 R30 R31
def lNO4 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 9, 1, 7, 0, 0] S1x1x1x1x2x128.size inb_S2x10x2x128x2x128_S1x1x1x1x2x128_1_9_1_7_0_0), tX (kA i 0#32) (q01 M1 f1) (s01 M2 f2)⟩ :: lNO3 i M1 f1 M2 f2 R00 R01 R10 R11 R20 R21 R30 R31
/-- Rows 4 to 7 of the point's block of results. -/
def cv1 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw)
    (NE : Memref sig .tc .vmem S2x10x2x128x2x128 .bf16) (fNE : NE.view.ty.Contents (Elt Ideal)) (NO : Memref sig .tc .vmem S2x10x2x128x2x128 .bf16) (fNO : NO.view.ty.Contents (Elt Ideal))
    (M3 : Memref sig .tc .vmem S2304x256 .fp8e4m3) (f3 : M3.view.ty.Contents (Elt Ideal)) (M4 : Memref sig .tc .vmem S1x256 .f32) (f4 : M4.view.ty.Contents (Elt Ideal))
    (M5 : Memref sig .tc .vmem S1x256 .f32) (f5 : M5.view.ty.Contents (Elt Ideal)) : FVec Ideal S4x240x256 .bf16 :=
  cvP (tap (View.readAt (Elt Ideal) NO.view (Rect.unit (s := S2x10x2x128x2x128) ![0, 4, 0, 7, 0, 0] S1x4x1x120x2x128.size inb_S2x10x2x128x2x128_S1x4x1x120x2x128_0_4_0_7_0_0).toLoadRect fNO) (View.readAt (Elt Ideal) NO.view (Rect.unit (s := S2x10x2x128x2x128) ![0, 4, 1, 7, 0, 0] S1x4x1x120x2x128.size inb_S2x10x2x128x2x128_S1x4x1x120x2x128_0_4_1_7_0_0).toLoadRect fNO))
    (tap (View.readAt (Elt Ideal) NE.view (Rect.unit (s := S2x10x2x128x2x128) ![0, 4, 0, 0, 0, 0] S1x4x1x120x2x128.size inb_S2x10x2x128x2x128_S1x4x1x120x2x128_0_4_0_0_0_0).toLoadRect fNE) (View.readAt (Elt Ideal) NE.view (Rect.unit (s := S2x10x2x128x2x128) ![0, 4, 1, 0, 0, 0] S1x4x1x120x2x128.size inb_S2x10x2x128x2x128_S1x4x1x120x2x128_0_4_1_0_0_0).toLoadRect fNE))
    (tap (View.readAt (Elt Ideal) NO.view (Rect.unit (s := S2x10x2x128x2x128) ![0, 4, 0, 8, 0, 0] S1x4x1x120x2x128.size inb_S2x10x2x128x2x128_S1x4x1x120x2x128_0_4_0_8_0_0).toLoadRect fNO) (View.readAt (Elt Ideal) NO.view (Rect.unit (s := S2x10x2x128x2x128) ![0, 4, 1, 8, 0, 0] S1x4x1x120x2x128.size inb_S2x10x2x128x2x128_S1x4x1x120x2x128_0_4_1_8_0_0).toLoadRect fNO))
    (tap (View.readAt (Elt Ideal) NO.view (Rect.unit (s := S2x10x2x128x2x128) ![0, 5, 0, 7, 0, 0] S1x4x1x120x2x128.size inb_S2x10x2x128x2x128_S1x4x1x120x2x128_0_5_0_7_0_0).toLoadRect fNO) (View.readAt (Elt Ideal) NO.view (Rect.unit (s := S2x10x2x128x2x128) ![0, 5, 1, 7, 0, 0] S1x4x1x120x2x128.size inb_S2x10x2x128x2x128_S1x4x1x120x2x128_0_5_1_7_0_0).toLoadRect fNO))
    (tap (View.readAt (Elt Ideal) NE.view (Rect.unit (s := S2x10x2x128x2x128) ![0, 5, 0, 0, 0, 0] S1x4x1x120x2x128.size inb_S2x10x2x128x2x128_S1x4x1x120x2x128_0_5_0_0_0_0).toLoadRect fNE) (View.readAt (Elt Ideal) NE.view (Rect.unit (s := S2x10x2x128x2x128) ![0, 5, 1, 0, 0, 0] S1x4x1x120x2x128.size inb_S2x10x2x128x2x128_S1x4x1x120x2x128_0_5_1_0_0_0).toLoadRect fNE))
    (tap (View.readAt (Elt Ideal) NO.view (Rect.unit (s := S2x10x2x128x2x128) ![0, 5, 0, 8, 0, 0] S1x4x1x120x2x128.size inb_S2x10x2x128x2x128_S1x4x1x120x2x128_0_5_0_8_0_0).toLoadRect fNO) (View.readAt (Elt Ideal) NO.view (Rect.unit (s := S2x10x2x128x2x128) ![0, 5, 1, 8, 0, 0] S1x4x1x120x2x128.size inb_S2x10x2x128x2x128_S1x4x1x120x2x128_0_5_1_8_0_0).toLoadRect fNO))
    (tap (View.readAt (Elt Ideal) NO.view (Rect.unit (s := S2x10x2x128x2x128) ![0, 6, 0, 7, 0, 0] S1x4x1x120x2x128.size inb_S2x10x2x128x2x128_S1x4x1x120x2x128_0_6_0_7_0_0).toLoadRect fNO) (View.readAt (Elt Ideal) NO.view (Rect.unit (s := S2x10x2x128x2x128) ![0, 6, 1, 7, 0, 0] S1x4x1x120x2x128.size inb_S2x10x2x128x2x128_S1x4x1x120x2x128_0_6_1_7_0_0).toLoadRect fNO))
    (tap (View.readAt (Elt Ideal) NE.view (Rect.unit (s := S2x10x2x128x2x128) ![0, 6, 0, 0, 0, 0] S1x4x1x120x2x128.size inb_S2x10x2x128x2x128_S1x4x1x120x2x128_0_6_0_0_0_0).toLoadRect fNE) (View.readAt (Elt Ideal) NE.view (Rect.unit (s := S2x10x2x128x2x128) ![0, 6, 1, 0, 0, 0] S1x4x1x120x2x128.size inb_S2x10x2x128x2x128_S1x4x1x120x2x128_0_6_1_0_0_0).toLoadRect fNE))
    (View.readAt (Elt Ideal) NO.view (Rect.unit (s := S2x10x2x128x2x128) ![0, 6, 0, 8, 0, 0] S1x4x1x120x2x128.size inb_S2x10x2x128x2x128_S1x4x1x120x2x128_0_6_0_8_0_0).toLoadRect fNO) (View.readAt (Elt Ideal) NO.view (Rect.unit (s := S2x10x2x128x2x128) ![0, 6, 1, 8, 0, 0] S1x4x1x120x2x128.size inb_S2x10x2x128x2x128_S1x4x1x120x2x128_0_6_1_8_0_0).toLoadRect fNO)
    (View.readAt (Elt Ideal) M3.view (Rect.unit (s := S2304x256) ![0, 0] S2304x256.size inb_S2304x256_S2304x256_0_0).toLoadRect f3)
    (View.readAt (Elt Ideal) M4.view (Rect.unit (s := S1x256) ![0, 0] S1x256.size inb_S1x256_S1x256_0_0).toLoadRect f4)
    (View.readAt (Elt Ideal) M5.view (Rect.unit (s := S1x256) ![0, 0] S1x256.size inb_S1x256_S1x256_0_0).toLoadRect f5)
def lE3 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![0, 5, 0, 0, 0, 0] S1x4x1x120x2x128.size inb_S2x10x2x128x2x128_S1x4x1x120x2x128_0_5_0_0_0_0), xeP (q10 M1 f1) (s10 M2 f2)⟩ :: lE2 i M1 f1 M2 f2
def raw10 (i : grid0.Coords) (M1 : Memref sig .tc .vmem S16x240x256 .fp8e4m3) (f1 : M1.view.ty.Contents (Elt Ideal))
    (M2 : Memref sig .tc .vmem S16x240x256 .f32) (f2 : M2.view.ty.Contents (Elt Ideal))
    (E : Memref sig .tc .vmem S2x10x2x128x2x128 .bf16) (fE : E.view.ty.Contents (Elt Ideal)) : Raw := View.readAt (Elt Ideal) E.view (Rect.unit (s := S2x10x2x128x2x128) ![0, 5, 0, 1, 0, 0] S1x4x1x120x2x128.size inb_S2x10x2x128x2x128_S1x4x1x120x2x128_0_5_0_1_0_0).toLoadRect (E.view.writes (Elt Ideal) fE (lE3 i M1 f1 M2 f2))
def lO5 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 5, 0, 8, 0, 0] S1x4x1x120x2x128.size inb_S2x10x2x128x2x128_S1x4x1x120x2x128_0_5_0_8_0_0), xoP (q10 M1 f1) (s10 M2 f2) R10⟩ :: lO4 i M1 f1 M2 f2 R00 R01 R10 R11 R20 R21 R30 R31
def lO6 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 5, 0, 7, 0, 0] S1x4x1x1x2x128.size inb_S2x10x2x128x2x128_S1x4x1x1x2x128_0_5_0_7_0_0), edP (q10 M1 f1) (s10 M2 f2)⟩ :: lO5 i M1 f1 M2 f2 R00 R01 R10 R11 R20 R21 R30 R31
def lE4 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![1, 0, 0, 0, 0, 0] S1x1x1x120x2x128.size inb_S2x10x2x128x2x128_S1x1x1x120x2x128_1_0_0_0_0_0), bE (kB i 0#32) (q10 M1 f1) (s10 M2 f2)⟩ :: lE3 i M1 f1 M2 f2
def lO7 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 0, 0, 8, 0, 0] S1x1x1x120x2x128.size inb_S2x10x2x128x2x128_S1x1x1x120x2x128_1_0_0_8_0_0), bO (kB i 0#32) (q10 M1 f1) (s10 M2 f2) R10⟩ :: lO6 i M1 f1 M2 f2 R00 R01 R10 R11 R20 R21 R30 R31
def lO8 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 0, 0, 7, 0, 0] S1x1x1x1x2x128.size inb_S2x10x2x128x2x128_S1x1x1x1x2x128_1_0_0_7_0_0), bX (kB i 0#32) (q10 M1 f1) (s10 M2 f2)⟩ :: lO7 i M1 f1 M2 f2 R00 R01 R10 R11 R20 R21 R30 R31
def lE5 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![0, 5, 1, 0, 0, 0] S1x4x1x120x2x128.size inb_S2x10x2x128x2x128_S1x4x1x120x2x128_0_5_1_0_0_0), xeP (q11 M1 f1) (s11 M2 f2)⟩ :: lE4 i M1 f1 M2 f2
def raw11 (i : grid0.Coords) (M1 : Memref sig .tc .vmem S16x240x256 .fp8e4m3) (f1 : M1.view.ty.Contents (Elt Ideal))
    (M2 : Memref sig .tc .vmem S16x240x256 .f32) (f2 : M2.view.ty.Contents (Elt Ideal))
    (E : Memref sig .tc .vmem S2x10x2x128x2x128 .bf16) (fE : E.view.ty.Contents (Elt Ideal)) : Raw := View.readAt (Elt Ideal) E.view (Rect.unit (s := S2x10x2x128x2x128) ![0, 5, 1, 1, 0, 0] S1x4x1x120x2x128.size inb_S2x10x2x128x2x128_S1x4x1x120x2x128_0_5_1_1_0_0).toLoadRect (E.view.writes (Elt Ideal) fE (lE5 i M1 f1 M2 f2))
def lO9 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 5, 1, 8, 0, 0] S1x4x1x120x2x128.size inb_S2x10x2x128x2x128_S1x4x1x120x2x128_0_5_1_8_0_0), xoP (q11 M1 f1) (s11 M2 f2) R11⟩ :: lO8 i M1 f1 M2 f2 R00 R01 R10 R11 R20 R21 R30 R31
def lO10 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 5, 1, 7, 0, 0] S1x4x1x1x2x128.size inb_S2x10x2x128x2x128_S1x4x1x1x2x128_0_5_1_7_0_0), edP (q11 M1 f1) (s11 M2 f2)⟩ :: lO9 i M1 f1 M2 f2 R00 R01 R10 R11 R20 R21 R30 R31
def lE6 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![1, 0, 1, 0, 0, 0] S1x1x1x120x2x128.size inb_S2x10x2x128x2x128_S1x1x1x120x2x128_1_0_1_0_0_0), bE (kB i 0#32) (q11 M1 f1) (s11 M2 f2)⟩ :: lE5 i M1 f1 M2 f2
def lO11 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 0, 1, 8, 0, 0] S1x1x1x120x2x128.size inb_S2x10x2x128x2x128_S1x1x1x120x2x128_1_0_1_8_0_0), bO (kB i 0#32) (q11 M1 f1) (s11 M2 f2) R11⟩ :: lO10 i M1 f1 M2 f2 R00 R01 R10 R11 R20 R21 R30 R31
def lO12 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 0, 1, 7, 0, 0] S1x1x1x1x2x128.size inb_S2x10x2x128x2x128_S1x1x1x1x2x128_1_0_1_7_0_0), bX (kB i 0#32) (q11 M1 f1) (s11 M2 f2)⟩ :: lO11 i M1 f1 M2 f2 R00 R01 R10 R11 R20 R21 R30 R31
/-- Rows 8 to 11 of the point's block of results. -/
def cv2 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw)
    (NE : Memref sig .tc .vmem S2x10x2x128x2x128 .bf16) (fNE : NE.view.ty.Contents (Elt Ideal)) (NO : Memref sig .tc .vmem S2x10x2x128x2x128 .bf16) (fNO : NO.view.ty.Contents (Elt Ideal))
    (M3 : Memref sig .tc .vmem S2304x256 .fp8e4m3) (f3 : M3.view.ty.Contents (Elt Ideal)) (M4 : Memref sig .tc .vmem S1x256 .f32) (f4 : M4.view.ty.Contents (Elt Ideal))
    (M5 : Memref sig .tc .vmem S1x256 .f32) (f5 : M5.view.ty.Contents (Elt Ideal)) : FVec Ideal S4x240x256 .bf16 :=
  cvP (tap (View.readAt (Elt Ideal) NO.view (Rect.unit (s := S2x10x2x128x2x128) ![1, 0, 0, 7, 0, 0] S1x4x1x120x2x128.size inb_S2x10x2x128x2x128_S1x4x1x120x2x128_1_0_0_7_0_0).toLoadRect fNO) (View.readAt (Elt Ideal) NO.view (Rect.unit (s := S2x10x2x128x2x128) ![1, 0, 1, 7, 0, 0] S1x4x1x120x2x128.size inb_S2x10x2x128x2x128_S1x4x1x120x2x128_1_0_1_7_0_0).toLoadRect fNO))
    (tap (View.readAt (Elt Ideal) NE.view (Rect.unit (s := S2x10x2x128x2x128) ![1, 0, 0, 0, 0, 0] S1x4x1x120x2x128.size inb_S2x10x2x128x2x128_S1x4x1x120x2x128_1_0_0_0_0_0).toLoadRect fNE) (View.readAt (Elt Ideal) NE.view (Rect.unit (s := S2x10x2x128x2x128) ![1, 0, 1, 0, 0, 0] S1x4x1x120x2x128.size inb_S2x10x2x128x2x128_S1x4x1x120x2x128_1_0_1_0_0_0).toLoadRect fNE))
    (tap (View.readAt (Elt Ideal) NO.view (Rect.unit (s := S2x10x2x128x2x128) ![1, 0, 0, 8, 0, 0] S1x4x1x120x2x128.size inb_S2x10x2x128x2x128_S1x4x1x120x2x128_1_0_0_8_0_0).toLoadRect fNO) (View.readAt (Elt Ideal) NO.view (Rect.unit (s := S2x10x2x128x2x128) ![1, 0, 1, 8, 0, 0] S1x4x1x120x2x128.size inb_S2x10x2x128x2x128_S1x4x1x120x2x128_1_0_1_8_0_0).toLoadRect fNO))
    (tap (View.readAt (Elt Ideal) NO.view (Rect.unit (s := S2x10x2x128x2x128) ![1, 1, 0, 7, 0, 0] S1x4x1x120x2x128.size inb_S2x10x2x128x2x128_S1x4x1x120x2x128_1_1_0_7_0_0).toLoadRect fNO) (View.readAt (Elt Ideal) NO.view (Rect.unit (s := S2x10x2x128x2x128) ![1, 1, 1, 7, 0, 0] S1x4x1x120x2x128.size inb_S2x10x2x128x2x128_S1x4x1x120x2x128_1_1_1_7_0_0).toLoadRect fNO))
    (tap (View.readAt (Elt Ideal) NE.view (Rect.unit (s := S2x10x2x128x2x128) ![1, 1, 0, 0, 0, 0] S1x4x1x120x2x128.size inb_S2x10x2x128x2x128_S1x4x1x120x2x128_1_1_0_0_0_0).toLoadRect fNE) (View.readAt (Elt Ideal) NE.view (Rect.unit (s := S2x10x2x128x2x128) ![1, 1, 1, 0, 0, 0] S1x4x1x120x2x128.size inb_S2x10x2x128x2x128_S1x4x1x120x2x128_1_1_1_0_0_0).toLoadRect fNE))
    (tap (View.readAt (Elt Ideal) NO.view (Rect.unit (s := S2x10x2x128x2x128) ![1, 1, 0, 8, 0, 0] S1x4x1x120x2x128.size inb_S2x10x2x128x2x128_S1x4x1x120x2x128_1_1_0_8_0_0).toLoadRect fNO) (View.readAt (Elt Ideal) NO.view (Rect.unit (s := S2x10x2x128x2x128) ![1, 1, 1, 8, 0, 0] S1x4x1x120x2x128.size inb_S2x10x2x128x2x128_S1x4x1x120x2x128_1_1_1_8_0_0).toLoadRect fNO))
    (tap (View.readAt (Elt Ideal) NO.view (Rect.unit (s := S2x10x2x128x2x128) ![1, 2, 0, 7, 0, 0] S1x4x1x120x2x128.size inb_S2x10x2x128x2x128_S1x4x1x120x2x128_1_2_0_7_0_0).toLoadRect fNO) (View.readAt (Elt Ideal) NO.view (Rect.unit (s := S2x10x2x128x2x128) ![1, 2, 1, 7, 0, 0] S1x4x1x120x2x128.size inb_S2x10x2x128x2x128_S1x4x1x120x2x128_1_2_1_7_0_0).toLoadRect fNO))
    (tap (View.readAt (Elt Ideal) NE.view (Rect.unit (s := S2x10x2x128x2x128) ![1, 2, 0, 0, 0, 0] S1x4x1x120x2x128.size inb_S2x10x2x128x2x128_S1x4x1x120x2x128_1_2_0_0_0_0).toLoadRect fNE) (View.readAt (Elt Ideal) NE.view (Rect.unit (s := S2x10x2x128x2x128) ![1, 2, 1, 0, 0, 0] S1x4x1x120x2x128.size inb_S2x10x2x128x2x128_S1x4x1x120x2x128_1_2_1_0_0_0).toLoadRect fNE))
    (View.readAt (Elt Ideal) NO.view (Rect.unit (s := S2x10x2x128x2x128) ![1, 2, 0, 8, 0, 0] S1x4x1x120x2x128.size inb_S2x10x2x128x2x128_S1x4x1x120x2x128_1_2_0_8_0_0).toLoadRect fNO) (View.readAt (Elt Ideal) NO.view (Rect.unit (s := S2x10x2x128x2x128) ![1, 2, 1, 8, 0, 0] S1x4x1x120x2x128.size inb_S2x10x2x128x2x128_S1x4x1x120x2x128_1_2_1_8_0_0).toLoadRect fNO)
    (View.readAt (Elt Ideal) M3.view (Rect.unit (s := S2304x256) ![0, 0] S2304x256.size inb_S2304x256_S2304x256_0_0).toLoadRect f3)
    (View.readAt (Elt Ideal) M4.view (Rect.unit (s := S1x256) ![0, 0] S1x256.size inb_S1x256_S1x256_0_0).toLoadRect f4)
    (View.readAt (Elt Ideal) M5.view (Rect.unit (s := S1x256) ![0, 0] S1x256.size inb_S1x256_S1x256_0_0).toLoadRect f5)
def lE7 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![1, 1, 0, 0, 0, 0] S1x4x1x120x2x128.size inb_S2x10x2x128x2x128_S1x4x1x120x2x128_1_1_0_0_0_0), xeP (q20 M1 f1) (s20 M2 f2)⟩ :: lE6 i M1 f1 M2 f2
def raw20 (i : grid0.Coords) (M1 : Memref sig .tc .vmem S16x240x256 .fp8e4m3) (f1 : M1.view.ty.Contents (Elt Ideal))
    (M2 : Memref sig .tc .vmem S16x240x256 .f32) (f2 : M2.view.ty.Contents (Elt Ideal))
    (E : Memref sig .tc .vmem S2x10x2x128x2x128 .bf16) (fE : E.view.ty.Contents (Elt Ideal)) : Raw := View.readAt (Elt Ideal) E.view (Rect.unit (s := S2x10x2x128x2x128) ![1, 1, 0, 1, 0, 0] S1x4x1x120x2x128.size inb_S2x10x2x128x2x128_S1x4x1x120x2x128_1_1_0_1_0_0).toLoadRect (E.view.writes (Elt Ideal) fE (lE7 i M1 f1 M2 f2))
def lO13 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 1, 0, 8, 0, 0] S1x4x1x120x2x128.size inb_S2x10x2x128x2x128_S1x4x1x120x2x128_1_1_0_8_0_0), xoP (q20 M1 f1) (s20 M2 f2) R20⟩ :: lO12 i M1 f1 M2 f2 R00 R01 R10 R11 R20 R21 R30 R31
def lO14 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 1, 0, 7, 0, 0] S1x4x1x1x2x128.size inb_S2x10x2x128x2x128_S1x4x1x1x2x128_1_1_0_7_0_0), edP (q20 M1 f1) (s20 M2 f2)⟩ :: lO13 i M1 f1 M2 f2 R00 R01 R10 R11 R20 R21 R30 R31
def lE8 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![0, 9, 0, 0, 0, 0] S1x1x1x120x2x128.size inb_S2x10x2x128x2x128_S1x1x1x120x2x128_0_9_0_0_0_0), tE (kA i 1#32) (q20 M1 f1) (s20 M2 f2)⟩ :: lE7 i M1 f1 M2 f2
def lO15 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 9, 0, 8, 0, 0] S1x1x1x120x2x128.size inb_S2x10x2x128x2x128_S1x1x1x120x2x128_0_9_0_8_0_0), tO (kA i 1#32) (q20 M1 f1) (s20 M2 f2) R20⟩ :: lO14 i M1 f1 M2 f2 R00 R01 R10 R11 R20 R21 R30 R31
def lO16 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 9, 0, 7, 0, 0] S1x1x1x1x2x128.size inb_S2x10x2x128x2x128_S1x1x1x1x2x128_0_9_0_7_0_0), tX (kA i 1#32) (q20 M1 f1) (s20 M2 f2)⟩ :: lO15 i M1 f1 M2 f2 R00 R01 R10 R11 R20 R21 R30 R31
def lE9 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![1, 1, 1, 0, 0, 0] S1x4x1x120x2x128.size inb_S2x10x2x128x2x128_S1x4x1x120x2x128_1_1_1_0_0_0), xeP (q21 M1 f1) (s21 M2 f2)⟩ :: lE8 i M1 f1 M2 f2
def raw21 (i : grid0.Coords) (M1 : Memref sig .tc .vmem S16x240x256 .fp8e4m3) (f1 : M1.view.ty.Contents (Elt Ideal))
    (M2 : Memref sig .tc .vmem S16x240x256 .f32) (f2 : M2.view.ty.Contents (Elt Ideal))
    (E : Memref sig .tc .vmem S2x10x2x128x2x128 .bf16) (fE : E.view.ty.Contents (Elt Ideal)) : Raw := View.readAt (Elt Ideal) E.view (Rect.unit (s := S2x10x2x128x2x128) ![1, 1, 1, 1, 0, 0] S1x4x1x120x2x128.size inb_S2x10x2x128x2x128_S1x4x1x120x2x128_1_1_1_1_0_0).toLoadRect (E.view.writes (Elt Ideal) fE (lE9 i M1 f1 M2 f2))
def lO17 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 1, 1, 8, 0, 0] S1x4x1x120x2x128.size inb_S2x10x2x128x2x128_S1x4x1x120x2x128_1_1_1_8_0_0), xoP (q21 M1 f1) (s21 M2 f2) R21⟩ :: lO16 i M1 f1 M2 f2 R00 R01 R10 R11 R20 R21 R30 R31
def lO18 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 1, 1, 7, 0, 0] S1x4x1x1x2x128.size inb_S2x10x2x128x2x128_S1x4x1x1x2x128_1_1_1_7_0_0), edP (q21 M1 f1) (s21 M2 f2)⟩ :: lO17 i M1 f1 M2 f2 R00 R01 R10 R11 R20 R21 R30 R31
def lE10 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![0, 9, 1, 0, 0, 0] S1x1x1x120x2x128.size inb_S2x10x2x128x2x128_S1x1x1x120x2x128_0_9_1_0_0_0), tE (kA i 1#32) (q21 M1 f1) (s21 M2 f2)⟩ :: lE9 i M1 f1 M2 f2
def lO19 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 9, 1, 8, 0, 0] S1x1x1x120x2x128.size inb_S2x10x2x128x2x128_S1x1x1x120x2x128_0_9_1_8_0_0), tO (kA i 1#32) (q21 M1 f1) (s21 M2 f2) R21⟩ :: lO18 i M1 f1 M2 f2 R00 R01 R10 R11 R20 R21 R30 R31
def lO20 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 9, 1, 7, 0, 0] S1x1x1x1x2x128.size inb_S2x10x2x128x2x128_S1x1x1x1x2x128_0_9_1_7_0_0), tX (kA i 1#32) (q21 M1 f1) (s21 M2 f2)⟩ :: lO19 i M1 f1 M2 f2 R00 R01 R10 R11 R20 R21 R30 R31
/-- Rows 12 to 15 of the point's block of results. -/
def cv3 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw)
    (NE : Memref sig .tc .vmem S2x10x2x128x2x128 .bf16) (fNE : NE.view.ty.Contents (Elt Ideal)) (NO : Memref sig .tc .vmem S2x10x2x128x2x128 .bf16) (fNO : NO.view.ty.Contents (Elt Ideal))
    (M3 : Memref sig .tc .vmem S2304x256 .fp8e4m3) (f3 : M3.view.ty.Contents (Elt Ideal)) (M4 : Memref sig .tc .vmem S1x256 .f32) (f4 : M4.view.ty.Contents (Elt Ideal))
    (M5 : Memref sig .tc .vmem S1x256 .f32) (f5 : M5.view.ty.Contents (Elt Ideal)) : FVec Ideal S4x240x256 .bf16 :=
  cvP (tap (View.readAt (Elt Ideal) NO.view (Rect.unit (s := S2x10x2x128x2x128) ![1, 4, 0, 7, 0, 0] S1x4x1x120x2x128.size inb_S2x10x2x128x2x128_S1x4x1x120x2x128_1_4_0_7_0_0).toLoadRect fNO) (View.readAt (Elt Ideal) NO.view (Rect.unit (s := S2x10x2x128x2x128) ![1, 4, 1, 7, 0, 0] S1x4x1x120x2x128.size inb_S2x10x2x128x2x128_S1x4x1x120x2x128_1_4_1_7_0_0).toLoadRect fNO))
    (tap (View.readAt (Elt Ideal) NE.view (Rect.unit (s := S2x10x2x128x2x128) ![1, 4, 0, 0, 0, 0] S1x4x1x120x2x128.size inb_S2x10x2x128x2x128_S1x4x1x120x2x128_1_4_0_0_0_0).toLoadRect fNE) (View.readAt (Elt Ideal) NE.view (Rect.unit (s := S2x10x2x128x2x128) ![1, 4, 1, 0, 0, 0] S1x4x1x120x2x128.size inb_S2x10x2x128x2x128_S1x4x1x120x2x128_1_4_1_0_0_0).toLoadRect fNE))
    (tap (View.readAt (Elt Ideal) NO.view (Rect.unit (s := S2x10x2x128x2x128) ![1, 4, 0, 8, 0, 0] S1x4x1x120x2x128.size inb_S2x10x2x128x2x128_S1x4x1x120x2x128_1_4_0_8_0_0).toLoadRect fNO) (View.readAt (Elt Ideal) NO.view (Rect.unit (s := S2x10x2x128x2x128) ![1, 4, 1, 8, 0, 0] S1x4x1x120x2x128.size inb_S2x10x2x128x2x128_S1x4x1x120x2x128_1_4_1_8_0_0).toLoadRect fNO))
    (tap (View.readAt (Elt Ideal) NO.view (Rect.unit (s := S2x10x2x128x2x128) ![1, 5, 0, 7, 0, 0] S1x4x1x120x2x128.size inb_S2x10x2x128x2x128_S1x4x1x120x2x128_1_5_0_7_0_0).toLoadRect fNO) (View.readAt (Elt Ideal) NO.view (Rect.unit (s := S2x10x2x128x2x128) ![1, 5, 1, 7, 0, 0] S1x4x1x120x2x128.size inb_S2x10x2x128x2x128_S1x4x1x120x2x128_1_5_1_7_0_0).toLoadRect fNO))
    (tap (View.readAt (Elt Ideal) NE.view (Rect.unit (s := S2x10x2x128x2x128) ![1, 5, 0, 0, 0, 0] S1x4x1x120x2x128.size inb_S2x10x2x128x2x128_S1x4x1x120x2x128_1_5_0_0_0_0).toLoadRect fNE) (View.readAt (Elt Ideal) NE.view (Rect.unit (s := S2x10x2x128x2x128) ![1, 5, 1, 0, 0, 0] S1x4x1x120x2x128.size inb_S2x10x2x128x2x128_S1x4x1x120x2x128_1_5_1_0_0_0).toLoadRect fNE))
    (tap (View.readAt (Elt Ideal) NO.view (Rect.unit (s := S2x10x2x128x2x128) ![1, 5, 0, 8, 0, 0] S1x4x1x120x2x128.size inb_S2x10x2x128x2x128_S1x4x1x120x2x128_1_5_0_8_0_0).toLoadRect fNO) (View.readAt (Elt Ideal) NO.view (Rect.unit (s := S2x10x2x128x2x128) ![1, 5, 1, 8, 0, 0] S1x4x1x120x2x128.size inb_S2x10x2x128x2x128_S1x4x1x120x2x128_1_5_1_8_0_0).toLoadRect fNO))
    (tap (View.readAt (Elt Ideal) NO.view (Rect.unit (s := S2x10x2x128x2x128) ![1, 6, 0, 7, 0, 0] S1x4x1x120x2x128.size inb_S2x10x2x128x2x128_S1x4x1x120x2x128_1_6_0_7_0_0).toLoadRect (NO.view.writes (Elt Ideal) fNO (lNO4 i M1 f1 M2 f2 R00 R01 R10 R11 R20 R21 R30 R31))) (View.readAt (Elt Ideal) NO.view (Rect.unit (s := S2x10x2x128x2x128) ![1, 6, 1, 7, 0, 0] S1x4x1x120x2x128.size inb_S2x10x2x128x2x128_S1x4x1x120x2x128_1_6_1_7_0_0).toLoadRect (NO.view.writes (Elt Ideal) fNO (lNO4 i M1 f1 M2 f2 R00 R01 R10 R11 R20 R21 R30 R31))))
    (tap (View.readAt (Elt Ideal) NE.view (Rect.unit (s := S2x10x2x128x2x128) ![1, 6, 0, 0, 0, 0] S1x4x1x120x2x128.size inb_S2x10x2x128x2x128_S1x4x1x120x2x128_1_6_0_0_0_0).toLoadRect (NE.view.writes (Elt Ideal) fNE (lNE2 i M1 f1 M2 f2))) (View.readAt (Elt Ideal) NE.view (Rect.unit (s := S2x10x2x128x2x128) ![1, 6, 1, 0, 0, 0] S1x4x1x120x2x128.size inb_S2x10x2x128x2x128_S1x4x1x120x2x128_1_6_1_0_0_0).toLoadRect (NE.view.writes (Elt Ideal) fNE (lNE2 i M1 f1 M2 f2))))
    (View.readAt (Elt Ideal) NO.view (Rect.unit (s := S2x10x2x128x2x128) ![1, 6, 0, 8, 0, 0] S1x4x1x120x2x128.size inb_S2x10x2x128x2x128_S1x4x1x120x2x128_1_6_0_8_0_0).toLoadRect (NO.view.writes (Elt Ideal) fNO (lNO4 i M1 f1 M2 f2 R00 R01 R10 R11 R20 R21 R30 R31))) (View.readAt (Elt Ideal) NO.view (Rect.unit (s := S2x10x2x128x2x128) ![1, 6, 1, 8, 0, 0] S1x4x1x120x2x128.size inb_S2x10x2x128x2x128_S1x4x1x120x2x128_1_6_1_8_0_0).toLoadRect (NO.view.writes (Elt Ideal) fNO (lNO4 i M1 f1 M2 f2 R00 R01 R10 R11 R20 R21 R30 R31)))
    (View.readAt (Elt Ideal) M3.view (Rect.unit (s := S2304x256) ![0, 0] S2304x256.size inb_S2304x256_S2304x256_0_0).toLoadRect f3)
    (View.readAt (Elt Ideal) M4.view (Rect.unit (s := S1x256) ![0, 0] S1x256.size inb_S1x256_S1x256_0_0).toLoadRect f4)
    (View.readAt (Elt Ideal) M5.view (Rect.unit (s := S1x256) ![0, 0] S1x256.size inb_S1x256_S1x256_0_0).toLoadRect f5)
def lE11 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![1, 5, 0, 0, 0, 0] S1x4x1x120x2x128.size inb_S2x10x2x128x2x128_S1x4x1x120x2x128_1_5_0_0_0_0), xeP (q30 M1 f1) (s30 M2 f2)⟩ :: lE10 i M1 f1 M2 f2
def raw30 (i : grid0.Coords) (M1 : Memref sig .tc .vmem S16x240x256 .fp8e4m3) (f1 : M1.view.ty.Contents (Elt Ideal))
    (M2 : Memref sig .tc .vmem S16x240x256 .f32) (f2 : M2.view.ty.Contents (Elt Ideal))
    (E : Memref sig .tc .vmem S2x10x2x128x2x128 .bf16) (fE : E.view.ty.Contents (Elt Ideal)) : Raw := View.readAt (Elt Ideal) E.view (Rect.unit (s := S2x10x2x128x2x128) ![1, 5, 0, 1, 0, 0] S1x4x1x120x2x128.size inb_S2x10x2x128x2x128_S1x4x1x120x2x128_1_5_0_1_0_0).toLoadRect (E.view.writes (Elt Ideal) fE (lE11 i M1 f1 M2 f2))
def lO21 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 5, 0, 8, 0, 0] S1x4x1x120x2x128.size inb_S2x10x2x128x2x128_S1x4x1x120x2x128_1_5_0_8_0_0), xoP (q30 M1 f1) (s30 M2 f2) R30⟩ :: lO20 i M1 f1 M2 f2 R00 R01 R10 R11 R20 R21 R30 R31
def lO22 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 5, 0, 7, 0, 0] S1x4x1x1x2x128.size inb_S2x10x2x128x2x128_S1x4x1x1x2x128_1_5_0_7_0_0), edP (q30 M1 f1) (s30 M2 f2)⟩ :: lO21 i M1 f1 M2 f2 R00 R01 R10 R11 R20 R21 R30 R31
def lNE3 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![0, 0, 0, 0, 0, 0] S1x1x1x120x2x128.size inb_S2x10x2x128x2x128_S1x1x1x120x2x128_0_0_0_0_0_0), bE (kB i 1#32) (q30 M1 f1) (s30 M2 f2)⟩ :: lNE2 i M1 f1 M2 f2
def lNO5 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 0, 0, 8, 0, 0] S1x1x1x120x2x128.size inb_S2x10x2x128x2x128_S1x1x1x120x2x128_0_0_0_8_0_0), bO (kB i 1#32) (q30 M1 f1) (s30 M2 f2) R30⟩ :: lNO4 i M1 f1 M2 f2 R00 R01 R10 R11 R20 R21 R30 R31
def lNO6 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 0, 0, 7, 0, 0] S1x1x1x1x2x128.size inb_S2x10x2x128x2x128_S1x1x1x1x2x128_0_0_0_7_0_0), bX (kB i 1#32) (q30 M1 f1) (s30 M2 f2)⟩ :: lNO5 i M1 f1 M2 f2 R00 R01 R10 R11 R20 R21 R30 R31
def lE12 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![1, 5, 1, 0, 0, 0] S1x4x1x120x2x128.size inb_S2x10x2x128x2x128_S1x4x1x120x2x128_1_5_1_0_0_0), xeP (q31 M1 f1) (s31 M2 f2)⟩ :: lE11 i M1 f1 M2 f2
def raw31 (i : grid0.Coords) (M1 : Memref sig .tc .vmem S16x240x256 .fp8e4m3) (f1 : M1.view.ty.Contents (Elt Ideal))
    (M2 : Memref sig .tc .vmem S16x240x256 .f32) (f2 : M2.view.ty.Contents (Elt Ideal))
    (E : Memref sig .tc .vmem S2x10x2x128x2x128 .bf16) (fE : E.view.ty.Contents (Elt Ideal)) : Raw := View.readAt (Elt Ideal) E.view (Rect.unit (s := S2x10x2x128x2x128) ![1, 5, 1, 1, 0, 0] S1x4x1x120x2x128.size inb_S2x10x2x128x2x128_S1x4x1x120x2x128_1_5_1_1_0_0).toLoadRect (E.view.writes (Elt Ideal) fE (lE12 i M1 f1 M2 f2))
def lO23 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 5, 1, 8, 0, 0] S1x4x1x120x2x128.size inb_S2x10x2x128x2x128_S1x4x1x120x2x128_1_5_1_8_0_0), xoP (q31 M1 f1) (s31 M2 f2) R31⟩ :: lO22 i M1 f1 M2 f2 R00 R01 R10 R11 R20 R21 R30 R31
def lO24 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![1, 5, 1, 7, 0, 0] S1x4x1x1x2x128.size inb_S2x10x2x128x2x128_S1x4x1x1x2x128_1_5_1_7_0_0), edP (q31 M1 f1) (s31 M2 f2)⟩ :: lO23 i M1 f1 M2 f2 R00 R01 R10 R11 R20 R21 R30 R31
def lNE4 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) : Pieces := ⟨(Rect.unit (s := S2x10x2x128x2x128) ![0, 0, 1, 0, 0, 0] S1x1x1x120x2x128.size inb_S2x10x2x128x2x128_S1x1x1x120x2x128_0_0_1_0_0_0), bE (kB i 1#32) (q31 M1 f1) (s31 M2 f2)⟩ :: lNE3 i M1 f1 M2 f2
def lNO7 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 0, 1, 8, 0, 0] S1x1x1x120x2x128.size inb_S2x10x2x128x2x128_S1x1x1x120x2x128_0_0_1_8_0_0), bO (kB i 1#32) (q31 M1 f1) (s31 M2 f2) R31⟩ :: lNO6 i M1 f1 M2 f2 R00 R01 R10 R11 R20 R21 R30 R31
def lNO8 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw) : Pieces := ⟨(Rect.unit (s := S2x10x2x128x2x128) ![0, 0, 1, 7, 0, 0] S1x1x1x1x2x128.size inb_S2x10x2x128x2x128_S1x1x1x1x2x128_0_0_1_7_0_0), bX (kB i 1#32) (q31 M1 f1) (s31 M2 f2)⟩ :: lNO7 i M1 f1 M2 f2 R00 R01 R10 R11 R20 R21 R30 R31
/-- What the point leaves in the block of results. -/
def lP (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (R00 R01 R10 R11 R20 R21 R30 R31 : Raw)
    (NE : Memref sig .tc .vmem S2x10x2x128x2x128 .bf16) (fNE : NE.view.ty.Contents (Elt Ideal)) (NO : Memref sig .tc .vmem S2x10x2x128x2x128 .bf16) (fNO : NO.view.ty.Contents (Elt Ideal))
    (M3 : Memref sig .tc .vmem S2304x256 .fp8e4m3) (f3 : M3.view.ty.Contents (Elt Ideal)) (M4 : Memref sig .tc .vmem S1x256 .f32) (f4 : M4.view.ty.Contents (Elt Ideal))
    (M5 : Memref sig .tc .vmem S1x256 .f32) (f5 : M5.view.ty.Contents (Elt Ideal)) : List (View.Piece (Elt Ideal) S16x240x256 .bf16) :=
  [⟨(Rect.unit (s := S16x240x256) ![12, 0, 0] S4x240x256.size inb_S16x240x256_S4x240x256_12_0_0), cv3 i M1 f1 M2 f2 R00 R01 R10 R11 R20 R21 R30 R31 NE fNE NO fNO M3 f3 M4 f4 M5 f5⟩,
   ⟨(Rect.unit (s := S16x240x256) ![8, 0, 0] S4x240x256.size inb_S16x240x256_S4x240x256_8_0_0), cv2 i M1 f1 M2 f2 R00 R01 R10 R11 R20 R21 R30 R31 NE fNE NO fNO M3 f3 M4 f4 M5 f5⟩,
   ⟨(Rect.unit (s := S16x240x256) ![4, 0, 0] S4x240x256.size inb_S16x240x256_S4x240x256_4_0_0), cv1 i M1 f1 M2 f2 R00 R01 R10 R11 R20 R21 R30 R31 NE fNE NO fNO M3 f3 M4 f4 M5 f5⟩,
   ⟨(Rect.unit (s := S16x240x256) ![0, 0, 0] S4x240x256.size inb_S16x240x256_S4x240x256_0_0_0), cv0 i M1 f1 M2 f2 R00 R01 R10 R11 R20 R21 R30 R31 NE fNE NO fNO M3 f3 M4 f4 M5 f5⟩]

end Lists

end Cert.KernelIdeal.Val

end
-- ==== Proof.PayPoints.lean ====
/-
  What the stores of one group of four rows write, element by element: the even plane holds the pixels in order, two to
  a word; the odd plane holds them shifted by one pixel, with the padding at both ends.
-/
module

public import proofs.«01_k».proof.Proof.Canon
public import Idealize.ShloMosaic.Lib.Pipeline.ValueKit

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat Cfg Window BodyObligation cellOf)

/-- A row in the even plane's order: word `k`, parity `e`, lane `l`; the word after the last one is zero. -/
def EF (W : ℕ → ℕ → EReal) (k e l : ℕ) : EReal := if k = 120 then 0 else W (2 * k + e) l
/-- A row in the odd plane's order: words start at 7 and the row is padded by a zero at both ends. -/
def OF (W : ℕ → ℕ → EReal) (k e l : ℕ) : EReal :=
  if 2 * k + e ≤ 14 ∨ 254 < 2 * k + e then 0 else W (2 * k + e - 15) l
/-- A row kept or cleared. -/
def MK (v : BitVec 1) (W : ℕ → ℕ → EReal) : ℕ → ℕ → EReal := fun a l => if v = 1#1 then W a l else 0

theorem EF_of {W : ℕ → ℕ → EReal} {k e l : ℕ} (hk : k < 120) : EF W k e l = W (2 * k + e) l := by
  unfold EF; rw [if_neg (by omega)]

theorem MK_EF {W : ℕ → ℕ → EReal} {v : BitVec 1} {k e l : ℕ} : EF (MK v W) k e l = if v = 1#1 then EF W k e l else 0 := by
  unfold EF MK; split_ifs <;> rfl

theorem MK_OF {W : ℕ → ℕ → EReal} {v : BitVec 1} {k e l : ℕ} : OF (MK v W) k e l = if v = 1#1 then OF W k e l else 0 := by
  unfold OF MK; split_ifs <;> rfl

theorem select_eq {α : Type} (v : BitVec 1) (a b : α) : Scalar.select v a b = if v = 1#1 then a else b := by
  unfold Scalar.select; rcases (by decide : ∀ v : BitVec 1, v = 0#1 ∨ v = 1#1) v with rfl | rfl <;> rfl

section
variable {q : Q4} {s : M4} {W : ℕ → ℕ → ℕ → EReal}
  (hq : ∀ (r : Fin 4) (a : Fin 240) (l : Fin 128), k0_pay19 q s (ix3 r a l) = W r a l)
  {raw : Raw} (hr : ∀ (r : Fin 4) (k : Fin 120) (l : Fin 128), k0_pay26 raw (ix3 r k l) = if k.val = 119 then (0 : EReal) else W r (2 * k + 2) l)

include hq in
theorem xeP_val (x : S1x4x1x120x2x128.Idx) : xeP q s x = EF (W (x 1)) (x 3) (x 4) (x 5) := by
  pointwise [xeP, lo, hi, k0_pay20, k0_pay21, k0_pay25]
  have h3 : (x 3 : ℕ) < 120 := (x 3).isLt
  have h4 : (x 4 : ℕ) < 2 := (x 4).isLt
  rw [EF_of h3]
  split_ifs with h
  · refine (hq _ _ _).trans ?_; rw [show (x 4 : ℕ) = 0 by omega]; rfl
  · refine (hq _ _ _).trans ?_; rw [show (x 4 : ℕ) = 1 by omega]

include hq hr in
theorem xoP_val (x : S1x4x1x120x2x128.Idx) : xoP q s raw x = OF (W (x 1)) (8 + x 3) (x 4) (x 5) := by
  pointwise [xoP, hi, k0_pay21, k0_pay30]
  have h3 : (x 3 : ℕ) < 120 := (x 3).isLt
  have h4 : (x 4 : ℕ) < 2 := (x 4).isLt
  unfold OF
  split_ifs with h h' h'
  · omega
  · refine (hq _ _ _).trans ?_; rw [show (2 * (8 + (x 3 : ℕ)) + (x 4 : ℕ) - 15) = 2 * (x 3 : ℕ) + 1 by omega]
  · refine (hr _ _ _).trans ?_; rw [if_pos (by omega)]
  · refine (hr _ _ _).trans ?_; rw [if_neg (by omega), show (2 * (8 + (x 3 : ℕ)) + (x 4 : ℕ) - 15) = 2 * (x 3 : ℕ) + 2 by omega]

theorem pay27 (j : S4x1x128.Idx) : k0_pay27 j = 1#1 := by
  pointwise [k0_pay27]

include hq in
theorem edP_val (x : S1x4x1x1x2x128.Idx) : edP q s x = OF (W (x 1)) (7 + x 3) (x 4) (x 5) := by
  pointwise [edP, lo, hi, k0_pay20, k0_pay21, k0_pay28, k0_pay29, k0_pay32]
  simp only [select_eq, pay27, if_true]
  have h3 : (x 3 : ℕ) < 1 := (x 3).isLt
  have h4 : (x 4 : ℕ) < 2 := (x 4).isLt
  unfold OF
  split_ifs with h h' h'
  · rfl
  · omega
  · omega
  · refine (hq _ _ _).trans ?_
    have e : (2 * 7 + (x 4 : ℕ) - 15) = 0 := by omega
    simp only [e]; rfl

include hq in
theorem tE_val (v : BitVec 1) (x : S1x1x1x120x2x128.Idx) : tE v q s x = EF (MK v (W 0)) (x 3) (x 4) (x 5) := by
  pointwise [tE, lo, hi, k0_pay20, k0_pay21, k0_pay33]
  simp only [select_eq]
  have h3 : (x 3 : ℕ) < 120 := (x 3).isLt
  have h4 : (x 4 : ℕ) < 2 := (x 4).isLt
  rw [EF_of h3]; unfold MK
  split_ifs with h h'
  · refine (hq _ _ _).trans ?_; rw [show (x 4 : ℕ) = 0 by omega]; rfl
  · rfl
  · refine (hq _ _ _).trans ?_; rw [show (x 4 : ℕ) = 1 by omega]; rfl
  · rfl

include hq in
theorem bE_val (v : BitVec 1) (x : S1x1x1x120x2x128.Idx) : bE v q s x = EF (MK v (W 3)) (x 3) (x 4) (x 5) := by
  pointwise [bE, lo, hi, k0_pay20, k0_pay21, k0_pay84]
  simp only [select_eq]
  have h3 : (x 3 : ℕ) < 120 := (x 3).isLt
  have h4 : (x 4 : ℕ) < 2 := (x 4).isLt
  rw [EF_of h3]; unfold MK
  split_ifs with h h'
  · refine (hq _ _ _).trans ?_; rw [show (x 4 : ℕ) = 0 by omega]; rfl
  · rfl
  · refine (hq _ _ _).trans ?_; rw [show (x 4 : ℕ) = 1 by omega]; rfl
  · rfl

include hq hr in
theorem tO_val (v : BitVec 1) (x : S1x1x1x120x2x128.Idx) : tO v q s raw x = OF (MK v (W 0)) (8 + x 3) (x 4) (x 5) := by
  pointwise [tO, hi, k0_pay21, k0_pay34]
  simp only [select_eq]
  have h3 : (x 3 : ℕ) < 120 := (x 3).isLt
  have h4 : (x 4 : ℕ) < 2 := (x 4).isLt
  rw [MK_OF]
  by_cases hv : v = 1#1
  · simp only [if_pos hv]
    unfold OF
    split_ifs with h h' h'
    · omega
    · refine (hq _ _ _).trans ?_; rw [show (2 * (8 + (x 3 : ℕ)) + (x 4 : ℕ) - 15) = 2 * (x 3 : ℕ) + 1 by omega]; rfl
    · refine (hr _ _ _).trans ?_; rw [if_pos (by omega)]
    · refine (hr _ _ _).trans ?_; rw [if_neg (by omega), show (2 * (8 + (x 3 : ℕ)) + (x 4 : ℕ) - 15) = 2 * (x 3 : ℕ) + 2 by omega]; rfl
  · simp only [if_neg hv, ite_self]

include hq hr in
theorem bO_val (v : BitVec 1) (x : S1x1x1x120x2x128.Idx) : bO v q s raw x = OF (MK v (W 3)) (8 + x 3) (x 4) (x 5) := by
  pointwise [bO, hi, k0_pay21, k0_pay85]
  simp only [select_eq]
  have h3 : (x 3 : ℕ) < 120 := (x 3).isLt
  have h4 : (x 4 : ℕ) < 2 := (x 4).isLt
  rw [MK_OF]
  by_cases hv : v = 1#1
  · simp only [if_pos hv]
    unfold OF
    split_ifs with h h' h'
    · omega
    · refine (hq _ _ _).trans ?_; rw [show (2 * (8 + (x 3 : ℕ)) + (x 4 : ℕ) - 15) = 2 * (x 3 : ℕ) + 1 by omega]; rfl
    · refine (hr _ _ _).trans ?_; rw [if_pos (by omega)]
    · refine (hr _ _ _).trans ?_; rw [if_neg (by omega), show (2 * (8 + (x 3 : ℕ)) + (x 4 : ℕ) - 15) = 2 * (x 3 : ℕ) + 2 by omega]; rfl
  · simp only [if_neg hv, ite_self]

include hq in
theorem tX_val (v : BitVec 1) (x : S1x1x1x1x2x128.Idx) : tX v q s x = OF (MK v (W 0)) (7 + x 3) (x 4) (x 5) := by
  pointwise [tX, lo, hi, k0_pay20, k0_pay21, k0_pay28, k0_pay29, k0_pay51]
  simp only [select_eq, pay27, if_true]
  have h4 : (x 4 : ℕ) < 2 := (x 4).isLt
  have h3 : (x 3 : ℕ) < 1 := (x 3).isLt
  rw [MK_OF]
  by_cases hv : v = 1#1
  · simp only [if_pos hv]
    unfold OF
    split_ifs with h h' h'
    · rfl
    · omega
    · omega
    · refine (hq _ _ _).trans ?_
      have e : (2 * 7 + (x 4 : ℕ) - 15) = 0 := by omega
      simp only [e]; rfl
  · simp only [if_neg hv, ite_self]

include hq in
theorem bX_val (v : BitVec 1) (x : S1x1x1x1x2x128.Idx) : bX v q s x = OF (MK v (W 3)) (7 + x 3) (x 4) (x 5) := by
  pointwise [bX, lo, hi, k0_pay20, k0_pay21, k0_pay28, k0_pay29, k0_pay2]
  simp only [select_eq, pay27, if_true]
  have h4 : (x 4 : ℕ) < 2 := (x 4).isLt
  have h3 : (x 3 : ℕ) < 1 := (x 3).isLt
  rw [MK_OF]
  by_cases hv : v = 1#1
  · simp only [if_pos hv]
    unfold OF
    split_ifs with h h' h'
    · rfl
    · omega
    · omega
    · refine (hq _ _ _).trans ?_
      have e : (2 * 7 + (x 4 : ℕ) - 15) = 0 := by omega
      simp only [e]; rfl
  · simp only [if_neg hv, ite_self]

end

end Cert.KernelIdeal.Val

end
-- ==== Proof.PieceLemmas.lean ====
/-
  Every store into the planes writes the pixels its place is for: `TE` and `TO` are the even and the odd plane of the rows
  `V u s` (unit `u`, slot `s`).
-/
module

public import proofs.«01_k».proof.Proof.PayPoints

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat Cfg Window BodyObligation cellOf)

/-- The rows of a plane: unit, slot, pixel, channel. -/
abbrev Rows := ℕ → ℕ → ℕ → ℕ → EReal

def TE (V : Rows) (y : S2x10x2x128x2x128.Idx) : EReal :=
  EF (fun a l => V (y 0) (y 1) a (128 * (y 2) + l)) (y 3) (y 4) (y 5)
def TO (V : Rows) (y : S2x10x2x128x2x128.Idx) : EReal :=
  OF (fun a l => V (y 0) (y 1) a (128 * (y 2) + l)) (y 3) (y 4) (y 5)

/-- A place read after a list of stores: the target's value, if every store writes the target and the place was right where
    no store reaches it. -/
theorem read_writes_target {κ : Kind} {sp : Space} {s : Shape} {e : EltTy} (v : View sig κ sp s e)
    (f : v.ty.Contents (Elt Ideal)) (T : s.Idx → Elt Ideal e) (y : s.Idx) (L : List (View.Piece (Elt Ideal) s e))
    (hL : ∀ p ∈ L, ∀ x, p.2 x = T (p.1.emb x))
    (hb : (∀ p ∈ L, y ∉ p.1.set) → v.read (Elt Ideal) f y = T y) :
    v.read (Elt Ideal) (v.writes (Elt Ideal) f L) y = T y := by
  induction L with
  | nil => exact hb (by simp)
  | cons p L ih =>
    by_cases hy : y ∈ p.1.set
    · have hm := hy
      rw [← Rect.map_emb_univ, Finset.mem_map] at hm
      obtain ⟨x, -, hx'⟩ := hm
      refine (View.read_writes_cons_hit v f p.1 p.2 L x y hx').trans ?_
      rw [hL p (by simp) x, hx']
    · rw [View.read_writes_cons_miss v f p L y hy]
      exact ih (fun p hp => hL p (by simp [hp])) (fun h => hb (by
        intro p' hp'
        rcases List.mem_cons.1 hp' with rfl | hp'
        · exact hy
        · exact h p' hp'))

theorem unit_emb_val {S : Shape} (off size : Fin S.rank → ℕ) (inb) (x : (Rect.unit off size inb).shape.Idx) (a : Fin S.rank) :
    ((Rect.unit off size inb).emb x a : ℕ) = off a + x a := Rect.idx_unit_val off size inb x a

theorem pE4 (u s0 h : ℕ) (inb) (V : Rows) {q : Q4} {s : M4}
    (hq : ∀ (r : Fin 4) (a : Fin 240) (l : Fin 128), k0_pay19 q s (ix3 r a l) = V u (s0 + r) a (128 * h + l))
    (x : S1x4x1x120x2x128.Idx) :
    xeP q s x = TE V ((Rect.unit (s := S2x10x2x128x2x128) ![u, s0, h, 0, 0, 0] S1x4x1x120x2x128.size inb).emb x) := by
  rw [xeP_val (W := fun r a l => V u (s0 + r) a (128 * h + l)) hq x]
  have h0 : (x 0 : ℕ) < 1 := (x 0).isLt
  have h2 : (x 2 : ℕ) < 1 := (x 2).isLt
  have e0 : ((Rect.unit (s := S2x10x2x128x2x128) ![u, s0, h, 0, 0, 0] S1x4x1x120x2x128.size inb).emb x 0 : ℕ) = u := (unit_emb_val _ _ inb x 0).trans (by show u + (x 0 : ℕ) = u; omega)
  have e1 : ((Rect.unit (s := S2x10x2x128x2x128) ![u, s0, h, 0, 0, 0] S1x4x1x120x2x128.size inb).emb x 1 : ℕ) = s0 + x 1 := unit_emb_val _ _ inb x 1
  have e2 : ((Rect.unit (s := S2x10x2x128x2x128) ![u, s0, h, 0, 0, 0] S1x4x1x120x2x128.size inb).emb x 2 : ℕ) = h := (unit_emb_val _ _ inb x 2).trans (by show h + (x 2 : ℕ) = h; omega)
  have e3 : ((Rect.unit (s := S2x10x2x128x2x128) ![u, s0, h, 0, 0, 0] S1x4x1x120x2x128.size inb).emb x 3 : ℕ) = 0 + x 3 := unit_emb_val _ _ inb x 3
  have e4 : ((Rect.unit (s := S2x10x2x128x2x128) ![u, s0, h, 0, 0, 0] S1x4x1x120x2x128.size inb).emb x 4 : ℕ) = x 4 := (unit_emb_val _ _ inb x 4).trans (Nat.zero_add _)
  have e5 : ((Rect.unit (s := S2x10x2x128x2x128) ![u, s0, h, 0, 0, 0] S1x4x1x120x2x128.size inb).emb x 5 : ℕ) = x 5 := (unit_emb_val _ _ inb x 5).trans (Nat.zero_add _)
  unfold TE
  rw [e0, e1, e2, e3, e4, e5]; rw [Nat.zero_add]

theorem pO4 (u s0 h : ℕ) (inb) (V : Rows) {q : Q4} {s : M4}
    (hq : ∀ (r : Fin 4) (a : Fin 240) (l : Fin 128), k0_pay19 q s (ix3 r a l) = V u (s0 + r) a (128 * h + l))
    {raw : Raw} (hr : ∀ (r : Fin 4) (k : Fin 120) (l : Fin 128), k0_pay26 raw (ix3 r k l) = if k.val = 119 then (0 : EReal) else V u (s0 + r) (2 * k + 2) (128 * h + l))
    (x : S1x4x1x120x2x128.Idx) :
    xoP q s raw x = TO V ((Rect.unit (s := S2x10x2x128x2x128) ![u, s0, h, 8, 0, 0] S1x4x1x120x2x128.size inb).emb x) := by
  rw [xoP_val (W := fun r a l => V u (s0 + r) a (128 * h + l)) hq hr x]
  have h0 : (x 0 : ℕ) < 1 := (x 0).isLt
  have h2 : (x 2 : ℕ) < 1 := (x 2).isLt
  have e0 : ((Rect.unit (s := S2x10x2x128x2x128) ![u, s0, h, 8, 0, 0] S1x4x1x120x2x128.size inb).emb x 0 : ℕ) = u := (unit_emb_val _ _ inb x 0).trans (by show u + (x 0 : ℕ) = u; omega)
  have e1 : ((Rect.unit (s := S2x10x2x128x2x128) ![u, s0, h, 8, 0, 0] S1x4x1x120x2x128.size inb).emb x 1 : ℕ) = s0 + x 1 := unit_emb_val _ _ inb x 1
  have e2 : ((Rect.unit (s := S2x10x2x128x2x128) ![u, s0, h, 8, 0, 0] S1x4x1x120x2x128.size inb).emb x 2 : ℕ) = h := (unit_emb_val _ _ inb x 2).trans (by show h + (x 2 : ℕ) = h; omega)
  have e3 : ((Rect.unit (s := S2x10x2x128x2x128) ![u, s0, h, 8, 0, 0] S1x4x1x120x2x128.size inb).emb x 3 : ℕ) = 8 + x 3 := unit_emb_val _ _ inb x 3
  have e4 : ((Rect.unit (s := S2x10x2x128x2x128) ![u, s0, h, 8, 0, 0] S1x4x1x120x2x128.size inb).emb x 4 : ℕ) = x 4 := (unit_emb_val _ _ inb x 4).trans (Nat.zero_add _)
  have e5 : ((Rect.unit (s := S2x10x2x128x2x128) ![u, s0, h, 8, 0, 0] S1x4x1x120x2x128.size inb).emb x 5 : ℕ) = x 5 := (unit_emb_val _ _ inb x 5).trans (Nat.zero_add _)
  unfold TO
  rw [e0, e1, e2, e3, e4, e5]

theorem pX4 (u s0 h : ℕ) (inb) (V : Rows) {q : Q4} {s : M4}
    (hq : ∀ (r : Fin 4) (a : Fin 240) (l : Fin 128), k0_pay19 q s (ix3 r a l) = V u (s0 + r) a (128 * h + l))
    (x : S1x4x1x1x2x128.Idx) :
    edP q s x = TO V ((Rect.unit (s := S2x10x2x128x2x128) ![u, s0, h, 7, 0, 0] S1x4x1x1x2x128.size inb).emb x) := by
  rw [edP_val (W := fun r a l => V u (s0 + r) a (128 * h + l)) hq x]
  have h0 : (x 0 : ℕ) < 1 := (x 0).isLt
  have h2 : (x 2 : ℕ) < 1 := (x 2).isLt
  have e0 : ((Rect.unit (s := S2x10x2x128x2x128) ![u, s0, h, 7, 0, 0] S1x4x1x1x2x128.size inb).emb x 0 : ℕ) = u := (unit_emb_val _ _ inb x 0).trans (by show u + (x 0 : ℕ) = u; omega)
  have e1 : ((Rect.unit (s := S2x10x2x128x2x128) ![u, s0, h, 7, 0, 0] S1x4x1x1x2x128.size inb).emb x 1 : ℕ) = s0 + x 1 := unit_emb_val _ _ inb x 1
  have e2 : ((Rect.unit (s := S2x10x2x128x2x128) ![u, s0, h, 7, 0, 0] S1x4x1x1x2x128.size inb).emb x 2 : ℕ) = h := (unit_emb_val _ _ inb x 2).trans (by show h + (x 2 : ℕ) = h; omega)
  have e3 : ((Rect.unit (s := S2x10x2x128x2x128) ![u, s0, h, 7, 0, 0] S1x4x1x1x2x128.size inb).emb x 3 : ℕ) = 7 + x 3 := unit_emb_val _ _ inb x 3
  have e4 : ((Rect.unit (s := S2x10x2x128x2x128) ![u, s0, h, 7, 0, 0] S1x4x1x1x2x128.size inb).emb x 4 : ℕ) = x 4 := (unit_emb_val _ _ inb x 4).trans (Nat.zero_add _)
  have e5 : ((Rect.unit (s := S2x10x2x128x2x128) ![u, s0, h, 7, 0, 0] S1x4x1x1x2x128.size inb).emb x 5 : ℕ) = x 5 := (unit_emb_val _ _ inb x 5).trans (Nat.zero_add _)
  unfold TO
  rw [e0, e1, e2, e3, e4, e5]

theorem pE1t (u s0 h : ℕ) (inb) (V : Rows) (v : BitVec 1) {W : ℕ → ℕ → ℕ → EReal} {q : Q4} {s : M4}
    (hq : ∀ (r : Fin 4) (a : Fin 240) (l : Fin 128), k0_pay19 q s (ix3 r a l) = W r a l)
    (hV : ∀ a l, V u s0 a (128 * h + l) = MK v (W 0) a l) (x : S1x1x1x120x2x128.Idx) :
    tE v q s x = TE V ((Rect.unit (s := S2x10x2x128x2x128) ![u, s0, h, 0, 0, 0] S1x1x1x120x2x128.size inb).emb x) := by
  rw [tE_val hq v x]
  have h0 : (x 0 : ℕ) < 1 := (x 0).isLt
  have h1 : (x 1 : ℕ) < 1 := (x 1).isLt
  have h2 : (x 2 : ℕ) < 1 := (x 2).isLt
  have e0 : ((Rect.unit (s := S2x10x2x128x2x128) ![u, s0, h, 0, 0, 0] S1x1x1x120x2x128.size inb).emb x 0 : ℕ) = u := (unit_emb_val _ _ inb x 0).trans (by show u + (x 0 : ℕ) = u; omega)
  have e1 : ((Rect.unit (s := S2x10x2x128x2x128) ![u, s0, h, 0, 0, 0] S1x1x1x120x2x128.size inb).emb x 1 : ℕ) = s0 := (unit_emb_val _ _ inb x 1).trans (by show s0 + (x 1 : ℕ) = s0; omega)
  have e2 : ((Rect.unit (s := S2x10x2x128x2x128) ![u, s0, h, 0, 0, 0] S1x1x1x120x2x128.size inb).emb x 2 : ℕ) = h := (unit_emb_val _ _ inb x 2).trans (by show h + (x 2 : ℕ) = h; omega)
  have e3 : ((Rect.unit (s := S2x10x2x128x2x128) ![u, s0, h, 0, 0, 0] S1x1x1x120x2x128.size inb).emb x 3 : ℕ) = 0 + x 3 := unit_emb_val _ _ inb x 3
  have e4 : ((Rect.unit (s := S2x10x2x128x2x128) ![u, s0, h, 0, 0, 0] S1x1x1x120x2x128.size inb).emb x 4 : ℕ) = x 4 := (unit_emb_val _ _ inb x 4).trans (Nat.zero_add _)
  have e5 : ((Rect.unit (s := S2x10x2x128x2x128) ![u, s0, h, 0, 0, 0] S1x1x1x120x2x128.size inb).emb x 5 : ℕ) = x 5 := (unit_emb_val _ _ inb x 5).trans (Nat.zero_add _)
  unfold TE
  rw [e0, e1, e2, e3, e4, e5]; rw [Nat.zero_add]
  rw [show (fun a l => V u s0 a (128 * h + l)) = MK v (W 0) from funext fun a => funext fun l => hV a l]

theorem pO1t (u s0 h : ℕ) (inb) (V : Rows) (v : BitVec 1) {W : ℕ → ℕ → ℕ → EReal} {q : Q4} {s : M4}
    (hq : ∀ (r : Fin 4) (a : Fin 240) (l : Fin 128), k0_pay19 q s (ix3 r a l) = W r a l)
    {raw : Raw} (hr : ∀ (r : Fin 4) (k : Fin 120) (l : Fin 128), k0_pay26 raw (ix3 r k l) = if k.val = 119 then (0 : EReal) else W r (2 * k + 2) l)
    (hV : ∀ a l, V u s0 a (128 * h + l) = MK v (W 0) a l) (x : S1x1x1x120x2x128.Idx) :
    tO v q s raw x = TO V ((Rect.unit (s := S2x10x2x128x2x128) ![u, s0, h, 8, 0, 0] S1x1x1x120x2x128.size inb).emb x) := by
  rw [tO_val hq hr v x]
  have h0 : (x 0 : ℕ) < 1 := (x 0).isLt
  have h1 : (x 1 : ℕ) < 1 := (x 1).isLt
  have h2 : (x 2 : ℕ) < 1 := (x 2).isLt
  have e0 : ((Rect.unit (s := S2x10x2x128x2x128) ![u, s0, h, 8, 0, 0] S1x1x1x120x2x128.size inb).emb x 0 : ℕ) = u := (unit_emb_val _ _ inb x 0).trans (by show u + (x 0 : ℕ) = u; omega)
  have e1 : ((Rect.unit (s := S2x10x2x128x2x128) ![u, s0, h, 8, 0, 0] S1x1x1x120x2x128.size inb).emb x 1 : ℕ) = s0 := (unit_emb_val _ _ inb x 1).trans (by show s0 + (x 1 : ℕ) = s0; omega)
  have e2 : ((Rect.unit (s := S2x10x2x128x2x128) ![u, s0, h, 8, 0, 0] S1x1x1x120x2x128.size inb).emb x 2 : ℕ) = h := (unit_emb_val _ _ inb x 2).trans (by show h + (x 2 : ℕ) = h; omega)
  have e3 : ((Rect.unit (s := S2x10x2x128x2x128) ![u, s0, h, 8, 0, 0] S1x1x1x120x2x128.size inb).emb x 3 : ℕ) = 8 + x 3 := unit_emb_val _ _ inb x 3
  have e4 : ((Rect.unit (s := S2x10x2x128x2x128) ![u, s0, h, 8, 0, 0] S1x1x1x120x2x128.size inb).emb x 4 : ℕ) = x 4 := (unit_emb_val _ _ inb x 4).trans (Nat.zero_add _)
  have e5 : ((Rect.unit (s := S2x10x2x128x2x128) ![u, s0, h, 8, 0, 0] S1x1x1x120x2x128.size inb).emb x 5 : ℕ) = x 5 := (unit_emb_val _ _ inb x 5).trans (Nat.zero_add _)
  unfold TO
  rw [e0, e1, e2, e3, e4, e5]
  rw [show (fun a l => V u s0 a (128 * h + l)) = MK v (W 0) from funext fun a => funext fun l => hV a l]

theorem pX1t (u s0 h : ℕ) (inb) (V : Rows) (v : BitVec 1) {W : ℕ → ℕ → ℕ → EReal} {q : Q4} {s : M4}
    (hq : ∀ (r : Fin 4) (a : Fin 240) (l : Fin 128), k0_pay19 q s (ix3 r a l) = W r a l)
    (hV : ∀ a l, V u s0 a (128 * h + l) = MK v (W 0) a l) (x : S1x1x1x1x2x128.Idx) :
    tX v q s x = TO V ((Rect.unit (s := S2x10x2x128x2x128) ![u, s0, h, 7, 0, 0] S1x1x1x1x2x128.size inb).emb x) := by
  rw [tX_val hq v x]
  have h0 : (x 0 : ℕ) < 1 := (x 0).isLt
  have h1 : (x 1 : ℕ) < 1 := (x 1).isLt
  have h2 : (x 2 : ℕ) < 1 := (x 2).isLt
  have e0 : ((Rect.unit (s := S2x10x2x128x2x128) ![u, s0, h, 7, 0, 0] S1x1x1x1x2x128.size inb).emb x 0 : ℕ) = u := (unit_emb_val _ _ inb x 0).trans (by show u + (x 0 : ℕ) = u; omega)
  have e1 : ((Rect.unit (s := S2x10x2x128x2x128) ![u, s0, h, 7, 0, 0] S1x1x1x1x2x128.size inb).emb x 1 : ℕ) = s0 := (unit_emb_val _ _ inb x 1).trans (by show s0 + (x 1 : ℕ) = s0; omega)
  have e2 : ((Rect.unit (s := S2x10x2x128x2x128) ![u, s0, h, 7, 0, 0] S1x1x1x1x2x128.size inb).emb x 2 : ℕ) = h := (unit_emb_val _ _ inb x 2).trans (by show h + (x 2 : ℕ) = h; omega)
  have e3 : ((Rect.unit (s := S2x10x2x128x2x128) ![u, s0, h, 7, 0, 0] S1x1x1x1x2x128.size inb).emb x 3 : ℕ) = 7 + x 3 := unit_emb_val _ _ inb x 3
  have e4 : ((Rect.unit (s := S2x10x2x128x2x128) ![u, s0, h, 7, 0, 0] S1x1x1x1x2x128.size inb).emb x 4 : ℕ) = x 4 := (unit_emb_val _ _ inb x 4).trans (Nat.zero_add _)
  have e5 : ((Rect.unit (s := S2x10x2x128x2x128) ![u, s0, h, 7, 0, 0] S1x1x1x1x2x128.size inb).emb x 5 : ℕ) = x 5 := (unit_emb_val _ _ inb x 5).trans (Nat.zero_add _)
  unfold TO
  rw [e0, e1, e2, e3, e4, e5]
  rw [show (fun a l => V u s0 a (128 * h + l)) = MK v (W 0) from funext fun a => funext fun l => hV a l]

theorem pE1b (u s0 h : ℕ) (inb) (V : Rows) (v : BitVec 1) {W : ℕ → ℕ → ℕ → EReal} {q : Q4} {s : M4}
    (hq : ∀ (r : Fin 4) (a : Fin 240) (l : Fin 128), k0_pay19 q s (ix3 r a l) = W r a l)
    (hV : ∀ a l, V u s0 a (128 * h + l) = MK v (W 3) a l) (x : S1x1x1x120x2x128.Idx) :
    bE v q s x = TE V ((Rect.unit (s := S2x10x2x128x2x128) ![u, s0, h, 0, 0, 0] S1x1x1x120x2x128.size inb).emb x) := by
  rw [bE_val hq v x]
  have h0 : (x 0 : ℕ) < 1 := (x 0).isLt
  have h1 : (x 1 : ℕ) < 1 := (x 1).isLt
  have h2 : (x 2 : ℕ) < 1 := (x 2).isLt
  have e0 : ((Rect.unit (s := S2x10x2x128x2x128) ![u, s0, h, 0, 0, 0] S1x1x1x120x2x128.size inb).emb x 0 : ℕ) = u := (unit_emb_val _ _ inb x 0).trans (by show u + (x 0 : ℕ) = u; omega)
  have e1 : ((Rect.unit (s := S2x10x2x128x2x128) ![u, s0, h, 0, 0, 0] S1x1x1x120x2x128.size inb).emb x 1 : ℕ) = s0 := (unit_emb_val _ _ inb x 1).trans (by show s0 + (x 1 : ℕ) = s0; omega)
  have e2 : ((Rect.unit (s := S2x10x2x128x2x128) ![u, s0, h, 0, 0, 0] S1x1x1x120x2x128.size inb).emb x 2 : ℕ) = h := (unit_emb_val _ _ inb x 2).trans (by show h + (x 2 : ℕ) = h; omega)
  have e3 : ((Rect.unit (s := S2x10x2x128x2x128) ![u, s0, h, 0, 0, 0] S1x1x1x120x2x128.size inb).emb x 3 : ℕ) = 0 + x 3 := unit_emb_val _ _ inb x 3
  have e4 : ((Rect.unit (s := S2x10x2x128x2x128) ![u, s0, h, 0, 0, 0] S1x1x1x120x2x128.size inb).emb x 4 : ℕ) = x 4 := (unit_emb_val _ _ inb x 4).trans (Nat.zero_add _)
  have e5 : ((Rect.unit (s := S2x10x2x128x2x128) ![u, s0, h, 0, 0, 0] S1x1x1x120x2x128.size inb).emb x 5 : ℕ) = x 5 := (unit_emb_val _ _ inb x 5).trans (Nat.zero_add _)
  unfold TE
  rw [e0, e1, e2, e3, e4, e5]; rw [Nat.zero_add]
  rw [show (fun a l => V u s0 a (128 * h + l)) = MK v (W 3) from funext fun a => funext fun l => hV a l]

theorem pO1b (u s0 h : ℕ) (inb) (V : Rows) (v : BitVec 1) {W : ℕ → ℕ → ℕ → EReal} {q : Q4} {s : M4}
    (hq : ∀ (r : Fin 4) (a : Fin 240) (l : Fin 128), k0_pay19 q s (ix3 r a l) = W r a l)
    {raw : Raw} (hr : ∀ (r : Fin 4) (k : Fin 120) (l : Fin 128), k0_pay26 raw (ix3 r k l) = if k.val = 119 then (0 : EReal) else W r (2 * k + 2) l)
    (hV : ∀ a l, V u s0 a (128 * h + l) = MK v (W 3) a l) (x : S1x1x1x120x2x128.Idx) :
    bO v q s raw x = TO V ((Rect.unit (s := S2x10x2x128x2x128) ![u, s0, h, 8, 0, 0] S1x1x1x120x2x128.size inb).emb x) := by
  rw [bO_val hq hr v x]
  have h0 : (x 0 : ℕ) < 1 := (x 0).isLt
  have h1 : (x 1 : ℕ) < 1 := (x 1).isLt
  have h2 : (x 2 : ℕ) < 1 := (x 2).isLt
  have e0 : ((Rect.unit (s := S2x10x2x128x2x128) ![u, s0, h, 8, 0, 0] S1x1x1x120x2x128.size inb).emb x 0 : ℕ) = u := (unit_emb_val _ _ inb x 0).trans (by show u + (x 0 : ℕ) = u; omega)
  have e1 : ((Rect.unit (s := S2x10x2x128x2x128) ![u, s0, h, 8, 0, 0] S1x1x1x120x2x128.size inb).emb x 1 : ℕ) = s0 := (unit_emb_val _ _ inb x 1).trans (by show s0 + (x 1 : ℕ) = s0; omega)
  have e2 : ((Rect.unit (s := S2x10x2x128x2x128) ![u, s0, h, 8, 0, 0] S1x1x1x120x2x128.size inb).emb x 2 : ℕ) = h := (unit_emb_val _ _ inb x 2).trans (by show h + (x 2 : ℕ) = h; omega)
  have e3 : ((Rect.unit (s := S2x10x2x128x2x128) ![u, s0, h, 8, 0, 0] S1x1x1x120x2x128.size inb).emb x 3 : ℕ) = 8 + x 3 := unit_emb_val _ _ inb x 3
  have e4 : ((Rect.unit (s := S2x10x2x128x2x128) ![u, s0, h, 8, 0, 0] S1x1x1x120x2x128.size inb).emb x 4 : ℕ) = x 4 := (unit_emb_val _ _ inb x 4).trans (Nat.zero_add _)
  have e5 : ((Rect.unit (s := S2x10x2x128x2x128) ![u, s0, h, 8, 0, 0] S1x1x1x120x2x128.size inb).emb x 5 : ℕ) = x 5 := (unit_emb_val _ _ inb x 5).trans (Nat.zero_add _)
  unfold TO
  rw [e0, e1, e2, e3, e4, e5]
  rw [show (fun a l => V u s0 a (128 * h + l)) = MK v (W 3) from funext fun a => funext fun l => hV a l]

theorem pX1b (u s0 h : ℕ) (inb) (V : Rows) (v : BitVec 1) {W : ℕ → ℕ → ℕ → EReal} {q : Q4} {s : M4}
    (hq : ∀ (r : Fin 4) (a : Fin 240) (l : Fin 128), k0_pay19 q s (ix3 r a l) = W r a l)
    (hV : ∀ a l, V u s0 a (128 * h + l) = MK v (W 3) a l) (x : S1x1x1x1x2x128.Idx) :
    bX v q s x = TO V ((Rect.unit (s := S2x10x2x128x2x128) ![u, s0, h, 7, 0, 0] S1x1x1x1x2x128.size inb).emb x) := by
  rw [bX_val hq v x]
  have h0 : (x 0 : ℕ) < 1 := (x 0).isLt
  have h1 : (x 1 : ℕ) < 1 := (x 1).isLt
  have h2 : (x 2 : ℕ) < 1 := (x 2).isLt
  have e0 : ((Rect.unit (s := S2x10x2x128x2x128) ![u, s0, h, 7, 0, 0] S1x1x1x1x2x128.size inb).emb x 0 : ℕ) = u := (unit_emb_val _ _ inb x 0).trans (by show u + (x 0 : ℕ) = u; omega)
  have e1 : ((Rect.unit (s := S2x10x2x128x2x128) ![u, s0, h, 7, 0, 0] S1x1x1x1x2x128.size inb).emb x 1 : ℕ) = s0 := (unit_emb_val _ _ inb x 1).trans (by show s0 + (x 1 : ℕ) = s0; omega)
  have e2 : ((Rect.unit (s := S2x10x2x128x2x128) ![u, s0, h, 7, 0, 0] S1x1x1x1x2x128.size inb).emb x 2 : ℕ) = h := (unit_emb_val _ _ inb x 2).trans (by show h + (x 2 : ℕ) = h; omega)
  have e3 : ((Rect.unit (s := S2x10x2x128x2x128) ![u, s0, h, 7, 0, 0] S1x1x1x1x2x128.size inb).emb x 3 : ℕ) = 7 + x 3 := unit_emb_val _ _ inb x 3
  have e4 : ((Rect.unit (s := S2x10x2x128x2x128) ![u, s0, h, 7, 0, 0] S1x1x1x1x2x128.size inb).emb x 4 : ℕ) = x 4 := (unit_emb_val _ _ inb x 4).trans (Nat.zero_add _)
  have e5 : ((Rect.unit (s := S2x10x2x128x2x128) ![u, s0, h, 7, 0, 0] S1x1x1x1x2x128.size inb).emb x 5 : ℕ) = x 5 := (unit_emb_val _ _ inb x 5).trans (Nat.zero_add _)
  unfold TO
  rw [e0, e1, e2, e3, e4, e5]
  rw [show (fun a l => V u s0 a (128 * h + l)) = MK v (W 3) from funext fun a => funext fun l => hV a l]

theorem nm4 {u s0 h k : ℕ} {inb} {y : S2x10x2x128x2x128.Idx} (hy : y ∉ (Rect.unit (s := S2x10x2x128x2x128) ![u, s0, h, k, 0, 0] S1x4x1x120x2x128.size inb).set) :
    ¬ ((y 0 : ℕ) = u ∧ s0 ≤ (y 1 : ℕ) ∧ (y 1 : ℕ) < s0 + 4 ∧ (y 2 : ℕ) = h ∧ k ≤ (y 3 : ℕ) ∧ (y 3 : ℕ) < k + 120) := by
  rintro ⟨h0, h1, h1', h2, h3, h3'⟩
  refine hy (Rect.mem_set_unit.2 fun a => ?_)
  have h4 : (y 4 : ℕ) < 2 := (y 4).isLt
  have h5 : (y 5 : ℕ) < 128 := (y 5).isLt
  match a with
  | ⟨0, _⟩ => exact ⟨le_of_eq h0.symm, by show (y 0 : ℕ) < u + 1; omega⟩
  | ⟨1, _⟩ => exact ⟨h1, h1'⟩
  | ⟨2, _⟩ => exact ⟨le_of_eq h2.symm, by show (y 2 : ℕ) < h + 1; omega⟩
  | ⟨3, _⟩ => exact ⟨h3, h3'⟩
  | ⟨4, _⟩ => exact ⟨Nat.zero_le _, by show (y 4 : ℕ) < 0 + 2; omega⟩
  | ⟨5, _⟩ => exact ⟨Nat.zero_le _, by show (y 5 : ℕ) < 0 + 128; omega⟩

theorem nm1 {u s0 h k : ℕ} {inb} {y : S2x10x2x128x2x128.Idx} (hy : y ∉ (Rect.unit (s := S2x10x2x128x2x128) ![u, s0, h, k, 0, 0] S1x1x1x120x2x128.size inb).set) :
    ¬ ((y 0 : ℕ) = u ∧ s0 ≤ (y 1 : ℕ) ∧ (y 1 : ℕ) < s0 + 1 ∧ (y 2 : ℕ) = h ∧ k ≤ (y 3 : ℕ) ∧ (y 3 : ℕ) < k + 120) := by
  rintro ⟨h0, h1, h1', h2, h3, h3'⟩
  refine hy (Rect.mem_set_unit.2 fun a => ?_)
  have h4 : (y 4 : ℕ) < 2 := (y 4).isLt
  have h5 : (y 5 : ℕ) < 128 := (y 5).isLt
  match a with
  | ⟨0, _⟩ => exact ⟨le_of_eq h0.symm, by show (y 0 : ℕ) < u + 1; omega⟩
  | ⟨1, _⟩ => exact ⟨h1, h1'⟩
  | ⟨2, _⟩ => exact ⟨le_of_eq h2.symm, by show (y 2 : ℕ) < h + 1; omega⟩
  | ⟨3, _⟩ => exact ⟨h3, h3'⟩
  | ⟨4, _⟩ => exact ⟨Nat.zero_le _, by show (y 4 : ℕ) < 0 + 2; omega⟩
  | ⟨5, _⟩ => exact ⟨Nat.zero_le _, by show (y 5 : ℕ) < 0 + 128; omega⟩

theorem nmx4 {u s0 h k : ℕ} {inb} {y : S2x10x2x128x2x128.Idx} (hy : y ∉ (Rect.unit (s := S2x10x2x128x2x128) ![u, s0, h, k, 0, 0] S1x4x1x1x2x128.size inb).set) :
    ¬ ((y 0 : ℕ) = u ∧ s0 ≤ (y 1 : ℕ) ∧ (y 1 : ℕ) < s0 + 4 ∧ (y 2 : ℕ) = h ∧ k ≤ (y 3 : ℕ) ∧ (y 3 : ℕ) < k + 1) := by
  rintro ⟨h0, h1, h1', h2, h3, h3'⟩
  refine hy (Rect.mem_set_unit.2 fun a => ?_)
  have h4 : (y 4 : ℕ) < 2 := (y 4).isLt
  have h5 : (y 5 : ℕ) < 128 := (y 5).isLt
  match a with
  | ⟨0, _⟩ => exact ⟨le_of_eq h0.symm, by show (y 0 : ℕ) < u + 1; omega⟩
  | ⟨1, _⟩ => exact ⟨h1, h1'⟩
  | ⟨2, _⟩ => exact ⟨le_of_eq h2.symm, by show (y 2 : ℕ) < h + 1; omega⟩
  | ⟨3, _⟩ => exact ⟨h3, h3'⟩
  | ⟨4, _⟩ => exact ⟨Nat.zero_le _, by show (y 4 : ℕ) < 0 + 2; omega⟩
  | ⟨5, _⟩ => exact ⟨Nat.zero_le _, by show (y 5 : ℕ) < 0 + 128; omega⟩

theorem nmx1 {u s0 h k : ℕ} {inb} {y : S2x10x2x128x2x128.Idx} (hy : y ∉ (Rect.unit (s := S2x10x2x128x2x128) ![u, s0, h, k, 0, 0] S1x1x1x1x2x128.size inb).set) :
    ¬ ((y 0 : ℕ) = u ∧ s0 ≤ (y 1 : ℕ) ∧ (y 1 : ℕ) < s0 + 1 ∧ (y 2 : ℕ) = h ∧ k ≤ (y 3 : ℕ) ∧ (y 3 : ℕ) < k + 1) := by
  rintro ⟨h0, h1, h1', h2, h3, h3'⟩
  refine hy (Rect.mem_set_unit.2 fun a => ?_)
  have h4 : (y 4 : ℕ) < 2 := (y 4).isLt
  have h5 : (y 5 : ℕ) < 128 := (y 5).isLt
  match a with
  | ⟨0, _⟩ => exact ⟨le_of_eq h0.symm, by show (y 0 : ℕ) < u + 1; omega⟩
  | ⟨1, _⟩ => exact ⟨h1, h1'⟩
  | ⟨2, _⟩ => exact ⟨le_of_eq h2.symm, by show (y 2 : ℕ) < h + 1; omega⟩
  | ⟨3, _⟩ => exact ⟨h3, h3'⟩
  | ⟨4, _⟩ => exact ⟨Nat.zero_le _, by show (y 4 : ℕ) < 0 + 2; omega⟩
  | ⟨5, _⟩ => exact ⟨Nat.zero_le _, by show (y 5 : ℕ) < 0 + 128; omega⟩

theorem pay19_val (q : Q4) (s : M4) (j : S4x240x128.Idx) : k0_pay19 q s j = ((q j : EReal) * (s j : EReal)) := by
  pointwise [k0_pay19]

theorem pay26_val (raw : Raw) (r : Fin 4) (k : Fin 120) (l : Fin 128) : k0_pay26 raw (ix3 r k l) = raw (ix6 0 r 0 k 0 l) := by
  pointwise [k0_pay26]

end Cert.KernelIdeal.Val

end
-- ==== Proof.RunEqA.lean ====
/-
  What the first point leaves in the planes: every plane is zeroed whole, then the first set is filled.
-/
module

public import proofs.«01_k».proof.Proof.Canon

@[expose] public section

set_option maxRecDepth 16384

noncomputable section

namespace Cert.KernelIdeal.Val

open Idealize.ShloMosaic Idealize.SL.Sem Cert.KernelIdeal Cert.KernelIdeal.Gen
open Idealize.ShloMosaic.Pipeline (Dat Cfg Window BodyObligation cellOf)

/-- The zeroing of a whole plane. -/
def zp : Pieces := [⟨Rect.unit (s := S2x10x2x128x2x128) ![0, 0, 0, 0, 0, 0] S2x10x2x128x2x128.size inb_S2x10x2x128x2x128_S2x10x2x128x2x128_0_0_0_0_0_0, constant (F := Ideal) S2x10x2x128x2x128 .bf16 0x0000#16⟩]

def rawA00 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (E : Memref sig .tc .vmem S2x10x2x128x2x128 .bf16) : Raw :=
  E.view.readCov ((lE1 i M1 f1 M2 f2) ++ zp) (Rect.unit (s := S2x10x2x128x2x128) ![0, 1, 0, 1, 0, 0] S1x4x1x120x2x128.size inb_S2x10x2x128x2x128_S1x4x1x120x2x128_0_1_0_1_0_0).toLoadRect
def rawA01 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (E : Memref sig .tc .vmem S2x10x2x128x2x128 .bf16) : Raw :=
  E.view.readCov ((lE2 i M1 f1 M2 f2) ++ zp) (Rect.unit (s := S2x10x2x128x2x128) ![0, 1, 1, 1, 0, 0] S1x4x1x120x2x128.size inb_S2x10x2x128x2x128_S1x4x1x120x2x128_0_1_1_1_0_0).toLoadRect
def rawA10 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (E : Memref sig .tc .vmem S2x10x2x128x2x128 .bf16) : Raw :=
  E.view.readCov ((lE3 i M1 f1 M2 f2) ++ zp) (Rect.unit (s := S2x10x2x128x2x128) ![0, 5, 0, 1, 0, 0] S1x4x1x120x2x128.size inb_S2x10x2x128x2x128_S1x4x1x120x2x128_0_5_0_1_0_0).toLoadRect
def rawA11 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (E : Memref sig .tc .vmem S2x10x2x128x2x128 .bf16) : Raw :=
  E.view.readCov ((lE5 i M1 f1 M2 f2) ++ zp) (Rect.unit (s := S2x10x2x128x2x128) ![0, 5, 1, 1, 0, 0] S1x4x1x120x2x128.size inb_S2x10x2x128x2x128_S1x4x1x120x2x128_0_5_1_1_0_0).toLoadRect
def rawA20 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (E : Memref sig .tc .vmem S2x10x2x128x2x128 .bf16) : Raw :=
  E.view.readCov ((lE7 i M1 f1 M2 f2) ++ zp) (Rect.unit (s := S2x10x2x128x2x128) ![1, 1, 0, 1, 0, 0] S1x4x1x120x2x128.size inb_S2x10x2x128x2x128_S1x4x1x120x2x128_1_1_0_1_0_0).toLoadRect
def rawA21 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (E : Memref sig .tc .vmem S2x10x2x128x2x128 .bf16) : Raw :=
  E.view.readCov ((lE9 i M1 f1 M2 f2) ++ zp) (Rect.unit (s := S2x10x2x128x2x128) ![1, 1, 1, 1, 0, 0] S1x4x1x120x2x128.size inb_S2x10x2x128x2x128_S1x4x1x120x2x128_1_1_1_1_0_0).toLoadRect
def rawA30 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (E : Memref sig .tc .vmem S2x10x2x128x2x128 .bf16) : Raw :=
  E.view.readCov ((lE11 i M1 f1 M2 f2) ++ zp) (Rect.unit (s := S2x10x2x128x2x128) ![1, 5, 0, 1, 0, 0] S1x4x1x120x2x128.size inb_S2x10x2x128x2x128_S1x4x1x120x2x128_1_5_0_1_0_0).toLoadRect
def rawA31 (i : grid0.Coords) (M1 : Memref sig .tc .vmem S16x240x256 .fp8e4m3) (f1 : M1.view.ty.Contents (Elt Ideal))
    (M2 : Memref sig .tc .vmem S16x240x256 .f32) (f2 : M2.view.ty.Contents (Elt Ideal)) (E : Memref sig .tc .vmem S2x10x2x128x2x128 .bf16) : Raw :=
  E.view.readCov ((lE12 i M1 f1 M2 f2) ++ zp) (Rect.unit (s := S2x10x2x128x2x128) ![1, 5, 1, 1, 0, 0] S1x4x1x120x2x128.size inb_S2x10x2x128x2x128_S1x4x1x120x2x128_1_5_1_1_0_0).toLoadRect

theorem sout0_A_0_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : cond0_0 i) (hc1 : cond0_1 i) (hc2 : ¬cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) :
    sout0_A_0 c i arg1 harg1 arg2 harg2 arg3 harg3 arg4 harg4 arg5 harg5 arg6 harg6 arg7 harg7 arg8 harg8 arg9 harg9 arg10 harg10 hc0 hc1 hc2 x0 x1 x2 x3 x4 = VS0_0.read (Elt Ideal) (VS0_0.writes (Elt Ideal) VS0_0.junk (lE12 i arg1 (harg1.unread x0) arg2 (harg2.unread x1) ++ zp)) := rfl

theorem sout0_A_1_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : cond0_0 i) (hc1 : cond0_1 i) (hc2 : ¬cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) :
    sout0_A_1 c i arg1 harg1 arg2 harg2 arg3 harg3 arg4 harg4 arg5 harg5 arg6 harg6 arg7 harg7 arg8 harg8 arg9 harg9 arg10 harg10 hc0 hc1 hc2 x0 x1 x2 x3 x4 = VS0_1.read (Elt Ideal) (VS0_1.writes (Elt Ideal) VS0_1.junk (lO24 i arg1 (harg1.unread x0) arg2 (harg2.unread x1) (rawA00 i arg1 (harg1.unread x0) arg2 (harg2.unread x1) arg7) (rawA01 i arg1 (harg1.unread x0) arg2 (harg2.unread x1) arg7) (rawA10 i arg1 (harg1.unread x0) arg2 (harg2.unread x1) arg7) (rawA11 i arg1 (harg1.unread x0) arg2 (harg2.unread x1) arg7) (rawA20 i arg1 (harg1.unread x0) arg2 (harg2.unread x1) arg7) (rawA21 i arg1 (harg1.unread x0) arg2 (harg2.unread x1) arg7) (rawA30 i arg1 (harg1.unread x0) arg2 (harg2.unread x1) arg7) (rawA31 i arg1 (harg1.unread x0) arg2 (harg2.unread x1) arg7) ++ zp)) := rfl

theorem sout0_A_2_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : cond0_0 i) (hc1 : cond0_1 i) (hc2 : ¬cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) :
    sout0_A_2 c i arg1 harg1 arg2 harg2 arg3 harg3 arg4 harg4 arg5 harg5 arg6 harg6 arg7 harg7 arg8 harg8 arg9 harg9 arg10 harg10 hc0 hc1 hc2 x0 x1 x2 x3 x4 = VS0_2.read (Elt Ideal) (VS0_2.writes (Elt Ideal) VS0_2.junk (lNE4 i arg1 (harg1.unread x0) arg2 (harg2.unread x1) ++ zp)) := rfl

theorem sout0_A_3_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : cond0_0 i) (hc1 : cond0_1 i) (hc2 : ¬cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) :
    sout0_A_3 c i arg1 harg1 arg2 harg2 arg3 harg3 arg4 harg4 arg5 harg5 arg6 harg6 arg7 harg7 arg8 harg8 arg9 harg9 arg10 harg10 hc0 hc1 hc2 x0 x1 x2 x3 x4 = VS0_3.read (Elt Ideal) (VS0_3.writes (Elt Ideal) VS0_3.junk (lNO8 i arg1 (harg1.unread x0) arg2 (harg2.unread x1) (rawA00 i arg1 (harg1.unread x0) arg2 (harg2.unread x1) arg7) (rawA01 i arg1 (harg1.unread x0) arg2 (harg2.unread x1) arg7) (rawA10 i arg1 (harg1.unread x0) arg2 (harg2.unread x1) arg7) (rawA11 i arg1 (harg1.unread x0) arg2 (harg2.unread x1) arg7) (rawA20 i arg1 (harg1.unread x0) arg2 (harg2.unread x1) arg7) (rawA21 i arg1 (harg1.unread x0) arg2 (harg2.unread x1) arg7) (rawA30 i arg1 (harg1.unread x0) arg2 (harg2.unread x1) arg7) (rawA31 i arg1 (harg1.unread x0) arg2 (harg2.unread x1) arg7) ++ zp)) := rfl

end Cert.KernelIdeal.Val

end
-- ==== Proof.Lists.lean ====
/-
  The lists of stores of one point, against the pixels `L` of the point's block: each store writes its place's pixels, and
  the stores reach every place but the slots that belong to the neighbouring points.
-/
module

public import proofs.«01_k».proof.Proof.PieceLemmas
public import proofs.«01_k».proof.Proof.RunEqA

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat Cfg Window BodyObligation cellOf)

section
variable {i : grid0.Coords} {M1 : Memref sig .tc .vmem S16x240x256 .fp8e4m3} {f1 : M1.view.ty.Contents (Elt Ideal)}
  {M2 : Memref sig .tc .vmem S16x240x256 .f32} {f2 : M2.view.ty.Contents (Elt Ideal)} {L : ℕ → ℕ → ℕ → EReal}
  (hL : ∀ j : S16x240x256.Idx, ((M1.view.read (Elt Ideal) f1 j : EReal) * (M2.view.read (Elt Ideal) f2 j : EReal)) = L (j 0) (j 1) (j 2))

include hL in
theorem hq_gen (o h : ℕ) (inb) (r : Fin 4) (a : Fin 240) (l : Fin 128) :
    k0_pay19 (View.readAt (Elt Ideal) M1.view (Rect.unit (s := S16x240x256) ![o, 0, 128 * h] S4x240x128.size inb).toLoadRect f1)
      (View.readAt (Elt Ideal) M2.view (Rect.unit (s := S16x240x256) ![o, 0, 128 * h] S4x240x128.size inb).toLoadRect f2) (ix3 r a l)
      = L (o + r) a (128 * h + l) := by
  refine (pay19_val _ _ _).trans ((hL ((Rect.unit (s := S16x240x256) ![o, 0, 128 * h] S4x240x128.size inb).emb (ix3 r a l))).trans ?_)
  have e0 : ((Rect.unit (s := S16x240x256) ![o, 0, 128 * h] S4x240x128.size inb).emb (ix3 r a l) 0 : ℕ) = o + r := unit_emb_val _ _ inb (ix3 r a l) 0
  have e1 : ((Rect.unit (s := S16x240x256) ![o, 0, 128 * h] S4x240x128.size inb).emb (ix3 r a l) 1 : ℕ) = a := (unit_emb_val _ _ inb (ix3 r a l) 1).trans (Nat.zero_add _)
  have e2 : ((Rect.unit (s := S16x240x256) ![o, 0, 128 * h] S4x240x128.size inb).emb (ix3 r a l) 2 : ℕ) = 128 * h + l := unit_emb_val _ _ inb (ix3 r a l) 2
  rw [e0, e1, e2]

/-- The rows of the set being filled. -/
structure CurRows (i : grid0.Coords) (L : ℕ → ℕ → ℕ → EReal) (V : Rows) : Prop where
  main : ∀ u s a c, u < 2 → 1 ≤ s → s ≤ 8 → V u s a c = L (8 * u + s - 1) a c
  below : ∀ a c, V 0 9 a c = MK (kA i 1#32) (L 8) a c
  above : ∀ a c, V 1 0 a c = MK (kB i 0#32) (L 7) a c
/-- The last slot of the other set. -/
def OthA (i : grid0.Coords) (L : ℕ → ℕ → ℕ → EReal) (V : Rows) : Prop := ∀ a c, V 1 9 a c = MK (kA i 0#32) (L 0) a c
/-- The first slot of the other set. -/
def OthB (i : grid0.Coords) (L : ℕ → ℕ → ℕ → EReal) (V : Rows) : Prop := ∀ a c, V 0 0 a c = MK (kB i 1#32) (L 15) a c

/-- A reading back of the even plane, one word on. -/
def RawOk (L : ℕ → ℕ → ℕ → EReal) (o h : ℕ) (raw : Raw) : Prop :=
  ∀ (r : Fin 4) (k : Fin 120) (l : Fin 128), k0_pay26 raw (ix3 r k l) = if k.val = 119 then (0 : EReal) else L (o + r) (2 * k + 2) (128 * h + l)

include hL in
theorem hq00 (r : Fin 4) (a : Fin 240) (l : Fin 128) : k0_pay19 (q00 M1 f1) (s00 M2 f2) (ix3 r a l) = L (0 + r) a (128 * 0 + l) :=
  hq_gen hL 0 0 _ r a l
include hL in
theorem hv00 {V : Rows} (hV : CurRows i L V) (r : Fin 4) (a : Fin 240) (l : Fin 128) :
    k0_pay19 (q00 M1 f1) (s00 M2 f2) (ix3 r a l) = V 0 (1 + r) a (128 * 0 + l) := by
  refine (hq00 hL r a l).trans ?_
  rw [hV.main 0 (1 + r) a (128 * 0 + l) (by omega) (by omega) (by omega), show 8 * 0 + (1 + (r : ℕ)) - 1 = 0 + r by omega]
theorem hrv00 {V : Rows} (hV : CurRows i L V) {raw : Raw} (hR : RawOk L 0 0 raw) (r : Fin 4) (k : Fin 120) (l : Fin 128) :
    k0_pay26 raw (ix3 r k l) = if k.val = 119 then (0 : EReal) else V 0 (1 + r) (2 * k + 2) (128 * 0 + l) := by
  refine (hR r k l).trans ?_
  rw [hV.main 0 (1 + r) _ (128 * 0 + l) (by omega) (by omega) (by omega), show 8 * 0 + (1 + (r : ℕ)) - 1 = 0 + r by omega]

include hL in
theorem hq01 (r : Fin 4) (a : Fin 240) (l : Fin 128) : k0_pay19 (q01 M1 f1) (s01 M2 f2) (ix3 r a l) = L (0 + r) a (128 * 1 + l) :=
  hq_gen hL 0 1 _ r a l
include hL in
theorem hv01 {V : Rows} (hV : CurRows i L V) (r : Fin 4) (a : Fin 240) (l : Fin 128) :
    k0_pay19 (q01 M1 f1) (s01 M2 f2) (ix3 r a l) = V 0 (1 + r) a (128 * 1 + l) := by
  refine (hq01 hL r a l).trans ?_
  rw [hV.main 0 (1 + r) a (128 * 1 + l) (by omega) (by omega) (by omega), show 8 * 0 + (1 + (r : ℕ)) - 1 = 0 + r by omega]
theorem hrv01 {V : Rows} (hV : CurRows i L V) {raw : Raw} (hR : RawOk L 0 1 raw) (r : Fin 4) (k : Fin 120) (l : Fin 128) :
    k0_pay26 raw (ix3 r k l) = if k.val = 119 then (0 : EReal) else V 0 (1 + r) (2 * k + 2) (128 * 1 + l) := by
  refine (hR r k l).trans ?_
  rw [hV.main 0 (1 + r) _ (128 * 1 + l) (by omega) (by omega) (by omega), show 8 * 0 + (1 + (r : ℕ)) - 1 = 0 + r by omega]

include hL in
theorem hq10 (r : Fin 4) (a : Fin 240) (l : Fin 128) : k0_pay19 (q10 M1 f1) (s10 M2 f2) (ix3 r a l) = L (4 + r) a (128 * 0 + l) :=
  hq_gen hL 4 0 _ r a l
include hL in
theorem hv10 {V : Rows} (hV : CurRows i L V) (r : Fin 4) (a : Fin 240) (l : Fin 128) :
    k0_pay19 (q10 M1 f1) (s10 M2 f2) (ix3 r a l) = V 0 (5 + r) a (128 * 0 + l) := by
  refine (hq10 hL r a l).trans ?_
  rw [hV.main 0 (5 + r) a (128 * 0 + l) (by omega) (by omega) (by omega), show 8 * 0 + (5 + (r : ℕ)) - 1 = 4 + r by omega]
theorem hrv10 {V : Rows} (hV : CurRows i L V) {raw : Raw} (hR : RawOk L 4 0 raw) (r : Fin 4) (k : Fin 120) (l : Fin 128) :
    k0_pay26 raw (ix3 r k l) = if k.val = 119 then (0 : EReal) else V 0 (5 + r) (2 * k + 2) (128 * 0 + l) := by
  refine (hR r k l).trans ?_
  rw [hV.main 0 (5 + r) _ (128 * 0 + l) (by omega) (by omega) (by omega), show 8 * 0 + (5 + (r : ℕ)) - 1 = 4 + r by omega]

include hL in
theorem hq11 (r : Fin 4) (a : Fin 240) (l : Fin 128) : k0_pay19 (q11 M1 f1) (s11 M2 f2) (ix3 r a l) = L (4 + r) a (128 * 1 + l) :=
  hq_gen hL 4 1 _ r a l
include hL in
theorem hv11 {V : Rows} (hV : CurRows i L V) (r : Fin 4) (a : Fin 240) (l : Fin 128) :
    k0_pay19 (q11 M1 f1) (s11 M2 f2) (ix3 r a l) = V 0 (5 + r) a (128 * 1 + l) := by
  refine (hq11 hL r a l).trans ?_
  rw [hV.main 0 (5 + r) a (128 * 1 + l) (by omega) (by omega) (by omega), show 8 * 0 + (5 + (r : ℕ)) - 1 = 4 + r by omega]
theorem hrv11 {V : Rows} (hV : CurRows i L V) {raw : Raw} (hR : RawOk L 4 1 raw) (r : Fin 4) (k : Fin 120) (l : Fin 128) :
    k0_pay26 raw (ix3 r k l) = if k.val = 119 then (0 : EReal) else V 0 (5 + r) (2 * k + 2) (128 * 1 + l) := by
  refine (hR r k l).trans ?_
  rw [hV.main 0 (5 + r) _ (128 * 1 + l) (by omega) (by omega) (by omega), show 8 * 0 + (5 + (r : ℕ)) - 1 = 4 + r by omega]

include hL in
theorem hq20 (r : Fin 4) (a : Fin 240) (l : Fin 128) : k0_pay19 (q20 M1 f1) (s20 M2 f2) (ix3 r a l) = L (8 + r) a (128 * 0 + l) :=
  hq_gen hL 8 0 _ r a l
include hL in
theorem hv20 {V : Rows} (hV : CurRows i L V) (r : Fin 4) (a : Fin 240) (l : Fin 128) :
    k0_pay19 (q20 M1 f1) (s20 M2 f2) (ix3 r a l) = V 1 (1 + r) a (128 * 0 + l) := by
  refine (hq20 hL r a l).trans ?_
  rw [hV.main 1 (1 + r) a (128 * 0 + l) (by omega) (by omega) (by omega), show 8 * 1 + (1 + (r : ℕ)) - 1 = 8 + r by omega]
theorem hrv20 {V : Rows} (hV : CurRows i L V) {raw : Raw} (hR : RawOk L 8 0 raw) (r : Fin 4) (k : Fin 120) (l : Fin 128) :
    k0_pay26 raw (ix3 r k l) = if k.val = 119 then (0 : EReal) else V 1 (1 + r) (2 * k + 2) (128 * 0 + l) := by
  refine (hR r k l).trans ?_
  rw [hV.main 1 (1 + r) _ (128 * 0 + l) (by omega) (by omega) (by omega), show 8 * 1 + (1 + (r : ℕ)) - 1 = 8 + r by omega]

include hL in
theorem hq21 (r : Fin 4) (a : Fin 240) (l : Fin 128) : k0_pay19 (q21 M1 f1) (s21 M2 f2) (ix3 r a l) = L (8 + r) a (128 * 1 + l) :=
  hq_gen hL 8 1 _ r a l
include hL in
theorem hv21 {V : Rows} (hV : CurRows i L V) (r : Fin 4) (a : Fin 240) (l : Fin 128) :
    k0_pay19 (q21 M1 f1) (s21 M2 f2) (ix3 r a l) = V 1 (1 + r) a (128 * 1 + l) := by
  refine (hq21 hL r a l).trans ?_
  rw [hV.main 1 (1 + r) a (128 * 1 + l) (by omega) (by omega) (by omega), show 8 * 1 + (1 + (r : ℕ)) - 1 = 8 + r by omega]
theorem hrv21 {V : Rows} (hV : CurRows i L V) {raw : Raw} (hR : RawOk L 8 1 raw) (r : Fin 4) (k : Fin 120) (l : Fin 128) :
    k0_pay26 raw (ix3 r k l) = if k.val = 119 then (0 : EReal) else V 1 (1 + r) (2 * k + 2) (128 * 1 + l) := by
  refine (hR r k l).trans ?_
  rw [hV.main 1 (1 + r) _ (128 * 1 + l) (by omega) (by omega) (by omega), show 8 * 1 + (1 + (r : ℕ)) - 1 = 8 + r by omega]

include hL in
theorem hq30 (r : Fin 4) (a : Fin 240) (l : Fin 128) : k0_pay19 (q30 M1 f1) (s30 M2 f2) (ix3 r a l) = L (12 + r) a (128 * 0 + l) :=
  hq_gen hL 12 0 _ r a l
include hL in
theorem hv30 {V : Rows} (hV : CurRows i L V) (r : Fin 4) (a : Fin 240) (l : Fin 128) :
    k0_pay19 (q30 M1 f1) (s30 M2 f2) (ix3 r a l) = V 1 (5 + r) a (128 * 0 + l) := by
  refine (hq30 hL r a l).trans ?_
  rw [hV.main 1 (5 + r) a (128 * 0 + l) (by omega) (by omega) (by omega), show 8 * 1 + (5 + (r : ℕ)) - 1 = 12 + r by omega]
theorem hrv30 {V : Rows} (hV : CurRows i L V) {raw : Raw} (hR : RawOk L 12 0 raw) (r : Fin 4) (k : Fin 120) (l : Fin 128) :
    k0_pay26 raw (ix3 r k l) = if k.val = 119 then (0 : EReal) else V 1 (5 + r) (2 * k + 2) (128 * 0 + l) := by
  refine (hR r k l).trans ?_
  rw [hV.main 1 (5 + r) _ (128 * 0 + l) (by omega) (by omega) (by omega), show 8 * 1 + (5 + (r : ℕ)) - 1 = 12 + r by omega]

include hL in
theorem hq31 (r : Fin 4) (a : Fin 240) (l : Fin 128) : k0_pay19 (q31 M1 f1) (s31 M2 f2) (ix3 r a l) = L (12 + r) a (128 * 1 + l) :=
  hq_gen hL 12 1 _ r a l
include hL in
theorem hv31 {V : Rows} (hV : CurRows i L V) (r : Fin 4) (a : Fin 240) (l : Fin 128) :
    k0_pay19 (q31 M1 f1) (s31 M2 f2) (ix3 r a l) = V 1 (5 + r) a (128 * 1 + l) := by
  refine (hq31 hL r a l).trans ?_
  rw [hV.main 1 (5 + r) a (128 * 1 + l) (by omega) (by omega) (by omega), show 8 * 1 + (5 + (r : ℕ)) - 1 = 12 + r by omega]
theorem hrv31 {V : Rows} (hV : CurRows i L V) {raw : Raw} (hR : RawOk L 12 1 raw) (r : Fin 4) (k : Fin 120) (l : Fin 128) :
    k0_pay26 raw (ix3 r k l) = if k.val = 119 then (0 : EReal) else V 1 (5 + r) (2 * k + 2) (128 * 1 + l) := by
  refine (hR r k l).trans ?_
  rw [hV.main 1 (5 + r) _ (128 * 1 + l) (by omega) (by omega) (by omega), show 8 * 1 + (5 + (r : ℕ)) - 1 = 12 + r by omega]

include hL in
theorem lE1_ok {V : Rows} (hV : CurRows i L V) : ∀ p ∈ lE1 i M1 f1 M2 f2, ∀ x, p.2 x = TE V (p.1.emb x) :=
  List.forall_mem_cons.2 ⟨fun x => pE4 0 1 0 inb_S2x10x2x128x2x128_S1x4x1x120x2x128_0_1_0_0_0_0 V (hv00 hL hV) x, by simp⟩

include hL in
theorem lO1_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO1 i M1 f1 M2 f2 R00 R01 R10 R11 R20 R21 R30 R31, ∀ x, p.2 x = TO V (p.1.emb x) :=
  List.forall_mem_cons.2 ⟨fun x => pO4 0 1 0 inb_S2x10x2x128x2x128_S1x4x1x120x2x128_0_1_0_8_0_0 V (hv00 hL hV) (hrv00 hV h00) x, by simp⟩

include hL in
theorem lO2_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO2 i M1 f1 M2 f2 R00 R01 R10 R11 R20 R21 R30 R31, ∀ x, p.2 x = TO V (p.1.emb x) :=
  List.forall_mem_cons.2 ⟨fun x => pX4 0 1 0 inb_S2x10x2x128x2x128_S1x4x1x1x2x128_0_1_0_7_0_0 V (hv00 hL hV) x, lO1_ok hL hV h00 h01 h10 h11 h20 h21 h30 h31⟩

include hL in
theorem lNE1_ok {V : Rows} (hA : OthA i L V) : ∀ p ∈ lNE1 i M1 f1 M2 f2, ∀ x, p.2 x = TE V (p.1.emb x) :=
  List.forall_mem_cons.2 ⟨fun x => pE1t (W := fun r a l => L (0 + r) a (128 * 0 + l)) 1 9 0 inb_S2x10x2x128x2x128_S1x1x1x120x2x128_1_9_0_0_0_0 V _ (hq00 hL) (fun a l => hA a _) x, by simp⟩

include hL in
theorem lNO1_ok {V : Rows} (hA : OthA i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lNO1 i M1 f1 M2 f2 R00 R01 R10 R11 R20 R21 R30 R31, ∀ x, p.2 x = TO V (p.1.emb x) :=
  List.forall_mem_cons.2 ⟨fun x => pO1t (W := fun r a l => L (0 + r) a (128 * 0 + l)) 1 9 0 inb_S2x10x2x128x2x128_S1x1x1x120x2x128_1_9_0_8_0_0 V _ (hq00 hL) h00 (fun a l => hA a _) x, by simp⟩

include hL in
theorem lNO2_ok {V : Rows} (hA : OthA i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lNO2 i M1 f1 M2 f2 R00 R01 R10 R11 R20 R21 R30 R31, ∀ x, p.2 x = TO V (p.1.emb x) :=
  List.forall_mem_cons.2 ⟨fun x => pX1t (W := fun r a l => L (0 + r) a (128 * 0 + l)) 1 9 0 inb_S2x10x2x128x2x128_S1x1x1x1x2x128_1_9_0_7_0_0 V _ (hq00 hL) (fun a l => hA a _) x, lNO1_ok hL hA h00 h01 h10 h11 h20 h21 h30 h31⟩

include hL in
theorem lE2_ok {V : Rows} (hV : CurRows i L V) : ∀ p ∈ lE2 i M1 f1 M2 f2, ∀ x, p.2 x = TE V (p.1.emb x) :=
  List.forall_mem_cons.2 ⟨fun x => pE4 0 1 1 inb_S2x10x2x128x2x128_S1x4x1x120x2x128_0_1_1_0_0_0 V (hv01 hL hV) x, lE1_ok hL hV⟩

include hL in
theorem lO3_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO3 i M1 f1 M2 f2 R00 R01 R10 R11 R20 R21 R30 R31, ∀ x, p.2 x = TO V (p.1.emb x) :=
  List.forall_mem_cons.2 ⟨fun x => pO4 0 1 1 inb_S2x10x2x128x2x128_S1x4x1x120x2x128_0_1_1_8_0_0 V (hv01 hL hV) (hrv01 hV h01) x, lO2_ok hL hV h00 h01 h10 h11 h20 h21 h30 h31⟩

include hL in
theorem lO4_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO4 i M1 f1 M2 f2 R00 R01 R10 R11 R20 R21 R30 R31, ∀ x, p.2 x = TO V (p.1.emb x) :=
  List.forall_mem_cons.2 ⟨fun x => pX4 0 1 1 inb_S2x10x2x128x2x128_S1x4x1x1x2x128_0_1_1_7_0_0 V (hv01 hL hV) x, lO3_ok hL hV h00 h01 h10 h11 h20 h21 h30 h31⟩

include hL in
theorem lNE2_ok {V : Rows} (hA : OthA i L V) : ∀ p ∈ lNE2 i M1 f1 M2 f2, ∀ x, p.2 x = TE V (p.1.emb x) :=
  List.forall_mem_cons.2 ⟨fun x => pE1t (W := fun r a l => L (0 + r) a (128 * 1 + l)) 1 9 1 inb_S2x10x2x128x2x128_S1x1x1x120x2x128_1_9_1_0_0_0 V _ (hq01 hL) (fun a l => hA a _) x, lNE1_ok hL hA⟩

include hL in
theorem lNO3_ok {V : Rows} (hA : OthA i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lNO3 i M1 f1 M2 f2 R00 R01 R10 R11 R20 R21 R30 R31, ∀ x, p.2 x = TO V (p.1.emb x) :=
  List.forall_mem_cons.2 ⟨fun x => pO1t (W := fun r a l => L (0 + r) a (128 * 1 + l)) 1 9 1 inb_S2x10x2x128x2x128_S1x1x1x120x2x128_1_9_1_8_0_0 V _ (hq01 hL) h01 (fun a l => hA a _) x, lNO2_ok hL hA h00 h01 h10 h11 h20 h21 h30 h31⟩

include hL in
theorem lNO4_ok {V : Rows} (hA : OthA i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lNO4 i M1 f1 M2 f2 R00 R01 R10 R11 R20 R21 R30 R31, ∀ x, p.2 x = TO V (p.1.emb x) :=
  List.forall_mem_cons.2 ⟨fun x => pX1t (W := fun r a l => L (0 + r) a (128 * 1 + l)) 1 9 1 inb_S2x10x2x128x2x128_S1x1x1x1x2x128_1_9_1_7_0_0 V _ (hq01 hL) (fun a l => hA a _) x, lNO3_ok hL hA h00 h01 h10 h11 h20 h21 h30 h31⟩

include hL in
theorem lE3_ok {V : Rows} (hV : CurRows i L V) : ∀ p ∈ lE3 i M1 f1 M2 f2, ∀ x, p.2 x = TE V (p.1.emb x) :=
  List.forall_mem_cons.2 ⟨fun x => pE4 0 5 0 inb_S2x10x2x128x2x128_S1x4x1x120x2x128_0_5_0_0_0_0 V (hv10 hL hV) x, lE2_ok hL hV⟩

include hL in
theorem lO5_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO5 i M1 f1 M2 f2 R00 R01 R10 R11 R20 R21 R30 R31, ∀ x, p.2 x = TO V (p.1.emb x) :=
  List.forall_mem_cons.2 ⟨fun x => pO4 0 5 0 inb_S2x10x2x128x2x128_S1x4x1x120x2x128_0_5_0_8_0_0 V (hv10 hL hV) (hrv10 hV h10) x, lO4_ok hL hV h00 h01 h10 h11 h20 h21 h30 h31⟩

include hL in
theorem lO6_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO6 i M1 f1 M2 f2 R00 R01 R10 R11 R20 R21 R30 R31, ∀ x, p.2 x = TO V (p.1.emb x) :=
  List.forall_mem_cons.2 ⟨fun x => pX4 0 5 0 inb_S2x10x2x128x2x128_S1x4x1x1x2x128_0_5_0_7_0_0 V (hv10 hL hV) x, lO5_ok hL hV h00 h01 h10 h11 h20 h21 h30 h31⟩

include hL in
theorem lE4_ok {V : Rows} (hV : CurRows i L V) : ∀ p ∈ lE4 i M1 f1 M2 f2, ∀ x, p.2 x = TE V (p.1.emb x) :=
  List.forall_mem_cons.2 ⟨fun x => pE1b (W := fun r a l => L (4 + r) a (128 * 0 + l)) 1 0 0 inb_S2x10x2x128x2x128_S1x1x1x120x2x128_1_0_0_0_0_0 V _ (hq10 hL) (fun a l => hV.above a _) x, lE3_ok hL hV⟩

include hL in
theorem lO7_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO7 i M1 f1 M2 f2 R00 R01 R10 R11 R20 R21 R30 R31, ∀ x, p.2 x = TO V (p.1.emb x) :=
  List.forall_mem_cons.2 ⟨fun x => pO1b (W := fun r a l => L (4 + r) a (128 * 0 + l)) 1 0 0 inb_S2x10x2x128x2x128_S1x1x1x120x2x128_1_0_0_8_0_0 V _ (hq10 hL) h10 (fun a l => hV.above a _) x, lO6_ok hL hV h00 h01 h10 h11 h20 h21 h30 h31⟩

include hL in
theorem lO8_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO8 i M1 f1 M2 f2 R00 R01 R10 R11 R20 R21 R30 R31, ∀ x, p.2 x = TO V (p.1.emb x) :=
  List.forall_mem_cons.2 ⟨fun x => pX1b (W := fun r a l => L (4 + r) a (128 * 0 + l)) 1 0 0 inb_S2x10x2x128x2x128_S1x1x1x1x2x128_1_0_0_7_0_0 V _ (hq10 hL) (fun a l => hV.above a _) x, lO7_ok hL hV h00 h01 h10 h11 h20 h21 h30 h31⟩

include hL in
theorem lE5_ok {V : Rows} (hV : CurRows i L V) : ∀ p ∈ lE5 i M1 f1 M2 f2, ∀ x, p.2 x = TE V (p.1.emb x) :=
  List.forall_mem_cons.2 ⟨fun x => pE4 0 5 1 inb_S2x10x2x128x2x128_S1x4x1x120x2x128_0_5_1_0_0_0 V (hv11 hL hV) x, lE4_ok hL hV⟩

include hL in
theorem lO9_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO9 i M1 f1 M2 f2 R00 R01 R10 R11 R20 R21 R30 R31, ∀ x, p.2 x = TO V (p.1.emb x) :=
  List.forall_mem_cons.2 ⟨fun x => pO4 0 5 1 inb_S2x10x2x128x2x128_S1x4x1x120x2x128_0_5_1_8_0_0 V (hv11 hL hV) (hrv11 hV h11) x, lO8_ok hL hV h00 h01 h10 h11 h20 h21 h30 h31⟩

include hL in
theorem lO10_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO10 i M1 f1 M2 f2 R00 R01 R10 R11 R20 R21 R30 R31, ∀ x, p.2 x = TO V (p.1.emb x) :=
  List.forall_mem_cons.2 ⟨fun x => pX4 0 5 1 inb_S2x10x2x128x2x128_S1x4x1x1x2x128_0_5_1_7_0_0 V (hv11 hL hV) x, lO9_ok hL hV h00 h01 h10 h11 h20 h21 h30 h31⟩

include hL in
theorem lE6_ok {V : Rows} (hV : CurRows i L V) : ∀ p ∈ lE6 i M1 f1 M2 f2, ∀ x, p.2 x = TE V (p.1.emb x) :=
  List.forall_mem_cons.2 ⟨fun x => pE1b (W := fun r a l => L (4 + r) a (128 * 1 + l)) 1 0 1 inb_S2x10x2x128x2x128_S1x1x1x120x2x128_1_0_1_0_0_0 V _ (hq11 hL) (fun a l => hV.above a _) x, lE5_ok hL hV⟩

include hL in
theorem lO11_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO11 i M1 f1 M2 f2 R00 R01 R10 R11 R20 R21 R30 R31, ∀ x, p.2 x = TO V (p.1.emb x) :=
  List.forall_mem_cons.2 ⟨fun x => pO1b (W := fun r a l => L (4 + r) a (128 * 1 + l)) 1 0 1 inb_S2x10x2x128x2x128_S1x1x1x120x2x128_1_0_1_8_0_0 V _ (hq11 hL) h11 (fun a l => hV.above a _) x, lO10_ok hL hV h00 h01 h10 h11 h20 h21 h30 h31⟩

include hL in
theorem lO12_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO12 i M1 f1 M2 f2 R00 R01 R10 R11 R20 R21 R30 R31, ∀ x, p.2 x = TO V (p.1.emb x) :=
  List.forall_mem_cons.2 ⟨fun x => pX1b (W := fun r a l => L (4 + r) a (128 * 1 + l)) 1 0 1 inb_S2x10x2x128x2x128_S1x1x1x1x2x128_1_0_1_7_0_0 V _ (hq11 hL) (fun a l => hV.above a _) x, lO11_ok hL hV h00 h01 h10 h11 h20 h21 h30 h31⟩

include hL in
theorem lE7_ok {V : Rows} (hV : CurRows i L V) : ∀ p ∈ lE7 i M1 f1 M2 f2, ∀ x, p.2 x = TE V (p.1.emb x) :=
  List.forall_mem_cons.2 ⟨fun x => pE4 1 1 0 inb_S2x10x2x128x2x128_S1x4x1x120x2x128_1_1_0_0_0_0 V (hv20 hL hV) x, lE6_ok hL hV⟩

include hL in
theorem lO13_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO13 i M1 f1 M2 f2 R00 R01 R10 R11 R20 R21 R30 R31, ∀ x, p.2 x = TO V (p.1.emb x) :=
  List.forall_mem_cons.2 ⟨fun x => pO4 1 1 0 inb_S2x10x2x128x2x128_S1x4x1x120x2x128_1_1_0_8_0_0 V (hv20 hL hV) (hrv20 hV h20) x, lO12_ok hL hV h00 h01 h10 h11 h20 h21 h30 h31⟩

include hL in
theorem lO14_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO14 i M1 f1 M2 f2 R00 R01 R10 R11 R20 R21 R30 R31, ∀ x, p.2 x = TO V (p.1.emb x) :=
  List.forall_mem_cons.2 ⟨fun x => pX4 1 1 0 inb_S2x10x2x128x2x128_S1x4x1x1x2x128_1_1_0_7_0_0 V (hv20 hL hV) x, lO13_ok hL hV h00 h01 h10 h11 h20 h21 h30 h31⟩

include hL in
theorem lE8_ok {V : Rows} (hV : CurRows i L V) : ∀ p ∈ lE8 i M1 f1 M2 f2, ∀ x, p.2 x = TE V (p.1.emb x) :=
  List.forall_mem_cons.2 ⟨fun x => pE1t (W := fun r a l => L (8 + r) a (128 * 0 + l)) 0 9 0 inb_S2x10x2x128x2x128_S1x1x1x120x2x128_0_9_0_0_0_0 V _ (hq20 hL) (fun a l => hV.below a _) x, lE7_ok hL hV⟩

include hL in
theorem lO15_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO15 i M1 f1 M2 f2 R00 R01 R10 R11 R20 R21 R30 R31, ∀ x, p.2 x = TO V (p.1.emb x) :=
  List.forall_mem_cons.2 ⟨fun x => pO1t (W := fun r a l => L (8 + r) a (128 * 0 + l)) 0 9 0 inb_S2x10x2x128x2x128_S1x1x1x120x2x128_0_9_0_8_0_0 V _ (hq20 hL) h20 (fun a l => hV.below a _) x, lO14_ok hL hV h00 h01 h10 h11 h20 h21 h30 h31⟩

include hL in
theorem lO16_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO16 i M1 f1 M2 f2 R00 R01 R10 R11 R20 R21 R30 R31, ∀ x, p.2 x = TO V (p.1.emb x) :=
  List.forall_mem_cons.2 ⟨fun x => pX1t (W := fun r a l => L (8 + r) a (128 * 0 + l)) 0 9 0 inb_S2x10x2x128x2x128_S1x1x1x1x2x128_0_9_0_7_0_0 V _ (hq20 hL) (fun a l => hV.below a _) x, lO15_ok hL hV h00 h01 h10 h11 h20 h21 h30 h31⟩

include hL in
theorem lE9_ok {V : Rows} (hV : CurRows i L V) : ∀ p ∈ lE9 i M1 f1 M2 f2, ∀ x, p.2 x = TE V (p.1.emb x) :=
  List.forall_mem_cons.2 ⟨fun x => pE4 1 1 1 inb_S2x10x2x128x2x128_S1x4x1x120x2x128_1_1_1_0_0_0 V (hv21 hL hV) x, lE8_ok hL hV⟩

include hL in
theorem lO17_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO17 i M1 f1 M2 f2 R00 R01 R10 R11 R20 R21 R30 R31, ∀ x, p.2 x = TO V (p.1.emb x) :=
  List.forall_mem_cons.2 ⟨fun x => pO4 1 1 1 inb_S2x10x2x128x2x128_S1x4x1x120x2x128_1_1_1_8_0_0 V (hv21 hL hV) (hrv21 hV h21) x, lO16_ok hL hV h00 h01 h10 h11 h20 h21 h30 h31⟩

include hL in
theorem lO18_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO18 i M1 f1 M2 f2 R00 R01 R10 R11 R20 R21 R30 R31, ∀ x, p.2 x = TO V (p.1.emb x) :=
  List.forall_mem_cons.2 ⟨fun x => pX4 1 1 1 inb_S2x10x2x128x2x128_S1x4x1x1x2x128_1_1_1_7_0_0 V (hv21 hL hV) x, lO17_ok hL hV h00 h01 h10 h11 h20 h21 h30 h31⟩

include hL in
theorem lE10_ok {V : Rows} (hV : CurRows i L V) : ∀ p ∈ lE10 i M1 f1 M2 f2, ∀ x, p.2 x = TE V (p.1.emb x) :=
  List.forall_mem_cons.2 ⟨fun x => pE1t (W := fun r a l => L (8 + r) a (128 * 1 + l)) 0 9 1 inb_S2x10x2x128x2x128_S1x1x1x120x2x128_0_9_1_0_0_0 V _ (hq21 hL) (fun a l => hV.below a _) x, lE9_ok hL hV⟩

include hL in
theorem lO19_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO19 i M1 f1 M2 f2 R00 R01 R10 R11 R20 R21 R30 R31, ∀ x, p.2 x = TO V (p.1.emb x) :=
  List.forall_mem_cons.2 ⟨fun x => pO1t (W := fun r a l => L (8 + r) a (128 * 1 + l)) 0 9 1 inb_S2x10x2x128x2x128_S1x1x1x120x2x128_0_9_1_8_0_0 V _ (hq21 hL) h21 (fun a l => hV.below a _) x, lO18_ok hL hV h00 h01 h10 h11 h20 h21 h30 h31⟩

include hL in
theorem lO20_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO20 i M1 f1 M2 f2 R00 R01 R10 R11 R20 R21 R30 R31, ∀ x, p.2 x = TO V (p.1.emb x) :=
  List.forall_mem_cons.2 ⟨fun x => pX1t (W := fun r a l => L (8 + r) a (128 * 1 + l)) 0 9 1 inb_S2x10x2x128x2x128_S1x1x1x1x2x128_0_9_1_7_0_0 V _ (hq21 hL) (fun a l => hV.below a _) x, lO19_ok hL hV h00 h01 h10 h11 h20 h21 h30 h31⟩

include hL in
theorem lE11_ok {V : Rows} (hV : CurRows i L V) : ∀ p ∈ lE11 i M1 f1 M2 f2, ∀ x, p.2 x = TE V (p.1.emb x) :=
  List.forall_mem_cons.2 ⟨fun x => pE4 1 5 0 inb_S2x10x2x128x2x128_S1x4x1x120x2x128_1_5_0_0_0_0 V (hv30 hL hV) x, lE10_ok hL hV⟩

include hL in
theorem lO21_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO21 i M1 f1 M2 f2 R00 R01 R10 R11 R20 R21 R30 R31, ∀ x, p.2 x = TO V (p.1.emb x) :=
  List.forall_mem_cons.2 ⟨fun x => pO4 1 5 0 inb_S2x10x2x128x2x128_S1x4x1x120x2x128_1_5_0_8_0_0 V (hv30 hL hV) (hrv30 hV h30) x, lO20_ok hL hV h00 h01 h10 h11 h20 h21 h30 h31⟩

include hL in
theorem lO22_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO22 i M1 f1 M2 f2 R00 R01 R10 R11 R20 R21 R30 R31, ∀ x, p.2 x = TO V (p.1.emb x) :=
  List.forall_mem_cons.2 ⟨fun x => pX4 1 5 0 inb_S2x10x2x128x2x128_S1x4x1x1x2x128_1_5_0_7_0_0 V (hv30 hL hV) x, lO21_ok hL hV h00 h01 h10 h11 h20 h21 h30 h31⟩

include hL in
theorem lNE3_ok {V : Rows} (hA : OthA i L V) (hB : OthB i L V) : ∀ p ∈ lNE3 i M1 f1 M2 f2, ∀ x, p.2 x = TE V (p.1.emb x) :=
  List.forall_mem_cons.2 ⟨fun x => pE1b (W := fun r a l => L (12 + r) a (128 * 0 + l)) 0 0 0 inb_S2x10x2x128x2x128_S1x1x1x120x2x128_0_0_0_0_0_0 V _ (hq30 hL) (fun a l => hB a _) x, lNE2_ok hL hA⟩

include hL in
theorem lNO5_ok {V : Rows} (hA : OthA i L V) (hB : OthB i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lNO5 i M1 f1 M2 f2 R00 R01 R10 R11 R20 R21 R30 R31, ∀ x, p.2 x = TO V (p.1.emb x) :=
  List.forall_mem_cons.2 ⟨fun x => pO1b (W := fun r a l => L (12 + r) a (128 * 0 + l)) 0 0 0 inb_S2x10x2x128x2x128_S1x1x1x120x2x128_0_0_0_8_0_0 V _ (hq30 hL) h30 (fun a l => hB a _) x, lNO4_ok hL hA h00 h01 h10 h11 h20 h21 h30 h31⟩

include hL in
theorem lNO6_ok {V : Rows} (hA : OthA i L V) (hB : OthB i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lNO6 i M1 f1 M2 f2 R00 R01 R10 R11 R20 R21 R30 R31, ∀ x, p.2 x = TO V (p.1.emb x) :=
  List.forall_mem_cons.2 ⟨fun x => pX1b (W := fun r a l => L (12 + r) a (128 * 0 + l)) 0 0 0 inb_S2x10x2x128x2x128_S1x1x1x1x2x128_0_0_0_7_0_0 V _ (hq30 hL) (fun a l => hB a _) x, lNO5_ok hL hA hB h00 h01 h10 h11 h20 h21 h30 h31⟩

include hL in
theorem lE12_ok {V : Rows} (hV : CurRows i L V) : ∀ p ∈ lE12 i M1 f1 M2 f2, ∀ x, p.2 x = TE V (p.1.emb x) :=
  List.forall_mem_cons.2 ⟨fun x => pE4 1 5 1 inb_S2x10x2x128x2x128_S1x4x1x120x2x128_1_5_1_0_0_0 V (hv31 hL hV) x, lE11_ok hL hV⟩

include hL in
theorem lO23_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO23 i M1 f1 M2 f2 R00 R01 R10 R11 R20 R21 R30 R31, ∀ x, p.2 x = TO V (p.1.emb x) :=
  List.forall_mem_cons.2 ⟨fun x => pO4 1 5 1 inb_S2x10x2x128x2x128_S1x4x1x120x2x128_1_5_1_8_0_0 V (hv31 hL hV) (hrv31 hV h31) x, lO22_ok hL hV h00 h01 h10 h11 h20 h21 h30 h31⟩

include hL in
theorem lO24_ok {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lO24 i M1 f1 M2 f2 R00 R01 R10 R11 R20 R21 R30 R31, ∀ x, p.2 x = TO V (p.1.emb x) :=
  List.forall_mem_cons.2 ⟨fun x => pX4 1 5 1 inb_S2x10x2x128x2x128_S1x4x1x1x2x128_1_5_1_7_0_0 V (hv31 hL hV) x, lO23_ok hL hV h00 h01 h10 h11 h20 h21 h30 h31⟩

include hL in
theorem lNE4_ok {V : Rows} (hA : OthA i L V) (hB : OthB i L V) : ∀ p ∈ lNE4 i M1 f1 M2 f2, ∀ x, p.2 x = TE V (p.1.emb x) :=
  List.forall_mem_cons.2 ⟨fun x => pE1b (W := fun r a l => L (12 + r) a (128 * 1 + l)) 0 0 1 inb_S2x10x2x128x2x128_S1x1x1x120x2x128_0_0_1_0_0_0 V _ (hq31 hL) (fun a l => hB a _) x, lNE3_ok hL hA hB⟩

include hL in
theorem lNO7_ok {V : Rows} (hA : OthA i L V) (hB : OthB i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lNO7 i M1 f1 M2 f2 R00 R01 R10 R11 R20 R21 R30 R31, ∀ x, p.2 x = TO V (p.1.emb x) :=
  List.forall_mem_cons.2 ⟨fun x => pO1b (W := fun r a l => L (12 + r) a (128 * 1 + l)) 0 0 1 inb_S2x10x2x128x2x128_S1x1x1x120x2x128_0_0_1_8_0_0 V _ (hq31 hL) h31 (fun a l => hB a _) x, lNO6_ok hL hA hB h00 h01 h10 h11 h20 h21 h30 h31⟩

include hL in
theorem lNO8_ok {V : Rows} (hA : OthA i L V) (hB : OthB i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31) : ∀ p ∈ lNO8 i M1 f1 M2 f2 R00 R01 R10 R11 R20 R21 R30 R31, ∀ x, p.2 x = TO V (p.1.emb x) :=
  List.forall_mem_cons.2 ⟨fun x => pX1b (W := fun r a l => L (12 + r) a (128 * 1 + l)) 0 0 1 inb_S2x10x2x128x2x128_S1x1x1x1x2x128_0_0_1_7_0_0 V _ (hq31 hL) (fun a l => hB a _) x, lNO7_ok hL hA hB h00 h01 h10 h11 h20 h21 h30 h31⟩

theorem cov_E12 {i : grid0.Coords} {y : S2x10x2x128x2x128.Idx} (hn : ∀ p ∈ lE12 i M1 f1 M2 f2, y ∉ p.1.set) :
    120 ≤ (y 3 : ℕ) ∨ ((y 0 : ℕ) = 0 ∧ (y 1 : ℕ) = 0) ∨ ((y 0 : ℕ) = 1 ∧ (y 1 : ℕ) = 9) := by
  simp only [lE12, lE11, lE10, lE9, lE8, lE7, lE6, lE5, lE4, lE3, lE2, lE1, List.forall_mem_cons] at hn
  obtain ⟨a12, a11, a10, a9, a8, a7, a6, a5, a4, a3, a2, a1, -⟩ := hn
  have b1 := nm4 a1
  have b2 := nm4 a2
  have b3 := nm4 a3
  have b4 := nm1 a4
  have b5 := nm4 a5
  have b6 := nm1 a6
  have b7 := nm4 a7
  have b8 := nm1 a8
  have b9 := nm4 a9
  have b10 := nm1 a10
  have b11 := nm4 a11
  have b12 := nm4 a12
  clear a1 a2 a3 a4 a5 a6 a7 a8 a9 a10 a11 a12
  have h0 : (y 0 : ℕ) < 2 := (y 0).isLt
  have h1 : (y 1 : ℕ) < 10 := (y 1).isLt
  have h2 : (y 2 : ℕ) < 2 := (y 2).isLt
  have h3 : (y 3 : ℕ) < 128 := (y 3).isLt
  generalize (y 0 : ℕ) = y0 at *
  generalize (y 1 : ℕ) = y1 at *
  generalize (y 2 : ℕ) = y2 at *
  generalize (y 3 : ℕ) = y3 at *
  interval_cases y0 <;> interval_cases y2 <;>
    simp only [Nat.reduceEqDiff, zero_ne_one, one_ne_zero, true_and, false_and, and_false, not_false_eq_true, not_true_eq_false, OfNat.ofNat_ne_zero, OfNat.zero_ne_ofNat, OfNat.one_ne_ofNat, OfNat.ofNat_ne_one, and_true, false_or, or_false, or_true] at * <;> omega

theorem cov_O24 {i : grid0.Coords} {R00 R01 R10 R11 R20 R21 R30 R31 : Raw} {y : S2x10x2x128x2x128.Idx} (hn : ∀ p ∈ lO24 i M1 f1 M2 f2 R00 R01 R10 R11 R20 R21 R30 R31, y ∉ p.1.set) (h7 : 7 ≤ (y 3 : ℕ)) :
    ((y 0 : ℕ) = 0 ∧ (y 1 : ℕ) = 0) ∨ ((y 0 : ℕ) = 1 ∧ (y 1 : ℕ) = 9) := by
  simp only [lO24, lO23, lO22, lO21, lO20, lO19, lO18, lO17, lO16, lO15, lO14, lO13, lO12, lO11, lO10, lO9, lO8, lO7, lO6, lO5, lO4, lO3, lO2, lO1, List.forall_mem_cons] at hn
  obtain ⟨a24, a23, a22, a21, a20, a19, a18, a17, a16, a15, a14, a13, a12, a11, a10, a9, a8, a7, a6, a5, a4, a3, a2, a1, -⟩ := hn
  have b1 := nm4 a1
  have b2 := nmx4 a2
  have b3 := nm4 a3
  have b4 := nmx4 a4
  have b5 := nm4 a5
  have b6 := nmx4 a6
  have b7 := nm1 a7
  have b8 := nmx1 a8
  have b9 := nm4 a9
  have b10 := nmx4 a10
  have b11 := nm1 a11
  have b12 := nmx1 a12
  have b13 := nm4 a13
  have b14 := nmx4 a14
  have b15 := nm1 a15
  have b16 := nmx1 a16
  have b17 := nm4 a17
  have b18 := nmx4 a18
  have b19 := nm1 a19
  have b20 := nmx1 a20
  have b21 := nm4 a21
  have b22 := nmx4 a22
  have b23 := nm4 a23
  have b24 := nmx4 a24
  clear a1 a2 a3 a4 a5 a6 a7 a8 a9 a10 a11 a12 a13 a14 a15 a16 a17 a18 a19 a20 a21 a22 a23 a24
  have h0 : (y 0 : ℕ) < 2 := (y 0).isLt
  have h1 : (y 1 : ℕ) < 10 := (y 1).isLt
  have h2 : (y 2 : ℕ) < 2 := (y 2).isLt
  have h3 : (y 3 : ℕ) < 128 := (y 3).isLt
  generalize (y 0 : ℕ) = y0 at *
  generalize (y 1 : ℕ) = y1 at *
  generalize (y 2 : ℕ) = y2 at *
  generalize (y 3 : ℕ) = y3 at *
  interval_cases y0 <;> interval_cases y2 <;>
    simp only [Nat.reduceEqDiff, zero_ne_one, one_ne_zero, true_and, false_and, and_false, not_false_eq_true, not_true_eq_false, OfNat.ofNat_ne_zero, OfNat.zero_ne_ofNat, OfNat.one_ne_ofNat, OfNat.ofNat_ne_one, and_true, false_or, or_false, or_true] at * <;> omega

theorem cov_NE4 {i : grid0.Coords} {y : S2x10x2x128x2x128.Idx} (hn : ∀ p ∈ lNE4 i M1 f1 M2 f2, y ∉ p.1.set) :
    120 ≤ (y 3 : ℕ) ∨ (¬ ((y 0 : ℕ) = 0 ∧ (y 1 : ℕ) = 0) ∧ ¬ ((y 0 : ℕ) = 1 ∧ (y 1 : ℕ) = 9)) := by
  simp only [lNE4, lNE3, lNE2, lNE1, List.forall_mem_cons] at hn
  obtain ⟨a4, a3, a2, a1, -⟩ := hn
  have b1 := nm1 a1
  have b2 := nm1 a2
  have b3 := nm1 a3
  have b4 := nm1 a4
  clear a1 a2 a3 a4
  have h0 : (y 0 : ℕ) < 2 := (y 0).isLt
  have h1 : (y 1 : ℕ) < 10 := (y 1).isLt
  have h2 : (y 2 : ℕ) < 2 := (y 2).isLt
  have h3 : (y 3 : ℕ) < 128 := (y 3).isLt
  generalize (y 0 : ℕ) = y0 at *
  generalize (y 1 : ℕ) = y1 at *
  generalize (y 2 : ℕ) = y2 at *
  generalize (y 3 : ℕ) = y3 at *
  interval_cases y0 <;> interval_cases y2 <;>
    simp only [Nat.reduceEqDiff, zero_ne_one, one_ne_zero, true_and, false_and, and_false, not_false_eq_true, not_true_eq_false, OfNat.ofNat_ne_zero, OfNat.zero_ne_ofNat, OfNat.one_ne_ofNat, OfNat.ofNat_ne_one, and_true, false_or, or_false, or_true] at * <;> omega

theorem cov_NE2 {i : grid0.Coords} {y : S2x10x2x128x2x128.Idx} (hn : ∀ p ∈ lNE2 i M1 f1 M2 f2, y ∉ p.1.set) :
    120 ≤ (y 3 : ℕ) ∨ ¬ ((y 0 : ℕ) = 1 ∧ (y 1 : ℕ) = 9) := by
  simp only [lNE2, lNE1, List.forall_mem_cons] at hn
  obtain ⟨a2, a1, -⟩ := hn
  have b1 := nm1 a1
  have b2 := nm1 a2
  clear a1 a2
  have h0 : (y 0 : ℕ) < 2 := (y 0).isLt
  have h1 : (y 1 : ℕ) < 10 := (y 1).isLt
  have h2 : (y 2 : ℕ) < 2 := (y 2).isLt
  have h3 : (y 3 : ℕ) < 128 := (y 3).isLt
  generalize (y 0 : ℕ) = y0 at *
  generalize (y 1 : ℕ) = y1 at *
  generalize (y 2 : ℕ) = y2 at *
  generalize (y 3 : ℕ) = y3 at *
  interval_cases y0 <;> interval_cases y2 <;>
    simp only [Nat.reduceEqDiff, zero_ne_one, one_ne_zero, true_and, false_and, and_false, not_false_eq_true, not_true_eq_false, OfNat.ofNat_ne_zero, OfNat.zero_ne_ofNat, OfNat.one_ne_ofNat, OfNat.ofNat_ne_one, and_true, false_or, or_false, or_true] at * <;> omega

theorem cov_NO8 {i : grid0.Coords} {R00 R01 R10 R11 R20 R21 R30 R31 : Raw} {y : S2x10x2x128x2x128.Idx} (hn : ∀ p ∈ lNO8 i M1 f1 M2 f2 R00 R01 R10 R11 R20 R21 R30 R31, y ∉ p.1.set) (h7 : 7 ≤ (y 3 : ℕ)) :
    ¬ ((y 0 : ℕ) = 0 ∧ (y 1 : ℕ) = 0) ∧ ¬ ((y 0 : ℕ) = 1 ∧ (y 1 : ℕ) = 9) := by
  simp only [lNO8, lNO7, lNO6, lNO5, lNO4, lNO3, lNO2, lNO1, List.forall_mem_cons] at hn
  obtain ⟨a8, a7, a6, a5, a4, a3, a2, a1, -⟩ := hn
  have b1 := nm1 a1
  have b2 := nmx1 a2
  have b3 := nm1 a3
  have b4 := nmx1 a4
  have b5 := nm1 a5
  have b6 := nmx1 a6
  have b7 := nm1 a7
  have b8 := nmx1 a8
  clear a1 a2 a3 a4 a5 a6 a7 a8
  have h0 : (y 0 : ℕ) < 2 := (y 0).isLt
  have h1 : (y 1 : ℕ) < 10 := (y 1).isLt
  have h2 : (y 2 : ℕ) < 2 := (y 2).isLt
  have h3 : (y 3 : ℕ) < 128 := (y 3).isLt
  generalize (y 0 : ℕ) = y0 at *
  generalize (y 1 : ℕ) = y1 at *
  generalize (y 2 : ℕ) = y2 at *
  generalize (y 3 : ℕ) = y3 at *
  interval_cases y0 <;> interval_cases y2 <;>
    simp only [Nat.reduceEqDiff, zero_ne_one, one_ne_zero, true_and, false_and, and_false, not_false_eq_true, not_true_eq_false, OfNat.ofNat_ne_zero, OfNat.zero_ne_ofNat, OfNat.one_ne_ofNat, OfNat.ofNat_ne_one, and_true, false_or, or_false, or_true] at * <;> omega

theorem cov_NO4 {i : grid0.Coords} {R00 R01 R10 R11 R20 R21 R30 R31 : Raw} {y : S2x10x2x128x2x128.Idx} (hn : ∀ p ∈ lNO4 i M1 f1 M2 f2 R00 R01 R10 R11 R20 R21 R30 R31, y ∉ p.1.set) (h7 : 7 ≤ (y 3 : ℕ)) :
    ¬ ((y 0 : ℕ) = 1 ∧ (y 1 : ℕ) = 9) := by
  simp only [lNO4, lNO3, lNO2, lNO1, List.forall_mem_cons] at hn
  obtain ⟨a4, a3, a2, a1, -⟩ := hn
  have b1 := nm1 a1
  have b2 := nmx1 a2
  have b3 := nm1 a3
  have b4 := nmx1 a4
  clear a1 a2 a3 a4
  have h0 : (y 0 : ℕ) < 2 := (y 0).isLt
  have h1 : (y 1 : ℕ) < 10 := (y 1).isLt
  have h2 : (y 2 : ℕ) < 2 := (y 2).isLt
  have h3 : (y 3 : ℕ) < 128 := (y 3).isLt
  generalize (y 0 : ℕ) = y0 at *
  generalize (y 1 : ℕ) = y1 at *
  generalize (y 2 : ℕ) = y2 at *
  generalize (y 3 : ℕ) = y3 at *
  interval_cases y0 <;> interval_cases y2 <;>
    simp only [Nat.reduceEqDiff, zero_ne_one, one_ne_zero, true_and, false_and, and_false, not_false_eq_true, not_true_eq_false, OfNat.ofNat_ne_zero, OfNat.zero_ne_ofNat, OfNat.one_ne_ofNat, OfNat.ofNat_ne_one, and_true, false_or, or_false, or_true] at * <;> omega

end

end Cert.KernelIdeal.Val

end
-- ==== Proof.ConvVal.lean ====
/-
  Four rows of the convolution, element by element: a sum over the nine taps and the input channels.
-/
module

public import proofs.«01_k».proof.Proof.Canon
public import Idealize.ShloMosaic.Lib.Pipeline.ValueKit

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat Cfg Window BodyObligation cellOf)

theorem dite_of {α : Type} {P : Prop} [Decidable P] {a : P → α} {b : ¬P → α} {z : α} (h1 : ∀ h, a h = z) (h2 : ∀ h, b h = z) :
    dite P a b = z := by
  by_cases h : P
  · rw [dif_pos h]; exact h1 h
  · rw [dif_neg h]; exact h2 h
theorem ite_of {α : Type} {P : Prop} [Decidable P] {a b z : α} (h1 : P → a = z) (h2 : ¬ P → b = z) : ite P a b = z := by
  by_cases h : P
  · rw [if_pos h]; exact h1 h
  · rw [if_neg h]; exact h2 h

/-- What one pair of loads holds: row, pixel, channel, the channels in two halves. -/
def PairOk (Y : ℕ → ℕ → ℕ → EReal) (a b : Raw) : Prop :=
  (∀ (r : Fin 4) (k : Fin 120) (e : Fin 2) (l : Fin 128), a (ix6 0 r 0 k e l) = Y r (2 * k + e) l) ∧
    ∀ (r : Fin 4) (k : Fin 120) (e : Fin 2) (l : Fin 128), b (ix6 0 r 0 k e l) = Y r (2 * k + e) (128 + l)

theorem tap_val {Y : ℕ → ℕ → ℕ → EReal} {a b : Raw} (h : PairOk Y a b) (r : Fin 4) (x : Fin 240) (c : Fin 256) (hp) :
    tap a b (ix2 ⟨r * 240 + x, hp⟩ c) = Y r x c := by
  pointwise [tap, k0_pay5]
  have hx := x.isLt
  by_cases h1 : (c : ℕ) < 128 <;> by_cases h2 : (x : ℕ) % 2 = 0
  · rw [dif_pos h1, if_pos h2]
    refine (h.1 _ _ _ _).trans ?_
    have e1 : ((0 : Fin 2) : ℕ) = 0 := rfl
    simp only [e1]; congr 1; omega
  · rw [dif_pos h1, if_neg h2]
    refine (h.1 _ _ _ _).trans ?_
    have e1 : ((1 : Fin 2) : ℕ) = 1 := rfl
    simp only [e1]; congr 1; omega
  · rw [dif_neg h1, if_pos h2]
    refine (h.2 _ _ _ _).trans ?_
    have e1 : ((0 : Fin 2) : ℕ) = 0 := rfl
    simp only [e1]; congr 1 <;> omega
  · rw [dif_neg h1, if_neg h2]
    refine (h.2 _ _ _ _).trans ?_
    have e1 : ((1 : Fin 2) : ℕ) = 1 := rfl
    simp only [e1]; congr 1 <;> omega

theorem pay15_val {Y : ℕ → ℕ → ℕ → EReal} {a b : Raw} (h : PairOk Y a b) (r : Fin 4) (x : Fin 240) (c : Fin 128) (hp) :
    k0_pay15 a (ix2 ⟨r * 240 + x, hp⟩ c) = Y r x c := by
  pointwise [k0_pay15]
  have hx := x.isLt
  split_ifs with h2
  · refine (h.1 _ _ _ _).trans ?_
    have e1 : ((0 : Fin 2) : ℕ) = 0 := rfl
    simp only [e1]; congr 1 <;> omega
  · refine (h.1 _ _ _ _).trans ?_
    have e1 : ((1 : Fin 2) : ℕ) = 1 := rfl
    simp only [e1]; congr 1 <;> omega
theorem pay16_val {Y : ℕ → ℕ → ℕ → EReal} {a b : Raw} (h : PairOk Y a b) (r : Fin 4) (k : Fin 120) (c : Fin 128) :
    k0_pay16 b (ix3 r k c) = Y r (2 * k) (128 + c) := by
  pointwise [k0_pay16]
  exact h.2 r k 0 c
theorem pay17_val {Y : ℕ → ℕ → ℕ → EReal} {a b : Raw} (h : PairOk Y a b) (r : Fin 4) (k : Fin 120) (c : Fin 128) :
    k0_pay17 b (ix3 r k c) = Y r (2 * k + 1) (128 + c) := by
  pointwise [k0_pay17]
  exact h.2 r k 1 c

set_option maxHeartbeats 1600000 in
theorem cvP_val {Y : ℕ → ℕ → ℕ → ℕ → EReal} {r0 r1 r2 r3 r4 r5 r6 r7 r8 r9 r10 r11 r12 r13 r14 r15 r16 r17 : Raw}
    (h0 : PairOk (Y 0) r0 r1) (h1 : PairOk (Y 1) r2 r3) (h2 : PairOk (Y 2) r4 r5) (h3 : PairOk (Y 3) r6 r7)
    (h4 : PairOk (Y 4) r8 r9) (h5 : PairOk (Y 5) r10 r11) (h6 : PairOk (Y 6) r12 r13) (h7 : PairOk (Y 7) r14 r15)
    (h8 : PairOk (Y 8) r16 r17) (w : Vec Ideal S2304x256 .fp8e4m3)
    (s c : Vec Ideal S1x256 .f32) (r : Fin 4) (x : Fin 240) (d : Fin 256) :
    cvP (tap r0 r1) (tap r2 r3) (tap r4 r5) (tap r6 r7) (tap r8 r9) (tap r10 r11) (tap r12 r13) (tap r14 r15) r16 r17 w s c (ix3 r x d)
      = ((∑ k : Fin 2304, Y (k.val / 256) r x (k.val % 256) * (w (ix2 k d) : EReal)) * (s (ix2 0 d) : EReal) + (c (ix2 0 d) : EReal)) := by
  pointwise [cvP, k0_pay18]
  refine congrArg (fun z : EReal => z * (s (ix2 0 d) : EReal) + (c (ix2 0 d) : EReal)) (Finset.sum_congr rfl fun k _ => congrArg (fun z : EReal => z * (w (ix2 k d) : EReal)) ?_)
  have hk := k.isLt
  refine dite_of (fun hj => (tap_val h0 r x _ _).trans ?_) (fun hn0 => ?_)
  · show Y 0 r x ((k : ℕ)) = _
    rw [show (k : ℕ) / 256 = 0 by omega, Nat.mod_eq_of_lt hj]
  refine dite_of (fun hj => (tap_val h1 r x _ _).trans ?_) (fun hn1 => ?_)
  · show Y 1 r x ((k : ℕ) - 256) = _
    rw [show (k : ℕ) / 256 = 1 by omega, show (k : ℕ) - 256 = k % 256 by omega]
  refine dite_of (fun hj => (tap_val h2 r x _ _).trans ?_) (fun hn2 => ?_)
  · show Y 2 r x ((k : ℕ) - 256 - 256) = _
    rw [show (k : ℕ) / 256 = 2 by omega, show (k : ℕ) - 256 - 256 = k % 256 by omega]
  refine dite_of (fun hj => (tap_val h3 r x _ _).trans ?_) (fun hn3 => ?_)
  · show Y 3 r x ((k : ℕ) - 256 - 256 - 256) = _
    rw [show (k : ℕ) / 256 = 3 by omega, show (k : ℕ) - 256 - 256 - 256 = k % 256 by omega]
  refine dite_of (fun hj => (tap_val h4 r x _ _).trans ?_) (fun hn4 => ?_)
  · show Y 4 r x ((k : ℕ) - 256 - 256 - 256 - 256) = _
    rw [show (k : ℕ) / 256 = 4 by omega, show (k : ℕ) - 256 - 256 - 256 - 256 = k % 256 by omega]
  refine dite_of (fun hj => (tap_val h5 r x _ _).trans ?_) (fun hn5 => ?_)
  · show Y 5 r x ((k : ℕ) - 256 - 256 - 256 - 256 - 256) = _
    rw [show (k : ℕ) / 256 = 5 by omega, show (k : ℕ) - 256 - 256 - 256 - 256 - 256 = k % 256 by omega]
  refine dite_of (fun hj => (tap_val h6 r x _ _).trans ?_) (fun hn6 => ?_)
  · show Y 6 r x ((k : ℕ) - 256 - 256 - 256 - 256 - 256 - 256) = _
    rw [show (k : ℕ) / 256 = 6 by omega, show (k : ℕ) - 256 - 256 - 256 - 256 - 256 - 256 = k % 256 by omega]
  refine dite_of (fun hj => (tap_val h7 r x _ _).trans ?_) (fun hn7 => ?_)
  · show Y 7 r x ((k : ℕ) - 256 - 256 - 256 - 256 - 256 - 256 - 256) = _
    rw [show (k : ℕ) / 256 = 7 by omega, show (k : ℕ) - 256 - 256 - 256 - 256 - 256 - 256 - 256 = k % 256 by omega]
  refine dite_of (fun hj => (pay15_val h8 r x _ _).trans ?_) (fun hn8 => ite_of (fun hx => (pay16_val h8 r _ _).trans ?_) (fun hx => (pay17_val h8 r _ _).trans ?_))
  · show Y 8 r x ((k : ℕ) - 256 - 256 - 256 - 256 - 256 - 256 - 256 - 256) = _
    rw [show (k : ℕ) / 256 = 8 by omega, show (k : ℕ) - 256 - 256 - 256 - 256 - 256 - 256 - 256 - 256 = k % 256 by omega]
  · show Y 8 r (2 * ((x : ℕ) / 2)) (128 + ((k : ℕ) - 256 - 256 - 256 - 256 - 256 - 256 - 256 - 256 - 128)) = _
    rw [show (k : ℕ) / 256 = 8 by omega, show 128 + ((k : ℕ) - 256 - 256 - 256 - 256 - 256 - 256 - 256 - 256 - 128) = k % 256 by omega, show 2 * ((x : ℕ) / 2) = x by omega]
  · show Y 8 r (2 * ((x : ℕ) / 2) + 1) (128 + ((k : ℕ) - 256 - 256 - 256 - 256 - 256 - 256 - 256 - 256 - 128)) = _
    rw [show (k : ℕ) / 256 = 8 by omega, show 128 + ((k : ℕ) - 256 - 256 - 256 - 256 - 256 - 256 - 256 - 256 - 128) = k % 256 by omega, show 2 * ((x : ℕ) / 2) + 1 = x by omega]

end Cert.KernelIdeal.Val

end
-- ==== Proof.Steps.lean ====
/-
  One point's effect on the four planes and on the block of results: what the planes hold after it, from what they held
  before it, and the convolution read out of them.
-/
module

public import proofs.«01_k».proof.Proof.Lists
public import proofs.«01_k».proof.Proof.ConvVal

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat Cfg Window BodyObligation cellOf)

abbrev PIdx := S2x10x2x128x2x128.Idx

/-- The set just filled: everything but the last slot of unit 1, which the next point fills. -/
def CurE (V : Rows) (e : PIdx → EReal) : Prop :=
  ∀ y, (y 3 : ℕ) ≤ 120 → ((y 3 : ℕ) = 120 ∨ ¬ ((y 0 : ℕ) = 1 ∧ (y 1 : ℕ) = 9)) → e y = TE V y
def CurO (V : Rows) (o : PIdx → EReal) : Prop :=
  ∀ y, 7 ≤ (y 3 : ℕ) → ¬ ((y 0 : ℕ) = 1 ∧ (y 1 : ℕ) = 9) → o y = TO V y
/-- The other set: the first slot of unit 0 holds the row above the next point's. -/
def NxtE (V : Rows) (e : PIdx → EReal) : Prop :=
  ∀ y, (y 3 : ℕ) ≤ 120 → ((y 3 : ℕ) = 120 ∨ ((y 0 : ℕ) = 0 ∧ (y 1 : ℕ) = 0)) → e y = TE V y
def NxtO (V : Rows) (o : PIdx → EReal) : Prop :=
  ∀ y, 7 ≤ (y 3 : ℕ) → ((y 0 : ℕ) = 0 ∧ (y 1 : ℕ) = 0) → o y = TO V y

theorem TE_120 (V : Rows) (y : PIdx) (h : (y 3 : ℕ) = 120) : TE V y = 0 := by
  unfold TE EF; rw [if_pos h]
theorem TE_congr {V V' : Rows} {y : PIdx} (h : (y 3 : ℕ) = 120 ∨ ∀ a c, V (y 0) (y 1) a c = V' (y 0) (y 1) a c) : TE V y = TE V' y := by
  rcases h with h | h
  · rw [TE_120 V y h, TE_120 V' y h]
  · unfold TE; exact congrArg (fun W => EF W (y 3) (y 4) (y 5)) (funext fun a => funext fun l => h a _)
theorem TO_congr {V V' : Rows} {y : PIdx} (h : ∀ a c, V (y 0) (y 1) a c = V' (y 0) (y 1) a c) : TO V y = TO V' y := by
  unfold TO; exact congrArg (fun W => OF W (y 3) (y 4) (y 5)) (funext fun a => funext fun l => h a _)

/-- Rows that fit one point's pixels. -/
def VC (i : grid0.Coords) (L : ℕ → ℕ → ℕ → EReal) : Rows := fun u s a c =>
  if u = 0 ∧ s = 9 then MK (kA i 1#32) (L 8) a c else if u = 1 ∧ s = 0 then MK (kB i 0#32) (L 7) a c else L (8 * u + s - 1) a c
theorem VC_cur (i : grid0.Coords) (L : ℕ → ℕ → ℕ → EReal) : CurRows i L (VC i L) where
  main u s a c hu h1 h8 := by unfold VC; rw [if_neg (by omega), if_neg (by omega)]
  below a c := by unfold VC; rw [if_pos (by omega)]
  above a c := by unfold VC; rw [if_neg (by omega), if_pos (by omega)]
/-- The slots that belong to the neighbouring points. -/
def VN (i : grid0.Coords) (L : ℕ → ℕ → ℕ → EReal) (V : Rows) : Rows := fun u s a c =>
  if u = 0 then V u s a c else MK (kA i 0#32) (L 0) a c

section
variable {i : grid0.Coords} {M1 : Memref sig .tc .vmem S16x240x256 .fp8e4m3} {f1 : M1.view.ty.Contents (Elt Ideal)}
  {M2 : Memref sig .tc .vmem S16x240x256 .f32} {f2 : M2.view.ty.Contents (Elt Ideal)} {L : ℕ → ℕ → ℕ → EReal}

theorem raw_gen {V : Rows} (hV : CurRows i L V) (o u s0 h : ℕ) (hu : u < 2) (hs : 1 ≤ s0) (hs' : s0 + 3 ≤ 8) (ho : o = 8 * u + s0 - 1)
    (inb0 inb) (w : Raw) (tl : Pieces)
    (hok : ∀ p ∈ (⟨Rect.unit (s := S2x10x2x128x2x128) ![u, s0, h, 0, 0, 0] S1x4x1x120x2x128.size inb0, w⟩ :: tl : Pieces), ∀ x, p.2 x = TE V (p.1.emb x))
    (E : Memref sig .tc .vmem S2x10x2x128x2x128 .bf16) (fE : E.view.ty.Contents (Elt Ideal))
    (hz : ∀ y : PIdx, (y 3 : ℕ) = 120 → E.view.read (Elt Ideal) fE y = (0 : EReal)) :
    RawOk L o h (View.readAt (Elt Ideal) E.view (Rect.unit (s := S2x10x2x128x2x128) ![u, s0, h, 1, 0, 0] S1x4x1x120x2x128.size inb).toLoadRect
      (E.view.writes (Elt Ideal) fE (⟨Rect.unit (s := S2x10x2x128x2x128) ![u, s0, h, 0, 0, 0] S1x4x1x120x2x128.size inb0, w⟩ :: tl))) := by
  intro r k l
  have hr := r.isLt
  have hk := k.isLt
  refine (pay26_val _ r k l).trans ?_
  generalize hyd : (Rect.unit (s := S2x10x2x128x2x128) ![u, s0, h, 1, 0, 0] S1x4x1x120x2x128.size inb).emb (ix6 0 r 0 k 0 l) = y
  have e0 : (y 0 : ℕ) = u := by rw [← hyd]; exact (unit_emb_val _ _ inb (ix6 0 r 0 k 0 l) 0).trans (Nat.add_zero _)
  have e1 : (y 1 : ℕ) = s0 + r := by rw [← hyd]; exact unit_emb_val _ _ inb (ix6 0 r 0 k 0 l) 1
  have e2 : (y 2 : ℕ) = h := by rw [← hyd]; exact (unit_emb_val _ _ inb (ix6 0 r 0 k 0 l) 2).trans (Nat.add_zero _)
  have e3 : (y 3 : ℕ) = 1 + k := by rw [← hyd]; exact unit_emb_val _ _ inb (ix6 0 r 0 k 0 l) 3
  have e4 : (y 4 : ℕ) = 0 := by rw [← hyd]; exact (unit_emb_val _ _ inb (ix6 0 r 0 k 0 l) 4).trans (Nat.add_zero _)
  have e5 : (y 5 : ℕ) = l := by rw [← hyd]; exact (unit_emb_val _ _ inb (ix6 0 r 0 k 0 l) 5).trans (Nat.zero_add _)
  have key : View.readAt (Elt Ideal) E.view (Rect.unit (s := S2x10x2x128x2x128) ![u, s0, h, 1, 0, 0] S1x4x1x120x2x128.size inb).toLoadRect
      (E.view.writes (Elt Ideal) fE (⟨Rect.unit (s := S2x10x2x128x2x128) ![u, s0, h, 0, 0, 0] S1x4x1x120x2x128.size inb0, w⟩ :: tl)) (ix6 0 r 0 k 0 l) = TE V y := by
    refine Eq.trans (congrArg (E.view.read (Elt Ideal) (E.view.writes (Elt Ideal) fE (⟨Rect.unit (s := S2x10x2x128x2x128) ![u, s0, h, 0, 0, 0] S1x4x1x120x2x128.size inb0, w⟩ :: tl))) hyd) ?_
    refine read_writes_target E.view fE (TE V) y _ hok fun hn => ?_
    have := nm4 (inb := inb0) (hn _ (List.mem_cons_self ..))
    have h3 : (y 3 : ℕ) = 120 := by omega
    rw [hz y h3, TE_120 V y h3]
  refine key.trans ?_
  unfold TE EF
  rw [e0, e1, e2, e3, e4, e5]
  by_cases h9 : (k : ℕ) = 119
  · rw [if_pos (by omega), if_pos h9]
  · rw [if_neg (by omega), if_neg h9]
    show V u (s0 + r) (2 * (1 + k) + 0) (128 * h + l) = _
    rw [hV.main u (s0 + r) _ _ hu (by omega) (by omega), show 8 * u + (s0 + (r : ℕ)) - 1 = o + r by omega,
      show 2 * (1 + (k : ℕ)) + 0 = 2 * k + 2 by omega]

variable (hL : ∀ j : S16x240x256.Idx, ((M1.view.read (Elt Ideal) f1 j : EReal) * (M2.view.read (Elt Ideal) f2 j : EReal)) = L (j 0) (j 1) (j 2))

include hL in
theorem raw00_ok (E : Memref sig .tc .vmem S2x10x2x128x2x128 .bf16) (fE : E.view.ty.Contents (Elt Ideal))
    (hz : ∀ y : PIdx, (y 3 : ℕ) = 120 → E.view.read (Elt Ideal) fE y = (0 : EReal)) : RawOk L 0 0 (raw00 i M1 f1 M2 f2 E fE) :=
  raw_gen (VC_cur i L) 0 0 1 0 (by omega) (by omega) (by omega) rfl inb_S2x10x2x128x2x128_S1x4x1x120x2x128_0_1_0_0_0_0 inb_S2x10x2x128x2x128_S1x4x1x120x2x128_0_1_0_1_0_0 _ _ (lE1_ok hL (VC_cur i L)) E fE hz
theorem rawA00_eq (E : Memref sig .tc .vmem S2x10x2x128x2x128 .bf16) :
    rawA00 i M1 f1 M2 f2 E = raw00 i M1 f1 M2 f2 E (E.view.writes (Elt Ideal) E.view.junk zp) := by
  unfold rawA00 raw00 View.readCov; rw [View.writes_append]

include hL in
theorem raw01_ok (E : Memref sig .tc .vmem S2x10x2x128x2x128 .bf16) (fE : E.view.ty.Contents (Elt Ideal))
    (hz : ∀ y : PIdx, (y 3 : ℕ) = 120 → E.view.read (Elt Ideal) fE y = (0 : EReal)) : RawOk L 0 1 (raw01 i M1 f1 M2 f2 E fE) :=
  raw_gen (VC_cur i L) 0 0 1 1 (by omega) (by omega) (by omega) rfl inb_S2x10x2x128x2x128_S1x4x1x120x2x128_0_1_1_0_0_0 inb_S2x10x2x128x2x128_S1x4x1x120x2x128_0_1_1_1_0_0 _ _ (lE2_ok hL (VC_cur i L)) E fE hz
theorem rawA01_eq (E : Memref sig .tc .vmem S2x10x2x128x2x128 .bf16) :
    rawA01 i M1 f1 M2 f2 E = raw01 i M1 f1 M2 f2 E (E.view.writes (Elt Ideal) E.view.junk zp) := by
  unfold rawA01 raw01 View.readCov; rw [View.writes_append]

include hL in
theorem raw10_ok (E : Memref sig .tc .vmem S2x10x2x128x2x128 .bf16) (fE : E.view.ty.Contents (Elt Ideal))
    (hz : ∀ y : PIdx, (y 3 : ℕ) = 120 → E.view.read (Elt Ideal) fE y = (0 : EReal)) : RawOk L 4 0 (raw10 i M1 f1 M2 f2 E fE) :=
  raw_gen (VC_cur i L) 4 0 5 0 (by omega) (by omega) (by omega) rfl inb_S2x10x2x128x2x128_S1x4x1x120x2x128_0_5_0_0_0_0 inb_S2x10x2x128x2x128_S1x4x1x120x2x128_0_5_0_1_0_0 _ _ (lE3_ok hL (VC_cur i L)) E fE hz
theorem rawA10_eq (E : Memref sig .tc .vmem S2x10x2x128x2x128 .bf16) :
    rawA10 i M1 f1 M2 f2 E = raw10 i M1 f1 M2 f2 E (E.view.writes (Elt Ideal) E.view.junk zp) := by
  unfold rawA10 raw10 View.readCov; rw [View.writes_append]

include hL in
theorem raw11_ok (E : Memref sig .tc .vmem S2x10x2x128x2x128 .bf16) (fE : E.view.ty.Contents (Elt Ideal))
    (hz : ∀ y : PIdx, (y 3 : ℕ) = 120 → E.view.read (Elt Ideal) fE y = (0 : EReal)) : RawOk L 4 1 (raw11 i M1 f1 M2 f2 E fE) :=
  raw_gen (VC_cur i L) 4 0 5 1 (by omega) (by omega) (by omega) rfl inb_S2x10x2x128x2x128_S1x4x1x120x2x128_0_5_1_0_0_0 inb_S2x10x2x128x2x128_S1x4x1x120x2x128_0_5_1_1_0_0 _ _ (lE5_ok hL (VC_cur i L)) E fE hz
theorem rawA11_eq (E : Memref sig .tc .vmem S2x10x2x128x2x128 .bf16) :
    rawA11 i M1 f1 M2 f2 E = raw11 i M1 f1 M2 f2 E (E.view.writes (Elt Ideal) E.view.junk zp) := by
  unfold rawA11 raw11 View.readCov; rw [View.writes_append]

include hL in
theorem raw20_ok (E : Memref sig .tc .vmem S2x10x2x128x2x128 .bf16) (fE : E.view.ty.Contents (Elt Ideal))
    (hz : ∀ y : PIdx, (y 3 : ℕ) = 120 → E.view.read (Elt Ideal) fE y = (0 : EReal)) : RawOk L 8 0 (raw20 i M1 f1 M2 f2 E fE) :=
  raw_gen (VC_cur i L) 8 1 1 0 (by omega) (by omega) (by omega) rfl inb_S2x10x2x128x2x128_S1x4x1x120x2x128_1_1_0_0_0_0 inb_S2x10x2x128x2x128_S1x4x1x120x2x128_1_1_0_1_0_0 _ _ (lE7_ok hL (VC_cur i L)) E fE hz
theorem rawA20_eq (E : Memref sig .tc .vmem S2x10x2x128x2x128 .bf16) :
    rawA20 i M1 f1 M2 f2 E = raw20 i M1 f1 M2 f2 E (E.view.writes (Elt Ideal) E.view.junk zp) := by
  unfold rawA20 raw20 View.readCov; rw [View.writes_append]

include hL in
theorem raw21_ok (E : Memref sig .tc .vmem S2x10x2x128x2x128 .bf16) (fE : E.view.ty.Contents (Elt Ideal))
    (hz : ∀ y : PIdx, (y 3 : ℕ) = 120 → E.view.read (Elt Ideal) fE y = (0 : EReal)) : RawOk L 8 1 (raw21 i M1 f1 M2 f2 E fE) :=
  raw_gen (VC_cur i L) 8 1 1 1 (by omega) (by omega) (by omega) rfl inb_S2x10x2x128x2x128_S1x4x1x120x2x128_1_1_1_0_0_0 inb_S2x10x2x128x2x128_S1x4x1x120x2x128_1_1_1_1_0_0 _ _ (lE9_ok hL (VC_cur i L)) E fE hz
theorem rawA21_eq (E : Memref sig .tc .vmem S2x10x2x128x2x128 .bf16) :
    rawA21 i M1 f1 M2 f2 E = raw21 i M1 f1 M2 f2 E (E.view.writes (Elt Ideal) E.view.junk zp) := by
  unfold rawA21 raw21 View.readCov; rw [View.writes_append]

include hL in
theorem raw30_ok (E : Memref sig .tc .vmem S2x10x2x128x2x128 .bf16) (fE : E.view.ty.Contents (Elt Ideal))
    (hz : ∀ y : PIdx, (y 3 : ℕ) = 120 → E.view.read (Elt Ideal) fE y = (0 : EReal)) : RawOk L 12 0 (raw30 i M1 f1 M2 f2 E fE) :=
  raw_gen (VC_cur i L) 12 1 5 0 (by omega) (by omega) (by omega) rfl inb_S2x10x2x128x2x128_S1x4x1x120x2x128_1_5_0_0_0_0 inb_S2x10x2x128x2x128_S1x4x1x120x2x128_1_5_0_1_0_0 _ _ (lE11_ok hL (VC_cur i L)) E fE hz
theorem rawA30_eq (E : Memref sig .tc .vmem S2x10x2x128x2x128 .bf16) :
    rawA30 i M1 f1 M2 f2 E = raw30 i M1 f1 M2 f2 E (E.view.writes (Elt Ideal) E.view.junk zp) := by
  unfold rawA30 raw30 View.readCov; rw [View.writes_append]

include hL in
theorem raw31_ok (E : Memref sig .tc .vmem S2x10x2x128x2x128 .bf16) (fE : E.view.ty.Contents (Elt Ideal))
    (hz : ∀ y : PIdx, (y 3 : ℕ) = 120 → E.view.read (Elt Ideal) fE y = (0 : EReal)) : RawOk L 12 1 (raw31 i M1 f1 M2 f2 E fE) :=
  raw_gen (VC_cur i L) 12 1 5 1 (by omega) (by omega) (by omega) rfl inb_S2x10x2x128x2x128_S1x4x1x120x2x128_1_5_1_0_0_0 inb_S2x10x2x128x2x128_S1x4x1x120x2x128_1_5_1_1_0_0 _ _ (lE12_ok hL (VC_cur i L)) E fE hz
theorem rawA31_eq (E : Memref sig .tc .vmem S2x10x2x128x2x128 .bf16) :
    rawA31 i M1 f1 M2 f2 E = raw31 i M1 f1 M2 f2 E (E.view.writes (Elt Ideal) E.view.junk zp) := by
  unfold rawA31 raw31 View.readCov; rw [View.writes_append]

theorem zero_base (v : View sig .tc .vmem S2x10x2x128x2x128 .bf16) (y : PIdx) :
    v.read (Elt Ideal) (v.writes (Elt Ideal) v.junk zp) y = (0 : EReal) := by
  refine read_writes_target v v.junk (fun _ => (0 : EReal)) y zp ?_ ?_
  · intro p hp x
    rw [zp, List.mem_singleton] at hp
    subst hp
    show constant (F := Ideal) S2x10x2x128x2x128 .bf16 0x0000#16 x = (0 : EReal)
    pointwise []
  · intro hn
    have hy : y ∉ (Rect.unit (s := S2x10x2x128x2x128) ![0, 0, 0, 0, 0, 0] S2x10x2x128x2x128.size inb_S2x10x2x128x2x128_S2x10x2x128x2x128_0_0_0_0_0_0).set := by
      rw [zp, List.forall_mem_singleton] at hn
      exact hn
    refine absurd (Rect.mem_set_unit.2 fun a => ?_) hy
    match a with
    | ⟨0, _⟩ => exact ⟨Nat.zero_le _, lt_of_lt_of_eq (y 0).isLt (Nat.zero_add _).symm⟩
    | ⟨1, _⟩ => exact ⟨Nat.zero_le _, lt_of_lt_of_eq (y 1).isLt (Nat.zero_add _).symm⟩
    | ⟨2, _⟩ => exact ⟨Nat.zero_le _, lt_of_lt_of_eq (y 2).isLt (Nat.zero_add _).symm⟩
    | ⟨3, _⟩ => exact ⟨Nat.zero_le _, lt_of_lt_of_eq (y 3).isLt (Nat.zero_add _).symm⟩
    | ⟨4, _⟩ => exact ⟨Nat.zero_le _, lt_of_lt_of_eq (y 4).isLt (Nat.zero_add _).symm⟩
    | ⟨5, _⟩ => exact ⟨Nat.zero_le _, lt_of_lt_of_eq (y 5).isLt (Nat.zero_add _).symm⟩

include hL in
theorem step_E {V : Rows} (hV : CurRows i L V) (v : View sig .tc .vmem S2x10x2x128x2x128 .bf16) (f : v.ty.Contents (Elt Ideal))
    (hb : NxtE V (v.read (Elt Ideal) f)) : CurE V (v.read (Elt Ideal) (v.writes (Elt Ideal) f (lE12 i M1 f1 M2 f2))) := by
  intro y h3 hc
  refine read_writes_target v f (TE V) y _ (lE12_ok hL hV) fun hn => hb y h3 ?_
  have := cov_E12 hn
  omega

include hL in
theorem step_O {V : Rows} (hV : CurRows i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31)
    (v : View sig .tc .vmem S2x10x2x128x2x128 .bf16) (f : v.ty.Contents (Elt Ideal))
    (hb : NxtO V (v.read (Elt Ideal) f)) : CurO V (v.read (Elt Ideal) (v.writes (Elt Ideal) f (lO24 i M1 f1 M2 f2 R00 R01 R10 R11 R20 R21 R30 R31))) := by
  intro y h3 hc
  refine read_writes_target v f (TO V) y _ (lO24_ok hL hV h00 h01 h10 h11 h20 h21 h30 h31) fun hn => hb y h3 ?_
  have := cov_O24 hn h3
  omega

include hL in
theorem step_NE {V : Rows} (hB : OthB i L V) (v : View sig .tc .vmem S2x10x2x128x2x128 .bf16) (f : v.ty.Contents (Elt Ideal))
    (hz : ∀ y : PIdx, (y 3 : ℕ) = 120 → v.read (Elt Ideal) f y = (0 : EReal)) :
    NxtE V (v.read (Elt Ideal) (v.writes (Elt Ideal) f (lNE4 i M1 f1 M2 f2))) := by
  intro y h3 hc
  have hA' : OthA i L (VN i L V) := fun a c => by unfold VN; rw [if_neg (by omega)]
  have hB' : OthB i L (VN i L V) := fun a c => by unfold VN; rw [if_pos rfl]; exact hB a c
  refine (read_writes_target v f (TE (VN i L V)) y _ (lNE4_ok hL hA' hB') fun hn => ?_).trans (TE_congr ?_)
  · have := cov_NE4 hn
    have h : (y 3 : ℕ) = 120 := by omega
    rw [hz y h, TE_120 _ y h]
  · rcases hc with hc | hc
    · exact Or.inl hc
    · exact Or.inr fun a c => by unfold VN; rw [if_pos hc.1]

include hL in
theorem step_NO {V : Rows} (hB : OthB i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31)
    (v : View sig .tc .vmem S2x10x2x128x2x128 .bf16) (f : v.ty.Contents (Elt Ideal)) :
    NxtO V (v.read (Elt Ideal) (v.writes (Elt Ideal) f (lNO8 i M1 f1 M2 f2 R00 R01 R10 R11 R20 R21 R30 R31))) := by
  intro y h3 hc
  have hA' : OthA i L (VN i L V) := fun a c => by unfold VN; rw [if_neg (by omega)]
  have hB' : OthB i L (VN i L V) := fun a c => by unfold VN; rw [if_pos rfl]; exact hB a c
  refine (read_writes_target v f (TO (VN i L V)) y _ (lNO8_ok hL hA' hB' h00 h01 h10 h11 h20 h21 h30 h31) fun hn => ?_).trans (TO_congr ?_)
  · exact absurd hc (cov_NO8 hn h3).1
  · exact fun a c => by unfold VN; rw [if_pos hc.1]

/-- The other set once its last slot is filled: every place of it. -/
def FullE (V : Rows) (e : PIdx → EReal) : Prop := ∀ y, (y 3 : ℕ) ≤ 120 → e y = TE V y
def FullO (V : Rows) (o : PIdx → EReal) : Prop := ∀ y, 7 ≤ (y 3 : ℕ) → o y = TO V y

include hL in
theorem full_E {V : Rows} (hA : OthA i L V) (v : View sig .tc .vmem S2x10x2x128x2x128 .bf16) (f : v.ty.Contents (Elt Ideal))
    (hb : CurE V (v.read (Elt Ideal) f)) : FullE V (v.read (Elt Ideal) (v.writes (Elt Ideal) f (lNE2 i M1 f1 M2 f2))) := by
  intro y h3
  refine read_writes_target v f (TE V) y _ (lNE2_ok hL hA) fun hn => hb y h3 ?_
  have := cov_NE2 hn
  omega

include hL in
theorem full_O {V : Rows} (hA : OthA i L V) {R00 R01 R10 R11 R20 R21 R30 R31 : Raw} (h00 : RawOk L 0 0 R00) (h01 : RawOk L 0 1 R01) (h10 : RawOk L 4 0 R10) (h11 : RawOk L 4 1 R11) (h20 : RawOk L 8 0 R20) (h21 : RawOk L 8 1 R21) (h30 : RawOk L 12 0 R30) (h31 : RawOk L 12 1 R31)
    (v : View sig .tc .vmem S2x10x2x128x2x128 .bf16) (f : v.ty.Contents (Elt Ideal))
    (hb : CurO V (v.read (Elt Ideal) f)) : FullO V (v.read (Elt Ideal) (v.writes (Elt Ideal) f (lNO4 i M1 f1 M2 f2 R00 R01 R10 R11 R20 R21 R30 R31))) := by
  intro y h3
  exact read_writes_target v f (TO V) y _ (lNO4_ok hL hA h00 h01 h10 h11 h20 h21 h30 h31) fun hn => hb y h3 (cov_NO4 hn h3)
end

/-! ## The nine taps -/

/-- A padded row: a zero before its 240 pixels and after them. -/
def Vpad (V : Rows) (u s x c : ℕ) : EReal := if x = 0 ∨ 240 < x then 0 else V u s (x - 1) c

theorem half_E0 {V : Rows} (u s0 h : ℕ) (inb) (E : Memref sig .tc .vmem S2x10x2x128x2x128 .bf16) (f : E.view.ty.Contents (Elt Ideal))
    (hf : ∀ y : PIdx, (y 0 : ℕ) = u → (y 1 : ℕ) < s0 + 4 → (y 3 : ℕ) ≤ 120 → E.view.read (Elt Ideal) f y = TE V y)
    (r : Fin 4) (k : Fin 120) (e : Fin 2) (l : Fin 128) :
    View.readAt (Elt Ideal) E.view (Rect.unit (s := S2x10x2x128x2x128) ![u, s0, h, 0, 0, 0] S1x4x1x120x2x128.size inb).toLoadRect f (ix6 0 r 0 k e l)
      = Vpad V u (s0 + r) (2 * k + e + 1) (128 * h + l) := by
  have hr := r.isLt
  have hk := k.isLt
  have he := e.isLt
  generalize hyd : (Rect.unit (s := S2x10x2x128x2x128) ![u, s0, h, 0, 0, 0] S1x4x1x120x2x128.size inb).emb (ix6 0 r 0 k e l) = y
  have e0 : (y 0 : ℕ) = u := by rw [← hyd]; exact (unit_emb_val _ _ inb (ix6 0 r 0 k e l) 0).trans (Nat.add_zero _)
  have e1 : (y 1 : ℕ) = s0 + r := by rw [← hyd]; exact unit_emb_val _ _ inb (ix6 0 r 0 k e l) 1
  have e2 : (y 2 : ℕ) = h := by rw [← hyd]; exact (unit_emb_val _ _ inb (ix6 0 r 0 k e l) 2).trans (Nat.add_zero _)
  have e3 : (y 3 : ℕ) = 0 + k := by rw [← hyd]; exact unit_emb_val _ _ inb (ix6 0 r 0 k e l) 3
  have e4 : (y 4 : ℕ) = e := by rw [← hyd]; exact (unit_emb_val _ _ inb (ix6 0 r 0 k e l) 4).trans (Nat.zero_add _)
  have e5 : (y 5 : ℕ) = l := by rw [← hyd]; exact (unit_emb_val _ _ inb (ix6 0 r 0 k e l) 5).trans (Nat.zero_add _)
  refine ((congrArg (E.view.read (Elt Ideal) f) hyd).trans (hf y e0 (by omega) (by omega))).trans ?_
  unfold TE EF Vpad
  rw [e0, e1, e2, e3, e4, e5, if_neg (by omega), if_neg (by omega), show 2 * (0 + (k : ℕ)) + e = 2 * k + e + 1 - 1 by omega]

theorem pair_E0 {V : Rows} (u s0 : ℕ) (inb0 inb1) (E : Memref sig .tc .vmem S2x10x2x128x2x128 .bf16) (f : E.view.ty.Contents (Elt Ideal))
    (hf : ∀ y : PIdx, (y 0 : ℕ) = u → (y 1 : ℕ) < s0 + 4 → (y 3 : ℕ) ≤ 120 → E.view.read (Elt Ideal) f y = TE V y) :
    PairOk (fun r x c => Vpad V u (s0 + r) (x + 1) c)
      (View.readAt (Elt Ideal) E.view (Rect.unit (s := S2x10x2x128x2x128) ![u, s0, 0, 0, 0, 0] S1x4x1x120x2x128.size inb0).toLoadRect f)
      (View.readAt (Elt Ideal) E.view (Rect.unit (s := S2x10x2x128x2x128) ![u, s0, 1, 0, 0, 0] S1x4x1x120x2x128.size inb1).toLoadRect f) :=
  ⟨fun r k e l => (half_E0 u s0 0 inb0 E f hf r k e l).trans (by rw [Nat.mul_zero, Nat.zero_add]), fun r k e l => half_E0 u s0 1 inb1 E f hf r k e l⟩

theorem half_O7 {V : Rows} (u s0 h : ℕ) (inb) (E : Memref sig .tc .vmem S2x10x2x128x2x128 .bf16) (f : E.view.ty.Contents (Elt Ideal))
    (hf : ∀ y : PIdx, (y 0 : ℕ) = u → (y 1 : ℕ) < s0 + 4 → 7 ≤ (y 3 : ℕ) → E.view.read (Elt Ideal) f y = TO V y)
    (r : Fin 4) (k : Fin 120) (e : Fin 2) (l : Fin 128) :
    View.readAt (Elt Ideal) E.view (Rect.unit (s := S2x10x2x128x2x128) ![u, s0, h, 7, 0, 0] S1x4x1x120x2x128.size inb).toLoadRect f (ix6 0 r 0 k e l)
      = Vpad V u (s0 + r) (2 * k + e + 0) (128 * h + l) := by
  have hr := r.isLt
  have hk := k.isLt
  have he := e.isLt
  generalize hyd : (Rect.unit (s := S2x10x2x128x2x128) ![u, s0, h, 7, 0, 0] S1x4x1x120x2x128.size inb).emb (ix6 0 r 0 k e l) = y
  have e0 : (y 0 : ℕ) = u := by rw [← hyd]; exact (unit_emb_val _ _ inb (ix6 0 r 0 k e l) 0).trans (Nat.add_zero _)
  have e1 : (y 1 : ℕ) = s0 + r := by rw [← hyd]; exact unit_emb_val _ _ inb (ix6 0 r 0 k e l) 1
  have e2 : (y 2 : ℕ) = h := by rw [← hyd]; exact (unit_emb_val _ _ inb (ix6 0 r 0 k e l) 2).trans (Nat.add_zero _)
  have e3 : (y 3 : ℕ) = 7 + k := by rw [← hyd]; exact unit_emb_val _ _ inb (ix6 0 r 0 k e l) 3
  have e4 : (y 4 : ℕ) = e := by rw [← hyd]; exact (unit_emb_val _ _ inb (ix6 0 r 0 k e l) 4).trans (Nat.zero_add _)
  have e5 : (y 5 : ℕ) = l := by rw [← hyd]; exact (unit_emb_val _ _ inb (ix6 0 r 0 k e l) 5).trans (Nat.zero_add _)
  refine ((congrArg (E.view.read (Elt Ideal) f) hyd).trans (hf y e0 (by omega) (by omega))).trans ?_
  unfold TO OF Vpad
  rw [e0, e1, e2, e3, e4, e5]
  by_cases hc : 2 * (k : ℕ) + e = 0
  · rw [if_pos (by omega), if_pos (by omega)]
  · rw [if_neg (by omega), if_neg (by omega), show 2 * (7 + (k : ℕ)) + e - 15 = 2 * k + e + 0 - 1 by omega]

theorem pair_O7 {V : Rows} (u s0 : ℕ) (inb0 inb1) (E : Memref sig .tc .vmem S2x10x2x128x2x128 .bf16) (f : E.view.ty.Contents (Elt Ideal))
    (hf : ∀ y : PIdx, (y 0 : ℕ) = u → (y 1 : ℕ) < s0 + 4 → 7 ≤ (y 3 : ℕ) → E.view.read (Elt Ideal) f y = TO V y) :
    PairOk (fun r x c => Vpad V u (s0 + r) (x + 0) c)
      (View.readAt (Elt Ideal) E.view (Rect.unit (s := S2x10x2x128x2x128) ![u, s0, 0, 7, 0, 0] S1x4x1x120x2x128.size inb0).toLoadRect f)
      (View.readAt (Elt Ideal) E.view (Rect.unit (s := S2x10x2x128x2x128) ![u, s0, 1, 7, 0, 0] S1x4x1x120x2x128.size inb1).toLoadRect f) :=
  ⟨fun r k e l => (half_O7 u s0 0 inb0 E f hf r k e l).trans (by rw [Nat.mul_zero, Nat.zero_add]), fun r k e l => half_O7 u s0 1 inb1 E f hf r k e l⟩

theorem half_O8 {V : Rows} (u s0 h : ℕ) (inb) (E : Memref sig .tc .vmem S2x10x2x128x2x128 .bf16) (f : E.view.ty.Contents (Elt Ideal))
    (hf : ∀ y : PIdx, (y 0 : ℕ) = u → (y 1 : ℕ) < s0 + 4 → 7 ≤ (y 3 : ℕ) → E.view.read (Elt Ideal) f y = TO V y)
    (r : Fin 4) (k : Fin 120) (e : Fin 2) (l : Fin 128) :
    View.readAt (Elt Ideal) E.view (Rect.unit (s := S2x10x2x128x2x128) ![u, s0, h, 8, 0, 0] S1x4x1x120x2x128.size inb).toLoadRect f (ix6 0 r 0 k e l)
      = Vpad V u (s0 + r) (2 * k + e + 2) (128 * h + l) := by
  have hr := r.isLt
  have hk := k.isLt
  have he := e.isLt
  generalize hyd : (Rect.unit (s := S2x10x2x128x2x128) ![u, s0, h, 8, 0, 0] S1x4x1x120x2x128.size inb).emb (ix6 0 r 0 k e l) = y
  have e0 : (y 0 : ℕ) = u := by rw [← hyd]; exact (unit_emb_val _ _ inb (ix6 0 r 0 k e l) 0).trans (Nat.add_zero _)
  have e1 : (y 1 : ℕ) = s0 + r := by rw [← hyd]; exact unit_emb_val _ _ inb (ix6 0 r 0 k e l) 1
  have e2 : (y 2 : ℕ) = h := by rw [← hyd]; exact (unit_emb_val _ _ inb (ix6 0 r 0 k e l) 2).trans (Nat.add_zero _)
  have e3 : (y 3 : ℕ) = 8 + k := by rw [← hyd]; exact unit_emb_val _ _ inb (ix6 0 r 0 k e l) 3
  have e4 : (y 4 : ℕ) = e := by rw [← hyd]; exact (unit_emb_val _ _ inb (ix6 0 r 0 k e l) 4).trans (Nat.zero_add _)
  have e5 : (y 5 : ℕ) = l := by rw [← hyd]; exact (unit_emb_val _ _ inb (ix6 0 r 0 k e l) 5).trans (Nat.zero_add _)
  refine ((congrArg (E.view.read (Elt Ideal) f) hyd).trans (hf y e0 (by omega) (by omega))).trans ?_
  unfold TO OF Vpad
  rw [e0, e1, e2, e3, e4, e5]
  by_cases hc : 238 < 2 * (k : ℕ) + e
  · rw [if_pos (by omega), if_pos (by omega)]
  · rw [if_neg (by omega), if_neg (by omega), show 2 * (8 + (k : ℕ)) + e - 15 = 2 * k + e + 2 - 1 by omega]

theorem pair_O8 {V : Rows} (u s0 : ℕ) (inb0 inb1) (E : Memref sig .tc .vmem S2x10x2x128x2x128 .bf16) (f : E.view.ty.Contents (Elt Ideal))
    (hf : ∀ y : PIdx, (y 0 : ℕ) = u → (y 1 : ℕ) < s0 + 4 → 7 ≤ (y 3 : ℕ) → E.view.read (Elt Ideal) f y = TO V y) :
    PairOk (fun r x c => Vpad V u (s0 + r) (x + 2) c)
      (View.readAt (Elt Ideal) E.view (Rect.unit (s := S2x10x2x128x2x128) ![u, s0, 0, 8, 0, 0] S1x4x1x120x2x128.size inb0).toLoadRect f)
      (View.readAt (Elt Ideal) E.view (Rect.unit (s := S2x10x2x128x2x128) ![u, s0, 1, 8, 0, 0] S1x4x1x120x2x128.size inb1).toLoadRect f) :=
  ⟨fun r k e l => (half_O8 u s0 0 inb0 E f hf r k e l).trans (by rw [Nat.mul_zero, Nat.zero_add]), fun r k e l => half_O8 u s0 1 inb1 E f hf r k e l⟩

/-- One result of the convolution over rows `V`: row `N` of the point's block, pixel `x`, channel `d`. -/
def convAt (V : Rows) (w : ℕ → ℕ → EReal) (s b : ℕ → EReal) (N x d : ℕ) : EReal :=
  (∑ k : Fin 2304, Vpad V (N / 8) (N % 8 + k / 256 / 3) (x + k / 256 % 3) (k % 256) * w k d) * s d + b d

section
variable {i : grid0.Coords} {M1 : Memref sig .tc .vmem S16x240x256 .fp8e4m3} {f1 : M1.view.ty.Contents (Elt Ideal)}
  {M2 : Memref sig .tc .vmem S16x240x256 .f32} {f2 : M2.view.ty.Contents (Elt Ideal)} {L : ℕ → ℕ → ℕ → EReal}
  {M3 : Memref sig .tc .vmem S2304x256 .fp8e4m3} {f3 : M3.view.ty.Contents (Elt Ideal)}
  {M4 : Memref sig .tc .vmem S1x256 .f32} {f4 : M4.view.ty.Contents (Elt Ideal)}
  {M5 : Memref sig .tc .vmem S1x256 .f32} {f5 : M5.view.ty.Contents (Elt Ideal)}
  {w : ℕ → ℕ → EReal} {s b : ℕ → EReal}
  (hw : ∀ (k : Fin 2304) (d : Fin 256), (M3.view.read (Elt Ideal) f3 (ix2 k d) : EReal) = w k d)
  (hs : ∀ d : Fin 256, (M4.view.read (Elt Ideal) f4 (ix2 0 d) : EReal) = s d)
  (hb : ∀ d : Fin 256, (M5.view.read (Elt Ideal) f5 (ix2 0 d) : EReal) = b d)

include hw in
theorem ldw (k : Fin 2304) (d : Fin 256) : (View.readAt (Elt Ideal) M3.view (Rect.unit (s := S2304x256) ![0, 0] S2304x256.size inb_S2304x256_S2304x256_0_0).toLoadRect f3 (ix2 k d) : EReal) = w k d := by
  refine Eq.trans (congrArg (M3.view.read (Elt Ideal) f3) ?_) (hw k d)
  funext a
  match a with
  | ⟨0, _⟩ => exact Fin.ext ((show _ = 0 + ((ix2 k d : S2304x256.Idx) 0 : ℕ) from Rect.idx_unit_val (s := S2304x256) ![0, 0] S2304x256.size inb_S2304x256_S2304x256_0_0 (ix2 k d : S2304x256.Idx) 0).trans (Nat.zero_add _))
  | ⟨1, _⟩ => exact Fin.ext ((show _ = 0 + ((ix2 k d : S2304x256.Idx) 1 : ℕ) from Rect.idx_unit_val (s := S2304x256) ![0, 0] S2304x256.size inb_S2304x256_S2304x256_0_0 (ix2 k d : S2304x256.Idx) 1).trans (Nat.zero_add _))
theorem ld1 {M4 : Memref sig .tc .vmem S1x256 .f32} {f4 : M4.view.ty.Contents (Elt Ideal)} {s : ℕ → EReal}
    (hs : ∀ d : Fin 256, (M4.view.read (Elt Ideal) f4 (ix2 0 d) : EReal) = s d) (d : Fin 256) :
    (View.readAt (Elt Ideal) M4.view (Rect.unit (s := S1x256) ![0, 0] S1x256.size inb_S1x256_S1x256_0_0).toLoadRect f4 (ix2 0 d) : EReal) = s d := by
  refine Eq.trans (congrArg (M4.view.read (Elt Ideal) f4) ?_) (hs d)
  funext a
  match a with
  | ⟨0, _⟩ => exact Fin.ext ((show _ = 0 + ((ix2 0 d : S1x256.Idx) 0 : ℕ) from Rect.idx_unit_val (s := S1x256) ![0, 0] S1x256.size inb_S1x256_S1x256_0_0 (ix2 0 d : S1x256.Idx) 0).trans (Nat.zero_add _))
  | ⟨1, _⟩ => exact Fin.ext ((show _ = 0 + ((ix2 0 d : S1x256.Idx) 1 : ℕ) from Rect.idx_unit_val (s := S1x256) ![0, 0] S1x256.size inb_S1x256_S1x256_0_0 (ix2 0 d : S1x256.Idx) 1).trans (Nat.zero_add _))

include hw hs hb in
/-- Four rows of the convolution, from the nine pairs of loads. -/
theorem conv_gen {V : Rows} (u r0 : ℕ) (hr0 : r0 + 4 ≤ 8)
    {r0' r1 r2 r3 r4 r5 r6 r7 r8 r9 r10 r11 r12 r13 r14 r15 r16 r17 : Raw}
    (h0 : PairOk (fun r x c => Vpad V u (r0 + 0 + r) (x + 0) c) r0' r1)
    (h1 : PairOk (fun r x c => Vpad V u (r0 + 0 + r) (x + 1) c) r2 r3)
    (h2 : PairOk (fun r x c => Vpad V u (r0 + 0 + r) (x + 2) c) r4 r5)
    (h3 : PairOk (fun r x c => Vpad V u (r0 + 1 + r) (x + 0) c) r6 r7)
    (h4t : PairOk (fun r x c => Vpad V u (r0 + 1 + r) (x + 1) c) r8 r9)
    (h5 : PairOk (fun r x c => Vpad V u (r0 + 1 + r) (x + 2) c) r10 r11)
    (h6 : PairOk (fun r x c => Vpad V u (r0 + 2 + r) (x + 0) c) r12 r13)
    (h7 : PairOk (fun r x c => Vpad V u (r0 + 2 + r) (x + 1) c) r14 r15)
    (h8 : PairOk (fun r x c => Vpad V u (r0 + 2 + r) (x + 2) c) r16 r17)
    (x : S4x240x256.Idx) (N : ℕ) (hN : N = 8 * u + r0 + x 0) :
    cvP (tap r0' r1) (tap r2 r3) (tap r4 r5) (tap r6 r7) (tap r8 r9) (tap r10 r11) (tap r12 r13) (tap r14 r15) r16 r17
      (View.readAt (Elt Ideal) M3.view (Rect.unit (s := S2304x256) ![0, 0] S2304x256.size inb_S2304x256_S2304x256_0_0).toLoadRect f3)
      (View.readAt (Elt Ideal) M4.view (Rect.unit (s := S1x256) ![0, 0] S1x256.size inb_S1x256_S1x256_0_0).toLoadRect f4)
      (View.readAt (Elt Ideal) M5.view (Rect.unit (s := S1x256) ![0, 0] S1x256.size inb_S1x256_S1x256_0_0).toLoadRect f5) x
      = convAt V w s b N (x 1) (x 2) := by
  have h4 : (x 0 : ℕ) < 4 := (x 0).isLt
  have hx : x = ix3 (x 0) (x 1) (x 2) := by
    funext a
    match a with
    | ⟨0, _⟩ | ⟨1, _⟩ | ⟨2, _⟩ => rfl
  conv_lhs => rw [hx]
  refine (cvP_val (Y := fun j r x c => Vpad V u (r0 + j / 3 + r) (x + j % 3) c) h0 h1 h2 h3 h4t h5 h6 h7 h8 _ _ _ (x 0) (x 1) (x 2)).trans ?_
  rw [ld1 hs (x 2), ld1 hb (x 2)]
  unfold convAt
  refine congrArg (fun z => z * s (x 2) + b (x 2)) (Finset.sum_congr rfl fun k _ => ?_)
  rw [ldw hw k (x 2)]
  have hk := k.isLt
  rw [show N / 8 = u by omega, show N % 8 + k / 256 / 3 = r0 + (k : ℕ) / 256 / 3 + x 0 by omega]

include hw hs hb in
theorem cv0_ok {V : Rows} {R00 R01 R10 R11 R20 R21 R30 R31 : Raw} (NE : Memref sig .tc .vmem S2x10x2x128x2x128 .bf16) (fNE : NE.view.ty.Contents (Elt Ideal)) (NO : Memref sig .tc .vmem S2x10x2x128x2x128 .bf16) (fNO : NO.view.ty.Contents (Elt Ideal))
    (hE : CurE V (NE.view.read (Elt Ideal) fNE)) (hO : CurO V (NO.view.read (Elt Ideal) fNO)) (x : S4x240x256.Idx) (N : ℕ) (hN : N = 0 + x 0) :
    cv0 i M1 f1 M2 f2 R00 R01 R10 R11 R20 R21 R30 R31 NE fNE NO fNO M3 f3 M4 f4 M5 f5 x = convAt V w s b N (x 1) (x 2) :=
  conv_gen hw hs hb 0 0 (by omega)
      (pair_O7 0 0 inb_S2x10x2x128x2x128_S1x4x1x120x2x128_0_0_0_7_0_0 inb_S2x10x2x128x2x128_S1x4x1x120x2x128_0_0_1_7_0_0 NO _ (fun y hu h4 h => hO y h (by omega)))
      (pair_E0 0 0 inb_S2x10x2x128x2x128_S1x4x1x120x2x128_0_0_0_0_0_0 inb_S2x10x2x128x2x128_S1x4x1x120x2x128_0_0_1_0_0_0 NE _ (fun y hu h4 h => hE y h (Or.inr (by omega))))
      (pair_O8 0 0 inb_S2x10x2x128x2x128_S1x4x1x120x2x128_0_0_0_8_0_0 inb_S2x10x2x128x2x128_S1x4x1x120x2x128_0_0_1_8_0_0 NO _ (fun y hu h4 h => hO y h (by omega)))
      (pair_O7 0 1 inb_S2x10x2x128x2x128_S1x4x1x120x2x128_0_1_0_7_0_0 inb_S2x10x2x128x2x128_S1x4x1x120x2x128_0_1_1_7_0_0 NO _ (fun y hu h4 h => hO y h (by omega)))
      (pair_E0 0 1 inb_S2x10x2x128x2x128_S1x4x1x120x2x128_0_1_0_0_0_0 inb_S2x10x2x128x2x128_S1x4x1x120x2x128_0_1_1_0_0_0 NE _ (fun y hu h4 h => hE y h (Or.inr (by omega))))
      (pair_O8 0 1 inb_S2x10x2x128x2x128_S1x4x1x120x2x128_0_1_0_8_0_0 inb_S2x10x2x128x2x128_S1x4x1x120x2x128_0_1_1_8_0_0 NO _ (fun y hu h4 h => hO y h (by omega)))
      (pair_O7 0 2 inb_S2x10x2x128x2x128_S1x4x1x120x2x128_0_2_0_7_0_0 inb_S2x10x2x128x2x128_S1x4x1x120x2x128_0_2_1_7_0_0 NO _ (fun y hu h4 h => hO y h (by omega)))
      (pair_E0 0 2 inb_S2x10x2x128x2x128_S1x4x1x120x2x128_0_2_0_0_0_0 inb_S2x10x2x128x2x128_S1x4x1x120x2x128_0_2_1_0_0_0 NE _ (fun y hu h4 h => hE y h (Or.inr (by omega))))
      (pair_O8 0 2 inb_S2x10x2x128x2x128_S1x4x1x120x2x128_0_2_0_8_0_0 inb_S2x10x2x128x2x128_S1x4x1x120x2x128_0_2_1_8_0_0 NO _ (fun y hu h4 h => hO y h (by omega)))
      x N (by omega)

include hw hs hb in
theorem cv1_ok {V : Rows} {R00 R01 R10 R11 R20 R21 R30 R31 : Raw} (NE : Memref sig .tc .vmem S2x10x2x128x2x128 .bf16) (fNE : NE.view.ty.Contents (Elt Ideal)) (NO : Memref sig .tc .vmem S2x10x2x128x2x128 .bf16) (fNO : NO.view.ty.Contents (Elt Ideal))
    (hE : CurE V (NE.view.read (Elt Ideal) fNE)) (hO : CurO V (NO.view.read (Elt Ideal) fNO)) (x : S4x240x256.Idx) (N : ℕ) (hN : N = 4 + x 0) :
    cv1 i M1 f1 M2 f2 R00 R01 R10 R11 R20 R21 R30 R31 NE fNE NO fNO M3 f3 M4 f4 M5 f5 x = convAt V w s b N (x 1) (x 2) :=
  conv_gen hw hs hb 0 4 (by omega)
      (pair_O7 0 4 inb_S2x10x2x128x2x128_S1x4x1x120x2x128_0_4_0_7_0_0 inb_S2x10x2x128x2x128_S1x4x1x120x2x128_0_4_1_7_0_0 NO _ (fun y hu h4 h => hO y h (by omega)))
      (pair_E0 0 4 inb_S2x10x2x128x2x128_S1x4x1x120x2x128_0_4_0_0_0_0 inb_S2x10x2x128x2x128_S1x4x1x120x2x128_0_4_1_0_0_0 NE _ (fun y hu h4 h => hE y h (Or.inr (by omega))))
      (pair_O8 0 4 inb_S2x10x2x128x2x128_S1x4x1x120x2x128_0_4_0_8_0_0 inb_S2x10x2x128x2x128_S1x4x1x120x2x128_0_4_1_8_0_0 NO _ (fun y hu h4 h => hO y h (by omega)))
      (pair_O7 0 5 inb_S2x10x2x128x2x128_S1x4x1x120x2x128_0_5_0_7_0_0 inb_S2x10x2x128x2x128_S1x4x1x120x2x128_0_5_1_7_0_0 NO _ (fun y hu h4 h => hO y h (by omega)))
      (pair_E0 0 5 inb_S2x10x2x128x2x128_S1x4x1x120x2x128_0_5_0_0_0_0 inb_S2x10x2x128x2x128_S1x4x1x120x2x128_0_5_1_0_0_0 NE _ (fun y hu h4 h => hE y h (Or.inr (by omega))))
      (pair_O8 0 5 inb_S2x10x2x128x2x128_S1x4x1x120x2x128_0_5_0_8_0_0 inb_S2x10x2x128x2x128_S1x4x1x120x2x128_0_5_1_8_0_0 NO _ (fun y hu h4 h => hO y h (by omega)))
      (pair_O7 0 6 inb_S2x10x2x128x2x128_S1x4x1x120x2x128_0_6_0_7_0_0 inb_S2x10x2x128x2x128_S1x4x1x120x2x128_0_6_1_7_0_0 NO _ (fun y hu h4 h => hO y h (by omega)))
      (pair_E0 0 6 inb_S2x10x2x128x2x128_S1x4x1x120x2x128_0_6_0_0_0_0 inb_S2x10x2x128x2x128_S1x4x1x120x2x128_0_6_1_0_0_0 NE _ (fun y hu h4 h => hE y h (Or.inr (by omega))))
      (pair_O8 0 6 inb_S2x10x2x128x2x128_S1x4x1x120x2x128_0_6_0_8_0_0 inb_S2x10x2x128x2x128_S1x4x1x120x2x128_0_6_1_8_0_0 NO _ (fun y hu h4 h => hO y h (by omega)))
      x N (by omega)

include hw hs hb in
theorem cv2_ok {V : Rows} {R00 R01 R10 R11 R20 R21 R30 R31 : Raw} (NE : Memref sig .tc .vmem S2x10x2x128x2x128 .bf16) (fNE : NE.view.ty.Contents (Elt Ideal)) (NO : Memref sig .tc .vmem S2x10x2x128x2x128 .bf16) (fNO : NO.view.ty.Contents (Elt Ideal))
    (hE : CurE V (NE.view.read (Elt Ideal) fNE)) (hO : CurO V (NO.view.read (Elt Ideal) fNO)) (x : S4x240x256.Idx) (N : ℕ) (hN : N = 8 + x 0) :
    cv2 i M1 f1 M2 f2 R00 R01 R10 R11 R20 R21 R30 R31 NE fNE NO fNO M3 f3 M4 f4 M5 f5 x = convAt V w s b N (x 1) (x 2) :=
  conv_gen hw hs hb 1 0 (by omega)
      (pair_O7 1 0 inb_S2x10x2x128x2x128_S1x4x1x120x2x128_1_0_0_7_0_0 inb_S2x10x2x128x2x128_S1x4x1x120x2x128_1_0_1_7_0_0 NO _ (fun y hu h4 h => hO y h (by omega)))
      (pair_E0 1 0 inb_S2x10x2x128x2x128_S1x4x1x120x2x128_1_0_0_0_0_0 inb_S2x10x2x128x2x128_S1x4x1x120x2x128_1_0_1_0_0_0 NE _ (fun y hu h4 h => hE y h (Or.inr (by omega))))
      (pair_O8 1 0 inb_S2x10x2x128x2x128_S1x4x1x120x2x128_1_0_0_8_0_0 inb_S2x10x2x128x2x128_S1x4x1x120x2x128_1_0_1_8_0_0 NO _ (fun y hu h4 h => hO y h (by omega)))
      (pair_O7 1 1 inb_S2x10x2x128x2x128_S1x4x1x120x2x128_1_1_0_7_0_0 inb_S2x10x2x128x2x128_S1x4x1x120x2x128_1_1_1_7_0_0 NO _ (fun y hu h4 h => hO y h (by omega)))
      (pair_E0 1 1 inb_S2x10x2x128x2x128_S1x4x1x120x2x128_1_1_0_0_0_0 inb_S2x10x2x128x2x128_S1x4x1x120x2x128_1_1_1_0_0_0 NE _ (fun y hu h4 h => hE y h (Or.inr (by omega))))
      (pair_O8 1 1 inb_S2x10x2x128x2x128_S1x4x1x120x2x128_1_1_0_8_0_0 inb_S2x10x2x128x2x128_S1x4x1x120x2x128_1_1_1_8_0_0 NO _ (fun y hu h4 h => hO y h (by omega)))
      (pair_O7 1 2 inb_S2x10x2x128x2x128_S1x4x1x120x2x128_1_2_0_7_0_0 inb_S2x10x2x128x2x128_S1x4x1x120x2x128_1_2_1_7_0_0 NO _ (fun y hu h4 h => hO y h (by omega)))
      (pair_E0 1 2 inb_S2x10x2x128x2x128_S1x4x1x120x2x128_1_2_0_0_0_0 inb_S2x10x2x128x2x128_S1x4x1x120x2x128_1_2_1_0_0_0 NE _ (fun y hu h4 h => hE y h (Or.inr (by omega))))
      (pair_O8 1 2 inb_S2x10x2x128x2x128_S1x4x1x120x2x128_1_2_0_8_0_0 inb_S2x10x2x128x2x128_S1x4x1x120x2x128_1_2_1_8_0_0 NO _ (fun y hu h4 h => hO y h (by omega)))
      x N (by omega)

include hw hs hb in
theorem cv3_ok {V : Rows} {R00 R01 R10 R11 R20 R21 R30 R31 : Raw} (NE : Memref sig .tc .vmem S2x10x2x128x2x128 .bf16) (fNE : NE.view.ty.Contents (Elt Ideal)) (NO : Memref sig .tc .vmem S2x10x2x128x2x128 .bf16) (fNO : NO.view.ty.Contents (Elt Ideal))
    (hE : CurE V (NE.view.read (Elt Ideal) fNE)) (hO : CurO V (NO.view.read (Elt Ideal) fNO))
    (hFE : FullE V (NE.view.read (Elt Ideal) (NE.view.writes (Elt Ideal) fNE (lNE2 i M1 f1 M2 f2))))
    (hFO : FullO V (NO.view.read (Elt Ideal) (NO.view.writes (Elt Ideal) fNO (lNO4 i M1 f1 M2 f2 R00 R01 R10 R11 R20 R21 R30 R31)))) (x : S4x240x256.Idx) (N : ℕ) (hN : N = 12 + x 0) :
    cv3 i M1 f1 M2 f2 R00 R01 R10 R11 R20 R21 R30 R31 NE fNE NO fNO M3 f3 M4 f4 M5 f5 x = convAt V w s b N (x 1) (x 2) :=
  conv_gen hw hs hb 1 4 (by omega)
      (pair_O7 1 4 inb_S2x10x2x128x2x128_S1x4x1x120x2x128_1_4_0_7_0_0 inb_S2x10x2x128x2x128_S1x4x1x120x2x128_1_4_1_7_0_0 NO _ (fun y hu h4 h => hO y h (by omega)))
      (pair_E0 1 4 inb_S2x10x2x128x2x128_S1x4x1x120x2x128_1_4_0_0_0_0 inb_S2x10x2x128x2x128_S1x4x1x120x2x128_1_4_1_0_0_0 NE _ (fun y hu h4 h => hE y h (Or.inr (by omega))))
      (pair_O8 1 4 inb_S2x10x2x128x2x128_S1x4x1x120x2x128_1_4_0_8_0_0 inb_S2x10x2x128x2x128_S1x4x1x120x2x128_1_4_1_8_0_0 NO _ (fun y hu h4 h => hO y h (by omega)))
      (pair_O7 1 5 inb_S2x10x2x128x2x128_S1x4x1x120x2x128_1_5_0_7_0_0 inb_S2x10x2x128x2x128_S1x4x1x120x2x128_1_5_1_7_0_0 NO _ (fun y hu h4 h => hO y h (by omega)))
      (pair_E0 1 5 inb_S2x10x2x128x2x128_S1x4x1x120x2x128_1_5_0_0_0_0 inb_S2x10x2x128x2x128_S1x4x1x120x2x128_1_5_1_0_0_0 NE _ (fun y hu h4 h => hE y h (Or.inr (by omega))))
      (pair_O8 1 5 inb_S2x10x2x128x2x128_S1x4x1x120x2x128_1_5_0_8_0_0 inb_S2x10x2x128x2x128_S1x4x1x120x2x128_1_5_1_8_0_0 NO _ (fun y hu h4 h => hO y h (by omega)))
      (pair_O7 1 6 inb_S2x10x2x128x2x128_S1x4x1x120x2x128_1_6_0_7_0_0 inb_S2x10x2x128x2x128_S1x4x1x120x2x128_1_6_1_7_0_0 NO _ (fun y _ _ h => hFO y h))
      (pair_E0 1 6 inb_S2x10x2x128x2x128_S1x4x1x120x2x128_1_6_0_0_0_0 inb_S2x10x2x128x2x128_S1x4x1x120x2x128_1_6_1_0_0_0 NE _ (fun y _ _ h => hFE y h))
      (pair_O8 1 6 inb_S2x10x2x128x2x128_S1x4x1x120x2x128_1_6_0_8_0_0 inb_S2x10x2x128x2x128_S1x4x1x120x2x128_1_6_1_8_0_0 NO _ (fun y _ _ h => hFO y h))
      x N (by omega)

include hw hs hb in
theorem lP_ok {V : Rows} {R00 R01 R10 R11 R20 R21 R30 R31 : Raw} (NE : Memref sig .tc .vmem S2x10x2x128x2x128 .bf16) (fNE : NE.view.ty.Contents (Elt Ideal)) (NO : Memref sig .tc .vmem S2x10x2x128x2x128 .bf16) (fNO : NO.view.ty.Contents (Elt Ideal))
    (hE : CurE V (NE.view.read (Elt Ideal) fNE)) (hO : CurO V (NO.view.read (Elt Ideal) fNO))
    (hFE : FullE V (NE.view.read (Elt Ideal) (NE.view.writes (Elt Ideal) fNE (lNE2 i M1 f1 M2 f2))))
    (hFO : FullO V (NO.view.read (Elt Ideal) (NO.view.writes (Elt Ideal) fNO (lNO4 i M1 f1 M2 f2 R00 R01 R10 R11 R20 R21 R30 R31))))
    (v : View sig .tc .vmem S16x240x256 .bf16) (f : v.ty.Contents (Elt Ideal)) (y : S16x240x256.Idx) :
    v.read (Elt Ideal) (v.writes (Elt Ideal) f (lP i M1 f1 M2 f2 R00 R01 R10 R11 R20 R21 R30 R31 NE fNE NO fNO M3 f3 M4 f4 M5 f5)) y = convAt V w s b (y 0) (y 1) (y 2) := by
  refine read_writes_target v f (fun y => convAt V w s b (y 0) (y 1) (y 2)) y _ ?_ ?_
  · refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩

    · refine (cv3_ok (i := i) (M1 := M1) (f1 := f1) (M2 := M2) (f2 := f2) (R00 := R00) (R01 := R01) (R10 := R10) (R11 := R11) (R20 := R20) (R21 := R21) (R30 := R30) (R31 := R31) hw hs hb NE fNE NO fNO hE hO hFE hFO x _ (unit_emb_val _ _ inb_S16x240x256_S4x240x256_12_0_0 x 0)).trans ?_
      have e1 : (((Rect.unit (s := S16x240x256) ![12, 0, 0] S4x240x256.size inb_S16x240x256_S4x240x256_12_0_0).emb x 1 : Fin _) : ℕ) = x 1 := (unit_emb_val _ _ inb_S16x240x256_S4x240x256_12_0_0 x 1).trans (Nat.zero_add _)
      have e2 : (((Rect.unit (s := S16x240x256) ![12, 0, 0] S4x240x256.size inb_S16x240x256_S4x240x256_12_0_0).emb x 2 : Fin _) : ℕ) = x 2 := (unit_emb_val _ _ inb_S16x240x256_S4x240x256_12_0_0 x 2).trans (Nat.zero_add _)
      show _ = convAt V w s b ((Rect.unit (s := S16x240x256) ![12, 0, 0] S4x240x256.size inb_S16x240x256_S4x240x256_12_0_0).emb x 0 : Fin _) ((Rect.unit (s := S16x240x256) ![12, 0, 0] S4x240x256.size inb_S16x240x256_S4x240x256_12_0_0).emb x 1 : Fin _) ((Rect.unit (s := S16x240x256) ![12, 0, 0] S4x240x256.size inb_S16x240x256_S4x240x256_12_0_0).emb x 2 : Fin _)
      rw [e1, e2]

    · refine (cv2_ok (i := i) (M1 := M1) (f1 := f1) (M2 := M2) (f2 := f2) (R00 := R00) (R01 := R01) (R10 := R10) (R11 := R11) (R20 := R20) (R21 := R21) (R30 := R30) (R31 := R31) hw hs hb NE fNE NO fNO hE hO x _ (unit_emb_val _ _ inb_S16x240x256_S4x240x256_8_0_0 x 0)).trans ?_
      have e1 : (((Rect.unit (s := S16x240x256) ![8, 0, 0] S4x240x256.size inb_S16x240x256_S4x240x256_8_0_0).emb x 1 : Fin _) : ℕ) = x 1 := (unit_emb_val _ _ inb_S16x240x256_S4x240x256_8_0_0 x 1).trans (Nat.zero_add _)
      have e2 : (((Rect.unit (s := S16x240x256) ![8, 0, 0] S4x240x256.size inb_S16x240x256_S4x240x256_8_0_0).emb x 2 : Fin _) : ℕ) = x 2 := (unit_emb_val _ _ inb_S16x240x256_S4x240x256_8_0_0 x 2).trans (Nat.zero_add _)
      show _ = convAt V w s b ((Rect.unit (s := S16x240x256) ![8, 0, 0] S4x240x256.size inb_S16x240x256_S4x240x256_8_0_0).emb x 0 : Fin _) ((Rect.unit (s := S16x240x256) ![8, 0, 0] S4x240x256.size inb_S16x240x256_S4x240x256_8_0_0).emb x 1 : Fin _) ((Rect.unit (s := S16x240x256) ![8, 0, 0] S4x240x256.size inb_S16x240x256_S4x240x256_8_0_0).emb x 2 : Fin _)
      rw [e1, e2]

    · refine (cv1_ok (i := i) (M1 := M1) (f1 := f1) (M2 := M2) (f2 := f2) (R00 := R00) (R01 := R01) (R10 := R10) (R11 := R11) (R20 := R20) (R21 := R21) (R30 := R30) (R31 := R31) hw hs hb NE fNE NO fNO hE hO x _ (unit_emb_val _ _ inb_S16x240x256_S4x240x256_4_0_0 x 0)).trans ?_
      have e1 : (((Rect.unit (s := S16x240x256) ![4, 0, 0] S4x240x256.size inb_S16x240x256_S4x240x256_4_0_0).emb x 1 : Fin _) : ℕ) = x 1 := (unit_emb_val _ _ inb_S16x240x256_S4x240x256_4_0_0 x 1).trans (Nat.zero_add _)
      have e2 : (((Rect.unit (s := S16x240x256) ![4, 0, 0] S4x240x256.size inb_S16x240x256_S4x240x256_4_0_0).emb x 2 : Fin _) : ℕ) = x 2 := (unit_emb_val _ _ inb_S16x240x256_S4x240x256_4_0_0 x 2).trans (Nat.zero_add _)
      show _ = convAt V w s b ((Rect.unit (s := S16x240x256) ![4, 0, 0] S4x240x256.size inb_S16x240x256_S4x240x256_4_0_0).emb x 0 : Fin _) ((Rect.unit (s := S16x240x256) ![4, 0, 0] S4x240x256.size inb_S16x240x256_S4x240x256_4_0_0).emb x 1 : Fin _) ((Rect.unit (s := S16x240x256) ![4, 0, 0] S4x240x256.size inb_S16x240x256_S4x240x256_4_0_0).emb x 2 : Fin _)
      rw [e1, e2]

    · refine (cv0_ok (i := i) (M1 := M1) (f1 := f1) (M2 := M2) (f2 := f2) (R00 := R00) (R01 := R01) (R10 := R10) (R11 := R11) (R20 := R20) (R21 := R21) (R30 := R30) (R31 := R31) hw hs hb NE fNE NO fNO hE hO x _ (unit_emb_val _ _ inb_S16x240x256_S4x240x256_0_0_0 x 0)).trans ?_
      have e1 : (((Rect.unit (s := S16x240x256) ![0, 0, 0] S4x240x256.size inb_S16x240x256_S4x240x256_0_0_0).emb x 1 : Fin _) : ℕ) = x 1 := (unit_emb_val _ _ inb_S16x240x256_S4x240x256_0_0_0 x 1).trans (Nat.zero_add _)
      have e2 : (((Rect.unit (s := S16x240x256) ![0, 0, 0] S4x240x256.size inb_S16x240x256_S4x240x256_0_0_0).emb x 2 : Fin _) : ℕ) = x 2 := (unit_emb_val _ _ inb_S16x240x256_S4x240x256_0_0_0 x 2).trans (Nat.zero_add _)
      show _ = convAt V w s b ((Rect.unit (s := S16x240x256) ![0, 0, 0] S4x240x256.size inb_S16x240x256_S4x240x256_0_0_0).emb x 0 : Fin _) ((Rect.unit (s := S16x240x256) ![0, 0, 0] S4x240x256.size inb_S16x240x256_S4x240x256_0_0_0).emb x 1 : Fin _) ((Rect.unit (s := S16x240x256) ![0, 0, 0] S4x240x256.size inb_S16x240x256_S4x240x256_0_0_0).emb x 2 : Fin _)
      rw [e1, e2]

  · intro hn
    exfalso
    have h0 : (y 0 : ℕ) < 16 := (y 0).isLt
    have nm : ∀ (k : ℕ) (inb), y ∉ (Rect.unit (s := S16x240x256) ![k, 0, 0] S4x240x256.size inb).set → ¬ (k ≤ (y 0 : ℕ) ∧ (y 0 : ℕ) < k + 4) := by
      rintro k inb hy ⟨h1, h2⟩
      refine hy (Rect.mem_set_unit.2 fun a => ?_)
      match a with
      | ⟨0, _⟩ => exact ⟨h1, h2⟩
      | ⟨1, _⟩ => exact ⟨Nat.zero_le _, lt_of_lt_of_eq (y 1).isLt (Nat.zero_add _).symm⟩
      | ⟨2, _⟩ => exact ⟨Nat.zero_le _, lt_of_lt_of_eq (y 2).isLt (Nat.zero_add _).symm⟩
    simp only [lP, List.forall_mem_cons] at hn
    obtain ⟨a3, a2, a1, a0, -⟩ := hn
    have := nm _ _ a3
    have := nm _ _ a2
    have := nm _ _ a1
    have := nm _ _ a0
    omega
end

end Cert.KernelIdeal.Val
-- ==== Proof.ConvEq.lean ====
/-
  The convolution's four groups of rows compute the same function of their loads, whatever the order in which the
  generated values were cut.
-/
module

public import proofs.«01_k».proof.Proof.Canon

@[expose] public section

set_option maxRecDepth 16384

noncomputable section

namespace Cert.KernelIdeal.Val

open Idealize.ShloMosaic Idealize.SL.Sem Cert.KernelIdeal.Gen

theorem cvG_C0 (t0 t1 t2 t3 t4 t5 t6 t7 : FVec Ideal S960x256 .bf16) (r16 r17 : Raw) (w : Vec Ideal S2304x256 .fp8e4m3) (s c : Vec Ideal S1x256 .f32) :
    k0_pay18 t0 t1 t2 t3 t4 t5 t6 t7 (k0_pay15 r16) (k0_pay16 r17) (k0_pay17 r17) w s c = cvP t0 t1 t2 t3 t4 t5 t6 t7 r16 r17 w s c := rfl

theorem cvG_C1 (t0 t1 t2 t3 t4 t5 t6 t7 : FVec Ideal S960x256 .bf16) (r16 r17 : Raw) (w : Vec Ideal S2304x256 .fp8e4m3) (s c : Vec Ideal S1x256 .f32) :
    k0_pay64 t0 t1 t2 t3 t4 t5 t6 t7 (k0_pay63 r16) r17 w s c = cvP t0 t1 t2 t3 t4 t5 t6 t7 r16 r17 w s c := rfl

theorem cvG_C2 (t0 t1 t2 t3 t4 t5 t6 t7 : FVec Ideal S960x256 .bf16) (r16 r17 : Raw) (w : Vec Ideal S2304x256 .fp8e4m3) (s c : Vec Ideal S1x256 .f32) :
    k0_pay116 t0 t1 t2 t3 t4 t5 t6 t7 r16 r17 w s c = cvP t0 t1 t2 t3 t4 t5 t6 t7 r16 r17 w s c := rfl

theorem cvG_C3 (t0 t1 t2 t3 t4 t5 t6 : FVec Ideal S960x256 .bf16) (r14 r15 r16 r17 : Raw) (w : Vec Ideal S2304x256 .fp8e4m3) (s c : Vec Ideal S1x256 .f32) :
    k0_pay160 t0 t1 t2 t3 t4 t5 t6 (k0_pay157 r14) (k0_pay158 r15) (k0_pay159 r15) r16 r17 w s c = cvP t0 t1 t2 t3 t4 t5 t6 (tap r14 r15) r16 r17 w s c := rfl

theorem cvG_B0 (t0 t1 t2 t3 t4 t5 t6 t7 : FVec Ideal S960x256 .bf16) (r16 r17 : Raw) (w : Vec Ideal S2304x256 .fp8e4m3) (s c : Vec Ideal S1x256 .f32) :
    k0_pay205 t0 t1 t2 t3 t4 t5 t6 t7 (k0_pay202 r16) (k0_pay203 r17) (k0_pay204 r17) w s c = cvP t0 t1 t2 t3 t4 t5 t6 t7 r16 r17 w s c := rfl

theorem cvG_B1 (t0 t1 t2 t3 t4 t5 t6 t7 : FVec Ideal S960x256 .bf16) (r16 r17 : Raw) (w : Vec Ideal S2304x256 .fp8e4m3) (s c : Vec Ideal S1x256 .f32) :
    k0_pay251 t0 t1 t2 t3 t4 t5 t6 t7 (k0_pay250 r16) r17 w s c = cvP t0 t1 t2 t3 t4 t5 t6 t7 r16 r17 w s c := rfl

theorem cvG_B2 (t0 t1 t2 t3 t4 t5 t6 t7 : FVec Ideal S960x256 .bf16) (r16 r17 : Raw) (w : Vec Ideal S2304x256 .fp8e4m3) (s c : Vec Ideal S1x256 .f32) :
    k0_pay303 t0 t1 t2 t3 t4 t5 t6 t7 r16 r17 w s c = cvP t0 t1 t2 t3 t4 t5 t6 t7 r16 r17 w s c := rfl

theorem cvG_B3 (t0 t1 t2 t3 t4 t5 t6 : FVec Ideal S960x256 .bf16) (r14 r15 r16 r17 : Raw) (w : Vec Ideal S2304x256 .fp8e4m3) (s c : Vec Ideal S1x256 .f32) :
    k0_pay347 t0 t1 t2 t3 t4 t5 t6 (k0_pay344 r14) (k0_pay345 r15) (k0_pay346 r15) r16 r17 w s c = cvP t0 t1 t2 t3 t4 t5 t6 (tap r14 r15) r16 r17 w s c := rfl

end Cert.KernelIdeal.Val

end
-- ==== Proof.RunEq.lean ====
/-
  What each case of the kernel body leaves in its buffers, by the lists of Canon.lean: at an odd point the planes filled
  are the second set, at an even one the first.
-/
module

public import proofs.«01_k».proof.Proof.ConvEq

@[expose] public section

set_option maxRecDepth 16384

noncomputable section

namespace Cert.KernelIdeal.Val

open Idealize.ShloMosaic Idealize.SL.Sem Cert.KernelIdeal.Gen
open Idealize.ShloMosaic.Pipeline (Dat Cfg Window BodyObligation cellOf)

theorem cons_pc {s : Shape} {e : EltTy} (r : Rect s) {v w : r.shape.Idx → Elt Ideal e} (h : v = w)
    {L M : List (View.Piece (Elt Ideal) s e)} (hL : L = M) : (⟨r, v⟩ : View.Piece (Elt Ideal) s e) :: L = ⟨r, w⟩ :: M := by
  rw [h, hL]

theorem sout0_B_0_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : ¬cond0_0 i) (hc1 : ¬cond0_1 i) (hc2 : cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) (xs0 : Vec Ideal S2x10x2x128x2x128 .bf16) (xs1 : Vec Ideal S2x10x2x128x2x128 .bf16) (xs2 : Vec Ideal S2x10x2x128x2x128 .bf16) :
    sout0_B_0 c i arg1 harg1 arg2 harg2 arg3 harg3 arg4 harg4 arg5 harg5 arg6 harg6 arg7 harg7 arg8 harg8 arg9 harg9 arg10 harg10 hc0 hc1 hc2 x0 x1 x2 x3 x4 xs0 xs1 xs2 = arg7.view.read (Elt Ideal) (arg7.view.writes (Elt Ideal) (harg7.unread xs0) (lNE4 i arg1 (harg1.unread x0) arg2 (harg2.unread x1))) := rfl

theorem sout0_B_1_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : ¬cond0_0 i) (hc1 : ¬cond0_1 i) (hc2 : cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) (xs0 : Vec Ideal S2x10x2x128x2x128 .bf16) (xs1 : Vec Ideal S2x10x2x128x2x128 .bf16) (xs2 : Vec Ideal S2x10x2x128x2x128 .bf16) :
    sout0_B_1 c i arg1 harg1 arg2 harg2 arg3 harg3 arg4 harg4 arg5 harg5 arg6 harg6 arg7 harg7 arg8 harg8 arg9 harg9 arg10 harg10 hc0 hc1 hc2 x0 x1 x2 x3 x4 xs0 xs1 xs2 = arg8.view.read (Elt Ideal) (arg8.view.writes (Elt Ideal) (harg8.unread xs1) (lNO8 i arg1 (harg1.unread x0) arg2 (harg2.unread x1) (raw00 i arg1 (harg1.unread x0) arg2 (harg2.unread x1) arg9 (harg9.unread xs2)) (raw01 i arg1 (harg1.unread x0) arg2 (harg2.unread x1) arg9 (harg9.unread xs2)) (raw10 i arg1 (harg1.unread x0) arg2 (harg2.unread x1) arg9 (harg9.unread xs2)) (raw11 i arg1 (harg1.unread x0) arg2 (harg2.unread x1) arg9 (harg9.unread xs2)) (raw20 i arg1 (harg1.unread x0) arg2 (harg2.unread x1) arg9 (harg9.unread xs2)) (raw21 i arg1 (harg1.unread x0) arg2 (harg2.unread x1) arg9 (harg9.unread xs2)) (raw30 i arg1 (harg1.unread x0) arg2 (harg2.unread x1) arg9 (harg9.unread xs2)) (raw31 i arg1 (harg1.unread x0) arg2 (harg2.unread x1) arg9 (harg9.unread xs2)))) := rfl

theorem sout0_B_2_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : ¬cond0_0 i) (hc1 : ¬cond0_1 i) (hc2 : cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) (xs0 : Vec Ideal S2x10x2x128x2x128 .bf16) (xs1 : Vec Ideal S2x10x2x128x2x128 .bf16) (xs2 : Vec Ideal S2x10x2x128x2x128 .bf16) :
    sout0_B_2 c i arg1 harg1 arg2 harg2 arg3 harg3 arg4 harg4 arg5 harg5 arg6 harg6 arg7 harg7 arg8 harg8 arg9 harg9 arg10 harg10 hc0 hc1 hc2 x0 x1 x2 x3 x4 xs0 xs1 xs2 = arg9.view.read (Elt Ideal) (arg9.view.writes (Elt Ideal) (harg9.unread xs2) (lE12 i arg1 (harg1.unread x0) arg2 (harg2.unread x1))) := rfl

theorem sout0_B_3_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : ¬cond0_0 i) (hc1 : ¬cond0_1 i) (hc2 : cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) (xs0 : Vec Ideal S2x10x2x128x2x128 .bf16) (xs1 : Vec Ideal S2x10x2x128x2x128 .bf16) (xs2 : Vec Ideal S2x10x2x128x2x128 .bf16) (xs3 : Vec Ideal S2x10x2x128x2x128 .bf16) :
    sout0_B_3 c i arg1 harg1 arg2 harg2 arg3 harg3 arg4 harg4 arg5 harg5 arg6 harg6 arg7 harg7 arg8 harg8 arg9 harg9 arg10 harg10 hc0 hc1 hc2 x0 x1 x2 x3 x4 xs0 xs1 xs2 xs3 = arg10.view.read (Elt Ideal) (arg10.view.writes (Elt Ideal) (harg10.unread xs3) (lO24 i arg1 (harg1.unread x0) arg2 (harg2.unread x1) (raw00 i arg1 (harg1.unread x0) arg2 (harg2.unread x1) arg9 (harg9.unread xs2)) (raw01 i arg1 (harg1.unread x0) arg2 (harg2.unread x1) arg9 (harg9.unread xs2)) (raw10 i arg1 (harg1.unread x0) arg2 (harg2.unread x1) arg9 (harg9.unread xs2)) (raw11 i arg1 (harg1.unread x0) arg2 (harg2.unread x1) arg9 (harg9.unread xs2)) (raw20 i arg1 (harg1.unread x0) arg2 (harg2.unread x1) arg9 (harg9.unread xs2)) (raw21 i arg1 (harg1.unread x0) arg2 (harg2.unread x1) arg9 (harg9.unread xs2)) (raw30 i arg1 (harg1.unread x0) arg2 (harg2.unread x1) arg9 (harg9.unread xs2)) (raw31 i arg1 (harg1.unread x0) arg2 (harg2.unread x1) arg9 (harg9.unread xs2)))) := rfl

theorem out0_B_5_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : ¬cond0_0 i) (hc1 : ¬cond0_1 i) (hc2 : cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) (xs0 : Vec Ideal S2x10x2x128x2x128 .bf16) (xs1 : Vec Ideal S2x10x2x128x2x128 .bf16) (xs2 : Vec Ideal S2x10x2x128x2x128 .bf16) :
    out0_B_5 c i arg1 harg1 arg2 harg2 arg3 harg3 arg4 harg4 arg5 harg5 arg6 harg6 arg7 harg7 arg8 harg8 arg9 harg9 arg10 harg10 hc0 hc1 hc2 x0 x1 x2 x3 x4 xs0 xs1 xs2 = VO0_5.read (Elt Ideal) (VO0_5.writes (Elt Ideal) VO0_5.junk
      (lP i arg1 (harg1.unread x0) arg2 (harg2.unread x1) (raw00 i arg1 (harg1.unread x0) arg2 (harg2.unread x1) arg9 (harg9.unread xs2)) (raw01 i arg1 (harg1.unread x0) arg2 (harg2.unread x1) arg9 (harg9.unread xs2)) (raw10 i arg1 (harg1.unread x0) arg2 (harg2.unread x1) arg9 (harg9.unread xs2)) (raw11 i arg1 (harg1.unread x0) arg2 (harg2.unread x1) arg9 (harg9.unread xs2)) (raw20 i arg1 (harg1.unread x0) arg2 (harg2.unread x1) arg9 (harg9.unread xs2)) (raw21 i arg1 (harg1.unread x0) arg2 (harg2.unread x1) arg9 (harg9.unread xs2)) (raw30 i arg1 (harg1.unread x0) arg2 (harg2.unread x1) arg9 (harg9.unread xs2)) (raw31 i arg1 (harg1.unread x0) arg2 (harg2.unread x1) arg9 (harg9.unread xs2)) arg7 (harg7.unread xs0) arg8 (harg8.unread xs1) arg3 (harg3.unread x2) arg4 (harg4.unread x3) arg5 (harg5.unread x4))) := by
  unfold out0_B_5 kernelRun0_B
  dsimp only
  refine congrArg (fun L => VO0_5.read (Elt Ideal) (VO0_5.writes (Elt Ideal) VO0_5.junk L)) ?_
  unfold lP
  refine congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) rfl)))
  · exact (cvG_B3 _ _ _ _ _ _ _ _ _ _ _ _ _ _).trans rfl
  · exact (cvG_B2 _ _ _ _ _ _ _ _ _ _ _ _ _).trans rfl
  · exact (cvG_B1 _ _ _ _ _ _ _ _ _ _ _ _ _).trans rfl
  · exact (cvG_B0 _ _ _ _ _ _ _ _ _ _ _ _ _).trans rfl

theorem sout0_C_0_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : ¬cond0_0 i) (hc1 : cond0_1 i) (hc2 : ¬cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) (xs0 : Vec Ideal S2x10x2x128x2x128 .bf16) (xs2 : Vec Ideal S2x10x2x128x2x128 .bf16) (xs3 : Vec Ideal S2x10x2x128x2x128 .bf16) :
    sout0_C_0 c i arg1 harg1 arg2 harg2 arg3 harg3 arg4 harg4 arg5 harg5 arg6 harg6 arg7 harg7 arg8 harg8 arg9 harg9 arg10 harg10 hc0 hc1 hc2 x0 x1 x2 x3 x4 xs0 xs2 xs3 = arg7.view.read (Elt Ideal) (arg7.view.writes (Elt Ideal) (harg7.unread xs0) (lE12 i arg1 (harg1.unread x0) arg2 (harg2.unread x1))) := rfl

theorem sout0_C_1_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : ¬cond0_0 i) (hc1 : cond0_1 i) (hc2 : ¬cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) (xs0 : Vec Ideal S2x10x2x128x2x128 .bf16) (xs2 : Vec Ideal S2x10x2x128x2x128 .bf16) (xs3 : Vec Ideal S2x10x2x128x2x128 .bf16) (xs1 : Vec Ideal S2x10x2x128x2x128 .bf16) :
    sout0_C_1 c i arg1 harg1 arg2 harg2 arg3 harg3 arg4 harg4 arg5 harg5 arg6 harg6 arg7 harg7 arg8 harg8 arg9 harg9 arg10 harg10 hc0 hc1 hc2 x0 x1 x2 x3 x4 xs0 xs2 xs3 xs1 = arg8.view.read (Elt Ideal) (arg8.view.writes (Elt Ideal) (harg8.unread xs1) (lO24 i arg1 (harg1.unread x0) arg2 (harg2.unread x1) (raw00 i arg1 (harg1.unread x0) arg2 (harg2.unread x1) arg7 (harg7.unread xs0)) (raw01 i arg1 (harg1.unread x0) arg2 (harg2.unread x1) arg7 (harg7.unread xs0)) (raw10 i arg1 (harg1.unread x0) arg2 (harg2.unread x1) arg7 (harg7.unread xs0)) (raw11 i arg1 (harg1.unread x0) arg2 (harg2.unread x1) arg7 (harg7.unread xs0)) (raw20 i arg1 (harg1.unread x0) arg2 (harg2.unread x1) arg7 (harg7.unread xs0)) (raw21 i arg1 (harg1.unread x0) arg2 (harg2.unread x1) arg7 (harg7.unread xs0)) (raw30 i arg1 (harg1.unread x0) arg2 (harg2.unread x1) arg7 (harg7.unread xs0)) (raw31 i arg1 (harg1.unread x0) arg2 (harg2.unread x1) arg7 (harg7.unread xs0)))) := rfl

theorem sout0_C_2_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : ¬cond0_0 i) (hc1 : cond0_1 i) (hc2 : ¬cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) (xs0 : Vec Ideal S2x10x2x128x2x128 .bf16) (xs2 : Vec Ideal S2x10x2x128x2x128 .bf16) (xs3 : Vec Ideal S2x10x2x128x2x128 .bf16) :
    sout0_C_2 c i arg1 harg1 arg2 harg2 arg3 harg3 arg4 harg4 arg5 harg5 arg6 harg6 arg7 harg7 arg8 harg8 arg9 harg9 arg10 harg10 hc0 hc1 hc2 x0 x1 x2 x3 x4 xs0 xs2 xs3 = arg9.view.read (Elt Ideal) (arg9.view.writes (Elt Ideal) (harg9.unread xs2) (lNE4 i arg1 (harg1.unread x0) arg2 (harg2.unread x1))) := rfl

theorem sout0_C_3_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : ¬cond0_0 i) (hc1 : cond0_1 i) (hc2 : ¬cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) (xs0 : Vec Ideal S2x10x2x128x2x128 .bf16) (xs2 : Vec Ideal S2x10x2x128x2x128 .bf16) (xs3 : Vec Ideal S2x10x2x128x2x128 .bf16) :
    sout0_C_3 c i arg1 harg1 arg2 harg2 arg3 harg3 arg4 harg4 arg5 harg5 arg6 harg6 arg7 harg7 arg8 harg8 arg9 harg9 arg10 harg10 hc0 hc1 hc2 x0 x1 x2 x3 x4 xs0 xs2 xs3 = arg10.view.read (Elt Ideal) (arg10.view.writes (Elt Ideal) (harg10.unread xs3) (lNO8 i arg1 (harg1.unread x0) arg2 (harg2.unread x1) (raw00 i arg1 (harg1.unread x0) arg2 (harg2.unread x1) arg7 (harg7.unread xs0)) (raw01 i arg1 (harg1.unread x0) arg2 (harg2.unread x1) arg7 (harg7.unread xs0)) (raw10 i arg1 (harg1.unread x0) arg2 (harg2.unread x1) arg7 (harg7.unread xs0)) (raw11 i arg1 (harg1.unread x0) arg2 (harg2.unread x1) arg7 (harg7.unread xs0)) (raw20 i arg1 (harg1.unread x0) arg2 (harg2.unread x1) arg7 (harg7.unread xs0)) (raw21 i arg1 (harg1.unread x0) arg2 (harg2.unread x1) arg7 (harg7.unread xs0)) (raw30 i arg1 (harg1.unread x0) arg2 (harg2.unread x1) arg7 (harg7.unread xs0)) (raw31 i arg1 (harg1.unread x0) arg2 (harg2.unread x1) arg7 (harg7.unread xs0)))) := rfl

theorem out0_C_5_eq (c : Dev nD) (i : grid0.Coords) (arg1 : Memref sig .tc .vmem S16x240x256 .fp8e4m3) (harg1 : arg1.IsWhole) (arg2 : Memref sig .tc .vmem S16x240x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S16x240x256 .bf16) (harg6 : arg6.IsWhole) (arg7 : Memref sig .tc .vmem S2x10x2x128x2x128 .bf16) (harg7 : arg7.IsWhole) (arg8 : Memref sig .tc .vmem S2x10x2x128x2x128 .bf16) (harg8 : arg8.IsWhole) (arg9 : Memref sig .tc .vmem S2x10x2x128x2x128 .bf16) (harg9 : arg9.IsWhole) (arg10 : Memref sig .tc .vmem S2x10x2x128x2x128 .bf16) (harg10 : arg10.IsWhole) (hc0 : ¬cond0_0 i) (hc1 : cond0_1 i) (hc2 : ¬cond0_2 i)
    (x0 : Vec Ideal S16x240x256 .fp8e4m3) (x1 : Vec Ideal S16x240x256 .f32) (x2 : Vec Ideal S2304x256 .fp8e4m3) (x3 : Vec Ideal S1x256 .f32) (x4 : Vec Ideal S1x256 .f32) (xs0 : Vec Ideal S2x10x2x128x2x128 .bf16) (xs2 : Vec Ideal S2x10x2x128x2x128 .bf16) (xs3 : Vec Ideal S2x10x2x128x2x128 .bf16) :
    out0_C_5 c i arg1 harg1 arg2 harg2 arg3 harg3 arg4 harg4 arg5 harg5 arg6 harg6 arg7 harg7 arg8 harg8 arg9 harg9 arg10 harg10 hc0 hc1 hc2 x0 x1 x2 x3 x4 xs0 xs2 xs3 = VO0_5.read (Elt Ideal) (VO0_5.writes (Elt Ideal) VO0_5.junk
      (lP i arg1 (harg1.unread x0) arg2 (harg2.unread x1) (raw00 i arg1 (harg1.unread x0) arg2 (harg2.unread x1) arg7 (harg7.unread xs0)) (raw01 i arg1 (harg1.unread x0) arg2 (harg2.unread x1) arg7 (harg7.unread xs0)) (raw10 i arg1 (harg1.unread x0) arg2 (harg2.unread x1) arg7 (harg7.unread xs0)) (raw11 i arg1 (harg1.unread x0) arg2 (harg2.unread x1) arg7 (harg7.unread xs0)) (raw20 i arg1 (harg1.unread x0) arg2 (harg2.unread x1) arg7 (harg7.unread xs0)) (raw21 i arg1 (harg1.unread x0) arg2 (harg2.unread x1) arg7 (harg7.unread xs0)) (raw30 i arg1 (harg1.unread x0) arg2 (harg2.unread x1) arg7 (harg7.unread xs0)) (raw31 i arg1 (harg1.unread x0) arg2 (harg2.unread x1) arg7 (harg7.unread xs0)) arg9 (harg9.unread xs2) arg10 (harg10.unread xs3) arg3 (harg3.unread x2) arg4 (harg4.unread x3) arg5 (harg5.unread x4))) := by
  unfold out0_C_5 kernelRun0_C
  dsimp only
  refine congrArg (fun L => VO0_5.read (Elt Ideal) (VO0_5.writes (Elt Ideal) VO0_5.junk L)) ?_
  unfold lP
  refine congrArg₂ List.cons (Sigma.ext rfl (heq_of_eq ?_)) (congrArg₂ List.cons (Sigma.ext rfl (heq_of_eq ?_)) (congrArg₂ List.cons (Sigma.ext rfl (heq_of_eq ?_)) (congrArg₂ List.cons (Sigma.ext rfl (heq_of_eq ?_)) rfl)))
  · exact (cvG_C3 _ _ _ _ _ _ _ _ _ _ _ _ _ _).trans rfl
  · exact (cvG_C2 _ _ _ _ _ _ _ _ _ _ _ _ _).trans rfl
  · exact (cvG_C1 _ _ _ _ _ _ _ _ _ _ _ _ _).trans rfl
  · exact (cvG_C0 _ _ _ _ _ _ _ _ _ _ _ _ _).trans rfl

end Cert.KernelIdeal.Val

end
-- ==== Proof.Grid.lean ====
/-
  What the planes hold after every point of the grid, and the block of results each point but the first leaves.
-/
module

public import proofs.«01_k».proof.Proof.Steps
public import proofs.«01_k».proof.Proof.RunEq

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat Cfg Window BodyObligation cellOf)

/-- The rows of point `n`'s planes: slot `s` of unit `u` holds row `16 n + 8 u + s - 1` of the batch, or zeros where that row
    lies in another image than the unit. -/
def G (X : ℕ → ℕ → ℕ → EReal) (n : ℕ) : Rows := fun u s a c =>
  if 1 ≤ 16 * n + 8 * u + s ∧ (16 * n + 8 * u + s - 1) / 136 = (16 * n + 8 * u) / 136 then X (16 * n + 8 * u + s - 1) a c else 0

/-- The row masks at point `n`. -/
structure Masks (i : grid0.Coords) (n : ℕ) : Prop where
  a0 : kA i 0#32 = 1#1 ↔ (2 * n) % 17 ≠ 0
  a1 : kA i 1#32 = 1#1 ↔ (2 * n + 1) % 17 ≠ 0
  b0 : kB i 0#32 = 1#1 ↔ (2 * n) % 17 ≠ 16
  b1 : kB i 1#32 = 1#1 ↔ (2 * n + 1) % 17 ≠ 16

theorem masks_all : ∀ t : Fin cfg0.N, (kA (grid0.coords t) 0#32 = 1#1 ↔ (2 * t.val) % 17 ≠ 0) ∧ (kA (grid0.coords t) 1#32 = 1#1 ↔ (2 * t.val + 1) % 17 ≠ 0) ∧
    (kB (grid0.coords t) 0#32 = 1#1 ↔ (2 * t.val) % 17 ≠ 16) ∧ (kB (grid0.coords t) 1#32 = 1#1 ↔ (2 * t.val + 1) % 17 ≠ 16) :=
  (by decide +kernel : ∀ t : Fin grid0.N, _)
theorem masks (t : Fin cfg0.N) : Masks (grid0.coords t) t.val := ⟨(masks_all t).1, (masks_all t).2.1, (masks_all t).2.2.1, (masks_all t).2.2.2⟩

theorem MK_of {v : BitVec 1} {W : ℕ → ℕ → EReal} {a c : ℕ} {P : Prop} [Decidable P] {Q : EReal} (h : v = 1#1 ↔ P) (hQ : P → W a c = Q) :
    (if P then Q else 0) = MK v W a c := by
  unfold MK
  by_cases hp : P
  · rw [if_pos hp, if_pos (h.2 hp), hQ hp]
  · rw [if_neg hp, if_neg (fun hv => hp (h.1 hv))]

theorem div_up (v : ℕ) : (v + 1) % 17 ≠ 0 ↔ 8 * (v + 1) / 136 = 8 * v / 136 := by omega
theorem div_dn (v : ℕ) : v % 17 ≠ 16 ↔ (8 * v + 7) / 136 = 8 * (v + 1) / 136 := by omega

section
variable {X : ℕ → ℕ → ℕ → EReal}

theorem G_cur {i : grid0.Coords} {n : ℕ} (hm : Masks i n) : CurRows i (fun r a c => X (16 * n + r) a c) (G X n) where
  main u s a c hu h1 h8 := by
    unfold G
    rw [if_pos (by omega), show 16 * n + 8 * u + s - 1 = 16 * n + (8 * u + s - 1) by omega]
  below a c := by
    unfold G
    refine MK_of (W := fun a c => X (16 * n + 8) a c) (hm.a1.trans ((div_up (2 * n)).trans (by rw [show 16 * n + 8 * 0 + 9 - 1 = 8 * (2 * n + 1) by omega, show 16 * n + 8 * 0 = 8 * (2 * n) by omega]; exact ⟨fun h => ⟨by omega, h⟩, fun h => h.2⟩))) fun _ => ?_
    rw [show 16 * n + 8 * 0 + 9 - 1 = 16 * n + 8 by omega]
  above a c := by
    unfold G
    refine MK_of (W := fun a c => X (16 * n + 7) a c) (hm.b0.trans ((div_dn (2 * n)).trans (by rw [show 16 * n + 8 * 1 + 0 - 1 = 8 * (2 * n) + 7 by omega, show 16 * n + 8 * 1 = 8 * (2 * n + 1) by omega]; exact ⟨fun h => ⟨by omega, h⟩, fun h => h.2⟩))) fun _ => ?_
    rw [show 16 * n + 8 * 1 + 0 - 1 = 16 * n + 7 by omega]

theorem G_othB {i : grid0.Coords} {n : ℕ} (hm : Masks i n) : OthB i (fun r a c => X (16 * n + r) a c) (G X (n + 1)) := fun a c => by
  unfold G
  refine MK_of (W := fun a c => X (16 * n + 15) a c) (hm.b1.trans ((div_dn (2 * n + 1)).trans (by rw [show 16 * (n + 1) + 8 * 0 + 0 - 1 = 8 * (2 * n + 1) + 7 by omega, show 16 * (n + 1) + 8 * 0 = 8 * (2 * n + 1 + 1) by omega]; exact ⟨fun h => ⟨by omega, h⟩, fun h => h.2⟩))) fun _ => ?_
  rw [show 16 * (n + 1) + 8 * 0 + 0 - 1 = 16 * n + 15 by omega]

theorem G_othA {i : grid0.Coords} {n : ℕ} (hm : Masks i (n + 1)) (h50 : n ≤ 50) : OthA i (fun r a c => X (16 * min (n + 1) 50 + r) a c) (G X n) := fun a c => by
  unfold G
  by_cases hn : n + 1 ≤ 50
  · rw [min_eq_left hn]
    refine MK_of (W := fun a c => X (16 * (n + 1) + 0) a c) (hm.a0.trans ((div_up (2 * n + 1)).trans (by rw [show 16 * n + 8 * 1 + 9 - 1 = 8 * (2 * n + 1 + 1) by omega, show 16 * n + 8 * 1 = 8 * (2 * n + 1) by omega]; exact ⟨fun h => ⟨by omega, h⟩, fun h => h.2⟩))) fun _ => ?_
    rw [show 16 * n + 8 * 1 + 9 - 1 = 16 * (n + 1) + 0 by omega]
  · have h51 : n = 50 := by omega
    subst h51
    unfold MK
    rw [if_neg (by omega), if_neg (fun hv => absurd (hm.a0.1 hv) (by omega))]
end

/-- The four planes after a point: the set it filled, for rows `V`, and the other set, for the next point's rows `V'`. -/
structure PInv (V V' : Rows) (E O NE NO : Plane) : Prop where
  e : CurE V E
  o : CurO V O
  ne : NxtE V' NE
  no : NxtO V' NO

section
variable {X : ℕ → ℕ → ℕ → EReal} {i : grid0.Coords} {M1 : Memref sig .tc .vmem S16x240x256 .fp8e4m3} {f1 : M1.view.ty.Contents (Elt Ideal)}
  {M2 : Memref sig .tc .vmem S16x240x256 .f32} {f2 : M2.view.ty.Contents (Elt Ideal)}

/-- A point's stores over what the planes held before it. -/
theorem step_pre {n : ℕ} (hm : Masks i n)
    (hL : ∀ j : S16x240x256.Idx, ((M1.view.read (Elt Ideal) f1 j : EReal) * (M2.view.read (Elt Ideal) f2 j : EReal)) = X (16 * n + j 0) (j 1) (j 2))
    (E : Memref sig .tc .vmem S2x10x2x128x2x128 .bf16) (fE : E.view.ty.Contents (Elt Ideal))
    (vE vO vNE vNO : View sig .tc .vmem S2x10x2x128x2x128 .bf16) (gE : vE.ty.Contents (Elt Ideal)) (gO : vO.ty.Contents (Elt Ideal))
    (gNE : vNE.ty.Contents (Elt Ideal)) (gNO : vNO.ty.Contents (Elt Ideal))
    (hz : ∀ y : PIdx, (y 3 : ℕ) = 120 → E.view.read (Elt Ideal) fE y = (0 : EReal))
    (hbE : NxtE (G X n) (vE.read (Elt Ideal) gE)) (hbO : NxtO (G X n) (vO.read (Elt Ideal) gO))
    (hbNE : ∀ y : PIdx, (y 3 : ℕ) = 120 → vNE.read (Elt Ideal) gNE y = (0 : EReal)) :
    PInv (G X n) (G X (n + 1)) (vE.read (Elt Ideal) (vE.writes (Elt Ideal) gE (lE12 i M1 f1 M2 f2)))
      (vO.read (Elt Ideal) (vO.writes (Elt Ideal) gO (lO24 i M1 f1 M2 f2 (raw00 i M1 f1 M2 f2 E fE) (raw01 i M1 f1 M2 f2 E fE) (raw10 i M1 f1 M2 f2 E fE) (raw11 i M1 f1 M2 f2 E fE) (raw20 i M1 f1 M2 f2 E fE) (raw21 i M1 f1 M2 f2 E fE) (raw30 i M1 f1 M2 f2 E fE) (raw31 i M1 f1 M2 f2 E fE))))
      (vNE.read (Elt Ideal) (vNE.writes (Elt Ideal) gNE (lNE4 i M1 f1 M2 f2)))
      (vNO.read (Elt Ideal) (vNO.writes (Elt Ideal) gNO (lNO8 i M1 f1 M2 f2 (raw00 i M1 f1 M2 f2 E fE) (raw01 i M1 f1 M2 f2 E fE) (raw10 i M1 f1 M2 f2 E fE) (raw11 i M1 f1 M2 f2 E fE) (raw20 i M1 f1 M2 f2 E fE) (raw21 i M1 f1 M2 f2 E fE) (raw30 i M1 f1 M2 f2 E fE) (raw31 i M1 f1 M2 f2 E fE)))) where
  e := step_E (L := fun r a c => X (16 * n + r) a c) hL (G_cur hm) vE gE hbE
  o := step_O (L := fun r a c => X (16 * n + r) a c) hL (G_cur hm) (raw00_ok hL E fE hz) (raw01_ok hL E fE hz) (raw10_ok hL E fE hz) (raw11_ok hL E fE hz) (raw20_ok hL E fE hz) (raw21_ok hL E fE hz) (raw30_ok hL E fE hz) (raw31_ok hL E fE hz) vO gO hbO
  ne := step_NE (L := fun r a c => X (16 * n + r) a c) hL (G_othB hm) vNE gNE hbNE
  no := step_NO (L := fun r a c => X (16 * n + r) a c) hL (G_othB hm) (raw00_ok hL E fE hz) (raw01_ok hL E fE hz) (raw10_ok hL E fE hz) (raw11_ok hL E fE hz) (raw20_ok hL E fE hz) (raw21_ok hL E fE hz) (raw30_ok hL E fE hz) (raw31_ok hL E fE hz) vNO gNO

theorem z_of_nxt {V : Rows} {e : Plane} (h : NxtE V e) (y : PIdx) (h3 : (y 3 : ℕ) = 120) : e y = (0 : EReal) :=
  (h y (le_of_eq h3) (Or.inl h3)).trans (TE_120 V y h3)
theorem z_of_cur {V : Rows} {e : Plane} (h : CurE V e) (y : PIdx) (h3 : (y 3 : ℕ) = 120) : e y = (0 : EReal) :=
  (h y (le_of_eq h3) (Or.inl h3)).trans (TE_120 V y h3)

theorem step_gen {n : ℕ} (hm : Masks i (n + 1))
    (hL : ∀ j : S16x240x256.Idx, ((M1.view.read (Elt Ideal) f1 j : EReal) * (M2.view.read (Elt Ideal) f2 j : EReal)) = X (16 * (n + 1) + j 0) (j 1) (j 2))
    (E : Memref sig .tc .vmem S2x10x2x128x2x128 .bf16) (hE : E.IsWhole) (O : Memref sig .tc .vmem S2x10x2x128x2x128 .bf16) (hO : O.IsWhole)
    (NE : Memref sig .tc .vmem S2x10x2x128x2x128 .bf16) (hNE : NE.IsWhole) (NO : Memref sig .tc .vmem S2x10x2x128x2x128 .bf16) (hNO : NO.IsWhole)
    (xE xO xNE xNO : Plane) (hp : PInv (G X n) (G X (n + 1)) xNE xNO xE xO) :
    PInv (G X (n + 1)) (G X (n + 2)) (E.view.read (Elt Ideal) (E.view.writes (Elt Ideal) (hE.unread xE) (lE12 i M1 f1 M2 f2)))
      (O.view.read (Elt Ideal) (O.view.writes (Elt Ideal) (hO.unread xO) (lO24 i M1 f1 M2 f2 (raw00 i M1 f1 M2 f2 E (hE.unread xE)) (raw01 i M1 f1 M2 f2 E (hE.unread xE)) (raw10 i M1 f1 M2 f2 E (hE.unread xE)) (raw11 i M1 f1 M2 f2 E (hE.unread xE)) (raw20 i M1 f1 M2 f2 E (hE.unread xE)) (raw21 i M1 f1 M2 f2 E (hE.unread xE)) (raw30 i M1 f1 M2 f2 E (hE.unread xE)) (raw31 i M1 f1 M2 f2 E (hE.unread xE)))))
      (NE.view.read (Elt Ideal) (NE.view.writes (Elt Ideal) (hNE.unread xNE) (lNE4 i M1 f1 M2 f2)))
      (NO.view.read (Elt Ideal) (NO.view.writes (Elt Ideal) (hNO.unread xNO) (lNO8 i M1 f1 M2 f2 (raw00 i M1 f1 M2 f2 E (hE.unread xE)) (raw01 i M1 f1 M2 f2 E (hE.unread xE)) (raw10 i M1 f1 M2 f2 E (hE.unread xE)) (raw11 i M1 f1 M2 f2 E (hE.unread xE)) (raw20 i M1 f1 M2 f2 E (hE.unread xE)) (raw21 i M1 f1 M2 f2 E (hE.unread xE)) (raw30 i M1 f1 M2 f2 E (hE.unread xE)) (raw31 i M1 f1 M2 f2 E (hE.unread xE))))) := by
  refine step_pre hm hL E (hE.unread xE) E.view O.view NE.view NO.view _ _ _ _ ?_ ?_ ?_ ?_
  · rw [hE.read_unread]; exact z_of_nxt hp.ne
  · rw [hE.read_unread]; exact hp.ne
  · rw [hO.read_unread]; exact hp.no
  · rw [hNE.read_unread]; exact z_of_cur hp.e

/-- The block of results a point leaves: the convolution of the rows the point before filled. -/
theorem out_gen {n : ℕ} (h50 : n ≤ 50) (hm : Masks i (n + 1))
    (hL : ∀ j : S16x240x256.Idx, ((M1.view.read (Elt Ideal) f1 j : EReal) * (M2.view.read (Elt Ideal) f2 j : EReal)) = X (16 * min (n + 1) 50 + j 0) (j 1) (j 2))
    (E : Memref sig .tc .vmem S2x10x2x128x2x128 .bf16) (hE : E.IsWhole)
    (NE : Memref sig .tc .vmem S2x10x2x128x2x128 .bf16) (hNE : NE.IsWhole) (NO : Memref sig .tc .vmem S2x10x2x128x2x128 .bf16) (hNO : NO.IsWhole)
    (xE xO xNE xNO : Plane) (hp : PInv (G X n) (G X (n + 1)) xNE xNO xE xO)
    {M3 : Memref sig .tc .vmem S2304x256 .fp8e4m3} {f3 : M3.view.ty.Contents (Elt Ideal)}
    {M4 : Memref sig .tc .vmem S1x256 .f32} {f4 : M4.view.ty.Contents (Elt Ideal)}
    {M5 : Memref sig .tc .vmem S1x256 .f32} {f5 : M5.view.ty.Contents (Elt Ideal)}
    {w : ℕ → ℕ → EReal} {s b : ℕ → EReal}
    (hw : ∀ (k : Fin 2304) (d : Fin 256), (M3.view.read (Elt Ideal) f3 (ix2 k d) : EReal) = w k d)
    (hs : ∀ d : Fin 256, (M4.view.read (Elt Ideal) f4 (ix2 0 d) : EReal) = s d)
    (hb : ∀ d : Fin 256, (M5.view.read (Elt Ideal) f5 (ix2 0 d) : EReal) = b d)
    (v : View sig .tc .vmem S16x240x256 .bf16) (f : v.ty.Contents (Elt Ideal)) (y : S16x240x256.Idx) :
    v.read (Elt Ideal) (v.writes (Elt Ideal) f (lP i M1 f1 M2 f2 (raw00 i M1 f1 M2 f2 E (hE.unread xE)) (raw01 i M1 f1 M2 f2 E (hE.unread xE)) (raw10 i M1 f1 M2 f2 E (hE.unread xE)) (raw11 i M1 f1 M2 f2 E (hE.unread xE)) (raw20 i M1 f1 M2 f2 E (hE.unread xE)) (raw21 i M1 f1 M2 f2 E (hE.unread xE)) (raw30 i M1 f1 M2 f2 E (hE.unread xE)) (raw31 i M1 f1 M2 f2 E (hE.unread xE)) NE (hNE.unread xNE) NO (hNO.unread xNO) M3 f3 M4 f4 M5 f5)) y
      = convAt (G X n) w s b (y 0) (y 1) (y 2) := by
  have hz : ∀ y : PIdx, (y 3 : ℕ) = 120 → E.view.read (Elt Ideal) (hE.unread xE) y = (0 : EReal) := by
    rw [hE.read_unread]; exact z_of_nxt hp.ne
  have hcE : CurE (G X n) (NE.view.read (Elt Ideal) (hNE.unread xNE)) := by rw [hNE.read_unread]; exact hp.e
  have hcO : CurO (G X n) (NO.view.read (Elt Ideal) (hNO.unread xNO)) := by rw [hNO.read_unread]; exact hp.o
  exact lP_ok hw hs hb NE (hNE.unread xNE) NO (hNO.unread xNO) hcE hcO
    (full_E (L := fun r a c => X (16 * min (n + 1) 50 + r) a c) hL (G_othA hm h50) NE.view _ hcE)
    (full_O (L := fun r a c => X (16 * min (n + 1) 50 + r) a c) hL (G_othA hm h50) (raw00_ok hL E (hE.unread xE) hz) (raw01_ok hL E (hE.unread xE) hz) (raw10_ok hL E (hE.unread xE) hz) (raw11_ok hL E (hE.unread xE) hz) (raw20_ok hL E (hE.unread xE) hz) (raw21_ok hL E (hE.unread xE) hz) (raw30_ok hL E (hE.unread xE) hz) (raw31_ok hL E (hE.unread xE) hz) NO.view _ hcO) v f y
end

/-- The planes after point `n`, by the point's parity. -/
def At (X : ℕ → ℕ → ℕ → EReal) (n : ℕ) (o : Vec Ideal S16x240x256 .bf16 × Plane × Plane × Plane × Plane) : Prop :=
  (n % 2 = 0 → PInv (G X n) (G X (n + 1)) o.2.1 o.2.2.1 o.2.2.2.1 o.2.2.2.2) ∧
    (n % 2 = 1 → PInv (G X n) (G X (n + 1)) o.2.2.2.1 o.2.2.2.2 o.2.1 o.2.2.1)

section
variable (m : (ℓ : Loc nD τ sig) → Buf (Elt Ideal) ℓ) (c : Dev nD) {X : ℕ → ℕ → ℕ → EReal} {w : ℕ → ℕ → EReal} {s b : ℕ → EReal}
  (hX : ∀ (t : Fin cfg0.N) (j : S16x240x256.Idx), @HMul.hMul EReal EReal EReal _ ((iblk m c 0 t : Vec Ideal S16x240x256 .fp8e4m3) j) ((iblk m c 1 t : Vec Ideal S16x240x256 .f32) j) = X (16 * min t.val 50 + j 0) (j 1) (j 2))
  (hw : ∀ (t : Fin cfg0.N) (k : Fin 2304) (d : Fin 256), ((iblk m c 2 t : Vec Ideal S2304x256 .fp8e4m3) (ix2 k d) : EReal) = w k d)
  (hs : ∀ (t : Fin cfg0.N) (d : Fin 256), ((iblk m c 3 t : Vec Ideal S1x256 .f32) (ix2 0 d) : EReal) = s d)
  (hb : ∀ (t : Fin cfg0.N) (d : Fin 256), ((iblk m c 4 t : Vec Ideal S1x256 .f32) (ix2 0 d) : EReal) = b d)

include hX in
theorem hX0 (t : Fin cfg0.N) (j : S16x240x256.Idx) : (((ms0_0 t).view.read (Elt Ideal) ((hs0_0 t).unread (iblk m c 0 t)) j : EReal) *
    ((ms0_1 t).view.read (Elt Ideal) ((hs0_1 t).unread (iblk m c 1 t)) j : EReal)) = X (16 * min t.val 50 + j 0) (j 1) (j 2) := by
  rw [(hs0_0 t).read_unread, (hs0_1 t).read_unread]
  exact hX t j

include hX in
theorem at_zero (h : 0 < cfg0.N) : At X 0 (outsAt0 m c 0 h) := by
  have e := outsAt0_A m c ⟨0, h⟩ rfl rfl (by show ¬ 0 % 2 = 1; omega)
  rw [show outsAt0 m c 0 h = _ from e]
  refine ⟨fun _ => ?_, fun h1 => absurd h1 (by decide)⟩
  dsimp only
  rw [sout0_A_0_eq, sout0_A_1_eq, sout0_A_2_eq, sout0_A_3_eq]
  simp only [View.writes_append, rawA00_eq, rawA01_eq, rawA10_eq, rawA11_eq, rawA20_eq, rawA21_eq, rawA30_eq, rawA31_eq]
  have hG : ∀ y : PIdx, ((y 0 : ℕ) = 0 ∧ (y 1 : ℕ) = 0) → ∀ a c, G X 0 (y 0) (y 1) a c = 0 := fun y hy a c => by
    unfold G; rw [hy.1, hy.2, if_neg (by omega)]
  refine step_pre (X := X) (n := 0) (masks ⟨0, h⟩) (hX0 m c hX ⟨0, h⟩) scM0_0 _ VS0_0 VS0_1 VS0_2 VS0_3 _ _ _ _ ?_ ?_ ?_ ?_
  · exact fun y _ => zero_base _ y
  · intro y h3 hy
    refine (zero_base _ y).trans ?_
    rcases hy with hy | hy
    · rw [TE_120 _ y hy]
    · unfold TE EF; simp only [hG y hy, ite_self]
  · intro y h3 hy
    refine (zero_base _ y).trans ?_
    unfold TO OF; simp only [hG y hy, ite_self]
  · exact fun y _ => zero_base _ y

include hX in
theorem at_succ (n : ℕ) (hn : n + 1 ≤ 50) (h : n + 1 < cfg0.N) (ih : At X n (outsAt0 m c n (Nat.lt_of_succ_lt h))) :
    At X (n + 1) (outsAt0 m c (n + 1) h) := by
  have hL := hX0 m c hX ⟨n + 1, h⟩
  dsimp only at hL
  rw [min_eq_left hn] at hL
  rcases Nat.mod_two_eq_zero_or_one (n + 1) with hp | hp
  · have e := outsAt0_C m c ⟨n + 1, h⟩ (by show ¬ (n + 1) % 52 = 0; omega) hp (by show ¬ (n + 1) % 2 = 1; omega)
    rw [show outsAt0 m c (n + 1) h = _ from e]
    refine ⟨fun _ => ?_, fun h1 => by omega⟩
    dsimp only
    rw [sout0_C_0_eq, sout0_C_1_eq, sout0_C_2_eq, sout0_C_3_eq]
    exact step_gen (X := X) (masks ⟨n + 1, h⟩) hL scM0_0 _ scM0_1 _ scM0_2 _ scM0_3 _ _ _ _ _ (ih.2 (by omega))
  · have e := outsAt0_B m c ⟨n + 1, h⟩ (by show ¬ (n + 1) % 52 = 0; omega) (by show ¬ (n + 1) % 2 = 0; omega) hp
    rw [show outsAt0 m c (n + 1) h = _ from e]
    refine ⟨fun h1 => by omega, fun _ => ?_⟩
    dsimp only
    rw [sout0_B_0_eq, sout0_B_1_eq, sout0_B_2_eq, sout0_B_3_eq]
    exact step_gen (X := X) (masks ⟨n + 1, h⟩) hL scM0_2 _ scM0_3 _ scM0_0 _ scM0_1 _ _ _ _ _ (ih.1 (by omega))

include hX in
theorem at_all (n : ℕ) (hn : n ≤ 50) (h : n < cfg0.N) : At X n (outsAt0 m c n h) := by
  induction n with
  | zero => exact at_zero m c hX h
  | succ n ih => exact at_succ m c hX n hn h (ih (by omega) (Nat.lt_of_succ_lt h))

include hX hw hs hb in
/-- The block of results point `n + 1` leaves. -/
theorem out_at (n : ℕ) (hn : n ≤ 50) (h : n + 1 < cfg0.N) (y : S16x240x256.Idx) :
    (outsAt0 m c (n + 1) h).1 y = convAt (G X n) w s b (y 0) (y 1) (y 2) := by
  have ih := at_all m c hX n hn (Nat.lt_of_succ_lt h)
  have hL := hX0 m c hX ⟨n + 1, h⟩
  dsimp only at hL
  have hw' : ∀ (k : Fin 2304) (d : Fin 256), ((ms0_2 ⟨n + 1, h⟩).view.read (Elt Ideal) ((hs0_2 ⟨n + 1, h⟩).unread (iblk m c 2 ⟨n + 1, h⟩)) (ix2 k d) : EReal) = w k d := by
    rw [(hs0_2 ⟨n + 1, h⟩).read_unread]; exact hw _
  have hs' : ∀ (d : Fin 256), ((ms0_3 ⟨n + 1, h⟩).view.read (Elt Ideal) ((hs0_3 ⟨n + 1, h⟩).unread (iblk m c 3 ⟨n + 1, h⟩)) (ix2 0 d) : EReal) = s d := by
    rw [(hs0_3 ⟨n + 1, h⟩).read_unread]; exact hs _
  have hb' : ∀ (d : Fin 256), ((ms0_4 ⟨n + 1, h⟩).view.read (Elt Ideal) ((hs0_4 ⟨n + 1, h⟩).unread (iblk m c 4 ⟨n + 1, h⟩)) (ix2 0 d) : EReal) = b d := by
    rw [(hs0_4 ⟨n + 1, h⟩).read_unread]; exact hb _
  rcases Nat.mod_two_eq_zero_or_one (n + 1) with hp | hp
  · have e := outsAt0_C m c ⟨n + 1, h⟩ (by show ¬ (n + 1) % 52 = 0; omega) hp (by show ¬ (n + 1) % 2 = 1; omega)
    rw [show outsAt0 m c (n + 1) h = _ from e]
    dsimp only
    rw [out0_C_5_eq]
    exact out_gen (X := X) hn (masks ⟨n + 1, h⟩) hL scM0_0 _ scM0_2 _ scM0_3 _ _ _ _ _ (ih.2 (by omega)) hw' hs' hb' _ _ y
  · have e := outsAt0_B m c ⟨n + 1, h⟩ (by show ¬ (n + 1) % 52 = 0; omega) (by show ¬ (n + 1) % 2 = 0; omega) hp
    rw [show outsAt0 m c (n + 1) h = _ from e]
    dsimp only
    rw [out0_B_5_eq]
    exact out_gen (X := X) hn (masks ⟨n + 1, h⟩) hL scM0_2 _ scM0_0 _ scM0_1 _ _ _ _ _ (ih.1 (by omega)) hw' hs' hb' _ _ y
end

end Cert.KernelIdeal.Val
-- ==== Proof.Value.lean ====
/-
  The kernel's result array: every row is the convolution of the padded pixels, code times scale.
-/
module

public import proofs.«01_k».proof.Proof.Grid
public import Idealize.ShloMosaic.Lib.Pipeline.ValueKit

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat Cfg Window BodyObligation cellOf)

variable (m : (ℓ : Loc nD τ sig) → Buf (Elt Ideal) ℓ)

theorem idx : ∀ t : Fin cfg0.N, win0_0.index t = ![min t.val 50, 0, 0] ∧ win0_1.index t = ![min t.val 50, 0, 0] ∧ win0_2.index t = ![0, 0] ∧
    win0_3.index t = ![0, 0] ∧ win0_4.index t = ![0, 0] ∧ win0_5.index t = ![t.val - 1, 0, 0] :=
  (by decide +kernel : ∀ t : Fin grid0.N, _)

/-- Code times scale at batch row `N`, pixel `a`, channel `c`. -/
def pix (q : Vec Ideal S816x240x256 .fp8e4m3) (s : Vec Ideal S816x240x256 .f32) (N a c : ℕ) : EReal :=
  if h : N < 816 ∧ a < 240 ∧ c < 256 then @HMul.hMul EReal EReal EReal _ (q (ix3 ⟨N, h.1⟩ ⟨a, h.2.1⟩ ⟨c, h.2.2⟩)) (s (ix3 ⟨N, h.1⟩ ⟨a, h.2.1⟩ ⟨c, h.2.2⟩)) else 0
def wt (w : Vec Ideal S2304x256 .fp8e4m3) (k d : ℕ) : EReal := if h : k < 2304 ∧ d < 256 then w (ix2 ⟨k, h.1⟩ ⟨d, h.2⟩) else 0
def vec (s : Vec Ideal S1x256 .f32) (d : ℕ) : EReal := if h : d < 256 then s (ix2 0 ⟨d, h⟩) else 0

theorem hX (c : Dev nD) (t : Fin cfg0.N) (j : S16x240x256.Idx) :
    @HMul.hMul EReal EReal EReal _ ((iblk m c 0 t : Vec Ideal S16x240x256 .fp8e4m3) j) ((iblk m c 1 t : Vec Ideal S16x240x256 .f32) j)
      = pix (V m c main_v0) (V m c main_v3) (16 * min t.val 50 + j 0) (j 1) (j 2) := by
  have h0 : (j 0 : ℕ) < 16 := (j 0).isLt
  have h1 : (j 1 : ℕ) < 240 := (j 1).isLt
  have h2 : (j 2 : ℕ) < 256 := (j 2).isLt
  unfold pix
  rw [dif_pos ⟨by omega, h1, h2⟩]
  refine congrArg₂ (@HMul.hMul EReal EReal EReal _) ?_ ?_
  · blk_ext [iblk, idx t]
  · blk_ext [iblk, idx t]

theorem hw (c : Dev nD) (t : Fin cfg0.N) (k : Fin 2304) (d : Fin 256) :
    (iblk m c 2 t : Vec Ideal S2304x256 .fp8e4m3) (ix2 k d) = wt (V m c main_v4) k d := by
  unfold wt
  rw [dif_pos ⟨k.isLt, d.isLt⟩]
  blk_ext [iblk, idx t]
theorem hs (c : Dev nD) (t : Fin cfg0.N) (d : Fin 256) :
    (iblk m c 3 t : Vec Ideal S1x256 .f32) (ix2 0 d) = vec (V m c main_v5) d := by
  unfold vec
  rw [dif_pos d.isLt]
  blk_ext [iblk, idx t]
theorem hb (c : Dev nD) (t : Fin cfg0.N) (d : Fin 256) :
    (iblk m c 4 t : Vec Ideal S1x256 .f32) (ix2 0 d) = vec (V m c main_v6) d := by
  unfold vec
  rw [dif_pos d.isLt]
  blk_ext [iblk, idx t]

/-- The convolution of the whole batch. -/
def outF (q : Vec Ideal S816x240x256 .fp8e4m3) (sc : Vec Ideal S816x240x256 .f32) (w : Vec Ideal S2304x256 .fp8e4m3) (s b : Vec Ideal S1x256 .f32) :
    Vec Ideal S816x240x256 .bf16 :=
  fun i => convAt (G (pix q sc) ((i 0 : ℕ) / 16)) (wt w) (vec s) (vec b) ((i 0 : ℕ) % 16) (i 1) (i 2)

theorem flush_pos : ∀ t : Fin cfg0.N, (cfg0.win 5).flush t = true → 1 ≤ t.val :=
  (by decide +kernel : ∀ t : Fin grid0.N, _)

theorem final (c : Dev nD) : (dats m 0 c).arrAt 5 (cfgs 0).N
    = outF (V m c main_v0) (V m c main_v3) (V m c main_v4) (V m c main_v5) (V m c main_v6) := by
  refine (dats m 0 c).arrAt_eq_of_covers 5 _ (by decide +kernel) fun t hf y => ?_
  have h1 := flush_pos t hf
  blk_simp
  rw [after0_5]
  obtain ⟨n', ht⟩ := t
  cases n' with
  | zero => exact absurd h1 (Nat.not_succ_le_zero 0)
  | succ n =>
    have hn : n + 1 < 52 := lt_of_lt_of_eq ht N_0
    have hy : (y 0 : ℕ) < 16 := (y 0).isLt
    refine (out_at m c (hX m c) (hw m c) (hs m c) (hb m c) n (by omega) ht y).trans ?_
    unfold outF
    have e0 : ((win0_5.blk ⟨n + 1, ht⟩).view.emb y 0 : ℕ) = 16 * n + y 0 := by
      have hg : (⟨n + 1, ht⟩ : Fin cfg0.N).val - 1 = n := rfl
      blk_simp [idx ⟨n + 1, ht⟩]; omega
    have e1 : ((win0_5.blk ⟨n + 1, ht⟩).view.emb y 1 : ℕ) = y 1 := by
      blk_simp [idx ⟨n + 1, ht⟩]
    have e2 : ((win0_5.blk ⟨n + 1, ht⟩).view.emb y 2 : ℕ) = y 2 := by
      blk_simp [idx ⟨n + 1, ht⟩]
    rw [e0, e1, e2, show (16 * n + (y 0 : ℕ)) / 16 = n by omega, show (16 * n + (y 0 : ℕ)) % 16 = y 0 by omega]

end Cert.KernelIdeal.Val
-- ==== Proof.RefVal.lean ====
/-
  The reference's result, one element at a time: nine taps of the padded pixels, added up in order.
-/
module

public import proofs.«01_k».proof.Proof.Gen.ReferenceIdeal.Frame
public import Idealize.ShloMosaic.Lib.Pipeline.ValueKit

@[expose] public section

set_option maxRecDepth 16384

noncomputable section

namespace Cert.ReferenceIdeal.Val

open Idealize.ShloMosaic Idealize.ShloMosaic.TcCoe Idealize.SL.Sem Cert.ReferenceIdeal Cert.ReferenceIdeal.Gen
open Idealize.ShloMosaic.Pipeline (Dat Cfg Window BodyObligation cellOf)

/-- The padded pixels. -/
def RP (x0 : Vec Ideal S6x136x240x256 .fp8e4m3) (x1 : Vec Ideal S6x136x240x256 .f32) (b y x c : ℕ) : EReal :=
  if h : b < 6 ∧ (1 ≤ y ∧ y - 1 < 136) ∧ (1 ≤ x ∧ x - 1 < 240) ∧ c < 256 then
    @HMul.hMul EReal EReal EReal _ (x0 (ix4 ⟨b, h.1⟩ ⟨y - 1, h.2.1.2⟩ ⟨x - 1, h.2.2.1.2⟩ ⟨c, h.2.2.2⟩)) (x1 (ix4 ⟨b, h.1⟩ ⟨y - 1, h.2.1.2⟩ ⟨x - 1, h.2.2.1.2⟩ ⟨c, h.2.2.2⟩)) else 0

theorem pay2_val (x0 : Vec Ideal S6x136x240x256 .fp8e4m3) (x1 : Vec Ideal S6x136x240x256 .f32) (b : Fin 6) (y : Fin 138) (x : Fin 242) (c : Fin 256) :
    k0_pay2 x0 x1 (ix4 b y x c) = RP x0 x1 b y x c := by
  pointwise [k0_pay2]
  have hb := b.isLt
  have hy := y.isLt
  have hx := x.isLt
  have hc := c.isLt
  have z : (((0#32 : BitVec 32).toInt : ℝ) : EReal) = 0 := by simp
  unfold RP
  by_cases h : (b : ℕ) < 6 ∧ (1 ≤ (y : ℕ) ∧ (y : ℕ) - 1 < 136) ∧ (1 ≤ (x : ℕ) ∧ (x : ℕ) - 1 < 240) ∧ (c : ℕ) < 256
  · rw [dif_pos h, dif_pos (by omega), dif_neg (by omega), dif_pos (by omega), dif_neg (by omega)]
  · rw [dif_neg h]
    by_cases h1 : (x : ℕ) < 241
    · rw [dif_pos h1]
      by_cases h2 : (x : ℕ) < 1
      · rw [dif_pos h2]; exact z
      · rw [dif_neg h2]
        by_cases h3 : (y : ℕ) < 137
        · rw [dif_pos h3]
          rw [dif_pos (by omega)]; exact z
        · rw [dif_neg h3]; exact z
    · rw [dif_neg h1]; exact z

variable (x0 : Vec Ideal S6x136x240x256 .fp8e4m3) (x1 : Vec Ideal S6x136x240x256 .f32)
  (w0 w1 w2 w3 w4 w5 w6 w7 w8 : Vec Ideal S1x1x256x256 .fp8e4m3) (s b : Vec Ideal S1x256 .f32)

/-- The reference's result over its loads. -/
def core : FVec Ideal S816x240x256 .bf16 :=
  k0_pay1 (k0_pay2 x0 x1) (k0_pay6 (k0_pay2 x0 x1) (k0_pay3 x0 x1 w0 w1) (k0_pay4 x0 x1) (k0_pay5 w2) (constant S195840x256 .f32 0x00000000#32) w3 w4 w5 w6)
    (k0_pay7 (k0_pay2 x0 x1)) (k0_pay8 w7) (constant S195840x256 .f32 0x00000000#32) w8 s b

/-- A sum over all taps and channels, tap by tap. -/
theorem sum_taps (f : ℕ → EReal) : ∑ k : Fin 2304, f k = (∑ k : Fin 256, f (256 * 0 + k)) + (∑ k : Fin 256, f (256 * 1 + k)) + (∑ k : Fin 256, f (256 * 2 + k)) + (∑ k : Fin 256, f (256 * 3 + k)) + (∑ k : Fin 256, f (256 * 4 + k)) + (∑ k : Fin 256, f (256 * 5 + k)) + (∑ k : Fin 256, f (256 * 6 + k)) + (∑ k : Fin 256, f (256 * 7 + k)) + (∑ k : Fin 256, f (256 * 8 + k)) := by
  rw [Fin.sum_univ_eq_sum_range f 2304, show 2304 = 256 + 256 + 256 + 256 + 256 + 256 + 256 + 256 + 256 from rfl]
  rw [Finset.sum_range_add, Finset.sum_range_add, Finset.sum_range_add, Finset.sum_range_add, Finset.sum_range_add, Finset.sum_range_add,
    Finset.sum_range_add, Finset.sum_range_add]
  simp only [Finset.sum_range, Nat.zero_add, Nat.mul_zero, Nat.reduceMul, Nat.reduceAdd]

theorem key (W : ℕ → ℕ → EReal) (N : Fin 816) (x : Fin 240) (d : Fin 256) (j : ℕ) (B : Fin 6) (Y : Fin 138) (X : Fin 242)
    (w : Vec Ideal S1x1x256x256 .fp8e4m3) (hw : ∀ k d : Fin 256, w (ix4 0 0 k d) = W (256 * j + k) d) (hB : (B : ℕ) = (N : ℕ) / 136)
    (hY : (Y : ℕ) = (N : ℕ) % 136 + j / 3) (hX : (X : ℕ) = (x : ℕ) + j % 3) :
    (∑ k : Fin 256, @HMul.hMul EReal EReal EReal _ (k0_pay2 x0 x1 (ix4 B Y X k)) (w (ix4 0 0 k d)))
      = ∑ k : Fin 256, RP x0 x1 ((N : ℕ) / 136) ((N : ℕ) % 136 + (256 * j + (k : ℕ)) / 256 / 3) ((x : ℕ) + (256 * j + (k : ℕ)) / 256 % 3)
          ((256 * j + (k : ℕ)) % 256) * W (256 * j + k) d := by
  refine Finset.sum_congr rfl fun k _ => ?_
  have hk := k.isLt
  rw [pay2_val, hw, hB, hY, hX, show (256 * j + (k : ℕ)) / 256 = j by omega, show (256 * j + (k : ℕ)) % 256 = k by omega]

/-- The reference's element: the nine taps as one sum, scaled and shifted. -/
theorem core_val (W : ℕ → ℕ → EReal)
    (h0 : ∀ k d : Fin 256, w0 (ix4 0 0 k d) = W (256 * 0 + k) d) (h1 : ∀ k d : Fin 256, w1 (ix4 0 0 k d) = W (256 * 1 + k) d) (h2 : ∀ k d : Fin 256, w2 (ix4 0 0 k d) = W (256 * 2 + k) d) (h3 : ∀ k d : Fin 256, w3 (ix4 0 0 k d) = W (256 * 3 + k) d) (h4 : ∀ k d : Fin 256, w4 (ix4 0 0 k d) = W (256 * 4 + k) d) (h5 : ∀ k d : Fin 256, w5 (ix4 0 0 k d) = W (256 * 5 + k) d) (h6 : ∀ k d : Fin 256, w6 (ix4 0 0 k d) = W (256 * 6 + k) d) (h7 : ∀ k d : Fin 256, w7 (ix4 0 0 k d) = W (256 * 7 + k) d) (h8 : ∀ k d : Fin 256, w8 (ix4 0 0 k d) = W (256 * 8 + k) d)
    (N : Fin 816) (x : Fin 240) (d : Fin 256) :
    core x0 x1 w0 w1 w2 w3 w4 w5 w6 w7 w8 s b (ix3 N x d)
      = @HAdd.hAdd EReal EReal EReal _ (@HMul.hMul EReal EReal EReal _ (∑ k : Fin 2304, RP x0 x1 ((N : ℕ) / 136) ((N : ℕ) % 136 + (k : ℕ) / 256 / 3) ((x : ℕ) + (k : ℕ) / 256 % 3)
          ((k : ℕ) % 256) * W k d) (s (ix2 0 d))) (b (ix2 0 d)) := by
  have hx := x.isLt
  have e : ((N : ℕ) * 240 + (x : ℕ)) / 32640 = (N : ℕ) / 136 := by omega
  generalize hR : (∑ k : Fin 2304, RP x0 x1 ((N : ℕ) / 136) ((N : ℕ) % 136 + (k : ℕ) / 256 / 3) ((x : ℕ) + (k : ℕ) / 256 % 3)
          ((k : ℕ) % 256) * W k d) = R
  pointwise [core, k0_pay1, k0_pay6, k0_pay3, k0_pay4, k0_pay5, k0_pay7, k0_pay8]
  rw [sum_taps (fun k => RP x0 x1 ((N : ℕ) / 136) ((N : ℕ) % 136 + k / 256 / 3) ((x : ℕ) + k / 256 % 3) (k % 256) * W k d)] at hR
  rw [← hR]
  refine congrArg₂ (· + ·) (congrArg₂ (· * ·) ?_ rfl) rfl
  iterate 8 refine congrArg₂ (· + ·) ?_ ?_
  · refine Eq.trans ?_ (key x0 x1 W N x d 0 ⟨((N : ℕ) * 240 + (x : ℕ)) / 32640, by omega⟩ ⟨((N : ℕ) * 240 + (x : ℕ)) / 240 % 136, by omega⟩
      ⟨(x : ℕ), by omega⟩ w0 h0 e (by dsimp only; omega) (by dsimp only; omega))
    rfl
  · refine Eq.trans ?_ (key x0 x1 W N x d 1 ⟨((N : ℕ) * 240 + (x : ℕ)) / 32640, by omega⟩ ⟨((N : ℕ) * 240 + (x : ℕ)) / 240 % 136, by omega⟩
      ⟨1 + (x : ℕ), by omega⟩ w1 h1 e (by dsimp only; omega) (by dsimp only; omega))
    rfl
  · refine Eq.trans ?_ (key x0 x1 W N x d 2 ⟨((N : ℕ) * 240 + (x : ℕ)) / 32640, by omega⟩ ⟨((N : ℕ) * 240 + (x : ℕ)) / 240 % 136, by omega⟩
      ⟨2 + (x : ℕ), by omega⟩ w2 h2 e (by dsimp only; omega) (by dsimp only; omega))
    rfl
  · refine Eq.trans ?_ (key x0 x1 W N x d 3 ⟨((N : ℕ) * 240 + (x : ℕ)) / 32640, by omega⟩ ⟨1 + ((N : ℕ) * 240 + (x : ℕ)) / 240 % 136, by omega⟩
      ⟨(x : ℕ), by omega⟩ w3 h3 e (by dsimp only; omega) (by dsimp only; omega))
    rfl
  · refine Eq.trans ?_ (key x0 x1 W N x d 4 ⟨((N : ℕ) * 240 + (x : ℕ)) / 32640, by omega⟩ ⟨1 + ((N : ℕ) * 240 + (x : ℕ)) / 240 % 136, by omega⟩
      ⟨1 + (x : ℕ), by omega⟩ w4 h4 e (by dsimp only; omega) (by dsimp only; omega))
    rfl
  · refine Eq.trans ?_ (key x0 x1 W N x d 5 ⟨((N : ℕ) * 240 + (x : ℕ)) / 32640, by omega⟩ ⟨1 + ((N : ℕ) * 240 + (x : ℕ)) / 240 % 136, by omega⟩
      ⟨2 + (x : ℕ), by omega⟩ w5 h5 e (by dsimp only; omega) (by dsimp only; omega))
    rfl
  · refine Eq.trans ?_ (key x0 x1 W N x d 6 ⟨((N : ℕ) * 240 + (x : ℕ)) / 32640, by omega⟩ ⟨2 + ((N : ℕ) * 240 + (x : ℕ)) / 240 % 136, by omega⟩
      ⟨(x : ℕ), by omega⟩ w6 h6 e (by dsimp only; omega) (by dsimp only; omega))
    rfl
  · refine Eq.trans ?_ (key x0 x1 W N x d 7 ⟨((N : ℕ) * 240 + (x : ℕ)) / 32640, by omega⟩ ⟨2 + ((N : ℕ) * 240 + (x : ℕ)) / 240 % 136, by omega⟩
      ⟨1 + (x : ℕ), by omega⟩ w7 h7 e (by dsimp only; omega) (by dsimp only; omega))
    rfl
  · refine Eq.trans ?_ (key x0 x1 W N x d 8 ⟨((N : ℕ) * 240 + (x : ℕ)) / 32640, by omega⟩ ⟨2 + ((N : ℕ) * 240 + (x : ℕ)) / 240 % 136, by omega⟩
      ⟨2 + (x : ℕ), by omega⟩ w8 h8 e (by dsimp only; omega) (by dsimp only; omega))
    rfl

end Cert.ReferenceIdeal.Val
-- ==== Proof.RefFinal.lean ====
/-
  The reference's result array: its one point writes the whole of it.
-/
module

public import proofs.«01_k».proof.Proof.RefVal
public import Idealize.ShloMosaic.Lib.Pipeline.ValueKit

@[expose] public section

set_option maxRecDepth 16384

noncomputable section

namespace Cert.ReferenceIdeal.Val

open Idealize.ShloMosaic Idealize.ShloMosaic.TcCoe Idealize.SL.Sem Cert.ReferenceIdeal Cert.ReferenceIdeal.Gen

/-- The weights, tap and channel in one index. -/
def wt (w : Vec Ideal S3x3x256x256 .fp8e4m3) (k d : ℕ) : EReal :=
  if h : k / 256 / 3 < 3 ∧ d < 256 then w (ix4 ⟨k / 256 / 3, h.1⟩ ⟨k / 256 % 3, Nat.mod_lt _ (by omega)⟩ ⟨k % 256, Nat.mod_lt _ (by omega)⟩ ⟨d, h.2⟩) else 0

theorem wt_at (w : Vec Ideal S3x3x256x256 .fp8e4m3) (v : Vec Ideal S1x1x256x256 .fp8e4m3) (j : ℕ) (hj : j / 3 < 3)
    (h : ∀ k d : Fin 256, v (ix4 0 0 k d) = w (ix4 ⟨j / 3, hj⟩ ⟨j % 3, Nat.mod_lt _ (by omega)⟩ k d)) (k d : Fin 256) :
    v (ix4 0 0 k d) = wt w (256 * j + k) d := by
  have hk := k.isLt
  have hd := d.isLt
  have e : (256 * j + (k : ℕ)) / 256 = j := by omega
  have e' : (256 * j + (k : ℕ)) % 256 = k := by omega
  unfold wt
  rw [dif_pos (by rw [e]; exact ⟨hj, hd⟩), h]
  congr 1
  funext a
  fin_cases a <;> apply Fin.ext <;> simp [e, e']

/-- The convolution of the whole batch. -/
def outF (x0 : Vec Ideal S6x136x240x256 .fp8e4m3) (x1 : Vec Ideal S6x136x240x256 .f32) (w : Vec Ideal S3x3x256x256 .fp8e4m3) (s b : Vec Ideal S1x256 .f32) :
    Vec Ideal S816x240x256 .bf16 := fun i =>
  @HAdd.hAdd EReal EReal EReal _ (@HMul.hMul EReal EReal EReal _ (∑ k : Fin 2304, RP x0 x1 ((i 0 : ℕ) / 136) ((i 0 : ℕ) % 136 + (k : ℕ) / 256 / 3) ((i 1 : ℕ) + (k : ℕ) / 256 % 3)
          ((k : ℕ) % 256) * wt w k (i 2 : ℕ)) (s (ix2 0 (i 2)))) (b (ix2 0 (i 2)))

theorem ld_w0 (w : Vec Ideal S3x3x256x256 .fp8e4m3) (k d : Fin 256) : View.ld w r0_1 (ix4 0 0 k d) = w (ix4 ⟨0 / 3, by omega⟩ ⟨0 % 3, Nat.mod_lt _ (by omega)⟩ k d) := by
  rw [View.ld_apply]
  congr 1
  funext a
  fin_cases a <;> apply Fin.ext <;> simp [Rect.idx_unit_val]

theorem ld_w1 (w : Vec Ideal S3x3x256x256 .fp8e4m3) (k d : Fin 256) : View.ld w r0_2 (ix4 0 0 k d) = w (ix4 ⟨1 / 3, by omega⟩ ⟨1 % 3, Nat.mod_lt _ (by omega)⟩ k d) := by
  rw [View.ld_apply]
  congr 1
  funext a
  fin_cases a <;> apply Fin.ext <;> simp [Rect.idx_unit_val]

theorem ld_w2 (w : Vec Ideal S3x3x256x256 .fp8e4m3) (k d : Fin 256) : View.ld w r0_3 (ix4 0 0 k d) = w (ix4 ⟨2 / 3, by omega⟩ ⟨2 % 3, Nat.mod_lt _ (by omega)⟩ k d) := by
  rw [View.ld_apply]
  congr 1
  funext a
  fin_cases a <;> apply Fin.ext <;> simp [Rect.idx_unit_val]

theorem ld_w3 (w : Vec Ideal S3x3x256x256 .fp8e4m3) (k d : Fin 256) : View.ld w r0_4 (ix4 0 0 k d) = w (ix4 ⟨3 / 3, by omega⟩ ⟨3 % 3, Nat.mod_lt _ (by omega)⟩ k d) := by
  rw [View.ld_apply]
  congr 1
  funext a
  fin_cases a <;> apply Fin.ext <;> simp [Rect.idx_unit_val]

theorem ld_w4 (w : Vec Ideal S3x3x256x256 .fp8e4m3) (k d : Fin 256) : View.ld w r0_5 (ix4 0 0 k d) = w (ix4 ⟨4 / 3, by omega⟩ ⟨4 % 3, Nat.mod_lt _ (by omega)⟩ k d) := by
  rw [View.ld_apply]
  congr 1
  funext a
  fin_cases a <;> apply Fin.ext <;> simp [Rect.idx_unit_val]

theorem ld_w5 (w : Vec Ideal S3x3x256x256 .fp8e4m3) (k d : Fin 256) : View.ld w r0_6 (ix4 0 0 k d) = w (ix4 ⟨5 / 3, by omega⟩ ⟨5 % 3, Nat.mod_lt _ (by omega)⟩ k d) := by
  rw [View.ld_apply]
  congr 1
  funext a
  fin_cases a <;> apply Fin.ext <;> simp [Rect.idx_unit_val]

theorem ld_w6 (w : Vec Ideal S3x3x256x256 .fp8e4m3) (k d : Fin 256) : View.ld w r0_7 (ix4 0 0 k d) = w (ix4 ⟨6 / 3, by omega⟩ ⟨6 % 3, Nat.mod_lt _ (by omega)⟩ k d) := by
  rw [View.ld_apply]
  congr 1
  funext a
  fin_cases a <;> apply Fin.ext <;> simp [Rect.idx_unit_val]

theorem ld_w7 (w : Vec Ideal S3x3x256x256 .fp8e4m3) (k d : Fin 256) : View.ld w r0_8 (ix4 0 0 k d) = w (ix4 ⟨7 / 3, by omega⟩ ⟨7 % 3, Nat.mod_lt _ (by omega)⟩ k d) := by
  rw [View.ld_apply]
  congr 1
  funext a
  fin_cases a <;> apply Fin.ext <;> simp [Rect.idx_unit_val]

theorem ld_w8 (w : Vec Ideal S3x3x256x256 .fp8e4m3) (k d : Fin 256) : View.ld w r0_9 (ix4 0 0 k d) = w (ix4 ⟨8 / 3, by omega⟩ ⟨8 % 3, Nat.mod_lt _ (by omega)⟩ k d) := by
  rw [View.ld_apply]
  congr 1
  funext a
  fin_cases a <;> apply Fin.ext <;> simp [Rect.idx_unit_val]

theorem out_core (x0 : Vec Ideal S6x136x240x256 .fp8e4m3) (x1 : Vec Ideal S6x136x240x256 .f32) (w : Vec Ideal S3x3x256x256 .fp8e4m3) (s b : Vec Ideal S1x256 .f32) (y : S816x240x256.Idx) :
    out0_5 x0 x1 w s b y = core (View.ld x0 r0_0) (View.ld x1 r0_0) (View.ld w r0_1) (View.ld w r0_2) (View.ld w r0_3) (View.ld w r0_4) (View.ld w r0_5)
      (View.ld w r0_6) (View.ld w r0_7) (View.ld w r0_8) (View.ld w r0_9) (View.ld s r0_10) (View.ld b r0_10) y := by
  unfold_out out0_5
  unfold core
  frame_out

variable (m : (ℓ : Loc nD τ sig) → Buf (Elt Ideal) ℓ)

theorem out_at (x0 : Vec Ideal S6x136x240x256 .fp8e4m3) (x1 : Vec Ideal S6x136x240x256 .f32) (w : Vec Ideal S3x3x256x256 .fp8e4m3) (s b : Vec Ideal S1x256 .f32)
    (N : Fin 816) (x : Fin 240) (d : Fin 256) : out0_5 x0 x1 w s b (ix3 N x d) = outF x0 x1 w s b (ix3 N x d) := by
  rw [out_core, View.ld_unit_lit' _ x0 (by decide), View.ld_unit_lit' _ x1 (by decide), View.ld_unit_lit' _ s (by decide), View.ld_unit_lit' _ b (by decide)]
  exact core_val _ _ _ _ _ _ _ _ _ _ _ _ _ (wt w) (wt_at w _ 0 (by omega) (ld_w0 w)) (wt_at w _ 1 (by omega) (ld_w1 w)) (wt_at w _ 2 (by omega) (ld_w2 w)) (wt_at w _ 3 (by omega) (ld_w3 w)) (wt_at w _ 4 (by omega) (ld_w4 w)) (wt_at w _ 5 (by omega) (ld_w5 w)) (wt_at w _ 6 (by omega) (ld_w6 w)) (wt_at w _ 7 (by omega) (ld_w7 w)) (wt_at w _ 8 (by omega) (ld_w8 w)) N x d

theorem out_at' (x0 : Vec Ideal S6x136x240x256 .fp8e4m3) (x1 : Vec Ideal S6x136x240x256 .f32) (w : Vec Ideal S3x3x256x256 .fp8e4m3) (s b : Vec Ideal S1x256 .f32)
    (j : S816x240x256.Idx) : out0_5 x0 x1 w s b j = outF x0 x1 w s b j := by
  have e : j = ix3 (j 0) (j 1) (j 2) := by funext a; fin_cases a <;> rfl
  rw [e]
  exact out_at x0 x1 w s b _ _ _

theorem e0 (c : Dev nD) : (iblk m c 0 t0_0 : Vec Ideal S6x136x240x256 .fp8e4m3) = V m c main_arg0 := by
  funext i
  have h : ∀ a, win0_0.index t0_0 a = 0 := fun _ => rfl
  obtain ⟨a, b, x, d, rfl⟩ : ∃ a b x d, i = ix4 a b x d := ⟨i 0, i 1, i 2, i 3, by funext a; fin_cases a <;> rfl⟩
  blk_ext [iblk, h]

theorem e1 (c : Dev nD) : (iblk m c 1 t0_0 : Vec Ideal S6x136x240x256 .f32) = V m c main_v2 := by
  funext i
  have h : ∀ a, win0_1.index t0_0 a = 0 := fun _ => rfl
  obtain ⟨a, b, x, d, rfl⟩ : ∃ a b x d, i = ix4 a b x d := ⟨i 0, i 1, i 2, i 3, by funext a; fin_cases a <;> rfl⟩
  blk_ext [iblk, h]

theorem e2 (c : Dev nD) : (iblk m c 2 t0_0 : Vec Ideal S3x3x256x256 .fp8e4m3) = V m c main_arg2 := by
  funext i
  have h : ∀ a, win0_2.index t0_0 a = 0 := fun _ => rfl
  obtain ⟨a, b, x, d, rfl⟩ : ∃ a b x d, i = ix4 a b x d := ⟨i 0, i 1, i 2, i 3, by funext a; fin_cases a <;> rfl⟩
  blk_ext [iblk, h]

theorem e3 (c : Dev nD) : (iblk m c 3 t0_0 : Vec Ideal S1x256 .f32) = V m c main_v3 := by
  funext i
  have h : ∀ a, win0_3.index t0_0 a = 0 := fun _ => rfl
  obtain ⟨a, b, rfl⟩ : ∃ a b, i = ix2 a b := ⟨i 0, i 1, by funext a; fin_cases a <;> rfl⟩
  blk_ext [iblk, h]

theorem e4 (c : Dev nD) : (iblk m c 4 t0_0 : Vec Ideal S1x256 .f32) = V m c main_v4 := by
  funext i
  have h : ∀ a, win0_4.index t0_0 a = 0 := fun _ => rfl
  obtain ⟨a, b, rfl⟩ : ∃ a b, i = ix2 a b := ⟨i 0, i 1, by funext a; fin_cases a <;> rfl⟩
  blk_ext [iblk, h]

theorem final (c : Dev nD) : (dats m 0 c).arrAt 5 (cfgs 0).N
    = outF (V m c main_arg0) (V m c main_v2) (V m c main_arg2) (V m c main_v3) (V m c main_v4) := by
  refine (dats m 0 c).arrAt_eq_of_after_last 5 t0_0 (by decide +kernel) _ fun j => ?_
  blk_simp
  rw [after0_5, e0, e1, e2, e3, e4]
  exact out_at' _ _ _ _ _ j

end Cert.ReferenceIdeal.Val
-- ==== Proof.Equation.lean ====
/-
  The kernel's convolution and the reference's are one function: the flattened row N is row N % 136 of image N / 136.
-/
module

public import proofs.«01_k».proof.Proof.Value
public import proofs.«01_k».proof.Proof.RefFinal

@[expose] public section

set_option maxRecDepth 16384

noncomputable section

namespace Cert.Eqn

open Idealize.ShloMosaic Idealize.ShloMosaic.TcCoe Idealize.SL.Sem Cert.KernelIdeal Cert.KernelIdeal.Gen

variable (q : Vec Ideal S816x240x256 .fp8e4m3) (sc : Vec Ideal S816x240x256 .f32) (w' : Vec Ideal S2304x256 .fp8e4m3)
  (x0 : Vec Ideal Cert.ReferenceIdeal.S6x136x240x256 .fp8e4m3) (x1 : Vec Ideal Cert.ReferenceIdeal.S6x136x240x256 .f32)
  (w : Vec Ideal Cert.ReferenceIdeal.S3x3x256x256 .fp8e4m3) (s b : Vec Ideal S1x256 .f32)

/-- One padded pixel, read by flattened row or by image and row. -/
theorem pixel (hq : ∀ (N : Fin 816) (a : Fin 240) (c : Fin 256), q (ix3 N a c) = x0 (ix4 ⟨(N : ℕ) / 136, by omega⟩ ⟨(N : ℕ) % 136, by omega⟩ a c))
    (hs : ∀ (N : Fin 816) (a : Fin 240) (c : Fin 256), sc (ix3 N a c) = x1 (ix4 ⟨(N : ℕ) / 136, by omega⟩ ⟨(N : ℕ) % 136, by omega⟩ a c))
    (N x dy dx c : ℕ) (hN : N < 816) (hx : x < 240) (hdy : dy < 3) (hdx : dx < 3) (hc : c < 256) :
    Val.Vpad (Val.G (Val.pix q sc) (N / 16)) (N % 16 / 8) (N % 16 % 8 + dy) (x + dx) c
      = Cert.ReferenceIdeal.Val.RP x0 x1 (N / 136) (N % 136 + dy) (x + dx) c := by
  unfold Val.Vpad Val.G Cert.ReferenceIdeal.Val.RP
  have e : 16 * (N / 16) + 8 * (N % 16 / 8) + (N % 16 % 8 + dy) = N + dy := by omega
  rw [e]
  by_cases h1 : x + dx = 0 ∨ 240 < x + dx
  · rw [if_pos h1, dif_neg (by omega)]
  rw [if_neg h1]
  by_cases h2 : 1 ≤ N % 136 + dy ∧ N % 136 + dy - 1 < 136
  · have r1 : (N + dy - 1) / 136 = N / 136 := by omega
    have r2 : (N + dy - 1) % 136 = N % 136 + dy - 1 := by omega
    rw [if_pos (by omega), dif_pos (by omega)]
    unfold Val.pix
    rw [dif_pos (by omega), hq, hs]
    simp only [r1, r2]
  · rw [if_neg (by omega), dif_neg (by omega)]

theorem same (hq : ∀ (N : Fin 816) (a : Fin 240) (c : Fin 256), q (ix3 N a c) = x0 (ix4 ⟨(N : ℕ) / 136, by omega⟩ ⟨(N : ℕ) % 136, by omega⟩ a c))
    (hs : ∀ (N : Fin 816) (a : Fin 240) (c : Fin 256), sc (ix3 N a c) = x1 (ix4 ⟨(N : ℕ) / 136, by omega⟩ ⟨(N : ℕ) % 136, by omega⟩ a c))
    (hw : ∀ (k : Fin 2304) (d : Fin 256), w' (ix2 k d) = w (ix4 ⟨(k : ℕ) / 256 / 3, by omega⟩ ⟨(k : ℕ) / 256 % 3, by omega⟩ ⟨(k : ℕ) % 256, by omega⟩ d)) :
    Val.outF q sc w' s b = Cert.ReferenceIdeal.Val.outF x0 x1 w s b := by
  funext i
  have hN : (i 0 : ℕ) < 816 := (i 0).isLt
  have hx : (i 1 : ℕ) < 240 := (i 1).isLt
  have hd : (i 2 : ℕ) < 256 := (i 2).isLt
  unfold Val.outF Cert.ReferenceIdeal.Val.outF Val.convAt Val.vec
  rw [dif_pos hd, dif_pos hd]
  refine congrArg₂ (@HAdd.hAdd EReal EReal EReal _) (congrArg₂ (@HMul.hMul EReal EReal EReal _) (Finset.sum_congr rfl fun k _ => ?_) rfl) rfl
  have hk := k.isLt
  rw [pixel q sc x0 x1 hq hs (i 0) (i 1) ((k : ℕ) / 256 / 3) ((k : ℕ) / 256 % 3) ((k : ℕ) % 256) hN hx (by omega) (by omega) (by omega)]
  unfold Val.wt Cert.ReferenceIdeal.Val.wt
  rw [dif_pos ⟨hk, hd⟩, dif_pos ⟨by omega, hd⟩, hw]

end Cert.Eqn
-- ==== Proof.Host.lean ====
/-
  What the host operations of both programs leave in the arrays the kernels read, element by element.
-/
module
public import proofs.«01_k».proof.Proof.Equation
@[expose] public section
set_option maxRecDepth 16384
noncomputable section
namespace Cert.KernelIdeal.Val
open Idealize.ShloMosaic Idealize.ShloMosaic.TcCoe Idealize.SL.Sem Cert.KernelIdeal Cert.KernelIdeal.Gen
variable (m : (ℓ : Loc nD τ sig) → Buf (Elt Ideal) ℓ)
theorem V0 (c : Dev nD) (N : Fin 816) (a : Fin 240) (d : Fin 256) : (V m c main_v0 : Vec Ideal S816x240x256 .fp8e4m3) (ix3 N a d) = (m ((c : Thread nD τ).loc main_arg0) : Vec Ideal S6x136x240x256 .fp8e4m3) (ix4 ⟨(N : ℕ) / 136, by omega⟩ ⟨(N : ℕ) % 136, by omega⟩ a d) := by
  entry_read
  pointwise
theorem V3 (c : Dev nD) (N : Fin 816) (a : Fin 240) (d : Fin 256) : (V m c main_v3 : Vec Ideal S816x240x256 .f32) (ix3 N a d) = (m ((c : Thread nD τ).loc main_arg1) : Vec Ideal S6x136x240x8 .f32) (ix4 ⟨(N : ℕ) / 136, by omega⟩ ⟨(N : ℕ) % 136, by omega⟩ a ⟨(d : ℕ) / 32, by omega⟩) := by
  entry_read
  pointwise
theorem V4 (c : Dev nD) (k : Fin 2304) (d : Fin 256) : (V m c main_v4 : Vec Ideal S2304x256 .fp8e4m3) (ix2 k d) = (m ((c : Thread nD τ).loc main_arg2) : Vec Ideal S3x3x256x256 .fp8e4m3) (ix4 ⟨(k : ℕ) / 256 / 3, by omega⟩ ⟨(k : ℕ) / 256 % 3, by omega⟩ ⟨(k : ℕ) % 256, by omega⟩ d) := by
  entry_read
  pointwise
  have e : (k : ℕ) / 256 / 3 = (k : ℕ) / 768 := by omega
  simp only [e]
theorem V5 (c : Dev nD) (d : Fin 256) : (V m c main_v5 : Vec Ideal S1x256 .f32) (ix2 0 d) = (m ((c : Thread nD τ).loc main_arg3) : Vec Ideal S256 .f32) (ix1 d) := by
  entry_read
  pointwise
theorem V6 (c : Dev nD) (d : Fin 256) : (V m c main_v6 : Vec Ideal S1x256 .f32) (ix2 0 d) = (m ((c : Thread nD τ).loc main_arg4) : Vec Ideal S256 .f32) (ix1 d) := by
  entry_read
  pointwise
end Cert.KernelIdeal.Val
namespace Cert.ReferenceIdeal.Val
open Idealize.ShloMosaic Idealize.ShloMosaic.TcCoe Idealize.SL.Sem Cert.ReferenceIdeal Cert.ReferenceIdeal.Gen
variable (m : (ℓ : Loc nD τ sig) → Buf (Elt Ideal) ℓ)
theorem V2 (c : Dev nD) (B : Fin 6) (y : Fin 136) (a : Fin 240) (d : Fin 256) : (V m c main_v2 : Vec Ideal S6x136x240x256 .f32) (ix4 B y a d) = (m ((c : Thread nD τ).loc main_arg1) : Vec Ideal S6x136x240x8 .f32) (ix4 B y a ⟨(d : ℕ) / 32, by omega⟩) := by
  entry_read
  pointwise
theorem V3 (c : Dev nD) (d : Fin 256) : (V m c main_v3 : Vec Ideal S1x256 .f32) (ix2 0 d) = (m ((c : Thread nD τ).loc main_arg3) : Vec Ideal S256 .f32) (ix1 d) := by
  entry_read
  pointwise
theorem V4 (c : Dev nD) (d : Fin 256) : (V m c main_v4 : Vec Ideal S1x256 .f32) (ix2 0 d) = (m ((c : Thread nD τ).loc main_arg4) : Vec Ideal S256 .f32) (ix1 d) := by
  entry_read
  pointwise
end Cert.ReferenceIdeal.Val

namespace Cert.Eqn
open Idealize.ShloMosaic Idealize.ShloMosaic.TcCoe Idealize.SL.Sem

theorem row_ext (s t : Vec Ideal Cert.KernelIdeal.S1x256 .f32) (h : ∀ d : Fin 256, s (ix2 0 d) = t (ix2 0 d)) : s = t := by
  funext i
  have e : i = ix2 0 (i 1) := by
    funext a
    fin_cases a
    · exact Fin.ext (Nat.lt_one_iff.mp (i 0).isLt)
    · rfl
  rw [e]
  exact h _

/-- Equal arguments leave equal results. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Gen.dats m' 0 c).arrAt 5 (Cert.ReferenceIdeal.cfgs 0).N = (Cert.KernelIdeal.Gen.dats m 0 c).arrAt 5 (Cert.KernelIdeal.cfgs 0).N := by
  rw [Cert.KernelIdeal.Val.final m c, Cert.ReferenceIdeal.Val.final m' c]
  have es : (Cert.ReferenceIdeal.Gen.V m' c Cert.ReferenceIdeal.main_v3 : Vec Ideal Cert.KernelIdeal.S1x256 .f32) = Cert.KernelIdeal.Gen.V m c Cert.KernelIdeal.main_v5 :=
    row_ext _ _ fun d => (Cert.ReferenceIdeal.Val.V3 m' c d).trans ((congrFun h3 (ix1 d)).trans (Cert.KernelIdeal.Val.V5 m c d).symm)
  have eb : (Cert.ReferenceIdeal.Gen.V m' c Cert.ReferenceIdeal.main_v4 : Vec Ideal Cert.KernelIdeal.S1x256 .f32) = Cert.KernelIdeal.Gen.V m c Cert.KernelIdeal.main_v6 :=
    row_ext _ _ fun d => (Cert.ReferenceIdeal.Val.V4 m' c d).trans ((congrFun h4 (ix1 d)).trans (Cert.KernelIdeal.Val.V6 m c d).symm)
  rw [es, eb]
  symm
  refine same _ _ _ _ _ _ _ _ (fun N a d => ?_) (fun N a d => ?_) (fun k d => ?_)
  · refine (Cert.KernelIdeal.Val.V0 m c N a d).trans ?_
    rw [Cert.ReferenceIdeal.Gen.V_main_arg0]
    exact (congrFun h0 _).symm
  · exact (Cert.KernelIdeal.Val.V3 m c N a d).trans ((congrFun h1 _).symm.trans (Cert.ReferenceIdeal.Val.V2 m' c _ _ a d).symm)
  · refine (Cert.KernelIdeal.Val.V4 m c k d).trans ?_
    rw [Cert.ReferenceIdeal.Gen.V_main_arg2]
    exact (congrFun h2 _).symm

end Cert.Eqn
-- ==== Proof.CCanon.lean ====
/-
  The coarse body's stores, written once for both parities of the grid point and for its three planes, which hold the
  rows in place, moved right by one pixel and moved left by one pixel. Each list is what has been stored into one plane so
  far, last first: `lC` into a plane of the set this point fills, `lN` into the plane of the other set.
-/
module

public import proofs.«01_k».proof.Proof.Gen.CoarseIdeal.Frame
public import Idealize.ShloMosaic.Lib.Pipeline.ValueKit

@[expose] public section

set_option maxRecDepth 16384

noncomputable section

namespace Cert.CoarseIdeal.Val

open Idealize.ShloMosaic Idealize.ShloMosaic.TcCoe Idealize.SL.Sem Cert.CoarseIdeal Cert.CoarseIdeal.Gen
open Idealize.ShloMosaic.Pipeline (Dat Cfg Window BodyObligation cellOf)

abbrev Raw := Vec Ideal S1x1x240x2x128 .bf16
abbrev Row1 := Vec Ideal S1x1x60x2x128 .bf16
abbrev Q4 := Vec Ideal S4x120x128 .fp8e4m3
abbrev M4 := Vec Ideal S4x120x128 .f32
abbrev Pieces := List (View.Piece (Elt Ideal) S2x2x368x2x128 .bf16)
/-- How a row of a plane is read back after some stores. -/
abbrev Reader := Pieces → (r : LoadRect S2x2x368x2x128) → r.shape.Idx → Elt Ideal .bf16

/-- Four rows for the plane that holds them in place. -/
def p0 (q : Q4) (s : M4) : Raw := k0_pay107 (k0_pay98 q) s
/-- The place of a word within its row. -/
def io : IVec S240x128 32 := k0_pay106
/-- Four rows moved right by one pixel. -/
def pm (q : Q4) (s : M4) : Raw :=
  k0_pay109 (k0_pay101 (k0_pay98 q) s) io (k0_pay108 (k0_pay98 q) s)
/-- Four rows moved left by one pixel. -/
def pp (q : Q4) (s : M4) : Raw :=
  k0_pay110 (k0_pay101 (k0_pay98 q) s) (k0_pay102 (k0_pay98 q) s) io 239#32
/-- One row, kept or cleared. -/
def hl (v : BitVec 1) (x : Row1) : Row1 := k0_pay115 v x

/-- Whether unit `u` of the point has a unit above it, below it, in its image. -/
def kA (i : grid0.Coords) (u : BitVec 32) : BitVec 1 :=
  Scalar.cmpi .ne (Scalar.remsi (Scalar.addi (Scalar.muli 2#32 (BitVec.ofNat 32 (i 0).val)) u) 17#32) 0#32
def kB (i : grid0.Coords) (u : BitVec 32) : BitVec 1 :=
  Scalar.cmpi .ne (Scalar.remsi (Scalar.addi (Scalar.muli 2#32 (BitVec.ofNat 32 (i 0).val)) u) 17#32) 16#32

def q00 (M1 : Memref sig .tc .vmem S8x120x256 .fp8e4m3) (f1 : M1.view.ty.Contents (Elt Ideal)) : Q4 := View.readAt (Elt Ideal) M1.view (Rect.unit (s := S8x120x256) ![0, 0, 0] S4x120x128.size inb_S8x120x256_S4x120x128_0_0_0).toLoadRect f1
def s00 (M2 : Memref sig .tc .vmem S8x120x256 .f32) (f2 : M2.view.ty.Contents (Elt Ideal)) : Val.M4 := View.readAt (Elt Ideal) M2.view (Rect.unit (s := S8x120x256) ![0, 0, 0] S4x120x128.size inb_S8x120x256_S4x120x128_0_0_0).toLoadRect f2
def q01 (M1 : Memref sig .tc .vmem S8x120x256 .fp8e4m3) (f1 : M1.view.ty.Contents (Elt Ideal)) : Q4 := View.readAt (Elt Ideal) M1.view (Rect.unit (s := S8x120x256) ![0, 0, 128] S4x120x128.size inb_S8x120x256_S4x120x128_0_0_128).toLoadRect f1
def s01 (M2 : Memref sig .tc .vmem S8x120x256 .f32) (f2 : M2.view.ty.Contents (Elt Ideal)) : Val.M4 := View.readAt (Elt Ideal) M2.view (Rect.unit (s := S8x120x256) ![0, 0, 128] S4x120x128.size inb_S8x120x256_S4x120x128_0_0_128).toLoadRect f2
def q10 (M1 : Memref sig .tc .vmem S8x120x256 .fp8e4m3) (f1 : M1.view.ty.Contents (Elt Ideal)) : Q4 := View.readAt (Elt Ideal) M1.view (Rect.unit (s := S8x120x256) ![4, 0, 0] S4x120x128.size inb_S8x120x256_S4x120x128_4_0_0).toLoadRect f1
def s10 (M2 : Memref sig .tc .vmem S8x120x256 .f32) (f2 : M2.view.ty.Contents (Elt Ideal)) : Val.M4 := View.readAt (Elt Ideal) M2.view (Rect.unit (s := S8x120x256) ![4, 0, 0] S4x120x128.size inb_S8x120x256_S4x120x128_4_0_0).toLoadRect f2
def q11 (M1 : Memref sig .tc .vmem S8x120x256 .fp8e4m3) (f1 : M1.view.ty.Contents (Elt Ideal)) : Q4 := View.readAt (Elt Ideal) M1.view (Rect.unit (s := S8x120x256) ![4, 0, 128] S4x120x128.size inb_S8x120x256_S4x120x128_4_0_128).toLoadRect f1
def s11 (M2 : Memref sig .tc .vmem S8x120x256 .f32) (f2 : M2.view.ty.Contents (Elt Ideal)) : Val.M4 := View.readAt (Elt Ideal) M2.view (Rect.unit (s := S8x120x256) ![4, 0, 128] S4x120x128.size inb_S8x120x256_S4x120x128_4_0_128).toLoadRect f2

section
variable (i : grid0.Coords) (M1 : Memref sig .tc .vmem S8x120x256 .fp8e4m3) (f1 : M1.view.ty.Contents (Elt Ideal)) (M2 : Memref sig .tc .vmem S8x120x256 .f32) (f2 : M2.view.ty.Contents (Elt Ideal)) (P : Q4 → Val.M4 → Raw) (rd : Reader)

def lC1 : Pieces := ⟨(Rect.unit (s := S2x2x368x2x128) ![0, 0, 64, 0, 0] S1x1x240x2x128.size inb_S2x2x368x2x128_S1x1x240x2x128_0_0_64_0_0), P (q00 M1 f1) (s00 M2 f2)⟩ :: []
def lC2 : Pieces := ⟨(Rect.unit (s := S2x2x368x2x128) ![0, 1, 64, 0, 0] S1x1x240x2x128.size inb_S2x2x368x2x128_S1x1x240x2x128_0_1_64_0_0), P (q01 M1 f1) (s01 M2 f2)⟩ :: lC1 M1 f1 M2 f2 P
def lC3 : Pieces := ⟨(Rect.unit (s := S2x2x368x2x128) ![1, 0, 4, 0, 0] S1x1x60x2x128.size inb_S2x2x368x2x128_S1x1x60x2x128_1_0_4_0_0), hl (kB i 0#32) (rd (lC2 M1 f1 M2 f2 P) (Rect.unit (s := S2x2x368x2x128) ![0, 0, 244, 0, 0] S1x1x60x2x128.size inb_S2x2x368x2x128_S1x1x60x2x128_0_0_244_0_0).toLoadRect)⟩ :: lC2 M1 f1 M2 f2 P
def lC4 : Pieces := ⟨(Rect.unit (s := S2x2x368x2x128) ![1, 1, 4, 0, 0] S1x1x60x2x128.size inb_S2x2x368x2x128_S1x1x60x2x128_1_1_4_0_0), hl (kB i 0#32) (rd (lC3 i M1 f1 M2 f2 P rd) (Rect.unit (s := S2x2x368x2x128) ![0, 1, 244, 0, 0] S1x1x60x2x128.size inb_S2x2x368x2x128_S1x1x60x2x128_0_1_244_0_0).toLoadRect)⟩ :: lC3 i M1 f1 M2 f2 P rd
def lC5 : Pieces := ⟨(Rect.unit (s := S2x2x368x2x128) ![1, 0, 64, 0, 0] S1x1x240x2x128.size inb_S2x2x368x2x128_S1x1x240x2x128_1_0_64_0_0), P (q10 M1 f1) (s10 M2 f2)⟩ :: lC4 i M1 f1 M2 f2 P rd
def lC6 : Pieces := ⟨(Rect.unit (s := S2x2x368x2x128) ![1, 1, 64, 0, 0] S1x1x240x2x128.size inb_S2x2x368x2x128_S1x1x240x2x128_1_1_64_0_0), P (q11 M1 f1) (s11 M2 f2)⟩ :: lC5 i M1 f1 M2 f2 P rd
def lC7 : Pieces := ⟨(Rect.unit (s := S2x2x368x2x128) ![0, 0, 304, 0, 0] S1x1x60x2x128.size inb_S2x2x368x2x128_S1x1x60x2x128_0_0_304_0_0), hl (kA i 1#32) (rd (lC6 i M1 f1 M2 f2 P rd) (Rect.unit (s := S2x2x368x2x128) ![1, 0, 64, 0, 0] S1x1x60x2x128.size inb_S2x2x368x2x128_S1x1x60x2x128_1_0_64_0_0).toLoadRect)⟩ :: lC6 i M1 f1 M2 f2 P rd
def lC8 : Pieces := ⟨(Rect.unit (s := S2x2x368x2x128) ![0, 1, 304, 0, 0] S1x1x60x2x128.size inb_S2x2x368x2x128_S1x1x60x2x128_0_1_304_0_0), hl (kA i 1#32) (rd (lC7 i M1 f1 M2 f2 P rd) (Rect.unit (s := S2x2x368x2x128) ![1, 1, 64, 0, 0] S1x1x60x2x128.size inb_S2x2x368x2x128_S1x1x60x2x128_1_1_64_0_0).toLoadRect)⟩ :: lC7 i M1 f1 M2 f2 P rd
def lN1 : Pieces := ⟨(Rect.unit (s := S2x2x368x2x128) ![1, 0, 304, 0, 0] S1x1x60x2x128.size inb_S2x2x368x2x128_S1x1x60x2x128_1_0_304_0_0), hl (kA i 0#32) (rd (lC2 M1 f1 M2 f2 P) (Rect.unit (s := S2x2x368x2x128) ![0, 0, 64, 0, 0] S1x1x60x2x128.size inb_S2x2x368x2x128_S1x1x60x2x128_0_0_64_0_0).toLoadRect)⟩ :: []
def lN2 : Pieces := ⟨(Rect.unit (s := S2x2x368x2x128) ![1, 1, 304, 0, 0] S1x1x60x2x128.size inb_S2x2x368x2x128_S1x1x60x2x128_1_1_304_0_0), hl (kA i 0#32) (rd (lC3 i M1 f1 M2 f2 P rd) (Rect.unit (s := S2x2x368x2x128) ![0, 1, 64, 0, 0] S1x1x60x2x128.size inb_S2x2x368x2x128_S1x1x60x2x128_0_1_64_0_0).toLoadRect)⟩ :: lN1 i M1 f1 M2 f2 P rd
def lN3 : Pieces := ⟨(Rect.unit (s := S2x2x368x2x128) ![0, 0, 4, 0, 0] S1x1x60x2x128.size inb_S2x2x368x2x128_S1x1x60x2x128_0_0_4_0_0), hl (kB i 1#32) (rd (lC7 i M1 f1 M2 f2 P rd) (Rect.unit (s := S2x2x368x2x128) ![1, 0, 244, 0, 0] S1x1x60x2x128.size inb_S2x2x368x2x128_S1x1x60x2x128_1_0_244_0_0).toLoadRect)⟩ :: lN2 i M1 f1 M2 f2 P rd
def lN4 : Pieces := ⟨(Rect.unit (s := S2x2x368x2x128) ![0, 1, 4, 0, 0] S1x1x60x2x128.size inb_S2x2x368x2x128_S1x1x60x2x128_0_1_4_0_0), hl (kB i 1#32) (rd (lC8 i M1 f1 M2 f2 P rd) (Rect.unit (s := S2x2x368x2x128) ![1, 1, 244, 0, 0] S1x1x60x2x128.size inb_S2x2x368x2x128_S1x1x60x2x128_1_1_244_0_0).toLoadRect)⟩ :: lN3 i M1 f1 M2 f2 P rd
end

/-- One tap of the convolution: both halves of the channels side by side. -/
def tap (a b : Raw) : FVec Ideal S480x256 .bf16 := k0_pay2 a b
/-- Four rows of the convolution from the nine taps. -/
def cvP (a000 a001 a010 a011 a020 a021 a100 a101 a110 a111 a120 a121 a200 a201 a210 a211 a220 a221 : Raw) (w : Vec Ideal S2304x256 .fp8e4m3) (s c : Vec Ideal S1x256 .f32) : FVec Ideal S480x256 .f32 :=
  k0_pay13 (tap a000 a001) (tap a010 a011) (tap a020 a021) (tap a100 a101) (tap a110 a111) (tap a120 a121) (tap a200 a201) (k0_pay12 a210) a211 a220 a221 w s c

theorem tile_slice (t : Fin 60) (h : ℕ) (hh : h ≤ 128) : S480x256.Slices ![8 * t.val, h] S8x128 := by
  refine ⟨rfl, fun a => ?_⟩
  match a with
  | ⟨0, _⟩ => show 8 * t.val + 8 ≤ 480; omega
  | ⟨1, _⟩ => show h + 128 ≤ 256; omega
theorem tile_inb (u : Fin 2) (t : Fin 60) (a : Fin 4) :
    (![4 * u.val + t.val / 15, t.val % 15, 0, 0] : Fin 4 → Nat) a + S1x1x16x128.size a ≤ S8x15x16x128.size a := by
  match a with
  | ⟨0, _⟩ => show 4 * u.val + t.val / 15 + 1 ≤ 8; omega
  | ⟨1, _⟩ => show t.val % 15 + 1 ≤ 15; omega
  | ⟨2, _⟩ => show 0 + 16 ≤ 16; omega
  | ⟨3, _⟩ => show 0 + 128 ≤ 128; omega
/-- Group `t` of eight pixels of the four rows (fifteen groups to a row), one half of the channels under the other. -/
def otile (t : Fin 60) (y : FVec Ideal S480x256 .f32) : FVec Ideal S1x1x16x128 .bf16 :=
  shapeCast S1x1x16x128 (truncf .bf16 (concatenate S16x128 0
    [⟨S8x128, extractStridedSlice S8x128 ![8 * t.val, 0] y (tile_slice t 0 (by omega))⟩, ⟨S8x128, extractStridedSlice S8x128 ![8 * t.val, 128] y (tile_slice t 128 (by omega))⟩]
    concatenates_S8x128_S8x128_S16x128_d0) bitsLt_bf16_f32) shapeCasts_S16x128_S1x1x16x128

section
variable (N0 : Memref sig .tc .vmem S2x2x368x2x128 .bf16) (g0 : N0.view.ty.Contents (Elt Ideal)) (Nm : Memref sig .tc .vmem S2x2x368x2x128 .bf16) (gm : Nm.view.ty.Contents (Elt Ideal)) (Np : Memref sig .tc .vmem S2x2x368x2x128 .bf16) (gp : Np.view.ty.Contents (Elt Ideal))
/-- The convolution of unit 0, out of the three planes. -/
def cv0 (w : Vec Ideal S2304x256 .fp8e4m3) (s c : Vec Ideal S1x256 .f32) : FVec Ideal S480x256 .f32 :=
  cvP (View.readAt (Elt Ideal) Nm.view (Rect.unit (s := S2x2x368x2x128) ![0, 0, 4, 0, 0] S1x1x240x2x128.size inb_S2x2x368x2x128_S1x1x240x2x128_0_0_4_0_0).toLoadRect gm) (View.readAt (Elt Ideal) Nm.view (Rect.unit (s := S2x2x368x2x128) ![0, 1, 4, 0, 0] S1x1x240x2x128.size inb_S2x2x368x2x128_S1x1x240x2x128_0_1_4_0_0).toLoadRect gm) (View.readAt (Elt Ideal) N0.view (Rect.unit (s := S2x2x368x2x128) ![0, 0, 4, 0, 0] S1x1x240x2x128.size inb_S2x2x368x2x128_S1x1x240x2x128_0_0_4_0_0).toLoadRect g0) (View.readAt (Elt Ideal) N0.view (Rect.unit (s := S2x2x368x2x128) ![0, 1, 4, 0, 0] S1x1x240x2x128.size inb_S2x2x368x2x128_S1x1x240x2x128_0_1_4_0_0).toLoadRect g0) (View.readAt (Elt Ideal) Np.view (Rect.unit (s := S2x2x368x2x128) ![0, 0, 4, 0, 0] S1x1x240x2x128.size inb_S2x2x368x2x128_S1x1x240x2x128_0_0_4_0_0).toLoadRect gp) (View.readAt (Elt Ideal) Np.view (Rect.unit (s := S2x2x368x2x128) ![0, 1, 4, 0, 0] S1x1x240x2x128.size inb_S2x2x368x2x128_S1x1x240x2x128_0_1_4_0_0).toLoadRect gp) (View.readAt (Elt Ideal) Nm.view (Rect.unit (s := S2x2x368x2x128) ![0, 0, 64, 0, 0] S1x1x240x2x128.size inb_S2x2x368x2x128_S1x1x240x2x128_0_0_64_0_0).toLoadRect gm) (View.readAt (Elt Ideal) Nm.view (Rect.unit (s := S2x2x368x2x128) ![0, 1, 64, 0, 0] S1x1x240x2x128.size inb_S2x2x368x2x128_S1x1x240x2x128_0_1_64_0_0).toLoadRect gm) (View.readAt (Elt Ideal) N0.view (Rect.unit (s := S2x2x368x2x128) ![0, 0, 64, 0, 0] S1x1x240x2x128.size inb_S2x2x368x2x128_S1x1x240x2x128_0_0_64_0_0).toLoadRect g0) (View.readAt (Elt Ideal) N0.view (Rect.unit (s := S2x2x368x2x128) ![0, 1, 64, 0, 0] S1x1x240x2x128.size inb_S2x2x368x2x128_S1x1x240x2x128_0_1_64_0_0).toLoadRect g0) (View.readAt (Elt Ideal) Np.view (Rect.unit (s := S2x2x368x2x128) ![0, 0, 64, 0, 0] S1x1x240x2x128.size inb_S2x2x368x2x128_S1x1x240x2x128_0_0_64_0_0).toLoadRect gp) (View.readAt (Elt Ideal) Np.view (Rect.unit (s := S2x2x368x2x128) ![0, 1, 64, 0, 0] S1x1x240x2x128.size inb_S2x2x368x2x128_S1x1x240x2x128_0_1_64_0_0).toLoadRect gp) (View.readAt (Elt Ideal) Nm.view (Rect.unit (s := S2x2x368x2x128) ![0, 0, 124, 0, 0] S1x1x240x2x128.size inb_S2x2x368x2x128_S1x1x240x2x128_0_0_124_0_0).toLoadRect gm) (View.readAt (Elt Ideal) Nm.view (Rect.unit (s := S2x2x368x2x128) ![0, 1, 124, 0, 0] S1x1x240x2x128.size inb_S2x2x368x2x128_S1x1x240x2x128_0_1_124_0_0).toLoadRect gm) (View.readAt (Elt Ideal) N0.view (Rect.unit (s := S2x2x368x2x128) ![0, 0, 124, 0, 0] S1x1x240x2x128.size inb_S2x2x368x2x128_S1x1x240x2x128_0_0_124_0_0).toLoadRect g0) (View.readAt (Elt Ideal) N0.view (Rect.unit (s := S2x2x368x2x128) ![0, 1, 124, 0, 0] S1x1x240x2x128.size inb_S2x2x368x2x128_S1x1x240x2x128_0_1_124_0_0).toLoadRect g0) (View.readAt (Elt Ideal) Np.view (Rect.unit (s := S2x2x368x2x128) ![0, 0, 124, 0, 0] S1x1x240x2x128.size inb_S2x2x368x2x128_S1x1x240x2x128_0_0_124_0_0).toLoadRect gp) (View.readAt (Elt Ideal) Np.view (Rect.unit (s := S2x2x368x2x128) ![0, 1, 124, 0, 0] S1x1x240x2x128.size inb_S2x2x368x2x128_S1x1x240x2x128_0_1_124_0_0).toLoadRect gp) w s c
variable (k0 : N0.view.ty.Contents (Elt Ideal)) (km : Nm.view.ty.Contents (Elt Ideal)) (kp : Np.view.ty.Contents (Elt Ideal))
/-- The convolution of unit 1, out of the three planes, the last row of taps read from the contents `k0 km kp`. -/
def cv1 (w : Vec Ideal S2304x256 .fp8e4m3) (s c : Vec Ideal S1x256 .f32) : FVec Ideal S480x256 .f32 :=
  cvP (View.readAt (Elt Ideal) Nm.view (Rect.unit (s := S2x2x368x2x128) ![1, 0, 4, 0, 0] S1x1x240x2x128.size inb_S2x2x368x2x128_S1x1x240x2x128_1_0_4_0_0).toLoadRect gm) (View.readAt (Elt Ideal) Nm.view (Rect.unit (s := S2x2x368x2x128) ![1, 1, 4, 0, 0] S1x1x240x2x128.size inb_S2x2x368x2x128_S1x1x240x2x128_1_1_4_0_0).toLoadRect gm) (View.readAt (Elt Ideal) N0.view (Rect.unit (s := S2x2x368x2x128) ![1, 0, 4, 0, 0] S1x1x240x2x128.size inb_S2x2x368x2x128_S1x1x240x2x128_1_0_4_0_0).toLoadRect g0) (View.readAt (Elt Ideal) N0.view (Rect.unit (s := S2x2x368x2x128) ![1, 1, 4, 0, 0] S1x1x240x2x128.size inb_S2x2x368x2x128_S1x1x240x2x128_1_1_4_0_0).toLoadRect g0) (View.readAt (Elt Ideal) Np.view (Rect.unit (s := S2x2x368x2x128) ![1, 0, 4, 0, 0] S1x1x240x2x128.size inb_S2x2x368x2x128_S1x1x240x2x128_1_0_4_0_0).toLoadRect gp) (View.readAt (Elt Ideal) Np.view (Rect.unit (s := S2x2x368x2x128) ![1, 1, 4, 0, 0] S1x1x240x2x128.size inb_S2x2x368x2x128_S1x1x240x2x128_1_1_4_0_0).toLoadRect gp) (View.readAt (Elt Ideal) Nm.view (Rect.unit (s := S2x2x368x2x128) ![1, 0, 64, 0, 0] S1x1x240x2x128.size inb_S2x2x368x2x128_S1x1x240x2x128_1_0_64_0_0).toLoadRect gm) (View.readAt (Elt Ideal) Nm.view (Rect.unit (s := S2x2x368x2x128) ![1, 1, 64, 0, 0] S1x1x240x2x128.size inb_S2x2x368x2x128_S1x1x240x2x128_1_1_64_0_0).toLoadRect gm) (View.readAt (Elt Ideal) N0.view (Rect.unit (s := S2x2x368x2x128) ![1, 0, 64, 0, 0] S1x1x240x2x128.size inb_S2x2x368x2x128_S1x1x240x2x128_1_0_64_0_0).toLoadRect g0) (View.readAt (Elt Ideal) N0.view (Rect.unit (s := S2x2x368x2x128) ![1, 1, 64, 0, 0] S1x1x240x2x128.size inb_S2x2x368x2x128_S1x1x240x2x128_1_1_64_0_0).toLoadRect g0) (View.readAt (Elt Ideal) Np.view (Rect.unit (s := S2x2x368x2x128) ![1, 0, 64, 0, 0] S1x1x240x2x128.size inb_S2x2x368x2x128_S1x1x240x2x128_1_0_64_0_0).toLoadRect gp) (View.readAt (Elt Ideal) Np.view (Rect.unit (s := S2x2x368x2x128) ![1, 1, 64, 0, 0] S1x1x240x2x128.size inb_S2x2x368x2x128_S1x1x240x2x128_1_1_64_0_0).toLoadRect gp) (View.readAt (Elt Ideal) Nm.view (Rect.unit (s := S2x2x368x2x128) ![1, 0, 124, 0, 0] S1x1x240x2x128.size inb_S2x2x368x2x128_S1x1x240x2x128_1_0_124_0_0).toLoadRect km) (View.readAt (Elt Ideal) Nm.view (Rect.unit (s := S2x2x368x2x128) ![1, 1, 124, 0, 0] S1x1x240x2x128.size inb_S2x2x368x2x128_S1x1x240x2x128_1_1_124_0_0).toLoadRect km) (View.readAt (Elt Ideal) N0.view (Rect.unit (s := S2x2x368x2x128) ![1, 0, 124, 0, 0] S1x1x240x2x128.size inb_S2x2x368x2x128_S1x1x240x2x128_1_0_124_0_0).toLoadRect k0) (View.readAt (Elt Ideal) N0.view (Rect.unit (s := S2x2x368x2x128) ![1, 1, 124, 0, 0] S1x1x240x2x128.size inb_S2x2x368x2x128_S1x1x240x2x128_1_1_124_0_0).toLoadRect k0) (View.readAt (Elt Ideal) Np.view (Rect.unit (s := S2x2x368x2x128) ![1, 0, 124, 0, 0] S1x1x240x2x128.size inb_S2x2x368x2x128_S1x1x240x2x128_1_0_124_0_0).toLoadRect kp) (View.readAt (Elt Ideal) Np.view (Rect.unit (s := S2x2x368x2x128) ![1, 1, 124, 0, 0] S1x1x240x2x128.size inb_S2x2x368x2x128_S1x1x240x2x128_1_1_124_0_0).toLoadRect kp) w s c
end

/-- The groups, last first. -/
def groups : List (Fin 60) :=
  [59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]
/-- The stores of unit `u` into the block of results. -/
def lU (u : Fin 2) (y : FVec Ideal S480x256 .f32) : List (View.Piece (Elt Ideal) S8x15x16x128 .bf16) :=
  groups.map fun t => ⟨Rect.unit (s := S8x15x16x128) ![4 * u.val + t.val / 15, t.val % 15, 0, 0] S1x1x16x128.size (tile_inb u t), otile t y⟩
/-- The stores into the block of results. -/
def lP (y0 y1 : FVec Ideal S480x256 .f32) : List (View.Piece (Elt Ideal) S8x15x16x128 .bf16) := lU 1 y1 ++ lU 0 y0
/-- The weights, the scales and the biases as loaded. -/
def w3 (M3 : Memref sig .tc .vmem S2304x256 .fp8e4m3) (f3 : M3.view.ty.Contents (Elt Ideal)) : Vec Ideal S2304x256 .fp8e4m3 := (View.readAt (Elt Ideal) M3.view (Rect.unit (s := S2304x256) ![0, 0] S2304x256.size inb_S2304x256_S2304x256_0_0).toLoadRect f3)
def w4 (M4 : Memref sig .tc .vmem S1x256 .f32) (f4 : M4.view.ty.Contents (Elt Ideal)) : Vec Ideal S1x256 .f32 := (View.readAt (Elt Ideal) M4.view (Rect.unit (s := S1x256) ![0, 0] S1x256.size inb_S1x256_S1x256_0_0).toLoadRect f4)

/-- Reading back out of a plane over contents `f`. -/
def rdB (M : Memref sig .tc .vmem S2x2x368x2x128 .bf16) (f : M.view.ty.Contents (Elt Ideal)) : Reader := fun L r =>
  View.readAt (Elt Ideal) M.view r (M.view.writes (Elt Ideal) f L)
/-- Reading back only what was stored. -/
def rdC (M : Memref sig .tc .vmem S2x2x368x2x128 .bf16) : Reader := fun L r => M.view.readCov L r
theorem rdC_eq (M : Memref sig .tc .vmem S2x2x368x2x128 .bf16) : rdC M = rdB M M.view.junk := by
  funext L r
  unfold rdC rdB View.readCov; rfl
/-- The clearing of a whole plane. -/
def zp : Pieces := [⟨Rect.unit (s := S2x2x368x2x128) ![0, 0, 0, 0, 0] S2x2x368x2x128.size inb_S2x2x368x2x128_S2x2x368x2x128_0_0_0_0_0, constant (F := Ideal) S2x2x368x2x128 .bf16 0x0000#16⟩]
/-- Reading back out of a plane that was cleared first. -/
def rdA (M : Memref sig .tc .vmem S2x2x368x2x128 .bf16) : Reader := fun L r => M.view.readCov (L ++ zp) r
theorem rdA_eq (M : Memref sig .tc .vmem S2x2x368x2x128 .bf16) : rdA M = rdB M (M.view.writes (Elt Ideal) M.view.junk zp) := by
  funext L r
  unfold rdA rdB View.readCov; rw [View.writes_append]

end Cert.CoarseIdeal.Val

end
-- ==== Proof.CPay.lean ====
/-
  What one store into a plane writes, element by element: the pixels of four rows in order, two to a word, moved by one
  pixel in the second and the third plane, with zeros where the row ends.
-/
module

public import proofs.«01_k».proof.Proof.CCanon
public import proofs.«01_k».proof.Proof.PieceLemmas
public import proofs.«01_k».proof.Proof.ConvVal

@[expose] public section

set_option maxRecDepth 16384

noncomputable section

namespace Cert.CoarseIdeal.Val

open Idealize.ShloMosaic Idealize.ShloMosaic.TcCoe Idealize.SL.Sem Cert.CoarseIdeal Cert.CoarseIdeal.Gen
open Idealize.ShloMosaic.Pipeline (Dat Cfg Window BodyObligation cellOf)

open Cert.KernelIdeal.Val (MK select_eq dite_of ite_of)

/-- Word `k`, parity `e`, lane `l` of the plane moved by `j - 1` pixels. -/
def PF (j : ℕ) (W : ℕ → ℕ → ℕ → EReal) (k e l : ℕ) : EReal :=
  if 2 * (k % 60) + e + j = 0 ∨ 120 < 2 * (k % 60) + e + j then 0 else W (k / 60) (2 * (k % 60) + e + j - 1) l

theorem col_val (k : Fin 240) (l : Fin 128) :
    k0_pay106 (ix2 k l) = BitVec.ofNat 32 (k.val % 60) := by
  pointwise [k0_pay106]
  clear l
  revert k
  decide +kernel

theorem eqm_iff {a m : ℕ} (ha : a < 60) (hm : m < 60) :
    IntOp.cmpi CmpIPredicate.eq (BitVec.ofNat 32 a) (BitVec.ofNat 32 m) = 1#1 ↔ a = m := by
  rw [show IntOp.cmpi CmpIPredicate.eq (BitVec.ofNat 32 a) (BitVec.ofNat 32 m) = BitVec.ofBool (BitVec.ofNat 32 a == BitVec.ofNat 32 m) from rfl]
  constructor
  · intro h
    by_contra hne
    have : (BitVec.ofNat 32 a == BitVec.ofNat 32 m) = false := by
      rw [beq_eq_false_iff_ne]
      intro hh
      have := congrArg BitVec.toNat hh
      simp only [BitVec.toNat_ofNat] at this
      omega
    rw [this] at h
    exact absurd h (by decide)
  · rintro rfl
    rw [beq_self_eq_true]; rfl

section
variable {q : Q4} {s : Val.M4} {W : ℕ → ℕ → ℕ → EReal}
  (hq : ∀ (r : Fin 4) (a : Fin 120) (l : Fin 128), q (ix3 r a l) * s (ix3 r a l) = W r a l)

include hq in
theorem pay100_val (p : Fin 480) (l : Fin 128) : k0_pay100 (k0_pay98 q) s (ix2 p l) = W (p.val / 120) (p.val % 120) l := by
  pointwise [k0_pay100, k0_pay98]
  exact hq _ _ _
include hq in
theorem pay101_val (k : Fin 240) (l : Fin 128) : k0_pay101 (k0_pay98 q) s (ix2 k l) = W (k.val / 60) (2 * (k.val % 60)) l := by
  pointwise [k0_pay101]
  refine (pay100_val hq _ _).trans ?_
  show W ((2 * k.val + 0) / 120) ((2 * k.val + 0) % 120) l = _
  rw [show (2 * k.val + 0) / 120 = k.val / 60 by omega, show (2 * k.val + 0) % 120 = 2 * (k.val % 60) by omega]
include hq in
theorem pay102_val (k : Fin 240) (l : Fin 128) : k0_pay102 (k0_pay98 q) s (ix2 k l) = W (k.val / 60) (2 * (k.val % 60) + 1) l := by
  pointwise [k0_pay102]
  refine (pay100_val hq _ _).trans ?_
  show W ((2 * k.val + 1) / 120) ((2 * k.val + 1) % 120) l = _
  rw [show (2 * k.val + 1) / 120 = k.val / 60 by omega, show (2 * k.val + 1) % 120 = 2 * (k.val % 60) + 1 by omega]

include hq in
theorem p0_ix (k : Fin 240) (e : Fin 2) (l : Fin 128) : p0 q s (ix5 0 0 k e l) = PF 1 W k e l := by
  pointwise [p0, k0_pay107]
  have h2 : (k : ℕ) < 240 := k.isLt
  have h3 : (e : ℕ) < 2 := e.isLt
  unfold PF
  by_cases h : (e : ℕ) % 2 = 0
  · rw [if_pos h, if_neg (by omega)]
    refine (pay101_val hq _ _).trans ?_
    rw [show 2 * ((k : ℕ) % 60) + (e : ℕ) + 1 - 1 = 2 * ((k : ℕ) % 60) by omega]
  · rw [if_neg h, if_neg (by omega)]
    refine (pay102_val hq _ _).trans ?_
    rw [show 2 * ((k : ℕ) % 60) + (e : ℕ) + 1 - 1 = 2 * ((k : ℕ) % 60) + 1 by omega]
include hq in
theorem pm_ix (k : Fin 240) (e : Fin 2) (l : Fin 128) : pm q s (ix5 0 0 k e l) = PF 0 W k e l := by
  pointwise [pm, k0_pay109, k0_pay108, io]
  have h2 : (k : ℕ) < 240 := k.isLt
  have h3 : (e : ℕ) < 2 := e.isLt
  rw [col_val, select_eq]
  unfold PF
  by_cases h : (e : ℕ) % 2 = 0
  · rw [if_pos h]
    by_cases h0 : (k : ℕ) % 60 = 0
    · rw [if_pos (eqm_iff (by omega) (by omega) |>.2 h0), if_pos (by omega)]
    · rw [if_neg (fun hh => h0 ((eqm_iff (by omega) (by omega)).1 hh)), if_neg (by omega)]
      refine (pay102_val hq _ _).trans ?_
      show W (((k : ℕ) + 240 - 1) % 240 / 60) (2 * (((k : ℕ) + 240 - 1) % 240 % 60) + 1) l = _
      rw [show ((k : ℕ) + 240 - 1) % 240 / 60 = (k : ℕ) / 60 by omega,
        show 2 * (((k : ℕ) + 240 - 1) % 240 % 60) + 1 = 2 * ((k : ℕ) % 60) + (e : ℕ) + 0 - 1 by omega]
  · rw [if_neg h, if_neg (by omega)]
    refine (pay101_val hq _ _).trans ?_
    rw [show 2 * ((k : ℕ) % 60) + (e : ℕ) + 0 - 1 = 2 * ((k : ℕ) % 60) by omega]
include hq in
theorem pp_ix (k : Fin 240) (e : Fin 2) (l : Fin 128) : pp q s (ix5 0 0 k e l) = PF 2 W k e l := by
  pointwise [pp, k0_pay110, io]
  have h2 : (k : ℕ) < 240 := k.isLt
  have h3 : (e : ℕ) < 2 := e.isLt
  rw [col_val, select_eq]
  unfold PF
  by_cases h : (e : ℕ) % 2 = 0
  · rw [if_pos h, if_neg (by omega)]
    refine (pay102_val hq _ _).trans ?_
    rw [show 2 * ((k : ℕ) % 60) + (e : ℕ) + 2 - 1 = 2 * ((k : ℕ) % 60) + 1 by omega]
  · rw [if_neg h]
    by_cases h0 : (k : ℕ) % 60 = 59
    · rw [if_pos (eqm_iff (by omega) (by omega) |>.2 h0), if_pos (by omega)]
    · rw [if_neg (fun hh => h0 ((eqm_iff (by omega) (by omega)).1 hh)), if_neg (by omega)]
      refine (pay101_val hq _ _).trans ?_
      show W (((k : ℕ) + 240 - 239) % 240 / 60) (2 * (((k : ℕ) + 240 - 239) % 240 % 60)) l = _
      rw [show ((k : ℕ) + 240 - 239) % 240 / 60 = (k : ℕ) / 60 by omega,
        show 2 * (((k : ℕ) + 240 - 239) % 240 % 60) = 2 * ((k : ℕ) % 60) + (e : ℕ) + 2 - 1 by omega]
theorem ix_of (x : S1x1x240x2x128.Idx) : x = ix5 0 0 (x 2) (x 3) (x 4) := by
  have h0 : (x 0 : ℕ) < 1 := (x 0).isLt
  have h1 : (x 1 : ℕ) < 1 := (x 1).isLt
  funext a
  refine Fin.ext ?_
  match a with
  | ⟨0, _⟩ => show (x 0 : ℕ) = 0; omega
  | ⟨1, _⟩ => show (x 1 : ℕ) = 0; omega
  | ⟨2, _⟩ => rfl
  | ⟨3, _⟩ => rfl
  | ⟨4, _⟩ => rfl
include hq in
theorem p0_val (x : S1x1x240x2x128.Idx) : p0 q s x = PF 1 W (x 2) (x 3) (x 4) :=
  (congrArg (p0 q s) (ix_of x)).trans (p0_ix hq _ _ _)
include hq in
theorem pm_val (x : S1x1x240x2x128.Idx) : pm q s x = PF 0 W (x 2) (x 3) (x 4) :=
  (congrArg (pm q s) (ix_of x)).trans (pm_ix hq _ _ _)
include hq in
theorem pp_val (x : S1x1x240x2x128.Idx) : pp q s x = PF 2 W (x 2) (x 3) (x 4) :=
  (congrArg (pp q s) (ix_of x)).trans (pp_ix hq _ _ _)
end

theorem hl_val (v : BitVec 1) (raw : Row1) (x : S1x1x60x2x128.Idx) : hl v raw x = if v = 1#1 then (raw x : EReal) else 0 := by
  pointwise [hl, k0_pay115]
  have h0 : (x 0 : ℕ) < 1 := (x 0).isLt
  have h1 : (x 1 : ℕ) < 1 := (x 1).isLt
  have h3 : (x 3 : ℕ) < 2 := (x 3).isLt
  rw [select_eq, select_eq]
  have hx : ∀ e : Fin 2, (x 3 : ℕ) = e.val → raw (ix5 0 0 (x 2) e (x 4)) = raw x := by
    intro e he
    refine congrArg raw (funext fun a => Fin.ext ?_)
    match a with
    | ⟨0, _⟩ => show 0 = (x 0 : ℕ); omega
    | ⟨1, _⟩ => show 0 = (x 1 : ℕ); omega
    | ⟨2, _⟩ => rfl
    | ⟨3, _⟩ => exact he.symm
    | ⟨4, _⟩ => rfl
  split_ifs with h hv hv
  · exact hx 0 (by show (x 3 : ℕ) = 0; omega)
  · rfl
  · exact hx 1 (by show (x 3 : ℕ) = 1; omega)
  · rfl

end Cert.CoarseIdeal.Val

end
-- ==== Proof.CLists.lean ====
/-
  The lists of stores of one point, against the pixels `L` of the point's block: each store writes its place's pixels, and
  the stores reach every place but the slots that belong to the neighbouring points. `T j V` is the plane moved by `j - 1`
  pixels of the rows `V u s` (unit `u`, slot `s`).
-/
module

public import proofs.«01_k».proof.Proof.CPay

@[expose] public section

set_option maxRecDepth 16384

noncomputable section

namespace Cert.CoarseIdeal.Val

open Idealize.ShloMosaic Idealize.ShloMosaic.TcCoe Idealize.SL.Sem Cert.CoarseIdeal Cert.CoarseIdeal.Gen
open Idealize.ShloMosaic.Pipeline (Dat Cfg Window BodyObligation cellOf)

open Cert.KernelIdeal.Val (MK select_eq)

/-- The rows of a plane: unit, slot, pixel, channel. -/
abbrev Rows := ℕ → ℕ → ℕ → ℕ → EReal
abbrev PIdx := S2x2x368x2x128.Idx

/-- A padded row: a zero before its 120 pixels and after them. -/
def VP (W : ℕ → ℕ → EReal) (x c : ℕ) : EReal := if x = 0 ∨ 120 < x then 0 else W (x - 1) c
def T (j : ℕ) (V : Rows) (y : PIdx) : EReal :=
  VP (V (y 0) (((y 2 : ℕ) - 4) / 60)) (2 * (((y 2 : ℕ) - 4) % 60) + y 3 + j) (128 * (y 1) + y 4)

theorem MK_VP {v : BitVec 1} {W : ℕ → ℕ → EReal} {x c : ℕ} : VP (MK v W) x c = if v = 1#1 then VP W x c else 0 := by
  unfold VP MK; split_ifs <;> rfl

/-- A place read after a list of stores: the target's value, if every store writes the target and the place was right where
    no store reaches it. -/
theorem read_writes_target {κ : Kind} {sp : Space} {s : Shape} {e : EltTy} (v : View sig κ sp s e)
    (f : v.ty.Contents (Elt Ideal)) (T : s.Idx → Elt Ideal e) (y : s.Idx) (L : List (View.Piece (Elt Ideal) s e))
    (hL : ∀ p ∈ L, ∀ x, p.2 x = T (p.1.emb x))
    (hb : (∀ p ∈ L, y ∉ p.1.set) → v.read (Elt Ideal) f y = T y) :
    v.read (Elt Ideal) (v.writes (Elt Ideal) f L) y = T y := by
  induction L with
  | nil => exact hb (by simp)
  | cons p L ih =>
    by_cases hy : y ∈ p.1.set
    · have hm := hy
      rw [← Rect.map_emb_univ, Finset.mem_map] at hm
      obtain ⟨x, -, hx'⟩ := hm
      refine (View.read_writes_cons_hit v f p.1 p.2 L x y hx').trans ?_
      rw [hL p (by simp) x, hx']
    · rw [View.read_writes_cons_miss v f p L y hy]
      exact ih (fun p hp => hL p (by simp [hp])) (fun h => hb (by
        intro p' hp'
        rcases List.mem_cons.1 hp' with rfl | hp'
        · exact hy
        · exact h p' hp'))

theorem unit_emb_val {S : Shape} (off size : Fin S.rank → ℕ) (inb) (x : (Rect.unit off size inb).shape.Idx) (a : Fin S.rank) :
    ((Rect.unit off size inb).emb x a : ℕ) = off a + x a := Rect.idx_unit_val off size inb x a

theorem emb4 (u h d : ℕ) (inb) (x : S1x1x240x2x128.Idx) (y : PIdx)
    (hy : (Rect.unit (s := S2x2x368x2x128) ![u, h, d, 0, 0] S1x1x240x2x128.size inb).emb x = y) :
    (y 0 : ℕ) = u ∧ (y 1 : ℕ) = h ∧ (y 2 : ℕ) = d + x 2 ∧ (y 3 : ℕ) = x 3 ∧ (y 4 : ℕ) = x 4 := by
  subst hy
  have h0 : (x 0 : ℕ) < 1 := (x 0).isLt
  have h1 : (x 1 : ℕ) < 1 := (x 1).isLt
  exact ⟨(unit_emb_val _ _ inb x 0).trans (by show u + (x 0 : ℕ) = u; omega), (unit_emb_val _ _ inb x 1).trans (by show h + (x 1 : ℕ) = h; omega),
    unit_emb_val _ _ inb x 2, (unit_emb_val _ _ inb x 3).trans (Nat.zero_add _), (unit_emb_val _ _ inb x 4).trans (Nat.zero_add _)⟩
theorem emb1 (u h d : ℕ) (inb) (x : S1x1x60x2x128.Idx) (y : PIdx)
    (hy : (Rect.unit (s := S2x2x368x2x128) ![u, h, d, 0, 0] S1x1x60x2x128.size inb).emb x = y) :
    (y 0 : ℕ) = u ∧ (y 1 : ℕ) = h ∧ (y 2 : ℕ) = d + x 2 ∧ (y 3 : ℕ) = x 3 ∧ (y 4 : ℕ) = x 4 := by
  subst hy
  have h0 : (x 0 : ℕ) < 1 := (x 0).isLt
  have h1 : (x 1 : ℕ) < 1 := (x 1).isLt
  exact ⟨(unit_emb_val _ _ inb x 0).trans (by show u + (x 0 : ℕ) = u; omega), (unit_emb_val _ _ inb x 1).trans (by show h + (x 1 : ℕ) = h; omega),
    unit_emb_val _ _ inb x 2, (unit_emb_val _ _ inb x 3).trans (Nat.zero_add _), (unit_emb_val _ _ inb x 4).trans (Nat.zero_add _)⟩

theorem nmF {u h d : ℕ} {inb} {y : PIdx} (hy : y ∉ (Rect.unit (s := S2x2x368x2x128) ![u, h, d, 0, 0] S1x1x240x2x128.size inb).set) :
    ¬ ((y 0 : ℕ) = u ∧ (y 1 : ℕ) = h ∧ d ≤ (y 2 : ℕ) ∧ (y 2 : ℕ) < d + 240) := by
  rintro ⟨h0, h1, h2, h2'⟩
  refine hy (Rect.mem_set_unit.2 fun a => ?_)
  have h3 : (y 3 : ℕ) < 2 := (y 3).isLt
  have h4 : (y 4 : ℕ) < 128 := (y 4).isLt
  match a with
  | ⟨0, _⟩ => exact ⟨le_of_eq h0.symm, by show (y 0 : ℕ) < u + 1; omega⟩
  | ⟨1, _⟩ => exact ⟨le_of_eq h1.symm, by show (y 1 : ℕ) < h + 1; omega⟩
  | ⟨2, _⟩ => exact ⟨h2, h2'⟩
  | ⟨3, _⟩ => exact ⟨Nat.zero_le _, by show (y 3 : ℕ) < 0 + 2; omega⟩
  | ⟨4, _⟩ => exact ⟨Nat.zero_le _, by show (y 4 : ℕ) < 0 + 128; omega⟩
theorem nmH {u h d : ℕ} {inb} {y : PIdx} (hy : y ∉ (Rect.unit (s := S2x2x368x2x128) ![u, h, d, 0, 0] S1x1x60x2x128.size inb).set) :
    ¬ ((y 0 : ℕ) = u ∧ (y 1 : ℕ) = h ∧ d ≤ (y 2 : ℕ) ∧ (y 2 : ℕ) < d + 60) := by
  rintro ⟨h0, h1, h2, h2'⟩
  refine hy (Rect.mem_set_unit.2 fun a => ?_)
  have h3 : (y 3 : ℕ) < 2 := (y 3).isLt
  have h4 : (y 4 : ℕ) < 128 := (y 4).isLt
  match a with
  | ⟨0, _⟩ => exact ⟨le_of_eq h0.symm, by show (y 0 : ℕ) < u + 1; omega⟩
  | ⟨1, _⟩ => exact ⟨le_of_eq h1.symm, by show (y 1 : ℕ) < h + 1; omega⟩
  | ⟨2, _⟩ => exact ⟨h2, h2'⟩
  | ⟨3, _⟩ => exact ⟨Nat.zero_le _, by show (y 3 : ℕ) < 0 + 2; omega⟩
  | ⟨4, _⟩ => exact ⟨Nat.zero_le _, by show (y 4 : ℕ) < 0 + 128; omega⟩

/-- The rows of the set being filled. -/
structure CurRows (i : grid0.Coords) (L : ℕ → ℕ → ℕ → EReal) (V : Rows) : Prop where
  main : ∀ u s a c, u < 2 → 1 ≤ s → s ≤ 4 → V u s a c = L (4 * u + s - 1) a c
  below : ∀ a c, V 0 5 a c = MK (kA i 1#32) (L 4) a c
  above : ∀ a c, V 1 0 a c = MK (kB i 0#32) (L 3) a c
/-- The last slot of the other set. -/
def OthA (i : grid0.Coords) (L : ℕ → ℕ → ℕ → EReal) (V : Rows) : Prop := ∀ a c, V 1 5 a c = MK (kA i 0#32) (L 0) a c
/-- The first slot of the other set. -/
def OthB (i : grid0.Coords) (L : ℕ → ℕ → ℕ → EReal) (V : Rows) : Prop := ∀ a c, V 0 0 a c = MK (kB i 1#32) (L 7) a c

/-- Rows that fit one point's pixels. -/
def VC (i : grid0.Coords) (L : ℕ → ℕ → ℕ → EReal) : Rows := fun u s a c =>
  if u = 0 ∧ s = 5 then MK (kA i 1#32) (L 4) a c else if u = 1 ∧ s = 0 then MK (kB i 0#32) (L 3) a c else L (4 * u + s - 1) a c
theorem VC_cur (i : grid0.Coords) (L : ℕ → ℕ → ℕ → EReal) : CurRows i L (VC i L) where
  main u s a c hu h1 h8 := by unfold VC; rw [if_neg (by omega), if_neg (by omega)]
  below a c := by unfold VC; rw [if_pos (by omega)]
  above a c := by unfold VC; rw [if_neg (by omega), if_pos (by omega)]

/-- What a payload of four rows writes. -/
def PayOk (j : ℕ) (P : Q4 → Val.M4 → Raw) : Prop := ∀ (q : Q4) (s : Val.M4) (W : ℕ → ℕ → ℕ → EReal),
  (∀ (r : Fin 4) (a : Fin 120) (l : Fin 128), q (ix3 r a l) * s (ix3 r a l) = W r a l) → ∀ x, P q s x = PF j W (x 2) (x 3) (x 4)
theorem ok0 : PayOk 1 p0 := fun q s W h => p0_val h
theorem okm : PayOk 0 pm := fun q s W h => pm_val h
theorem okp : PayOk 2 pp := fun q s W h => pp_val h

theorem pF {j : ℕ} {P : Q4 → Val.M4 → Raw} (hP : PayOk j P) (u h : ℕ) (inb) (V : Rows) {q : Q4} {s : Val.M4}
    (hq : ∀ (r : Fin 4) (a : Fin 120) (l : Fin 128), q (ix3 r a l) * s (ix3 r a l) = V u (1 + r) a (128 * h + l)) (x : S1x1x240x2x128.Idx) :
    P q s x = T j V ((Rect.unit (s := S2x2x368x2x128) ![u, h, 64, 0, 0] S1x1x240x2x128.size inb).emb x) := by
  rw [hP q s (fun r a l => V u (1 + r) a (128 * h + l)) hq x]
  have h2 : (x 2 : ℕ) < 240 := (x 2).isLt
  generalize hy : (Rect.unit (s := S2x2x368x2x128) ![u, h, 64, 0, 0] S1x1x240x2x128.size inb).emb x = y
  obtain ⟨e0, e1, e2, e3, e4⟩ := emb4 u h 64 inb x y hy
  unfold T PF VP
  rw [e0, e1, e2, e3, e4, show (64 + (x 2 : ℕ) - 4) / 60 = 1 + (x 2 : ℕ) / 60 by omega, show (64 + (x 2 : ℕ) - 4) % 60 = (x 2 : ℕ) % 60 by omega]

theorem pH {j : ℕ} (u h d ds : ℕ) (hd : d = 4 + 60 * ds) (inb) (V : Rows) (v : BitVec 1) {W : ℕ → ℕ → EReal} {raw : Row1}
    (hr : ∀ x : S1x1x60x2x128.Idx, raw x = VP W (2 * (x 2 : ℕ) + x 3 + j) (128 * h + x 4))
    (hV : ∀ a c, V u ds a c = MK v W a c) (x : S1x1x60x2x128.Idx) :
    hl v raw x = T j V ((Rect.unit (s := S2x2x368x2x128) ![u, h, d, 0, 0] S1x1x60x2x128.size inb).emb x) := by
  rw [hl_val, hr x]
  have h2 : (x 2 : ℕ) < 60 := (x 2).isLt
  generalize hy : (Rect.unit (s := S2x2x368x2x128) ![u, h, d, 0, 0] S1x1x60x2x128.size inb).emb x = y
  obtain ⟨e0, e1, e2, e3, e4⟩ := emb1 u h d inb x y hy
  unfold T
  rw [e0, e1, e2, e3, e4, show (d + (x 2 : ℕ) - 4) / 60 = ds by omega, show (d + (x 2 : ℕ) - 4) % 60 = (x 2 : ℕ) by omega,
    show V u ds = MK v W from funext fun a => funext fun c => hV a c, MK_VP]

section
variable {i : grid0.Coords} {L : ℕ → ℕ → ℕ → EReal} {j : ℕ}

/-- A row read back from the plane being filled. -/
theorem srcOk {V : Rows} (hV : CurRows i L V) (u h d ds : ℕ) (hu : u < 2) (hd : d = 4 + 60 * ds) (h1 : 1 ≤ ds) (h4 : ds ≤ 4) (inb0 inb)
    (Ls : Pieces) (hok : ∀ p ∈ Ls, ∀ x, p.2 x = T j V (p.1.emb x))
    (hc : ∃ w, (⟨Rect.unit (s := S2x2x368x2x128) ![u, h, 64, 0, 0] S1x1x240x2x128.size inb0, w⟩ : View.Piece (Elt Ideal) S2x2x368x2x128 .bf16) ∈ Ls)
    (M : Memref sig .tc .vmem S2x2x368x2x128 .bf16) (f : M.view.ty.Contents (Elt Ideal)) (o : ℕ) (ho : o = 4 * u + ds - 1) (x : S1x1x60x2x128.Idx) :
    rdB M f Ls (Rect.unit (s := S2x2x368x2x128) ![u, h, d, 0, 0] S1x1x60x2x128.size inb).toLoadRect x = VP (L o) (2 * (x 2 : ℕ) + x 3 + j) (128 * h + x 4) := by
  have h2 : (x 2 : ℕ) < 60 := (x 2).isLt
  generalize hy : (Rect.unit (s := S2x2x368x2x128) ![u, h, d, 0, 0] S1x1x60x2x128.size inb).emb x = y
  obtain ⟨e0, e1, e2, e3, e4⟩ := emb1 u h d inb x y hy
  have key : rdB M f Ls (Rect.unit (s := S2x2x368x2x128) ![u, h, d, 0, 0] S1x1x60x2x128.size inb).toLoadRect x = T j V y := by
    refine Eq.trans (congrArg (M.view.read (Elt Ideal) (M.view.writes (Elt Ideal) f Ls)) hy) ?_
    refine read_writes_target M.view f (T j V) y _ hok fun hn => ?_
    obtain ⟨w, hw⟩ := hc
    exact absurd ⟨e0, e1, by omega, by omega⟩ (nmF (inb := inb0) (hn _ hw))
  refine key.trans ?_
  unfold T
  rw [e0, e1, e2, e3, e4, show (d + (x 2 : ℕ) - 4) / 60 = ds by omega, show (d + (x 2 : ℕ) - 4) % 60 = (x 2 : ℕ) by omega,
    show V u ds = L o from funext fun a => funext fun c => (hV.main u ds a c hu h1 h4).trans (by rw [ho])]

variable {M1 : Memref sig .tc .vmem S8x120x256 .fp8e4m3} {f1 : M1.view.ty.Contents (Elt Ideal)}
  {M2 : Memref sig .tc .vmem S8x120x256 .f32} {f2 : M2.view.ty.Contents (Elt Ideal)}
  (hL : ∀ j : S8x120x256.Idx, ((M1.view.read (Elt Ideal) f1 j : EReal) * (M2.view.read (Elt Ideal) f2 j : EReal)) = L (j 0) (j 1) (j 2))

include hL in
theorem hq_gen {V : Rows} (hV : CurRows i L V) (u h : ℕ) (hu : u < 2) (inb) (r : Fin 4) (a : Fin 120) (l : Fin 128) :
    @HMul.hMul EReal EReal EReal _ (View.readAt (Elt Ideal) M1.view (Rect.unit (s := S8x120x256) ![4 * u, 0, 128 * h] S4x120x128.size inb).toLoadRect f1 (ix3 r a l))
      (View.readAt (Elt Ideal) M2.view (Rect.unit (s := S8x120x256) ![4 * u, 0, 128 * h] S4x120x128.size inb).toLoadRect f2 (ix3 r a l))
      = V u (1 + r) a (128 * h + l) := by
  have hr := r.isLt
  refine (hL ((Rect.unit (s := S8x120x256) ![4 * u, 0, 128 * h] S4x120x128.size inb).emb (ix3 r a l))).trans ?_
  have e0 : ((Rect.unit (s := S8x120x256) ![4 * u, 0, 128 * h] S4x120x128.size inb).emb (ix3 r a l) 0 : ℕ) = 4 * u + r := unit_emb_val _ _ inb (ix3 r a l) 0
  have e1 : ((Rect.unit (s := S8x120x256) ![4 * u, 0, 128 * h] S4x120x128.size inb).emb (ix3 r a l) 1 : ℕ) = a := (unit_emb_val _ _ inb (ix3 r a l) 1).trans (Nat.zero_add _)
  have e2 : ((Rect.unit (s := S8x120x256) ![4 * u, 0, 128 * h] S4x120x128.size inb).emb (ix3 r a l) 2 : ℕ) = 128 * h + l := unit_emb_val _ _ inb (ix3 r a l) 2
  rw [e0, e1, e2, hV.main u (1 + r) a (128 * h + l) hu (by omega) (by omega), show 4 * u + (1 + (r : ℕ)) - 1 = 4 * u + r by omega]

variable {P : Q4 → Val.M4 → Raw} (hP : PayOk j P) {M : Memref sig .tc .vmem S2x2x368x2x128 .bf16} {f : M.view.ty.Contents (Elt Ideal)}

include hL hP in
theorem lC1_ok {V : Rows} (hV : CurRows i L V) : ∀ p ∈ lC1 M1 f1 M2 f2 P, ∀ x, p.2 x = T j V (p.1.emb x) :=
  List.forall_mem_cons.2 ⟨fun x => pF hP 0 0 inb_S2x2x368x2x128_S1x1x240x2x128_0_0_64_0_0 V (hq_gen hL hV 0 0 (by omega) _) x, List.forall_mem_nil _⟩

include hL hP in
theorem lC2_ok {V : Rows} (hV : CurRows i L V) : ∀ p ∈ lC2 M1 f1 M2 f2 P, ∀ x, p.2 x = T j V (p.1.emb x) :=
  List.forall_mem_cons.2 ⟨fun x => pF hP 0 1 inb_S2x2x368x2x128_S1x1x240x2x128_0_1_64_0_0 V (hq_gen hL hV 0 1 (by omega) _) x, (lC1_ok hL hP hV)⟩

include hL hP in
theorem lC3_ok {V : Rows} (hV : CurRows i L V) : ∀ p ∈ lC3 i M1 f1 M2 f2 P (rdB M f), ∀ x, p.2 x = T j V (p.1.emb x) :=
  List.forall_mem_cons.2 ⟨fun x => pH 1 0 4 0 rfl inb_S2x2x368x2x128_S1x1x60x2x128_1_0_4_0_0 V _
    (srcOk hV 0 0 244 4 (by omega) rfl (by omega) (by omega) inb_S2x2x368x2x128_S1x1x240x2x128_0_0_64_0_0 inb_S2x2x368x2x128_S1x1x60x2x128_0_0_244_0_0 _ (lC2_ok hL hP hV) ⟨_, List.mem_cons_of_mem _ (List.mem_cons_self ..)⟩ M f 3 rfl)
    (fun a c => hV.above a c) x, (lC2_ok hL hP hV)⟩

include hL hP in
theorem lC4_ok {V : Rows} (hV : CurRows i L V) : ∀ p ∈ lC4 i M1 f1 M2 f2 P (rdB M f), ∀ x, p.2 x = T j V (p.1.emb x) :=
  List.forall_mem_cons.2 ⟨fun x => pH 1 1 4 0 rfl inb_S2x2x368x2x128_S1x1x60x2x128_1_1_4_0_0 V _
    (srcOk hV 0 1 244 4 (by omega) rfl (by omega) (by omega) inb_S2x2x368x2x128_S1x1x240x2x128_0_1_64_0_0 inb_S2x2x368x2x128_S1x1x60x2x128_0_1_244_0_0 _ (lC3_ok hL hP hV) ⟨_, List.mem_cons_of_mem _ (List.mem_cons_self ..)⟩ M f 3 rfl)
    (fun a c => hV.above a c) x, (lC3_ok hL hP hV)⟩

include hL hP in
theorem lC5_ok {V : Rows} (hV : CurRows i L V) : ∀ p ∈ lC5 i M1 f1 M2 f2 P (rdB M f), ∀ x, p.2 x = T j V (p.1.emb x) :=
  List.forall_mem_cons.2 ⟨fun x => pF hP 1 0 inb_S2x2x368x2x128_S1x1x240x2x128_1_0_64_0_0 V (hq_gen hL hV 1 0 (by omega) _) x, (lC4_ok hL hP hV)⟩

include hL hP in
theorem lC6_ok {V : Rows} (hV : CurRows i L V) : ∀ p ∈ lC6 i M1 f1 M2 f2 P (rdB M f), ∀ x, p.2 x = T j V (p.1.emb x) :=
  List.forall_mem_cons.2 ⟨fun x => pF hP 1 1 inb_S2x2x368x2x128_S1x1x240x2x128_1_1_64_0_0 V (hq_gen hL hV 1 1 (by omega) _) x, (lC5_ok hL hP hV)⟩

include hL hP in
theorem lC7_ok {V : Rows} (hV : CurRows i L V) : ∀ p ∈ lC7 i M1 f1 M2 f2 P (rdB M f), ∀ x, p.2 x = T j V (p.1.emb x) :=
  List.forall_mem_cons.2 ⟨fun x => pH 0 0 304 5 rfl inb_S2x2x368x2x128_S1x1x60x2x128_0_0_304_0_0 V _
    (srcOk hV 1 0 64 1 (by omega) rfl (by omega) (by omega) inb_S2x2x368x2x128_S1x1x240x2x128_1_0_64_0_0 inb_S2x2x368x2x128_S1x1x60x2x128_1_0_64_0_0 _ (lC6_ok hL hP hV) ⟨_, List.mem_cons_of_mem _ (List.mem_cons_self ..)⟩ M f 4 rfl)
    (fun a c => hV.below a c) x, (lC6_ok hL hP hV)⟩

include hL hP in
theorem lC8_ok {V : Rows} (hV : CurRows i L V) : ∀ p ∈ lC8 i M1 f1 M2 f2 P (rdB M f), ∀ x, p.2 x = T j V (p.1.emb x) :=
  List.forall_mem_cons.2 ⟨fun x => pH 0 1 304 5 rfl inb_S2x2x368x2x128_S1x1x60x2x128_0_1_304_0_0 V _
    (srcOk hV 1 1 64 1 (by omega) rfl (by omega) (by omega) inb_S2x2x368x2x128_S1x1x240x2x128_1_1_64_0_0 inb_S2x2x368x2x128_S1x1x60x2x128_1_1_64_0_0 _ (lC7_ok hL hP hV) ⟨_, List.mem_cons_of_mem _ (List.mem_cons_self ..)⟩ M f 4 rfl)
    (fun a c => hV.below a c) x, (lC7_ok hL hP hV)⟩

include hL hP in
theorem lN1_ok {V : Rows} (hA : OthA i L V) : ∀ p ∈ lN1 i M1 f1 M2 f2 P (rdB M f), ∀ x, p.2 x = T j V (p.1.emb x) :=
  List.forall_mem_cons.2 ⟨fun x => pH 1 0 304 5 rfl inb_S2x2x368x2x128_S1x1x60x2x128_1_0_304_0_0 V _
    (srcOk (VC_cur i L) 0 0 64 1 (by omega) rfl (by omega) (by omega) inb_S2x2x368x2x128_S1x1x240x2x128_0_0_64_0_0 inb_S2x2x368x2x128_S1x1x60x2x128_0_0_64_0_0 _ (lC2_ok hL hP (VC_cur i L)) ⟨_, List.mem_cons_of_mem _ (List.mem_cons_self ..)⟩ M f 0 rfl)
    hA x, List.forall_mem_nil _⟩

include hL hP in
theorem lN2_ok {V : Rows} (hA : OthA i L V) : ∀ p ∈ lN2 i M1 f1 M2 f2 P (rdB M f), ∀ x, p.2 x = T j V (p.1.emb x) :=
  List.forall_mem_cons.2 ⟨fun x => pH 1 1 304 5 rfl inb_S2x2x368x2x128_S1x1x60x2x128_1_1_304_0_0 V _
    (srcOk (VC_cur i L) 0 1 64 1 (by omega) rfl (by omega) (by omega) inb_S2x2x368x2x128_S1x1x240x2x128_0_1_64_0_0 inb_S2x2x368x2x128_S1x1x60x2x128_0_1_64_0_0 _ (lC3_ok hL hP (VC_cur i L)) ⟨_, List.mem_cons_of_mem _ (List.mem_cons_self ..)⟩ M f 0 rfl)
    hA x, (lN1_ok hL hP hA)⟩

include hL hP in
theorem lN3_ok {V : Rows} (hA : OthA i L V) (hB : OthB i L V) : ∀ p ∈ lN3 i M1 f1 M2 f2 P (rdB M f), ∀ x, p.2 x = T j V (p.1.emb x) :=
  List.forall_mem_cons.2 ⟨fun x => pH 0 0 4 0 rfl inb_S2x2x368x2x128_S1x1x60x2x128_0_0_4_0_0 V _
    (srcOk (VC_cur i L) 1 0 244 4 (by omega) rfl (by omega) (by omega) inb_S2x2x368x2x128_S1x1x240x2x128_1_0_64_0_0 inb_S2x2x368x2x128_S1x1x60x2x128_1_0_244_0_0 _ (lC7_ok hL hP (VC_cur i L)) ⟨_, List.mem_cons_of_mem _ (List.mem_cons_of_mem _ (List.mem_cons_self ..))⟩ M f 7 rfl)
    hB x, (lN2_ok hL hP hA)⟩

include hL hP in
theorem lN4_ok {V : Rows} (hA : OthA i L V) (hB : OthB i L V) : ∀ p ∈ lN4 i M1 f1 M2 f2 P (rdB M f), ∀ x, p.2 x = T j V (p.1.emb x) :=
  List.forall_mem_cons.2 ⟨fun x => pH 0 1 4 0 rfl inb_S2x2x368x2x128_S1x1x60x2x128_0_1_4_0_0 V _
    (srcOk (VC_cur i L) 1 1 244 4 (by omega) rfl (by omega) (by omega) inb_S2x2x368x2x128_S1x1x240x2x128_1_1_64_0_0 inb_S2x2x368x2x128_S1x1x60x2x128_1_1_244_0_0 _ (lC8_ok hL hP (VC_cur i L)) ⟨_, List.mem_cons_of_mem _ (List.mem_cons_of_mem _ (List.mem_cons_self ..))⟩ M f 7 rfl)
    hB x, (lN3_ok hL hP hA hB)⟩

theorem cov_C8 {rd : Reader} {y : PIdx} (hn : ∀ p ∈ lC8 i M1 f1 M2 f2 P rd, y ∉ p.1.set)
    (h4 : 4 ≤ (y 2 : ℕ)) (h364 : (y 2 : ℕ) < 364) (h1 : (y 0 : ℕ) = 1 → (y 2 : ℕ) < 304) : (y 0 : ℕ) = 0 ∧ (y 2 : ℕ) < 64 := by
  simp only [lC8, lC7, lC6, lC5, lC4, lC3, lC2, lC1, List.forall_mem_cons] at hn
  obtain ⟨a8, a7, a6, a5, a4, a3, a2, a1, -⟩ := hn
  have b1 := nmF a1
  have b2 := nmF a2
  have b3 := nmH a3
  have b4 := nmH a4
  have b5 := nmF a5
  have b6 := nmF a6
  have b7 := nmH a7
  have b8 := nmH a8
  have h0 : (y 0 : ℕ) < 2 := (y 0).isLt
  have h1 : (y 1 : ℕ) < 2 := (y 1).isLt
  omega
theorem cov_N4 {rd : Reader} {y : PIdx} (hn : ∀ p ∈ lN4 i M1 f1 M2 f2 P rd, y ∉ p.1.set)
    (h4 : 4 ≤ (y 2 : ℕ)) (h364 : (y 2 : ℕ) < 364) : ((y 0 : ℕ) = 0 → 64 ≤ (y 2 : ℕ)) ∧ ((y 0 : ℕ) = 1 → (y 2 : ℕ) < 304) := by
  simp only [lN4, lN3, lN2, lN1, List.forall_mem_cons] at hn
  obtain ⟨a4, a3, a2, a1, -⟩ := hn
  have b1 := nmH a1
  have b2 := nmH a2
  have b3 := nmH a3
  have b4 := nmH a4
  have h1 : (y 1 : ℕ) < 2 := (y 1).isLt
  omega
end

end Cert.CoarseIdeal.Val

end
-- ==== Proof.CSteps.lean ====
/-
  One point's effect on the planes and on the block of results: what a plane holds after it, from what it held before it,
  and the convolution read out of the three planes.
-/
module

public import proofs.«01_k».proof.Proof.CLists

@[expose] public section

set_option maxRecDepth 16384

noncomputable section

namespace Cert.CoarseIdeal.Val

open Idealize.ShloMosaic Idealize.ShloMosaic.TcCoe Idealize.SL.Sem Cert.CoarseIdeal Cert.CoarseIdeal.Gen
open Idealize.ShloMosaic.Pipeline (Dat Cfg Window BodyObligation cellOf)

open Cert.KernelIdeal.Val (MK dite_of ite_of)

/-- The set just filled: everything but the last slot of unit 1, which the next point fills. -/
def Cur (j : ℕ) (V : Rows) (e : PIdx → EReal) : Prop :=
  ∀ y, 4 ≤ (y 2 : ℕ) → (y 2 : ℕ) < 364 → ((y 0 : ℕ) = 1 → (y 2 : ℕ) < 304) → e y = T j V y
/-- The other set: the first slot of unit 0 holds the row above the next point's. -/
def Nxt (j : ℕ) (V : Rows) (e : PIdx → EReal) : Prop :=
  ∀ y, (y 0 : ℕ) = 0 → 4 ≤ (y 2 : ℕ) → (y 2 : ℕ) < 64 → e y = T j V y
/-- One unit of the other set once its last slot is filled. -/
def Full (j u : ℕ) (V : Rows) (e : PIdx → EReal) : Prop :=
  ∀ y, (y 0 : ℕ) = u → 4 ≤ (y 2 : ℕ) → (y 2 : ℕ) < 364 → e y = T j V y

theorem T_congr {j : ℕ} {V V' : Rows} {y : PIdx} (h : ∀ s a c, V (y 0) s a c = V' (y 0) s a c) : T j V y = T j V' y := by
  unfold T; exact congrArg (fun W => VP W _ _) (funext fun a => funext fun l => h _ a l)

/-- The slots that belong to the neighbouring points. -/
def VN (i : grid0.Coords) (L : ℕ → ℕ → ℕ → EReal) (V : Rows) : Rows := fun u s a c =>
  if u = 0 then V u s a c else MK (kA i 0#32) (L 0) a c
def VF (i : grid0.Coords) (L : ℕ → ℕ → ℕ → EReal) (V : Rows) : Rows := fun u s a c =>
  if u = 0 then MK (kB i 1#32) (L 7) a c else V u s a c

section
variable {i : grid0.Coords} {L : ℕ → ℕ → ℕ → EReal} {j : ℕ}
  {M1 : Memref sig .tc .vmem S8x120x256 .fp8e4m3} {f1 : M1.view.ty.Contents (Elt Ideal)}
  {M2 : Memref sig .tc .vmem S8x120x256 .f32} {f2 : M2.view.ty.Contents (Elt Ideal)}
  (hL : ∀ j : S8x120x256.Idx, ((M1.view.read (Elt Ideal) f1 j : EReal) * (M2.view.read (Elt Ideal) f2 j : EReal)) = L (j 0) (j 1) (j 2))
  {P : Q4 → Val.M4 → Raw} (hP : PayOk j P) {M : Memref sig .tc .vmem S2x2x368x2x128 .bf16} {f : M.view.ty.Contents (Elt Ideal)}

include hL hP in
theorem step_C {V : Rows} (hV : CurRows i L V) (v : View sig .tc .vmem S2x2x368x2x128 .bf16) (g : v.ty.Contents (Elt Ideal))
    (hb : Nxt j V (v.read (Elt Ideal) g)) : Cur j V (v.read (Elt Ideal) (v.writes (Elt Ideal) g (lC8 i M1 f1 M2 f2 P (rdB M f)))) := by
  intro y h4 h364 hc
  refine read_writes_target v g (T j V) y _ (lC8_ok hL hP hV) fun hn => ?_
  have := cov_C8 hn h4 h364 hc
  exact hb y this.1 h4 this.2

include hL hP in
theorem step_N {V : Rows} (hB : OthB i L V) (v : View sig .tc .vmem S2x2x368x2x128 .bf16) (g : v.ty.Contents (Elt Ideal)) :
    Nxt j V (v.read (Elt Ideal) (v.writes (Elt Ideal) g (lN4 i M1 f1 M2 f2 P (rdB M f)))) := by
  intro y h0 h4 h64
  have hA' : OthA i L (VN i L V) := fun a c => by unfold VN; rw [if_neg (by omega)]
  have hB' : OthB i L (VN i L V) := fun a c => by unfold VN; rw [if_pos rfl]; exact hB a c
  refine (read_writes_target v g (T j (VN i L V)) y _ (lN4_ok hL hP hA' hB') fun hn => ?_).trans (T_congr ?_)
  · have := (cov_N4 hn h4 (by omega)).1 h0
    omega
  · exact fun s a c => by unfold VN; rw [if_pos h0]

include hL hP in
theorem full_N {V : Rows} (hA : OthA i L V) (v : View sig .tc .vmem S2x2x368x2x128 .bf16) (g : v.ty.Contents (Elt Ideal))
    (hb : Cur j V (v.read (Elt Ideal) g)) :
    Full j 1 V (v.read (Elt Ideal) (v.writes (Elt Ideal) g (lN4 i M1 f1 M2 f2 P (rdB M f)))) := by
  intro y h1 h4 h364
  have hA' : OthA i L (VF i L V) := fun a c => by unfold VF; rw [if_neg (by omega)]; exact hA a c
  have hB' : OthB i L (VF i L V) := fun a c => by unfold VF; rw [if_pos rfl]
  have hT : T j (VF i L V) y = T j V y := T_congr fun s a c => by unfold VF; rw [if_neg (by omega)]
  refine (read_writes_target v g (T j (VF i L V)) y _ (lN4_ok hL hP hA' hB') fun hn => ?_).trans hT
  rw [hT]
  exact hb y h4 h364 (fun _ => (cov_N4 hn h4 h364).2 h1)
end

theorem full_of_cur {j : ℕ} {V : Rows} {e : PIdx → EReal} (h : Cur j V e) : Full j 0 V e :=
  fun y h0 h4 h364 => h y h4 h364 (fun h1 => absurd h1 (by omega))

theorem zero_base (v : View sig .tc .vmem S2x2x368x2x128 .bf16) (y : PIdx) :
    v.read (Elt Ideal) (v.writes (Elt Ideal) v.junk zp) y = (0 : EReal) := by
  refine read_writes_target v v.junk (fun _ => (0 : EReal)) y zp ?_ ?_
  · intro p hp x
    rw [zp, List.mem_singleton] at hp
    subst hp
    show constant (F := Ideal) S2x2x368x2x128 .bf16 0x0000#16 x = (0 : EReal)
    pointwise []
  · intro hn
    have hy : y ∉ (Rect.unit (s := S2x2x368x2x128) ![0, 0, 0, 0, 0] S2x2x368x2x128.size inb_S2x2x368x2x128_S2x2x368x2x128_0_0_0_0_0).set := by
      rw [zp, List.forall_mem_singleton] at hn
      exact hn
    refine absurd (Rect.mem_set_unit.2 fun a => ?_) hy
    match a with
    | ⟨0, _⟩ => exact ⟨Nat.zero_le _, lt_of_lt_of_eq (y 0).isLt (Nat.zero_add _).symm⟩
    | ⟨1, _⟩ => exact ⟨Nat.zero_le _, lt_of_lt_of_eq (y 1).isLt (Nat.zero_add _).symm⟩
    | ⟨2, _⟩ => exact ⟨Nat.zero_le _, lt_of_lt_of_eq (y 2).isLt (Nat.zero_add _).symm⟩
    | ⟨3, _⟩ => exact ⟨Nat.zero_le _, lt_of_lt_of_eq (y 3).isLt (Nat.zero_add _).symm⟩
    | ⟨4, _⟩ => exact ⟨Nat.zero_le _, lt_of_lt_of_eq (y 4).isLt (Nat.zero_add _).symm⟩

/-! ## The convolution -/

/-- What one pair of loads holds: row, pixel, channel, the channels in two halves. -/
def PairOk (Y : ℕ → ℕ → ℕ → EReal) (a b : Raw) : Prop :=
  (∀ (k : Fin 240) (e : Fin 2) (l : Fin 128), a (ix5 0 0 k e l) = Y (k / 60) (2 * (k % 60) + e) l) ∧
    ∀ (k : Fin 240) (e : Fin 2) (l : Fin 128), b (ix5 0 0 k e l) = Y (k / 60) (2 * (k % 60) + e) (128 + l)

theorem half_of {V : Rows} (j u dy h d : ℕ) (hd : d = 4 + 60 * dy) (hdy : dy ≤ 2) (inb) (E : Memref sig .tc .vmem S2x2x368x2x128 .bf16) (f : E.view.ty.Contents (Elt Ideal))
    (hf : ∀ y : PIdx, (y 0 : ℕ) = u → 4 ≤ (y 2 : ℕ) → (y 2 : ℕ) < d + 240 → E.view.read (Elt Ideal) f y = T j V y) (k : Fin 240) (e : Fin 2) (l : Fin 128) :
    View.readAt (Elt Ideal) E.view (Rect.unit (s := S2x2x368x2x128) ![u, h, d, 0, 0] S1x1x240x2x128.size inb).toLoadRect f (ix5 0 0 k e l)
      = VP (V u (dy + k / 60)) (2 * (k % 60) + e + j) (128 * h + l) := by
  have hk := k.isLt
  generalize hy : (Rect.unit (s := S2x2x368x2x128) ![u, h, d, 0, 0] S1x1x240x2x128.size inb).emb (ix5 0 0 k e l) = y
  obtain ⟨e0, e1, e2, e3, e4⟩ := emb4 u h d inb (ix5 0 0 k e l) y hy
  have e2' : (y 2 : ℕ) = d + k := e2
  have e3' : (y 3 : ℕ) = e := e3
  have e4' : (y 4 : ℕ) = l := e4
  refine ((congrArg (E.view.read (Elt Ideal) f) hy).trans (hf y e0 (by omega) (by omega))).trans ?_
  unfold T
  rw [e0, e1, e2', e3', e4', show (d + (k : ℕ) - 4) / 60 = dy + k / 60 by omega, show (d + (k : ℕ) - 4) % 60 = k % 60 by omega]

theorem pair_of {V : Rows} (j u dy d : ℕ) (hd : d = 4 + 60 * dy) (hdy : dy ≤ 2) (inb0 inb1) (E : Memref sig .tc .vmem S2x2x368x2x128 .bf16) (f : E.view.ty.Contents (Elt Ideal))
    (hf : ∀ y : PIdx, (y 0 : ℕ) = u → 4 ≤ (y 2 : ℕ) → (y 2 : ℕ) < d + 240 → E.view.read (Elt Ideal) f y = T j V y) :
    PairOk (fun r x c => VP (V u (dy + r)) (x + j) c)
      (View.readAt (Elt Ideal) E.view (Rect.unit (s := S2x2x368x2x128) ![u, 0, d, 0, 0] S1x1x240x2x128.size inb0).toLoadRect f)
      (View.readAt (Elt Ideal) E.view (Rect.unit (s := S2x2x368x2x128) ![u, 1, d, 0, 0] S1x1x240x2x128.size inb1).toLoadRect f) :=
  ⟨fun k e l => (half_of j u dy 0 d hd hdy inb0 E f hf k e l).trans (by rw [Nat.mul_zero, Nat.zero_add]), fun k e l => half_of j u dy 1 d hd hdy inb1 E f hf k e l⟩

theorem tap_val {Y : ℕ → ℕ → ℕ → EReal} {a b : Raw} (h : PairOk Y a b) (p : Fin 480) (c : Fin 256) :
    tap a b (ix2 p c) = Y (p / 120) (p % 120) c := by
  have hp := p.isLt
  have fin : ∀ (e : Fin 2), (p : ℕ) % 2 = e → ∀ c', Y ((p : ℕ) / 2 / 60) (2 * ((p : ℕ) / 2 % 60) + e) c' = Y (p / 120) (p % 120) c' := by
    intro e he c'
    rw [show (p : ℕ) / 2 / 60 = p / 120 by omega, show 2 * ((p : ℕ) / 2 % 60) + e = p % 120 by omega]
  pointwise [tap, k0_pay2]
  by_cases h1 : (c : ℕ) < 128 <;> by_cases h2 : (p : ℕ) % 2 = 0
  · rw [dif_pos h1, if_pos h2]
    exact (h.1 _ _ _).trans (fin 0 h2 _)
  · rw [dif_pos h1, if_neg h2]
    exact (h.1 _ _ _).trans (fin 1 (by show (p : ℕ) % 2 = 1; omega) _)
  · rw [dif_neg h1, if_pos h2]
    refine (h.2 _ _ _).trans ((fin 0 h2 _).trans ?_)
    rw [show 128 + ((c : ℕ) - 128) = c by omega]
  · rw [dif_neg h1, if_neg h2]
    refine (h.2 _ _ _).trans ((fin 1 (by show (p : ℕ) % 2 = 1; omega) _).trans ?_)
    rw [show 128 + ((c : ℕ) - 128) = c by omega]

/-- The convolution with its last two taps written as the others. -/
theorem cvP_taps (a000 a001 a010 a011 a020 a021 a100 a101 a110 a111 a120 a121 a200 a201 a210 a211 a220 a221 : Raw) (w : Vec Ideal S2304x256 .fp8e4m3) (s c : Vec Ideal S1x256 .f32) :
    cvP a000 a001 a010 a011 a020 a021 a100 a101 a110 a111 a120 a121 a200 a201 a210 a211 a220 a221 w s c = addf (mulf (matmul dot_S480x2304_S2304x256_S480x256_1_0_0_1_n_n none
        (concatenate S480x2304 1 [⟨S480x256, tap a000 a001⟩, ⟨S480x256, tap a010 a011⟩, ⟨S480x256, tap a020 a021⟩, ⟨S480x256, tap a100 a101⟩, ⟨S480x256, tap a110 a111⟩, ⟨S480x256, tap a120 a121⟩, ⟨S480x256, tap a200 a201⟩, ⟨S480x256, tap a210 a211⟩, ⟨S480x256, tap a220 a221⟩]
          concatenates_S480x256_S480x256_S480x256_S480x256_S480x256_S480x256_S480x256_S480x256_S480x256_S480x2304_d1)
        (shapeCast S2304x256 w shapeCasts_S2304x256_S2304x256 : FVec Ideal S2304x256 .fp8e4m3) (constant S480x256 .f32 0x00000000#32))
      (broadcastTo S480x256 (shapeCast S1x256 s shapeCasts_S1x256_S1x256) broadcasts_S1x256_S480x256))
      (broadcastTo S480x256 (shapeCast S1x256 c shapeCasts_S1x256_S1x256) broadcasts_S1x256_S480x256) := rfl

theorem cvP_val {Y : ℕ → ℕ → ℕ → ℕ → EReal} {a000 a001 a010 a011 a020 a021 a100 a101 a110 a111 a120 a121 a200 a201 a210 a211 a220 a221 : Raw}
    (h0 : PairOk (Y 0) a000 a001) (h1 : PairOk (Y 1) a010 a011) (h2 : PairOk (Y 2) a020 a021) (h3 : PairOk (Y 3) a100 a101) (h4 : PairOk (Y 4) a110 a111) (h5 : PairOk (Y 5) a120 a121) (h6 : PairOk (Y 6) a200 a201) (h7 : PairOk (Y 7) a210 a211) (h8 : PairOk (Y 8) a220 a221)
    (w : Vec Ideal S2304x256 .fp8e4m3) (s c : Vec Ideal S1x256 .f32) (p : Fin 480) (d : Fin 256) :
    cvP a000 a001 a010 a011 a020 a021 a100 a101 a110 a111 a120 a121 a200 a201 a210 a211 a220 a221 w s c (ix2 p d)
      = ((∑ k : Fin 2304, Y (k.val / 256) (p / 120) (p % 120) (k.val % 256) * (w (ix2 k d) : EReal)) * (s (ix2 0 d) : EReal) + (c (ix2 0 d) : EReal)) := by
  rw [cvP_taps]
  pointwise []
  refine congrArg (fun z : EReal => z * (s (ix2 0 d) : EReal) + (c (ix2 0 d) : EReal)) (Finset.sum_congr rfl fun k _ => congrArg (fun z : EReal => z * (w (ix2 k d) : EReal)) ?_)
  have hk := k.isLt
  refine dite_of (fun hj => (tap_val h0 p _).trans ?_) (fun hn0 => ?_)
  · show Y 0 (p / 120) (p % 120) (k : ℕ) = _
    rw [show (k : ℕ) / 256 = 0 by omega, Nat.mod_eq_of_lt hj]
  refine dite_of (fun hj => (tap_val h1 p _).trans ?_) (fun hn1 => ?_)
  · show Y 1 (p / 120) (p % 120) ((k : ℕ) - 256) = _
    rw [show (k : ℕ) / 256 = 1 by omega, show (k : ℕ) - 256 = k % 256 by omega]
  refine dite_of (fun hj => (tap_val h2 p _).trans ?_) (fun hn2 => ?_)
  · show Y 2 (p / 120) (p % 120) ((k : ℕ) - 256 - 256) = _
    rw [show (k : ℕ) / 256 = 2 by omega, show (k : ℕ) - 256 - 256 = k % 256 by omega]
  refine dite_of (fun hj => (tap_val h3 p _).trans ?_) (fun hn3 => ?_)
  · show Y 3 (p / 120) (p % 120) ((k : ℕ) - 256 - 256 - 256) = _
    rw [show (k : ℕ) / 256 = 3 by omega, show (k : ℕ) - 256 - 256 - 256 = k % 256 by omega]
  refine dite_of (fun hj => (tap_val h4 p _).trans ?_) (fun hn4 => ?_)
  · show Y 4 (p / 120) (p % 120) ((k : ℕ) - 256 - 256 - 256 - 256) = _
    rw [show (k : ℕ) / 256 = 4 by omega, show (k : ℕ) - 256 - 256 - 256 - 256 = k % 256 by omega]
  refine dite_of (fun hj => (tap_val h5 p _).trans ?_) (fun hn5 => ?_)
  · show Y 5 (p / 120) (p % 120) ((k : ℕ) - 256 - 256 - 256 - 256 - 256) = _
    rw [show (k : ℕ) / 256 = 5 by omega, show (k : ℕ) - 256 - 256 - 256 - 256 - 256 = k % 256 by omega]
  refine dite_of (fun hj => (tap_val h6 p _).trans ?_) (fun hn6 => ?_)
  · show Y 6 (p / 120) (p % 120) ((k : ℕ) - 256 - 256 - 256 - 256 - 256 - 256) = _
    rw [show (k : ℕ) / 256 = 6 by omega, show (k : ℕ) - 256 - 256 - 256 - 256 - 256 - 256 = k % 256 by omega]
  refine dite_of (fun hj => (tap_val h7 p _).trans ?_) (fun hn7 => ?_)
  · show Y 7 (p / 120) (p % 120) ((k : ℕ) - 256 - 256 - 256 - 256 - 256 - 256 - 256) = _
    rw [show (k : ℕ) / 256 = 7 by omega, show (k : ℕ) - 256 - 256 - 256 - 256 - 256 - 256 - 256 = k % 256 by omega]
  refine (tap_val h8 p _).trans ?_
  show Y 8 (p / 120) (p % 120) ((k : ℕ) - 256 - 256 - 256 - 256 - 256 - 256 - 256 - 256) = _
  rw [show (k : ℕ) / 256 = 8 by omega, show (k : ℕ) - 256 - 256 - 256 - 256 - 256 - 256 - 256 - 256 = k % 256 by omega]

/-- One result of the convolution over rows `V`: row `N` of the point's block, pixel `x`, channel `d`. -/
def convAt (V : Rows) (w : ℕ → ℕ → EReal) (s b : ℕ → EReal) (N x d : ℕ) : EReal :=
  (∑ k : Fin 2304, VP (V (N / 4) (N % 4 + k / 256 / 3)) (x + k / 256 % 3) (k % 256) * w k d) * s d + b d

section
variable {M3 : Memref sig .tc .vmem S2304x256 .fp8e4m3} {f3 : M3.view.ty.Contents (Elt Ideal)}
  {M4 : Memref sig .tc .vmem S1x256 .f32} {f4 : M4.view.ty.Contents (Elt Ideal)}
  {M5 : Memref sig .tc .vmem S1x256 .f32} {f5 : M5.view.ty.Contents (Elt Ideal)}
  {w : ℕ → ℕ → EReal} {s b : ℕ → EReal}
  (hw : ∀ (k : Fin 2304) (d : Fin 256), (M3.view.read (Elt Ideal) f3 (ix2 k d) : EReal) = w k d)
  (hs : ∀ d : Fin 256, (M4.view.read (Elt Ideal) f4 (ix2 0 d) : EReal) = s d)
  (hb : ∀ d : Fin 256, (M5.view.read (Elt Ideal) f5 (ix2 0 d) : EReal) = b d)

include hw in
theorem ldw (k : Fin 2304) (d : Fin 256) : (w3 M3 f3 (ix2 k d) : EReal) = w k d := by
  refine Eq.trans (congrArg (M3.view.read (Elt Ideal) f3) ?_) (hw k d)
  funext a
  match a with
  | ⟨0, _⟩ => exact Fin.ext ((show _ = 0 + ((ix2 k d : S2304x256.Idx) 0 : ℕ) from Rect.idx_unit_val (s := S2304x256) ![0, 0] S2304x256.size inb_S2304x256_S2304x256_0_0 (ix2 k d : S2304x256.Idx) 0).trans (Nat.zero_add _))
  | ⟨1, _⟩ => exact Fin.ext ((show _ = 0 + ((ix2 k d : S2304x256.Idx) 1 : ℕ) from Rect.idx_unit_val (s := S2304x256) ![0, 0] S2304x256.size inb_S2304x256_S2304x256_0_0 (ix2 k d : S2304x256.Idx) 1).trans (Nat.zero_add _))
theorem ld1 {M4 : Memref sig .tc .vmem S1x256 .f32} {f4 : M4.view.ty.Contents (Elt Ideal)} {s : ℕ → EReal}
    (hs : ∀ d : Fin 256, (M4.view.read (Elt Ideal) f4 (ix2 0 d) : EReal) = s d) (d : Fin 256) :
    (w4 M4 f4 (ix2 0 d) : EReal) = s d := by
  refine Eq.trans (congrArg (M4.view.read (Elt Ideal) f4) ?_) (hs d)
  funext a
  match a with
  | ⟨0, _⟩ => exact Fin.ext ((show _ = 0 + ((ix2 0 d : S1x256.Idx) 0 : ℕ) from Rect.idx_unit_val (s := S1x256) ![0, 0] S1x256.size inb_S1x256_S1x256_0_0 (ix2 0 d : S1x256.Idx) 0).trans (Nat.zero_add _))
  | ⟨1, _⟩ => exact Fin.ext ((show _ = 0 + ((ix2 0 d : S1x256.Idx) 1 : ℕ) from Rect.idx_unit_val (s := S1x256) ![0, 0] S1x256.size inb_S1x256_S1x256_0_0 (ix2 0 d : S1x256.Idx) 1).trans (Nat.zero_add _))

include hw hs hb in
theorem cv0_ok {V : Rows} (N0 : Memref sig .tc .vmem S2x2x368x2x128 .bf16) (g0 : N0.view.ty.Contents (Elt Ideal)) (Nm : Memref sig .tc .vmem S2x2x368x2x128 .bf16) (gm : Nm.view.ty.Contents (Elt Ideal)) (Np : Memref sig .tc .vmem S2x2x368x2x128 .bf16) (gp : Np.view.ty.Contents (Elt Ideal))
    (hf0 : Full 1 0 V (N0.view.read (Elt Ideal) g0)) (hfm : Full 0 0 V (Nm.view.read (Elt Ideal) gm)) (hfp : Full 2 0 V (Np.view.read (Elt Ideal) gp)) (p : Fin 480) (d : Fin 256) (N x : ℕ) (hN : N = 0 + p / 120) (hx : x = p % 120) :
    cv0 N0 g0 Nm gm Np gp (w3 M3 f3) (w4 M4 f4) (w4 M5 f5) (ix2 p d) = convAt V w s b N x d := by
  have hp := p.isLt
  refine (cvP_val (Y := fun t r x c => VP (V 0 (t / 3 + r)) (x + t % 3) c)
    (pair_of 0 0 0 4 rfl (by omega) inb_S2x2x368x2x128_S1x1x240x2x128_0_0_4_0_0 inb_S2x2x368x2x128_S1x1x240x2x128_0_1_4_0_0 Nm gm (fun y h0 h4 h => hfm y h0 h4 (by omega)))
    (pair_of 1 0 0 4 rfl (by omega) inb_S2x2x368x2x128_S1x1x240x2x128_0_0_4_0_0 inb_S2x2x368x2x128_S1x1x240x2x128_0_1_4_0_0 N0 g0 (fun y h0 h4 h => hf0 y h0 h4 (by omega)))
    (pair_of 2 0 0 4 rfl (by omega) inb_S2x2x368x2x128_S1x1x240x2x128_0_0_4_0_0 inb_S2x2x368x2x128_S1x1x240x2x128_0_1_4_0_0 Np gp (fun y h0 h4 h => hfp y h0 h4 (by omega)))
    (pair_of 0 0 1 64 rfl (by omega) inb_S2x2x368x2x128_S1x1x240x2x128_0_0_64_0_0 inb_S2x2x368x2x128_S1x1x240x2x128_0_1_64_0_0 Nm gm (fun y h0 h4 h => hfm y h0 h4 (by omega)))
    (pair_of 1 0 1 64 rfl (by omega) inb_S2x2x368x2x128_S1x1x240x2x128_0_0_64_0_0 inb_S2x2x368x2x128_S1x1x240x2x128_0_1_64_0_0 N0 g0 (fun y h0 h4 h => hf0 y h0 h4 (by omega)))
    (pair_of 2 0 1 64 rfl (by omega) inb_S2x2x368x2x128_S1x1x240x2x128_0_0_64_0_0 inb_S2x2x368x2x128_S1x1x240x2x128_0_1_64_0_0 Np gp (fun y h0 h4 h => hfp y h0 h4 (by omega)))
    (pair_of 0 0 2 124 rfl (by omega) inb_S2x2x368x2x128_S1x1x240x2x128_0_0_124_0_0 inb_S2x2x368x2x128_S1x1x240x2x128_0_1_124_0_0 Nm gm (fun y h0 h4 h => hfm y h0 h4 (by omega)))
    (pair_of 1 0 2 124 rfl (by omega) inb_S2x2x368x2x128_S1x1x240x2x128_0_0_124_0_0 inb_S2x2x368x2x128_S1x1x240x2x128_0_1_124_0_0 N0 g0 (fun y h0 h4 h => hf0 y h0 h4 (by omega)))
    (pair_of 2 0 2 124 rfl (by omega) inb_S2x2x368x2x128_S1x1x240x2x128_0_0_124_0_0 inb_S2x2x368x2x128_S1x1x240x2x128_0_1_124_0_0 Np gp (fun y h0 h4 h => hfp y h0 h4 (by omega))) _ _ _ p d).trans ?_
  rw [ld1 hs d, ld1 hb d]
  unfold convAt
  refine congrArg (fun z => z * s d + b d) (Finset.sum_congr rfl fun k _ => ?_)
  rw [ldw hw k d]
  have hk := k.isLt
  rw [show N / 4 = 0 by omega, show N % 4 + k / 256 / 3 = (k : ℕ) / 256 / 3 + p / 120 by omega, hx]

include hw hs hb in
theorem cv1_ok {V : Rows} (N0 : Memref sig .tc .vmem S2x2x368x2x128 .bf16) (g0 : N0.view.ty.Contents (Elt Ideal)) (Nm : Memref sig .tc .vmem S2x2x368x2x128 .bf16) (gm : Nm.view.ty.Contents (Elt Ideal)) (Np : Memref sig .tc .vmem S2x2x368x2x128 .bf16) (gp : Np.view.ty.Contents (Elt Ideal)) (k0 : N0.view.ty.Contents (Elt Ideal)) (km : Nm.view.ty.Contents (Elt Ideal)) (kp : Np.view.ty.Contents (Elt Ideal))
    (hc0 : Cur 1 V (N0.view.read (Elt Ideal) g0)) (hf0 : Full 1 1 V (N0.view.read (Elt Ideal) k0)) (hcm : Cur 0 V (Nm.view.read (Elt Ideal) gm)) (hfm : Full 0 1 V (Nm.view.read (Elt Ideal) km)) (hcp : Cur 2 V (Np.view.read (Elt Ideal) gp)) (hfp : Full 2 1 V (Np.view.read (Elt Ideal) kp)) (p : Fin 480) (d : Fin 256) (N x : ℕ) (hN : N = 4 + p / 120) (hx : x = p % 120) :
    cv1 N0 g0 Nm gm Np gp k0 km kp (w3 M3 f3) (w4 M4 f4) (w4 M5 f5) (ix2 p d) = convAt V w s b N x d := by
  have hp := p.isLt
  refine (cvP_val (Y := fun t r x c => VP (V 1 (t / 3 + r)) (x + t % 3) c)
    (pair_of 0 1 0 4 rfl (by omega) inb_S2x2x368x2x128_S1x1x240x2x128_1_0_4_0_0 inb_S2x2x368x2x128_S1x1x240x2x128_1_1_4_0_0 Nm gm (fun y h0 h4 h => hcm y h4 (by omega) (fun _ => by omega)))
    (pair_of 1 1 0 4 rfl (by omega) inb_S2x2x368x2x128_S1x1x240x2x128_1_0_4_0_0 inb_S2x2x368x2x128_S1x1x240x2x128_1_1_4_0_0 N0 g0 (fun y h0 h4 h => hc0 y h4 (by omega) (fun _ => by omega)))
    (pair_of 2 1 0 4 rfl (by omega) inb_S2x2x368x2x128_S1x1x240x2x128_1_0_4_0_0 inb_S2x2x368x2x128_S1x1x240x2x128_1_1_4_0_0 Np gp (fun y h0 h4 h => hcp y h4 (by omega) (fun _ => by omega)))
    (pair_of 0 1 1 64 rfl (by omega) inb_S2x2x368x2x128_S1x1x240x2x128_1_0_64_0_0 inb_S2x2x368x2x128_S1x1x240x2x128_1_1_64_0_0 Nm gm (fun y h0 h4 h => hcm y h4 (by omega) (fun _ => by omega)))
    (pair_of 1 1 1 64 rfl (by omega) inb_S2x2x368x2x128_S1x1x240x2x128_1_0_64_0_0 inb_S2x2x368x2x128_S1x1x240x2x128_1_1_64_0_0 N0 g0 (fun y h0 h4 h => hc0 y h4 (by omega) (fun _ => by omega)))
    (pair_of 2 1 1 64 rfl (by omega) inb_S2x2x368x2x128_S1x1x240x2x128_1_0_64_0_0 inb_S2x2x368x2x128_S1x1x240x2x128_1_1_64_0_0 Np gp (fun y h0 h4 h => hcp y h4 (by omega) (fun _ => by omega)))
    (pair_of 0 1 2 124 rfl (by omega) inb_S2x2x368x2x128_S1x1x240x2x128_1_0_124_0_0 inb_S2x2x368x2x128_S1x1x240x2x128_1_1_124_0_0 Nm km (fun y h0 h4 h => hfm y h0 h4 (by omega)))
    (pair_of 1 1 2 124 rfl (by omega) inb_S2x2x368x2x128_S1x1x240x2x128_1_0_124_0_0 inb_S2x2x368x2x128_S1x1x240x2x128_1_1_124_0_0 N0 k0 (fun y h0 h4 h => hf0 y h0 h4 (by omega)))
    (pair_of 2 1 2 124 rfl (by omega) inb_S2x2x368x2x128_S1x1x240x2x128_1_0_124_0_0 inb_S2x2x368x2x128_S1x1x240x2x128_1_1_124_0_0 Np kp (fun y h0 h4 h => hfp y h0 h4 (by omega))) _ _ _ p d).trans ?_
  rw [ld1 hs d, ld1 hb d]
  unfold convAt
  refine congrArg (fun z => z * s d + b d) (Finset.sum_congr rfl fun k _ => ?_)
  rw [ldw hw k d]
  have hk := k.isLt
  rw [show N / 4 = 1 by omega, show N % 4 + k / 256 / 3 = (k : ℕ) / 256 / 3 + p / 120 by omega, hx]

theorem otile_val (t : Fin 60) (y : FVec Ideal S480x256 .f32) (x : S1x1x16x128.Idx) (p : Fin 480) (d : Fin 256)
    (hp : (p : ℕ) = 8 * t.val + (x 2 : ℕ) % 8) (hd : (d : ℕ) = 128 * ((x 2 : ℕ) / 8) + x 3) :
    otile t y x = y (ix2 p d) := by
  have h0 : (x 0 : ℕ) < 1 := (x 0).isLt
  have h1 : (x 1 : ℕ) < 1 := (x 1).isLt
  have h2 : (x 2 : ℕ) < 16 := (x 2).isLt
  pointwise [otile]
  by_cases h : (x 2 : ℕ) < 8
  · rw [dif_pos h]
    refine congrArg y (congrArg₂ ix2 (Fin.ext ?_) (Fin.ext ?_)) <;> dsimp only <;> omega
  · rw [dif_neg h]
    refine congrArg y (congrArg₂ ix2 (Fin.ext ?_) (Fin.ext ?_)) <;> dsimp only <;> omega

/-- One result, at its place in the block of tiles. -/
def convTile (V : Rows) (w : ℕ → ℕ → EReal) (s b : ℕ → EReal) (n g k l : ℕ) : EReal :=
  convAt V w s b n (8 * g + k % 8) (128 * (k / 8) + l)

theorem lU_ok {V : Rows} (u : Fin 2) {Y : FVec Ideal S480x256 .f32}
    (h : ∀ (p : Fin 480) (d : Fin 256) (N x : ℕ), N = 4 * u.val + p / 120 → x = p % 120 → Y (ix2 p d) = convAt V w s b N x d) :
    ∀ p ∈ lU u Y, ∀ x, p.2 x = (fun y : S8x15x16x128.Idx => convTile V w s b (y 0) (y 1) (y 2) (y 3)) (p.1.emb x) := by
  intro p hp
  obtain ⟨t, -, rfl⟩ := List.mem_map.1 hp
  intro x
  have ht := t.isLt
  have hx0 : (x 0 : ℕ) < 1 := (x 0).isLt
  have hx1 : (x 1 : ℕ) < 1 := (x 1).isLt
  have hx2 : (x 2 : ℕ) < 16 := (x 2).isLt
  have hx3 : (x 3 : ℕ) < 128 := (x 3).isLt
  generalize hy : (Rect.unit (s := S8x15x16x128) ![4 * u.val + t.val / 15, t.val % 15, 0, 0] S1x1x16x128.size (tile_inb u t)).emb x = y
  have e0 : (y 0 : ℕ) = 4 * u.val + t.val / 15 := by
    subst hy; exact (unit_emb_val _ _ (tile_inb u t) x 0).trans (by show 4 * u.val + t.val / 15 + (x 0 : ℕ) = _; omega)
  have e1 : (y 1 : ℕ) = t.val % 15 := by
    subst hy; exact (unit_emb_val _ _ (tile_inb u t) x 1).trans (by show t.val % 15 + (x 1 : ℕ) = _; omega)
  have e2 : (y 2 : ℕ) = x 2 := by subst hy; exact (unit_emb_val _ _ (tile_inb u t) x 2).trans (Nat.zero_add _)
  have e3 : (y 3 : ℕ) = x 3 := by subst hy; exact (unit_emb_val _ _ (tile_inb u t) x 3).trans (Nat.zero_add _)
  show otile t Y x = convTile V w s b (y 0) (y 1) (y 2) (y 3)
  rw [e0, e1, e2, e3]
  refine (otile_val t Y x ⟨8 * t.val + (x 2 : ℕ) % 8, by omega⟩ ⟨128 * ((x 2 : ℕ) / 8) + x 3, by omega⟩ rfl rfl).trans ?_
  exact h _ _ _ _ (by show _ = 4 * u.val + (8 * t.val + (x 2 : ℕ) % 8) / 120; omega) (by show _ = (8 * t.val + (x 2 : ℕ) % 8) % 120; omega)

theorem mem_groups : ∀ t : Fin 60, t ∈ groups := by decide +kernel

theorem lP_ok {V : Rows} {y0 y1 : FVec Ideal S480x256 .f32}
    (h0 : ∀ (p : Fin 480) (d : Fin 256) (N x : ℕ), N = 0 + p / 120 → x = p % 120 → y0 (ix2 p d) = convAt V w s b N x d)
    (h1 : ∀ (p : Fin 480) (d : Fin 256) (N x : ℕ), N = 4 + p / 120 → x = p % 120 → y1 (ix2 p d) = convAt V w s b N x d)
    (v : View sig .tc .vmem S8x15x16x128 .bf16) (f : v.ty.Contents (Elt Ideal)) (y : S8x15x16x128.Idx) :
    v.read (Elt Ideal) (v.writes (Elt Ideal) f (lP y0 y1)) y = convTile V w s b (y 0) (y 1) (y 2) (y 3) := by
  refine read_writes_target v f (fun y => convTile V w s b (y 0) (y 1) (y 2) (y 3)) y _ ?_ ?_
  · intro p hp
    rcases List.mem_append.1 hp with hp | hp
    · exact lU_ok 1 h1 p hp
    · exact lU_ok 0 h0 p hp
  · intro hn
    exfalso
    have h0 : (y 0 : ℕ) < 8 := (y 0).isLt
    have h1 : (y 1 : ℕ) < 15 := (y 1).isLt
    have nm : ∀ (u : Fin 2) (t : Fin 60), (y 0 : ℕ) = 4 * u.val + t.val / 15 → (y 1 : ℕ) = t.val % 15 →
        y ∈ (Rect.unit (s := S8x15x16x128) ![4 * u.val + t.val / 15, t.val % 15, 0, 0] S1x1x16x128.size (tile_inb u t)).set := by
      intro u t hu ht
      refine Rect.mem_set_unit.2 fun a => ?_
      match a with
      | ⟨0, _⟩ => exact ⟨le_of_eq hu.symm, by show (y 0 : ℕ) < 4 * u.val + t.val / 15 + 1; omega⟩
      | ⟨1, _⟩ => exact ⟨le_of_eq ht.symm, by show (y 1 : ℕ) < t.val % 15 + 1; omega⟩
      | ⟨2, _⟩ => exact ⟨Nat.zero_le _, lt_of_lt_of_eq (y 2).isLt (Nat.zero_add _).symm⟩
      | ⟨3, _⟩ => exact ⟨Nat.zero_le _, lt_of_lt_of_eq (y 3).isLt (Nat.zero_add _).symm⟩
    by_cases hu : (y 0 : ℕ) < 4
    · exact hn _ (List.mem_append_right _ (List.mem_map_of_mem (mem_groups ⟨15 * (y 0 : ℕ) + y 1, by omega⟩)))
        (nm 0 ⟨15 * (y 0 : ℕ) + y 1, by omega⟩ (by show (y 0 : ℕ) = 4 * 0 + (15 * (y 0 : ℕ) + y 1) / 15; omega) (by show (y 1 : ℕ) = (15 * (y 0 : ℕ) + y 1) % 15; omega))
    · exact hn _ (List.mem_append_left _ (List.mem_map_of_mem (mem_groups ⟨15 * ((y 0 : ℕ) - 4) + y 1, by omega⟩)))
        (nm 1 ⟨15 * ((y 0 : ℕ) - 4) + y 1, by omega⟩ (by show (y 0 : ℕ) = 4 * 1 + (15 * ((y 0 : ℕ) - 4) + y 1) / 15; omega) (by show (y 1 : ℕ) = (15 * ((y 0 : ℕ) - 4) + y 1) % 15; omega))
end

end Cert.CoarseIdeal.Val

end
-- ==== Proof.CRun.lean ====
/-
  What each case of the coarse body leaves in its buffers, by the lists of CCanon.lean: at an odd point the planes filled
  are the second set, at an even one the first.
-/
module

public import proofs.«01_k».proof.Proof.CCanon

@[expose] public section

set_option maxRecDepth 16384

noncomputable section

namespace Cert.CoarseIdeal.Val

open Idealize.ShloMosaic Idealize.ShloMosaic.TcCoe Idealize.SL.Sem Cert.CoarseIdeal Cert.CoarseIdeal.Gen
open Idealize.ShloMosaic.Pipeline (Dat Cfg Window BodyObligation cellOf)

theorem sout0_B_0_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : ¬cond0_1 i) (hc2 : cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs0 : Vec Ideal S2x2x368x2x128 .bf16) (xs1 : Vec Ideal S2x2x368x2x128 .bf16) (xs2 : Vec Ideal S2x2x368x2x128 .bf16) :
    sout0_B_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2 = arg7.view.read (Elt Ideal) (arg7.view.writes (Elt Ideal) (harg7.unread xs0) (lN4 i arg1 (harg1.unread x0) arg2 (harg2.unread x1) p0 (rdC arg10))) := rfl

theorem sout0_B_1_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : ¬cond0_1 i) (hc2 : cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs0 : Vec Ideal S2x2x368x2x128 .bf16) (xs1 : Vec Ideal S2x2x368x2x128 .bf16) (xs2 : Vec Ideal S2x2x368x2x128 .bf16) :
    sout0_B_1 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2 = arg8.view.read (Elt Ideal) (arg8.view.writes (Elt Ideal) (harg8.unread xs1) (lN4 i arg1 (harg1.unread x0) arg2 (harg2.unread x1) pm (rdC arg11))) := rfl

theorem sout0_B_2_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : ¬cond0_1 i) (hc2 : cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs0 : Vec Ideal S2x2x368x2x128 .bf16) (xs1 : Vec Ideal S2x2x368x2x128 .bf16) (xs2 : Vec Ideal S2x2x368x2x128 .bf16) :
    sout0_B_2 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2 = arg9.view.read (Elt Ideal) (arg9.view.writes (Elt Ideal) (harg9.unread xs2) (lN4 i arg1 (harg1.unread x0) arg2 (harg2.unread x1) pp (rdC arg12))) := rfl

theorem sout0_B_3_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : ¬cond0_1 i) (hc2 : cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs0 : Vec Ideal S2x2x368x2x128 .bf16) (xs1 : Vec Ideal S2x2x368x2x128 .bf16) (xs2 : Vec Ideal S2x2x368x2x128 .bf16) (xs3 : Vec Ideal S2x2x368x2x128 .bf16) :
    sout0_B_3 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2 xs3 = arg10.view.read (Elt Ideal) (arg10.view.writes (Elt Ideal) (harg10.unread xs3) (lC8 i arg1 (harg1.unread x0) arg2 (harg2.unread x1) p0 (rdC arg10))) := rfl

theorem sout0_B_4_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : ¬cond0_1 i) (hc2 : cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs0 : Vec Ideal S2x2x368x2x128 .bf16) (xs1 : Vec Ideal S2x2x368x2x128 .bf16) (xs2 : Vec Ideal S2x2x368x2x128 .bf16) (xs4 : Vec Ideal S2x2x368x2x128 .bf16) :
    sout0_B_4 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2 xs4 = arg11.view.read (Elt Ideal) (arg11.view.writes (Elt Ideal) (harg11.unread xs4) (lC8 i arg1 (harg1.unread x0) arg2 (harg2.unread x1) pm (rdC arg11))) := rfl

theorem sout0_B_5_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : ¬cond0_1 i) (hc2 : cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs0 : Vec Ideal S2x2x368x2x128 .bf16) (xs1 : Vec Ideal S2x2x368x2x128 .bf16) (xs2 : Vec Ideal S2x2x368x2x128 .bf16) (xs5 : Vec Ideal S2x2x368x2x128 .bf16) :
    sout0_B_5 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2 xs5 = arg12.view.read (Elt Ideal) (arg12.view.writes (Elt Ideal) (harg12.unread xs5) (lC8 i arg1 (harg1.unread x0) arg2 (harg2.unread x1) pp (rdC arg12))) := rfl

theorem out0_B_5_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : ¬cond0_1 i) (hc2 : cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs0 : Vec Ideal S2x2x368x2x128 .bf16) (xs1 : Vec Ideal S2x2x368x2x128 .bf16) (xs2 : Vec Ideal S2x2x368x2x128 .bf16) :
    out0_B_5 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2 = VO0_5.read (Elt Ideal) (VO0_5.writes (Elt Ideal) VO0_5.junk
      (lP (cv0 arg7 (harg7.unread xs0) arg8 (harg8.unread xs1) arg9 (harg9.unread xs2) (w3 arg3 (harg3.unread x2)) (w4 arg4 (harg4.unread x3)) (w4 arg5 (harg5.unread x4))) (cv1 arg7 (harg7.unread xs0) arg8 (harg8.unread xs1) arg9 (harg9.unread xs2) (arg7.view.writes (Elt Ideal) (harg7.unread xs0) (lN4 i arg1 (harg1.unread x0) arg2 (harg2.unread x1) p0 (rdC arg10))) (arg8.view.writes (Elt Ideal) (harg8.unread xs1) (lN4 i arg1 (harg1.unread x0) arg2 (harg2.unread x1) pm (rdC arg11))) (arg9.view.writes (Elt Ideal) (harg9.unread xs2) (lN4 i arg1 (harg1.unread x0) arg2 (harg2.unread x1) pp (rdC arg12))) (w3 arg3 (harg3.unread x2)) (w4 arg4 (harg4.unread x3)) (w4 arg5 (harg5.unread x4))))) := by
  unfold out0_B_5 kernelRun0_B
  dsimp only
  refine congrArg (fun L => VO0_5.read (Elt Ideal) (VO0_5.writes (Elt Ideal) VO0_5.junk L)) ?_
  rfl

theorem sout0_C_0_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs3 : Vec Ideal S2x2x368x2x128 .bf16) (xs4 : Vec Ideal S2x2x368x2x128 .bf16) (xs5 : Vec Ideal S2x2x368x2x128 .bf16) (xs0 : Vec Ideal S2x2x368x2x128 .bf16) :
    sout0_C_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs3 xs4 xs5 xs0 = arg7.view.read (Elt Ideal) (arg7.view.writes (Elt Ideal) (harg7.unread xs0) (lC8 i arg1 (harg1.unread x0) arg2 (harg2.unread x1) p0 (rdC arg7))) := rfl

theorem sout0_C_1_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs3 : Vec Ideal S2x2x368x2x128 .bf16) (xs4 : Vec Ideal S2x2x368x2x128 .bf16) (xs5 : Vec Ideal S2x2x368x2x128 .bf16) (xs1 : Vec Ideal S2x2x368x2x128 .bf16) :
    sout0_C_1 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs3 xs4 xs5 xs1 = arg8.view.read (Elt Ideal) (arg8.view.writes (Elt Ideal) (harg8.unread xs1) (lC8 i arg1 (harg1.unread x0) arg2 (harg2.unread x1) pm (rdC arg8))) := rfl

theorem sout0_C_2_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs3 : Vec Ideal S2x2x368x2x128 .bf16) (xs4 : Vec Ideal S2x2x368x2x128 .bf16) (xs5 : Vec Ideal S2x2x368x2x128 .bf16) (xs2 : Vec Ideal S2x2x368x2x128 .bf16) :
    sout0_C_2 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs3 xs4 xs5 xs2 = arg9.view.read (Elt Ideal) (arg9.view.writes (Elt Ideal) (harg9.unread xs2) (lC8 i arg1 (harg1.unread x0) arg2 (harg2.unread x1) pp (rdC arg9))) := rfl

theorem sout0_C_3_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs3 : Vec Ideal S2x2x368x2x128 .bf16) (xs4 : Vec Ideal S2x2x368x2x128 .bf16) (xs5 : Vec Ideal S2x2x368x2x128 .bf16) :
    sout0_C_3 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs3 xs4 xs5 = arg10.view.read (Elt Ideal) (arg10.view.writes (Elt Ideal) (harg10.unread xs3) (lN4 i arg1 (harg1.unread x0) arg2 (harg2.unread x1) p0 (rdC arg7))) := rfl

theorem sout0_C_4_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs3 : Vec Ideal S2x2x368x2x128 .bf16) (xs4 : Vec Ideal S2x2x368x2x128 .bf16) (xs5 : Vec Ideal S2x2x368x2x128 .bf16) :
    sout0_C_4 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs3 xs4 xs5 = arg11.view.read (Elt Ideal) (arg11.view.writes (Elt Ideal) (harg11.unread xs4) (lN4 i arg1 (harg1.unread x0) arg2 (harg2.unread x1) pm (rdC arg8))) := rfl

theorem sout0_C_5_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs3 : Vec Ideal S2x2x368x2x128 .bf16) (xs4 : Vec Ideal S2x2x368x2x128 .bf16) (xs5 : Vec Ideal S2x2x368x2x128 .bf16) :
    sout0_C_5 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs3 xs4 xs5 = arg12.view.read (Elt Ideal) (arg12.view.writes (Elt Ideal) (harg12.unread xs5) (lN4 i arg1 (harg1.unread x0) arg2 (harg2.unread x1) pp (rdC arg9))) := rfl

theorem out0_C_5_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : ¬cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) (xs3 : Vec Ideal S2x2x368x2x128 .bf16) (xs4 : Vec Ideal S2x2x368x2x128 .bf16) (xs5 : Vec Ideal S2x2x368x2x128 .bf16) :
    out0_C_5 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 xs3 xs4 xs5 = VO0_5.read (Elt Ideal) (VO0_5.writes (Elt Ideal) VO0_5.junk
      (lP (cv0 arg10 (harg10.unread xs3) arg11 (harg11.unread xs4) arg12 (harg12.unread xs5) (w3 arg3 (harg3.unread x2)) (w4 arg4 (harg4.unread x3)) (w4 arg5 (harg5.unread x4))) (cv1 arg10 (harg10.unread xs3) arg11 (harg11.unread xs4) arg12 (harg12.unread xs5) (arg10.view.writes (Elt Ideal) (harg10.unread xs3) (lN4 i arg1 (harg1.unread x0) arg2 (harg2.unread x1) p0 (rdC arg7))) (arg11.view.writes (Elt Ideal) (harg11.unread xs4) (lN4 i arg1 (harg1.unread x0) arg2 (harg2.unread x1) pm (rdC arg8))) (arg12.view.writes (Elt Ideal) (harg12.unread xs5) (lN4 i arg1 (harg1.unread x0) arg2 (harg2.unread x1) pp (rdC arg9))) (w3 arg3 (harg3.unread x2)) (w4 arg4 (harg4.unread x3)) (w4 arg5 (harg5.unread x4))))) := by
  unfold out0_C_5 kernelRun0_C
  dsimp only
  refine congrArg (fun L => VO0_5.read (Elt Ideal) (VO0_5.writes (Elt Ideal) VO0_5.junk L)) ?_
  rfl

theorem sout0_A_0_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) :
    sout0_A_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 = VS0_0.read (Elt Ideal) (VS0_0.writes (Elt Ideal) VS0_0.junk ((lC8 i arg1 (harg1.unread x0) arg2 (harg2.unread x1) p0 (rdA arg7)) ++ zp)) := rfl

theorem sout0_A_1_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) :
    sout0_A_1 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 = VS0_1.read (Elt Ideal) (VS0_1.writes (Elt Ideal) VS0_1.junk ((lC8 i arg1 (harg1.unread x0) arg2 (harg2.unread x1) pm (rdA arg8)) ++ zp)) := rfl

theorem sout0_A_2_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) :
    sout0_A_2 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 = VS0_2.read (Elt Ideal) (VS0_2.writes (Elt Ideal) VS0_2.junk ((lC8 i arg1 (harg1.unread x0) arg2 (harg2.unread x1) pp (rdA arg9)) ++ zp)) := rfl

theorem sout0_A_3_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) :
    sout0_A_3 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 = VS0_3.read (Elt Ideal) (VS0_3.writes (Elt Ideal) VS0_3.junk ((lN4 i arg1 (harg1.unread x0) arg2 (harg2.unread x1) p0 (rdA arg7)) ++ zp)) := rfl

theorem sout0_A_4_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) :
    sout0_A_4 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 = VS0_4.read (Elt Ideal) (VS0_4.writes (Elt Ideal) VS0_4.junk ((lN4 i arg1 (harg1.unread x0) arg2 (harg2.unread x1) pm (rdA arg8)) ++ zp)) := rfl

theorem sout0_A_5_eq (c : Dev nD) (i : grid0.Coords) (arg1 : Memref sig .tc .vmem S8x120x256 .fp8e4m3) (harg1 : arg1.IsWhole) (arg2 : Memref sig .tc .vmem S8x120x256 .f32) (harg2 : arg2.IsWhole) (arg3 : Memref sig .tc .vmem S2304x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S8x15x16x128 .bf16) (harg6 : arg6.IsWhole) (arg7 : Memref sig .tc .vmem S2x2x368x2x128 .bf16) (harg7 : arg7.IsWhole) (arg8 : Memref sig .tc .vmem S2x2x368x2x128 .bf16) (harg8 : arg8.IsWhole) (arg9 : Memref sig .tc .vmem S2x2x368x2x128 .bf16) (harg9 : arg9.IsWhole) (arg10 : Memref sig .tc .vmem S2x2x368x2x128 .bf16) (harg10 : arg10.IsWhole) (arg11 : Memref sig .tc .vmem S2x2x368x2x128 .bf16) (harg11 : arg11.IsWhole) (arg12 : Memref sig .tc .vmem S2x2x368x2x128 .bf16) (harg12 : arg12.IsWhole) (hc0 : cond0_0 i) (hc1 : cond0_1 i) (hc2 : ¬cond0_2 i)
    (x0 : Vec Ideal S8x120x256 .fp8e4m3) (x1 : Vec Ideal S8x120x256 .f32) (x2 : Vec Ideal S2304x256 .fp8e4m3) (x3 : Vec Ideal S1x256 .f32) (x4 : Vec Ideal S1x256 .f32) :
    sout0_A_5 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 = VS0_5.read (Elt Ideal) (VS0_5.writes (Elt Ideal) VS0_5.junk ((lN4 i arg1 (harg1.unread x0) arg2 (harg2.unread x1) pp (rdA arg9)) ++ zp)) := rfl

end Cert.CoarseIdeal.Val

end
-- ==== Proof.CGrid.lean ====
/-
  What the planes hold after every point of the coarse grid, and the block of results each point but the first leaves.
-/
module

public import proofs.«01_k».proof.Proof.CSteps
public import proofs.«01_k».proof.Proof.CRun

@[expose] public section

set_option maxRecDepth 16384

noncomputable section

namespace Cert.CoarseIdeal.Val

open Idealize.ShloMosaic Idealize.ShloMosaic.TcCoe Idealize.SL.Sem Cert.CoarseIdeal Cert.CoarseIdeal.Gen
open Idealize.ShloMosaic.Pipeline (Dat Cfg Window BodyObligation cellOf)

open Cert.KernelIdeal.Val (MK)

/-- The rows of point `n`'s planes: slot `s` of unit `u` holds row `8 n + 4 u + s - 1` of the batch, or zeros where that row
    lies in another image than the unit. -/
def G (X : ℕ → ℕ → ℕ → EReal) (n : ℕ) : Rows := fun u s a c =>
  if 1 ≤ 8 * n + 4 * u + s ∧ (8 * n + 4 * u + s - 1) / 68 = (8 * n + 4 * u) / 68 then X (8 * n + 4 * u + s - 1) a c else 0

/-- The row masks at point `n`. -/
structure Masks (i : grid0.Coords) (n : ℕ) : Prop where
  a0 : kA i 0#32 = 1#1 ↔ (2 * n) % 17 ≠ 0
  a1 : kA i 1#32 = 1#1 ↔ (2 * n + 1) % 17 ≠ 0
  b0 : kB i 0#32 = 1#1 ↔ (2 * n) % 17 ≠ 16
  b1 : kB i 1#32 = 1#1 ↔ (2 * n + 1) % 17 ≠ 16

theorem masks_all : ∀ t : Fin cfg0.N, (kA (grid0.coords t) 0#32 = 1#1 ↔ (2 * t.val) % 17 ≠ 0) ∧ (kA (grid0.coords t) 1#32 = 1#1 ↔ (2 * t.val + 1) % 17 ≠ 0) ∧
    (kB (grid0.coords t) 0#32 = 1#1 ↔ (2 * t.val) % 17 ≠ 16) ∧ (kB (grid0.coords t) 1#32 = 1#1 ↔ (2 * t.val + 1) % 17 ≠ 16) :=
  (by decide +kernel : ∀ t : Fin grid0.N, _)
theorem masks (t : Fin cfg0.N) : Masks (grid0.coords t) t.val := ⟨(masks_all t).1, (masks_all t).2.1, (masks_all t).2.2.1, (masks_all t).2.2.2⟩

theorem MK_of {v : BitVec 1} {W : ℕ → ℕ → EReal} {a c : ℕ} {P : Prop} [Decidable P] {Q : EReal} (h : v = 1#1 ↔ P) (hQ : P → W a c = Q) :
    (if P then Q else 0) = MK v W a c := by
  unfold MK
  by_cases hp : P
  · rw [if_pos hp, if_pos (h.2 hp), hQ hp]
  · rw [if_neg hp, if_neg (fun hv => hp (h.1 hv))]

theorem div_up (v : ℕ) : (v + 1) % 17 ≠ 0 ↔ 4 * (v + 1) / 68 = 4 * v / 68 := by omega
theorem div_dn (v : ℕ) : v % 17 ≠ 16 ↔ (4 * v + 3) / 68 = 4 * (v + 1) / 68 := by omega

section
variable {X : ℕ → ℕ → ℕ → EReal}

theorem G_cur {i : grid0.Coords} {n : ℕ} (hm : Masks i n) : CurRows i (fun r a c => X (8 * n + r) a c) (G X n) where
  main u s a c hu h1 h8 := by
    unfold G
    rw [if_pos (by omega), show 8 * n + 4 * u + s - 1 = 8 * n + (4 * u + s - 1) by omega]
  below a c := by
    unfold G
    refine MK_of (W := fun a c => X (8 * n + 4) a c) (hm.a1.trans ((div_up (2 * n)).trans (by rw [show 8 * n + 4 * 0 + 5 - 1 = 4 * (2 * n + 1) by omega, show 8 * n + 4 * 0 = 4 * (2 * n) by omega]; exact ⟨fun h => ⟨by omega, h⟩, fun h => h.2⟩))) fun _ => ?_
    rw [show 8 * n + 4 * 0 + 5 - 1 = 8 * n + 4 by omega]
  above a c := by
    unfold G
    refine MK_of (W := fun a c => X (8 * n + 3) a c) (hm.b0.trans ((div_dn (2 * n)).trans (by rw [show 8 * n + 4 * 1 + 0 - 1 = 4 * (2 * n) + 3 by omega, show 8 * n + 4 * 1 = 4 * (2 * n + 1) by omega]; exact ⟨fun h => ⟨by omega, h⟩, fun h => h.2⟩))) fun _ => ?_
    rw [show 8 * n + 4 * 1 + 0 - 1 = 8 * n + 3 by omega]

theorem G_othB {i : grid0.Coords} {n : ℕ} (hm : Masks i n) : OthB i (fun r a c => X (8 * n + r) a c) (G X (n + 1)) := fun a c => by
  unfold G
  refine MK_of (W := fun a c => X (8 * n + 7) a c) (hm.b1.trans ((div_dn (2 * n + 1)).trans (by rw [show 8 * (n + 1) + 4 * 0 + 0 - 1 = 4 * (2 * n + 1) + 3 by omega, show 8 * (n + 1) + 4 * 0 = 4 * (2 * n + 1 + 1) by omega]; exact ⟨fun h => ⟨by omega, h⟩, fun h => h.2⟩))) fun _ => ?_
  rw [show 8 * (n + 1) + 4 * 0 + 0 - 1 = 8 * n + 7 by omega]

theorem G_othA {i : grid0.Coords} {n : ℕ} (hm : Masks i (n + 1)) (h50 : n ≤ 50) : OthA i (fun r a c => X (8 * min (n + 1) 50 + r) a c) (G X n) := fun a c => by
  unfold G
  by_cases hn : n + 1 ≤ 50
  · rw [min_eq_left hn]
    refine MK_of (W := fun a c => X (8 * (n + 1) + 0) a c) (hm.a0.trans ((div_up (2 * n + 1)).trans (by rw [show 8 * n + 4 * 1 + 5 - 1 = 4 * (2 * n + 1 + 1) by omega, show 8 * n + 4 * 1 = 4 * (2 * n + 1) by omega]; exact ⟨fun h => ⟨by omega, h⟩, fun h => h.2⟩))) fun _ => ?_
    rw [show 8 * n + 4 * 1 + 5 - 1 = 8 * (n + 1) + 0 by omega]
  · have h51 : n = 50 := by omega
    subst h51
    unfold MK
    rw [if_neg (by omega), if_neg (fun hv => absurd (hm.a0.1 hv) (by omega))]
end

/-- The six planes after a point: the set it filled, for rows `V`, and the other set, for the next point's rows `V'`. -/
structure PInv (V V' : Rows) (C0 Cm Cp N0 Nm Np : PIdx → EReal) : Prop where
  c0 : Cur 1 V C0
  cm : Cur 0 V Cm
  cp : Cur 2 V Cp
  n0 : Nxt 1 V' N0
  nm : Nxt 0 V' Nm
  np : Nxt 2 V' Np

section
variable {X : ℕ → ℕ → ℕ → EReal} {i : grid0.Coords} {M1 : Memref sig .tc .vmem S8x120x256 .fp8e4m3} {f1 : M1.view.ty.Contents (Elt Ideal)}
  {M2 : Memref sig .tc .vmem S8x120x256 .f32} {f2 : M2.view.ty.Contents (Elt Ideal)}

/-- A point's stores over what the planes held before it. -/
theorem step_pre {n : ℕ} (hmk : Masks i n) (hL : ∀ j : S8x120x256.Idx, ((M1.view.read (Elt Ideal) f1 j : EReal) * (M2.view.read (Elt Ideal) f2 j : EReal)) = X (8 * n + j 0) (j 1) (j 2))
    (E0 : Memref sig .tc .vmem S2x2x368x2x128 .bf16) (e0 : E0.view.ty.Contents (Elt Ideal)) (Em : Memref sig .tc .vmem S2x2x368x2x128 .bf16) (em : Em.view.ty.Contents (Elt Ideal)) (Ep : Memref sig .tc .vmem S2x2x368x2x128 .bf16) (ep : Ep.view.ty.Contents (Elt Ideal))
    (v0 : View sig .tc .vmem S2x2x368x2x128 .bf16) (g0 : v0.ty.Contents (Elt Ideal)) (u0 : View sig .tc .vmem S2x2x368x2x128 .bf16) (h0 : u0.ty.Contents (Elt Ideal)) (vm : View sig .tc .vmem S2x2x368x2x128 .bf16) (gm : vm.ty.Contents (Elt Ideal)) (um : View sig .tc .vmem S2x2x368x2x128 .bf16) (hm : um.ty.Contents (Elt Ideal)) (vp : View sig .tc .vmem S2x2x368x2x128 .bf16) (gp : vp.ty.Contents (Elt Ideal)) (up : View sig .tc .vmem S2x2x368x2x128 .bf16) (hp : up.ty.Contents (Elt Ideal))
    (hb0 : Nxt 1 (G X n) (v0.read (Elt Ideal) g0)) (hbm : Nxt 0 (G X n) (vm.read (Elt Ideal) gm)) (hbp : Nxt 2 (G X n) (vp.read (Elt Ideal) gp)) :
    PInv (G X n) (G X (n + 1)) (v0.read (Elt Ideal) (v0.writes (Elt Ideal) g0 (lC8 i M1 f1 M2 f2 p0 (rdB E0 e0)))) (vm.read (Elt Ideal) (vm.writes (Elt Ideal) gm (lC8 i M1 f1 M2 f2 pm (rdB Em em)))) (vp.read (Elt Ideal) (vp.writes (Elt Ideal) gp (lC8 i M1 f1 M2 f2 pp (rdB Ep ep))))
      (u0.read (Elt Ideal) (u0.writes (Elt Ideal) h0 (lN4 i M1 f1 M2 f2 p0 (rdB E0 e0)))) (um.read (Elt Ideal) (um.writes (Elt Ideal) hm (lN4 i M1 f1 M2 f2 pm (rdB Em em)))) (up.read (Elt Ideal) (up.writes (Elt Ideal) hp (lN4 i M1 f1 M2 f2 pp (rdB Ep ep)))) where
  c0 := step_C (L := fun r a c => X (8 * n + r) a c) hL ok0 (G_cur hmk) v0 g0 hb0
  cm := step_C (L := fun r a c => X (8 * n + r) a c) hL okm (G_cur hmk) vm gm hbm
  cp := step_C (L := fun r a c => X (8 * n + r) a c) hL okp (G_cur hmk) vp gp hbp
  n0 := step_N (L := fun r a c => X (8 * n + r) a c) hL ok0 (G_othB hmk) u0 h0
  nm := step_N (L := fun r a c => X (8 * n + r) a c) hL okm (G_othB hmk) um hm
  np := step_N (L := fun r a c => X (8 * n + r) a c) hL okp (G_othB hmk) up hp

theorem step_gen {n : ℕ} (hm : Masks i (n + 1)) (hL : ∀ j : S8x120x256.Idx, ((M1.view.read (Elt Ideal) f1 j : EReal) * (M2.view.read (Elt Ideal) f2 j : EReal)) = X (8 * (n + 1) + j 0) (j 1) (j 2))
    (C0 : Memref sig .tc .vmem S2x2x368x2x128 .bf16) (hC0 : C0.IsWhole) (Cm : Memref sig .tc .vmem S2x2x368x2x128 .bf16) (hCm : Cm.IsWhole) (Cp : Memref sig .tc .vmem S2x2x368x2x128 .bf16) (hCp : Cp.IsWhole)
    (N0 : Memref sig .tc .vmem S2x2x368x2x128 .bf16) (hN0 : N0.IsWhole) (Nm : Memref sig .tc .vmem S2x2x368x2x128 .bf16) (hNm : Nm.IsWhole) (Np : Memref sig .tc .vmem S2x2x368x2x128 .bf16) (hNp : Np.IsWhole)
    (x0 xm xp y0 ym yp : Vec Ideal S2x2x368x2x128 .bf16) (hp : PInv (G X n) (G X (n + 1)) y0 ym yp x0 xm xp) :
    PInv (G X (n + 1)) (G X (n + 2)) (C0.view.read (Elt Ideal) (C0.view.writes (Elt Ideal) (hC0.unread x0) (lC8 i M1 f1 M2 f2 p0 (rdC C0)))) (Cm.view.read (Elt Ideal) (Cm.view.writes (Elt Ideal) (hCm.unread xm) (lC8 i M1 f1 M2 f2 pm (rdC Cm)))) (Cp.view.read (Elt Ideal) (Cp.view.writes (Elt Ideal) (hCp.unread xp) (lC8 i M1 f1 M2 f2 pp (rdC Cp))))
      (N0.view.read (Elt Ideal) (N0.view.writes (Elt Ideal) (hN0.unread y0) (lN4 i M1 f1 M2 f2 p0 (rdC C0)))) (Nm.view.read (Elt Ideal) (Nm.view.writes (Elt Ideal) (hNm.unread ym) (lN4 i M1 f1 M2 f2 pm (rdC Cm)))) (Np.view.read (Elt Ideal) (Np.view.writes (Elt Ideal) (hNp.unread yp) (lN4 i M1 f1 M2 f2 pp (rdC Cp)))) := by
  simp only [rdC_eq]
  refine step_pre hm hL C0 _ Cm _ Cp _ C0.view _ N0.view _ Cm.view _ Nm.view _ Cp.view _ Np.view _ ?_ ?_ ?_
  · rw [hC0.read_unread]; exact hp.n0
  · rw [hCm.read_unread]; exact hp.nm
  · rw [hCp.read_unread]; exact hp.np

/-- The block of results a point leaves: the convolution of the rows the point before filled. -/
theorem out_gen {n : ℕ} (h50 : n ≤ 50) (hm : Masks i (n + 1)) (hL : ∀ j : S8x120x256.Idx, ((M1.view.read (Elt Ideal) f1 j : EReal) * (M2.view.read (Elt Ideal) f2 j : EReal)) = X (8 * min (n + 1) 50 + j 0) (j 1) (j 2))
    (C0 : Memref sig .tc .vmem S2x2x368x2x128 .bf16) (Cm : Memref sig .tc .vmem S2x2x368x2x128 .bf16) (Cp : Memref sig .tc .vmem S2x2x368x2x128 .bf16)
    (N0 : Memref sig .tc .vmem S2x2x368x2x128 .bf16) (hN0 : N0.IsWhole) (Nm : Memref sig .tc .vmem S2x2x368x2x128 .bf16) (hNm : Nm.IsWhole) (Np : Memref sig .tc .vmem S2x2x368x2x128 .bf16) (hNp : Np.IsWhole)
    (x0 xm xp y0 ym yp : Vec Ideal S2x2x368x2x128 .bf16) (hp : PInv (G X n) (G X (n + 1)) y0 ym yp x0 xm xp)
    {M3 : Memref sig .tc .vmem S2304x256 .fp8e4m3} {f3 : M3.view.ty.Contents (Elt Ideal)}
    {M4 : Memref sig .tc .vmem S1x256 .f32} {f4 : M4.view.ty.Contents (Elt Ideal)}
    {M5 : Memref sig .tc .vmem S1x256 .f32} {f5 : M5.view.ty.Contents (Elt Ideal)}
    {w : ℕ → ℕ → EReal} {s b : ℕ → EReal}
    (hw : ∀ (k : Fin 2304) (d : Fin 256), (M3.view.read (Elt Ideal) f3 (ix2 k d) : EReal) = w k d)
    (hs : ∀ d : Fin 256, (M4.view.read (Elt Ideal) f4 (ix2 0 d) : EReal) = s d)
    (hb : ∀ d : Fin 256, (M5.view.read (Elt Ideal) f5 (ix2 0 d) : EReal) = b d)
    (v : View sig .tc .vmem S8x15x16x128 .bf16) (f : v.ty.Contents (Elt Ideal)) (y : S8x15x16x128.Idx) :
    v.read (Elt Ideal) (v.writes (Elt Ideal) f (lP (cv0 N0 (hN0.unread y0) Nm (hNm.unread ym) Np (hNp.unread yp) (w3 M3 f3) (w4 M4 f4) (w4 M5 f5))
      (cv1 N0 (hN0.unread y0) Nm (hNm.unread ym) Np (hNp.unread yp) (N0.view.writes (Elt Ideal) (hN0.unread y0) (lN4 i M1 f1 M2 f2 p0 (rdC C0))) (Nm.view.writes (Elt Ideal) (hNm.unread ym) (lN4 i M1 f1 M2 f2 pm (rdC Cm))) (Np.view.writes (Elt Ideal) (hNp.unread yp) (lN4 i M1 f1 M2 f2 pp (rdC Cp))) (w3 M3 f3) (w4 M4 f4) (w4 M5 f5)))) y
      = convTile (G X n) w s b (y 0) (y 1) (y 2) (y 3) := by
  simp only [rdC_eq]
  have hc0 : Cur 1 (G X n) (N0.view.read (Elt Ideal) (hN0.unread y0)) := by rw [hN0.read_unread]; exact hp.c0
  have hcm : Cur 0 (G X n) (Nm.view.read (Elt Ideal) (hNm.unread ym)) := by rw [hNm.read_unread]; exact hp.cm
  have hcp : Cur 2 (G X n) (Np.view.read (Elt Ideal) (hNp.unread yp)) := by rw [hNp.read_unread]; exact hp.cp
  exact lP_ok
    (fun p d N x => cv0_ok hw hs hb _ _ _ _ _ _ (full_of_cur hc0) (full_of_cur hcm) (full_of_cur hcp) p d N x)
    (fun p d N x => cv1_ok hw hs hb _ _ _ _ _ _ _ _ _ hc0 (full_N (L := fun r a c => X (8 * min (n + 1) 50 + r) a c) hL ok0 (G_othA hm h50) N0.view _ hc0) hcm (full_N (L := fun r a c => X (8 * min (n + 1) 50 + r) a c) hL okm (G_othA hm h50) Nm.view _ hcm) hcp (full_N (L := fun r a c => X (8 * min (n + 1) 50 + r) a c) hL okp (G_othA hm h50) Np.view _ hcp) p d N x) v f y
end

/-- The planes after point `n`, by the point's parity. -/
def At (X : ℕ → ℕ → ℕ → EReal) (n : ℕ) (o : Vec Ideal S8x15x16x128 .bf16 × Vec Ideal S2x2x368x2x128 .bf16 × Vec Ideal S2x2x368x2x128 .bf16 × Vec Ideal S2x2x368x2x128 .bf16 × Vec Ideal S2x2x368x2x128 .bf16 × Vec Ideal S2x2x368x2x128 .bf16 × Vec Ideal S2x2x368x2x128 .bf16) : Prop :=
  (n % 2 = 0 → PInv (G X n) (G X (n + 1)) o.2.1 o.2.2.1 o.2.2.2.1 o.2.2.2.2.1 o.2.2.2.2.2.1 o.2.2.2.2.2.2) ∧
    (n % 2 = 1 → PInv (G X n) (G X (n + 1)) o.2.2.2.2.1 o.2.2.2.2.2.1 o.2.2.2.2.2.2 o.2.1 o.2.2.1 o.2.2.2.1)

section
variable (m : (ℓ : Loc nD τ sig) → Buf (Elt Ideal) ℓ) (c : Dev nD) {X : ℕ → ℕ → ℕ → EReal} {w : ℕ → ℕ → EReal} {s b : ℕ → EReal}
  (hX : ∀ (t : Fin cfg0.N) (j : S8x120x256.Idx), @HMul.hMul EReal EReal EReal _ ((iblk m c 0 t : Vec Ideal S8x120x256 .fp8e4m3) j) ((iblk m c 1 t : Vec Ideal S8x120x256 .f32) j) = X (8 * min t.val 50 + j 0) (j 1) (j 2))
  (hw : ∀ (t : Fin cfg0.N) (k : Fin 2304) (d : Fin 256), ((iblk m c 2 t : Vec Ideal S2304x256 .fp8e4m3) (ix2 k d) : EReal) = w k d)
  (hs : ∀ (t : Fin cfg0.N) (d : Fin 256), ((iblk m c 3 t : Vec Ideal S1x256 .f32) (ix2 0 d) : EReal) = s d)
  (hb : ∀ (t : Fin cfg0.N) (d : Fin 256), ((iblk m c 4 t : Vec Ideal S1x256 .f32) (ix2 0 d) : EReal) = b d)

include hX in
theorem hX0 (t : Fin cfg0.N) (j : S8x120x256.Idx) : (((ms0_0 t).view.read (Elt Ideal) ((hs0_0 t).unread (iblk m c 0 t)) j : EReal) *
    ((ms0_1 t).view.read (Elt Ideal) ((hs0_1 t).unread (iblk m c 1 t)) j : EReal)) = X (8 * min t.val 50 + j 0) (j 1) (j 2) := by
  rw [(hs0_0 t).read_unread, (hs0_1 t).read_unread]
  exact hX t j

include hX in
theorem at_zero (h : 0 < cfg0.N) : At X 0 (outsAt0 m c 0 h) := by
  have e := outsAt0_A m c ⟨0, h⟩ rfl rfl (by show ¬ 0 % 2 = 1; omega)
  rw [show outsAt0 m c 0 h = _ from e]
  refine ⟨fun _ => ?_, fun h1 => absurd h1 (by decide)⟩
  dsimp only
  rw [sout0_A_0_eq, sout0_A_1_eq, sout0_A_2_eq, sout0_A_3_eq, sout0_A_4_eq, sout0_A_5_eq]
  simp only [View.writes_append, rdA_eq]
  have hz : ∀ (j : ℕ) (v : View sig .tc .vmem S2x2x368x2x128 .bf16), Nxt j (G X 0) (v.read (Elt Ideal) (v.writes (Elt Ideal) v.junk zp)) := fun j v y h0 h4 h64 => by
    refine (zero_base v y).trans ?_
    have hG : G X 0 (y 0) (((y 2 : ℕ) - 4) / 60) = fun _ _ => 0 := by
      funext a c; unfold G; rw [h0, show ((y 2 : ℕ) - 4) / 60 = 0 by omega, if_neg (by omega)]
    unfold T VP
    rw [hG, ite_self]
  exact step_pre (X := X) (n := 0) (masks ⟨0, h⟩) (hX0 m c hX ⟨0, h⟩) scM0_0 _ scM0_1 _ scM0_2 _ VS0_0 _ VS0_3 _ VS0_1 _ VS0_4 _ VS0_2 _ VS0_5 _ (hz 1 _) (hz 0 _) (hz 2 _)

include hX in
theorem at_succ (n : ℕ) (hn : n + 1 ≤ 50) (h : n + 1 < cfg0.N) (ih : At X n (outsAt0 m c n (Nat.lt_of_succ_lt h))) :
    At X (n + 1) (outsAt0 m c (n + 1) h) := by
  have hL := hX0 m c hX ⟨n + 1, h⟩
  dsimp only at hL
  rw [min_eq_left hn] at hL
  rcases Nat.mod_two_eq_zero_or_one (n + 1) with hp | hp
  · have e := outsAt0_C m c ⟨n + 1, h⟩ (by show ¬ (n + 1) % 52 = 0; omega) hp (by show ¬ (n + 1) % 2 = 1; omega)
    rw [show outsAt0 m c (n + 1) h = _ from e]
    refine ⟨fun _ => ?_, fun h1 => by omega⟩
    dsimp only
    rw [sout0_C_0_eq, sout0_C_1_eq, sout0_C_2_eq, sout0_C_3_eq, sout0_C_4_eq, sout0_C_5_eq]
    exact step_gen (X := X) (masks ⟨n + 1, h⟩) hL scM0_0 _ scM0_1 _ scM0_2 _ scM0_3 _ scM0_4 _ scM0_5 _ _ _ _ _ _ _ (ih.2 (by omega))
  · have e := outsAt0_B m c ⟨n + 1, h⟩ (by show ¬ (n + 1) % 52 = 0; omega) (by show ¬ (n + 1) % 2 = 0; omega) hp
    rw [show outsAt0 m c (n + 1) h = _ from e]
    refine ⟨fun h1 => by omega, fun _ => ?_⟩
    dsimp only
    rw [sout0_B_0_eq, sout0_B_1_eq, sout0_B_2_eq, sout0_B_3_eq, sout0_B_4_eq, sout0_B_5_eq]
    exact step_gen (X := X) (masks ⟨n + 1, h⟩) hL scM0_3 _ scM0_4 _ scM0_5 _ scM0_0 _ scM0_1 _ scM0_2 _ _ _ _ _ _ _ (ih.1 (by omega))

include hX in
theorem at_all (n : ℕ) (hn : n ≤ 50) (h : n < cfg0.N) : At X n (outsAt0 m c n h) := by
  induction n with
  | zero => exact at_zero m c hX h
  | succ n ih => exact at_succ m c hX n hn h (ih (by omega) (Nat.lt_of_succ_lt h))

include hX hw hs hb in
/-- The block of results point `n + 1` leaves. -/
theorem out_at (n : ℕ) (hn : n ≤ 50) (h : n + 1 < cfg0.N) (y : S8x15x16x128.Idx) :
    (outsAt0 m c (n + 1) h).1 y = convTile (G X n) w s b (y 0) (y 1) (y 2) (y 3) := by
  have ih := at_all m c hX n hn (Nat.lt_of_succ_lt h)
  have hL := hX0 m c hX ⟨n + 1, h⟩
  dsimp only at hL
  have hw' : ∀ (k : Fin 2304) (d : Fin 256), ((ms0_2 ⟨n + 1, h⟩).view.read (Elt Ideal) ((hs0_2 ⟨n + 1, h⟩).unread (iblk m c 2 ⟨n + 1, h⟩)) (ix2 k d) : EReal) = w k d := by
    rw [(hs0_2 ⟨n + 1, h⟩).read_unread]; exact hw _
  have hs' : ∀ (d : Fin 256), ((ms0_3 ⟨n + 1, h⟩).view.read (Elt Ideal) ((hs0_3 ⟨n + 1, h⟩).unread (iblk m c 3 ⟨n + 1, h⟩)) (ix2 0 d) : EReal) = s d := by
    rw [(hs0_3 ⟨n + 1, h⟩).read_unread]; exact hs _
  have hb' : ∀ (d : Fin 256), ((ms0_4 ⟨n + 1, h⟩).view.read (Elt Ideal) ((hs0_4 ⟨n + 1, h⟩).unread (iblk m c 4 ⟨n + 1, h⟩)) (ix2 0 d) : EReal) = b d := by
    rw [(hs0_4 ⟨n + 1, h⟩).read_unread]; exact hb _

  rcases Nat.mod_two_eq_zero_or_one (n + 1) with hp | hp
  · have e := outsAt0_C m c ⟨n + 1, h⟩ (by show ¬ (n + 1) % 52 = 0; omega) hp (by show ¬ (n + 1) % 2 = 1; omega)
    rw [show outsAt0 m c (n + 1) h = _ from e]
    dsimp only
    rw [out0_C_5_eq]
    exact out_gen (X := X) hn (masks ⟨n + 1, h⟩) hL scM0_0 scM0_1 scM0_2 scM0_3 _ scM0_4 _ scM0_5 _ _ _ _ _ _ _ (ih.2 (by omega)) hw' hs' hb' _ _ y
  · have e := outsAt0_B m c ⟨n + 1, h⟩ (by show ¬ (n + 1) % 52 = 0; omega) (by show ¬ (n + 1) % 2 = 0; omega) hp
    rw [show outsAt0 m c (n + 1) h = _ from e]
    dsimp only
    rw [out0_B_5_eq]
    exact out_gen (X := X) hn (masks ⟨n + 1, h⟩) hL scM0_3 scM0_4 scM0_5 scM0_0 _ scM0_1 _ scM0_2 _ _ _ _ _ _ _ (ih.1 (by omega)) hw' hs' hb' _ _ y
end

end Cert.CoarseIdeal.Val

end
-- ==== Proof.CValue.lean ====
/-
  The coarse kernel's result array: every row is the convolution of the padded pixels, code times scale.
-/
module

public import proofs.«01_k».proof.Proof.CGrid
public import Idealize.ShloMosaic.Lib.Pipeline.ValueKit

@[expose] public section

set_option maxRecDepth 16384

noncomputable section

namespace Cert.CoarseIdeal.Val

open Idealize.ShloMosaic Idealize.ShloMosaic.TcCoe Idealize.SL.Sem Cert.CoarseIdeal Cert.CoarseIdeal.Gen
open Idealize.ShloMosaic.Pipeline (Dat Cfg Window BodyObligation cellOf)

variable (m : (ℓ : Loc nD τ sig) → Buf (Elt Ideal) ℓ)

theorem idx : ∀ t : Fin cfg0.N, win0_0.index t = ![min t.val 50, 0, 0] ∧ win0_1.index t = ![min t.val 50, 0, 0] ∧ win0_2.index t = ![0, 0] ∧
    win0_3.index t = ![0, 0] ∧ win0_4.index t = ![0, 0] ∧ win0_5.index t = ![t.val - 1, 0, 0, 0] :=
  (by decide +kernel : ∀ t : Fin grid0.N, _)

/-- Code times scale at batch row `N`, pixel `a`, channel `c`. -/
def pix (q : Vec Ideal S408x120x256 .fp8e4m3) (s : Vec Ideal S408x120x256 .f32) (N a c : ℕ) : EReal :=
  if h : N < 408 ∧ a < 120 ∧ c < 256 then @HMul.hMul EReal EReal EReal _ (q (ix3 ⟨N, h.1⟩ ⟨a, h.2.1⟩ ⟨c, h.2.2⟩)) (s (ix3 ⟨N, h.1⟩ ⟨a, h.2.1⟩ ⟨c, h.2.2⟩)) else 0
def wt (w : Vec Ideal S2304x256 .fp8e4m3) (k d : ℕ) : EReal := if h : k < 2304 ∧ d < 256 then w (ix2 ⟨k, h.1⟩ ⟨d, h.2⟩) else 0
def vec (s : Vec Ideal S1x256 .f32) (d : ℕ) : EReal := if h : d < 256 then s (ix2 0 ⟨d, h⟩) else 0

theorem hX (c : Dev nD) (t : Fin cfg0.N) (j : S8x120x256.Idx) :
    @HMul.hMul EReal EReal EReal _ ((iblk m c 0 t : Vec Ideal S8x120x256 .fp8e4m3) j) ((iblk m c 1 t : Vec Ideal S8x120x256 .f32) j)
      = pix (V m c main_v0) (V m c main_v3) (8 * min t.val 50 + j 0) (j 1) (j 2) := by
  have h0 : (j 0 : ℕ) < 8 := (j 0).isLt
  have h1 : (j 1 : ℕ) < 120 := (j 1).isLt
  have h2 : (j 2 : ℕ) < 256 := (j 2).isLt
  unfold pix
  rw [dif_pos ⟨by omega, h1, h2⟩]
  refine congrArg₂ (@HMul.hMul EReal EReal EReal _) ?_ ?_
  · blk_ext [iblk, idx t]
  · blk_ext [iblk, idx t]

theorem hw (c : Dev nD) (t : Fin cfg0.N) (k : Fin 2304) (d : Fin 256) :
    (iblk m c 2 t : Vec Ideal S2304x256 .fp8e4m3) (ix2 k d) = wt (V m c main_v4) k d := by
  unfold wt
  rw [dif_pos ⟨k.isLt, d.isLt⟩]
  blk_ext [iblk, idx t]
theorem hs (c : Dev nD) (t : Fin cfg0.N) (d : Fin 256) :
    (iblk m c 3 t : Vec Ideal S1x256 .f32) (ix2 0 d) = vec (V m c main_v5) d := by
  unfold vec
  rw [dif_pos d.isLt]
  blk_ext [iblk, idx t]
theorem hb (c : Dev nD) (t : Fin cfg0.N) (d : Fin 256) :
    (iblk m c 4 t : Vec Ideal S1x256 .f32) (ix2 0 d) = vec (V m c main_v6) d := by
  unfold vec
  rw [dif_pos d.isLt]
  blk_ext [iblk, idx t]

/-- The convolution of the whole batch. -/
def outF (q : Vec Ideal S408x120x256 .fp8e4m3) (sc : Vec Ideal S408x120x256 .f32) (w : Vec Ideal S2304x256 .fp8e4m3) (s b : Vec Ideal S1x256 .f32) :
    Vec Ideal S408x15x16x128 .bf16 :=
  fun i => convTile (G (pix q sc) ((i 0 : ℕ) / 8)) (wt w) (vec s) (vec b) ((i 0 : ℕ) % 8) (i 1) (i 2) (i 3)

theorem flush_pos : ∀ t : Fin cfg0.N, (cfg0.win 5).flush t = true → 1 ≤ t.val :=
  (by decide +kernel : ∀ t : Fin grid0.N, _)

theorem final (c : Dev nD) : (dats m 0 c).arrAt 5 (cfgs 0).N
    = outF (V m c main_v0) (V m c main_v3) (V m c main_v4) (V m c main_v5) (V m c main_v6) := by
  refine (dats m 0 c).arrAt_eq_of_covers 5 _ (by decide +kernel) fun t hf y => ?_
  have h1 := flush_pos t hf
  blk_simp
  rw [after0_5]
  obtain ⟨n', ht⟩ := t
  cases n' with
  | zero => exact absurd h1 (Nat.not_succ_le_zero 0)
  | succ n =>
    have hn : n + 1 < 52 := lt_of_lt_of_eq ht N_0
    have hy : (y 0 : ℕ) < 8 := (y 0).isLt
    refine (out_at m c (hX m c) (hw m c) (hs m c) (hb m c) n (by omega) ht y).trans ?_
    unfold outF
    have e0 : ((win0_5.blk ⟨n + 1, ht⟩).view.emb y 0 : ℕ) = 8 * n + y 0 := by
      have hg : (⟨n + 1, ht⟩ : Fin cfg0.N).val - 1 = n := rfl
      blk_simp [idx ⟨n + 1, ht⟩]; omega
    have e1 : ((win0_5.blk ⟨n + 1, ht⟩).view.emb y 1 : ℕ) = y 1 := by
      blk_simp [idx ⟨n + 1, ht⟩]
    have e2 : ((win0_5.blk ⟨n + 1, ht⟩).view.emb y 2 : ℕ) = y 2 := by
      blk_simp [idx ⟨n + 1, ht⟩]
    have e3 : ((win0_5.blk ⟨n + 1, ht⟩).view.emb y 3 : ℕ) = y 3 := by
      blk_simp [idx ⟨n + 1, ht⟩]
    rw [e0, e1, e2, e3, show (8 * n + (y 0 : ℕ)) / 8 = n by omega, show (8 * n + (y 0 : ℕ)) % 8 = y 0 by omega]

end Cert.CoarseIdeal.Val
-- ==== Proof.CRefVal.lean ====
/-
  The coarse reference's result, one element at a time: nine taps of the padded pixels, added up in order.
-/
module

public import proofs.«01_k».proof.Proof.Gen.CoarseReferenceIdeal.Frame
public import Idealize.ShloMosaic.Lib.Pipeline.ValueKit

@[expose] public section

set_option maxRecDepth 16384

noncomputable section

namespace Cert.CoarseReferenceIdeal.Val

open Idealize.ShloMosaic Idealize.ShloMosaic.TcCoe Idealize.SL.Sem Cert.CoarseReferenceIdeal Cert.CoarseReferenceIdeal.Gen
open Idealize.ShloMosaic.Pipeline (Dat Cfg Window BodyObligation cellOf)

/-- The padded pixels. -/
def RP (x0 : Vec Ideal S6x68x120x256 .fp8e4m3) (x1 : Vec Ideal S6x68x120x256 .f32) (b y x c : ℕ) : EReal :=
  if h : b < 6 ∧ (1 ≤ y ∧ y - 1 < 68) ∧ (1 ≤ x ∧ x - 1 < 120) ∧ c < 256 then
    @HMul.hMul EReal EReal EReal _ (x0 (ix4 ⟨b, h.1⟩ ⟨y - 1, h.2.1.2⟩ ⟨x - 1, h.2.2.1.2⟩ ⟨c, h.2.2.2⟩)) (x1 (ix4 ⟨b, h.1⟩ ⟨y - 1, h.2.1.2⟩ ⟨x - 1, h.2.2.1.2⟩ ⟨c, h.2.2.2⟩)) else 0

theorem pay2_val (x0 : Vec Ideal S6x68x120x256 .fp8e4m3) (x1 : Vec Ideal S6x68x120x256 .f32) (b : Fin 6) (y : Fin 70) (x : Fin 122) (c : Fin 256) :
    k0_pay2 x0 x1 (ix4 b y x c) = RP x0 x1 b y x c := by
  pointwise [k0_pay2]
  have hb := b.isLt
  have hy := y.isLt
  have hx := x.isLt
  have hc := c.isLt
  have z : (((0#32 : BitVec 32).toInt : ℝ) : EReal) = 0 := by simp
  unfold RP
  by_cases h : (b : ℕ) < 6 ∧ (1 ≤ (y : ℕ) ∧ (y : ℕ) - 1 < 68) ∧ (1 ≤ (x : ℕ) ∧ (x : ℕ) - 1 < 120) ∧ (c : ℕ) < 256
  · rw [dif_pos h, dif_pos (by omega), dif_neg (by omega), dif_pos (by omega), dif_neg (by omega)]
  · rw [dif_neg h]
    by_cases h1 : (x : ℕ) < 121
    · rw [dif_pos h1]
      by_cases h2 : (x : ℕ) < 1
      · rw [dif_pos h2]; exact z
      · rw [dif_neg h2]
        by_cases h3 : (y : ℕ) < 69
        · rw [dif_pos h3]
          rw [dif_pos (by omega)]; exact z
        · rw [dif_neg h3]; exact z
    · rw [dif_neg h1]; exact z

variable (x0 : Vec Ideal S6x68x120x256 .fp8e4m3) (x1 : Vec Ideal S6x68x120x256 .f32)
  (w0 w1 w2 w3 w4 w5 w6 w7 w8 : Vec Ideal S1x1x256x256 .fp8e4m3) (s b : Vec Ideal S1x256 .f32)

/-- The reference's result over its loads. -/
def core : FVec Ideal S408x120x256 .bf16 :=
  k0_pay1 (k0_pay2 x0 x1) (k0_pay6 (k0_pay2 x0 x1) (k0_pay3 x0 x1 w0 w1) (k0_pay4 x0 x1) (k0_pay5 w2) (constant S48960x256 .f32 0x00000000#32) w3 w4 w5 w6)
    (k0_pay7 (k0_pay2 x0 x1)) (k0_pay8 w7) (constant S48960x256 .f32 0x00000000#32) w8 s b

/-- A sum over all taps and channels, tap by tap. -/
theorem sum_taps (f : ℕ → EReal) : ∑ k : Fin 2304, f k = (∑ k : Fin 256, f (256 * 0 + k)) + (∑ k : Fin 256, f (256 * 1 + k)) + (∑ k : Fin 256, f (256 * 2 + k)) + (∑ k : Fin 256, f (256 * 3 + k)) + (∑ k : Fin 256, f (256 * 4 + k)) + (∑ k : Fin 256, f (256 * 5 + k)) + (∑ k : Fin 256, f (256 * 6 + k)) + (∑ k : Fin 256, f (256 * 7 + k)) + (∑ k : Fin 256, f (256 * 8 + k)) := by
  rw [Fin.sum_univ_eq_sum_range f 2304, show 2304 = 256 + 256 + 256 + 256 + 256 + 256 + 256 + 256 + 256 from rfl]
  rw [Finset.sum_range_add, Finset.sum_range_add, Finset.sum_range_add, Finset.sum_range_add, Finset.sum_range_add, Finset.sum_range_add,
    Finset.sum_range_add, Finset.sum_range_add]
  simp only [Finset.sum_range, Nat.zero_add, Nat.mul_zero, Nat.reduceMul, Nat.reduceAdd]

theorem key (W : ℕ → ℕ → EReal) (N : Fin 408) (x : Fin 120) (d : Fin 256) (j : ℕ) (B : Fin 6) (Y : Fin 70) (X : Fin 122)
    (w : Vec Ideal S1x1x256x256 .fp8e4m3) (hw : ∀ k d : Fin 256, w (ix4 0 0 k d) = W (256 * j + k) d) (hB : (B : ℕ) = (N : ℕ) / 68)
    (hY : (Y : ℕ) = (N : ℕ) % 68 + j / 3) (hX : (X : ℕ) = (x : ℕ) + j % 3) :
    (∑ k : Fin 256, @HMul.hMul EReal EReal EReal _ (k0_pay2 x0 x1 (ix4 B Y X k)) (w (ix4 0 0 k d)))
      = ∑ k : Fin 256, RP x0 x1 ((N : ℕ) / 68) ((N : ℕ) % 68 + (256 * j + (k : ℕ)) / 256 / 3) ((x : ℕ) + (256 * j + (k : ℕ)) / 256 % 3)
          ((256 * j + (k : ℕ)) % 256) * W (256 * j + k) d := by
  refine Finset.sum_congr rfl fun k _ => ?_
  have hk := k.isLt
  rw [pay2_val, hw, hB, hY, hX, show (256 * j + (k : ℕ)) / 256 = j by omega, show (256 * j + (k : ℕ)) % 256 = k by omega]

/-- The reference's element: the nine taps as one sum, scaled and shifted. -/
theorem core_val (W : ℕ → ℕ → EReal)
    (h0 : ∀ k d : Fin 256, w0 (ix4 0 0 k d) = W (256 * 0 + k) d) (h1 : ∀ k d : Fin 256, w1 (ix4 0 0 k d) = W (256 * 1 + k) d) (h2 : ∀ k d : Fin 256, w2 (ix4 0 0 k d) = W (256 * 2 + k) d) (h3 : ∀ k d : Fin 256, w3 (ix4 0 0 k d) = W (256 * 3 + k) d) (h4 : ∀ k d : Fin 256, w4 (ix4 0 0 k d) = W (256 * 4 + k) d) (h5 : ∀ k d : Fin 256, w5 (ix4 0 0 k d) = W (256 * 5 + k) d) (h6 : ∀ k d : Fin 256, w6 (ix4 0 0 k d) = W (256 * 6 + k) d) (h7 : ∀ k d : Fin 256, w7 (ix4 0 0 k d) = W (256 * 7 + k) d) (h8 : ∀ k d : Fin 256, w8 (ix4 0 0 k d) = W (256 * 8 + k) d)
    (N : Fin 408) (x : Fin 120) (d : Fin 256) :
    core x0 x1 w0 w1 w2 w3 w4 w5 w6 w7 w8 s b (ix3 N x d)
      = @HAdd.hAdd EReal EReal EReal _ (@HMul.hMul EReal EReal EReal _ (∑ k : Fin 2304, RP x0 x1 ((N : ℕ) / 68) ((N : ℕ) % 68 + (k : ℕ) / 256 / 3) ((x : ℕ) + (k : ℕ) / 256 % 3)
          ((k : ℕ) % 256) * W k d) (s (ix2 0 d))) (b (ix2 0 d)) := by
  have hx := x.isLt
  have e : ((N : ℕ) * 120 + (x : ℕ)) / 8160 = (N : ℕ) / 68 := by omega
  generalize hR : (∑ k : Fin 2304, RP x0 x1 ((N : ℕ) / 68) ((N : ℕ) % 68 + (k : ℕ) / 256 / 3) ((x : ℕ) + (k : ℕ) / 256 % 3)
          ((k : ℕ) % 256) * W k d) = R
  pointwise [core, k0_pay1, k0_pay6, k0_pay3, k0_pay4, k0_pay5, k0_pay7, k0_pay8]
  rw [sum_taps (fun k => RP x0 x1 ((N : ℕ) / 68) ((N : ℕ) % 68 + k / 256 / 3) ((x : ℕ) + k / 256 % 3) (k % 256) * W k d)] at hR
  rw [← hR]
  refine congrArg₂ (· + ·) (congrArg₂ (· * ·) ?_ rfl) rfl
  iterate 8 refine congrArg₂ (· + ·) ?_ ?_
  · refine Eq.trans ?_ (key x0 x1 W N x d 0 ⟨((N : ℕ) * 120 + (x : ℕ)) / 8160, by omega⟩ ⟨((N : ℕ) * 120 + (x : ℕ)) / 120 % 68, by omega⟩
      ⟨(x : ℕ), by omega⟩ w0 h0 e (by dsimp only; omega) (by dsimp only; omega))
    rfl
  · refine Eq.trans ?_ (key x0 x1 W N x d 1 ⟨((N : ℕ) * 120 + (x : ℕ)) / 8160, by omega⟩ ⟨((N : ℕ) * 120 + (x : ℕ)) / 120 % 68, by omega⟩
      ⟨1 + (x : ℕ), by omega⟩ w1 h1 e (by dsimp only; omega) (by dsimp only; omega))
    rfl
  · refine Eq.trans ?_ (key x0 x1 W N x d 2 ⟨((N : ℕ) * 120 + (x : ℕ)) / 8160, by omega⟩ ⟨((N : ℕ) * 120 + (x : ℕ)) / 120 % 68, by omega⟩
      ⟨2 + (x : ℕ), by omega⟩ w2 h2 e (by dsimp only; omega) (by dsimp only; omega))
    rfl
  · refine Eq.trans ?_ (key x0 x1 W N x d 3 ⟨((N : ℕ) * 120 + (x : ℕ)) / 8160, by omega⟩ ⟨1 + ((N : ℕ) * 120 + (x : ℕ)) / 120 % 68, by omega⟩
      ⟨(x : ℕ), by omega⟩ w3 h3 e (by dsimp only; omega) (by dsimp only; omega))
    rfl
  · refine Eq.trans ?_ (key x0 x1 W N x d 4 ⟨((N : ℕ) * 120 + (x : ℕ)) / 8160, by omega⟩ ⟨1 + ((N : ℕ) * 120 + (x : ℕ)) / 120 % 68, by omega⟩
      ⟨1 + (x : ℕ), by omega⟩ w4 h4 e (by dsimp only; omega) (by dsimp only; omega))
    rfl
  · refine Eq.trans ?_ (key x0 x1 W N x d 5 ⟨((N : ℕ) * 120 + (x : ℕ)) / 8160, by omega⟩ ⟨1 + ((N : ℕ) * 120 + (x : ℕ)) / 120 % 68, by omega⟩
      ⟨2 + (x : ℕ), by omega⟩ w5 h5 e (by dsimp only; omega) (by dsimp only; omega))
    rfl
  · refine Eq.trans ?_ (key x0 x1 W N x d 6 ⟨((N : ℕ) * 120 + (x : ℕ)) / 8160, by omega⟩ ⟨2 + ((N : ℕ) * 120 + (x : ℕ)) / 120 % 68, by omega⟩
      ⟨(x : ℕ), by omega⟩ w6 h6 e (by dsimp only; omega) (by dsimp only; omega))
    rfl
  · refine Eq.trans ?_ (key x0 x1 W N x d 7 ⟨((N : ℕ) * 120 + (x : ℕ)) / 8160, by omega⟩ ⟨2 + ((N : ℕ) * 120 + (x : ℕ)) / 120 % 68, by omega⟩
      ⟨1 + (x : ℕ), by omega⟩ w7 h7 e (by dsimp only; omega) (by dsimp only; omega))
    rfl
  · refine Eq.trans ?_ (key x0 x1 W N x d 8 ⟨((N : ℕ) * 120 + (x : ℕ)) / 8160, by omega⟩ ⟨2 + ((N : ℕ) * 120 + (x : ℕ)) / 120 % 68, by omega⟩
      ⟨2 + (x : ℕ), by omega⟩ w8 h8 e (by dsimp only; omega) (by dsimp only; omega))
    rfl

end Cert.CoarseReferenceIdeal.Val
-- ==== Proof.CRefFinal.lean ====
/-
  The coarse reference's result array: its one point writes the whole of it.
-/
module

public import proofs.«01_k».proof.Proof.CRefVal
public import Idealize.ShloMosaic.Lib.Pipeline.ValueKit

@[expose] public section

set_option maxRecDepth 16384

noncomputable section

namespace Cert.CoarseReferenceIdeal.Val

open Idealize.ShloMosaic Idealize.ShloMosaic.TcCoe Idealize.SL.Sem Cert.CoarseReferenceIdeal Cert.CoarseReferenceIdeal.Gen

/-- The weights, tap and channel in one index. -/
def wt (w : Vec Ideal S3x3x256x256 .fp8e4m3) (k d : ℕ) : EReal :=
  if h : k / 256 / 3 < 3 ∧ d < 256 then w (ix4 ⟨k / 256 / 3, h.1⟩ ⟨k / 256 % 3, Nat.mod_lt _ (by omega)⟩ ⟨k % 256, Nat.mod_lt _ (by omega)⟩ ⟨d, h.2⟩) else 0

theorem wt_at (w : Vec Ideal S3x3x256x256 .fp8e4m3) (v : Vec Ideal S1x1x256x256 .fp8e4m3) (j : ℕ) (hj : j / 3 < 3)
    (h : ∀ k d : Fin 256, v (ix4 0 0 k d) = w (ix4 ⟨j / 3, hj⟩ ⟨j % 3, Nat.mod_lt _ (by omega)⟩ k d)) (k d : Fin 256) :
    v (ix4 0 0 k d) = wt w (256 * j + k) d := by
  have hk := k.isLt
  have hd := d.isLt
  have e : (256 * j + (k : ℕ)) / 256 = j := by omega
  have e' : (256 * j + (k : ℕ)) % 256 = k := by omega
  unfold wt
  rw [dif_pos (by rw [e]; exact ⟨hj, hd⟩), h]
  congr 1
  funext a
  fin_cases a <;> apply Fin.ext <;> simp [e, e']

/-- The convolution of the whole batch. -/
def outF (x0 : Vec Ideal S6x68x120x256 .fp8e4m3) (x1 : Vec Ideal S6x68x120x256 .f32) (w : Vec Ideal S3x3x256x256 .fp8e4m3) (s b : Vec Ideal S1x256 .f32) :
    Vec Ideal S408x120x256 .bf16 := fun i =>
  @HAdd.hAdd EReal EReal EReal _ (@HMul.hMul EReal EReal EReal _ (∑ k : Fin 2304, RP x0 x1 ((i 0 : ℕ) / 68) ((i 0 : ℕ) % 68 + (k : ℕ) / 256 / 3) ((i 1 : ℕ) + (k : ℕ) / 256 % 3)
          ((k : ℕ) % 256) * wt w k (i 2 : ℕ)) (s (ix2 0 (i 2)))) (b (ix2 0 (i 2)))

theorem ld_w0 (w : Vec Ideal S3x3x256x256 .fp8e4m3) (k d : Fin 256) : View.ld w r0_1 (ix4 0 0 k d) = w (ix4 ⟨0 / 3, by omega⟩ ⟨0 % 3, Nat.mod_lt _ (by omega)⟩ k d) := by
  rw [View.ld_apply]
  congr 1
  funext a
  fin_cases a <;> apply Fin.ext <;> simp [Rect.idx_unit_val]

theorem ld_w1 (w : Vec Ideal S3x3x256x256 .fp8e4m3) (k d : Fin 256) : View.ld w r0_2 (ix4 0 0 k d) = w (ix4 ⟨1 / 3, by omega⟩ ⟨1 % 3, Nat.mod_lt _ (by omega)⟩ k d) := by
  rw [View.ld_apply]
  congr 1
  funext a
  fin_cases a <;> apply Fin.ext <;> simp [Rect.idx_unit_val]

theorem ld_w2 (w : Vec Ideal S3x3x256x256 .fp8e4m3) (k d : Fin 256) : View.ld w r0_3 (ix4 0 0 k d) = w (ix4 ⟨2 / 3, by omega⟩ ⟨2 % 3, Nat.mod_lt _ (by omega)⟩ k d) := by
  rw [View.ld_apply]
  congr 1
  funext a
  fin_cases a <;> apply Fin.ext <;> simp [Rect.idx_unit_val]

theorem ld_w3 (w : Vec Ideal S3x3x256x256 .fp8e4m3) (k d : Fin 256) : View.ld w r0_4 (ix4 0 0 k d) = w (ix4 ⟨3 / 3, by omega⟩ ⟨3 % 3, Nat.mod_lt _ (by omega)⟩ k d) := by
  rw [View.ld_apply]
  congr 1
  funext a
  fin_cases a <;> apply Fin.ext <;> simp [Rect.idx_unit_val]

theorem ld_w4 (w : Vec Ideal S3x3x256x256 .fp8e4m3) (k d : Fin 256) : View.ld w r0_5 (ix4 0 0 k d) = w (ix4 ⟨4 / 3, by omega⟩ ⟨4 % 3, Nat.mod_lt _ (by omega)⟩ k d) := by
  rw [View.ld_apply]
  congr 1
  funext a
  fin_cases a <;> apply Fin.ext <;> simp [Rect.idx_unit_val]

theorem ld_w5 (w : Vec Ideal S3x3x256x256 .fp8e4m3) (k d : Fin 256) : View.ld w r0_6 (ix4 0 0 k d) = w (ix4 ⟨5 / 3, by omega⟩ ⟨5 % 3, Nat.mod_lt _ (by omega)⟩ k d) := by
  rw [View.ld_apply]
  congr 1
  funext a
  fin_cases a <;> apply Fin.ext <;> simp [Rect.idx_unit_val]

theorem ld_w6 (w : Vec Ideal S3x3x256x256 .fp8e4m3) (k d : Fin 256) : View.ld w r0_7 (ix4 0 0 k d) = w (ix4 ⟨6 / 3, by omega⟩ ⟨6 % 3, Nat.mod_lt _ (by omega)⟩ k d) := by
  rw [View.ld_apply]
  congr 1
  funext a
  fin_cases a <;> apply Fin.ext <;> simp [Rect.idx_unit_val]

theorem ld_w7 (w : Vec Ideal S3x3x256x256 .fp8e4m3) (k d : Fin 256) : View.ld w r0_8 (ix4 0 0 k d) = w (ix4 ⟨7 / 3, by omega⟩ ⟨7 % 3, Nat.mod_lt _ (by omega)⟩ k d) := by
  rw [View.ld_apply]
  congr 1
  funext a
  fin_cases a <;> apply Fin.ext <;> simp [Rect.idx_unit_val]

theorem ld_w8 (w : Vec Ideal S3x3x256x256 .fp8e4m3) (k d : Fin 256) : View.ld w r0_9 (ix4 0 0 k d) = w (ix4 ⟨8 / 3, by omega⟩ ⟨8 % 3, Nat.mod_lt _ (by omega)⟩ k d) := by
  rw [View.ld_apply]
  congr 1
  funext a
  fin_cases a <;> apply Fin.ext <;> simp [Rect.idx_unit_val]

theorem out_core (x0 : Vec Ideal S6x68x120x256 .fp8e4m3) (x1 : Vec Ideal S6x68x120x256 .f32) (w : Vec Ideal S3x3x256x256 .fp8e4m3) (s b : Vec Ideal S1x256 .f32) (y : S408x120x256.Idx) :
    out0_5 x0 x1 w s b y = core (View.ld x0 r0_0) (View.ld x1 r0_0) (View.ld w r0_1) (View.ld w r0_2) (View.ld w r0_3) (View.ld w r0_4) (View.ld w r0_5)
      (View.ld w r0_6) (View.ld w r0_7) (View.ld w r0_8) (View.ld w r0_9) (View.ld s r0_10) (View.ld b r0_10) y := by
  unfold_out out0_5
  unfold core
  frame_out

variable (m : (ℓ : Loc nD τ sig) → Buf (Elt Ideal) ℓ)

theorem out_at (x0 : Vec Ideal S6x68x120x256 .fp8e4m3) (x1 : Vec Ideal S6x68x120x256 .f32) (w : Vec Ideal S3x3x256x256 .fp8e4m3) (s b : Vec Ideal S1x256 .f32)
    (N : Fin 408) (x : Fin 120) (d : Fin 256) : out0_5 x0 x1 w s b (ix3 N x d) = outF x0 x1 w s b (ix3 N x d) := by
  rw [out_core, View.ld_unit_lit' _ x0 (by decide), View.ld_unit_lit' _ x1 (by decide), View.ld_unit_lit' _ s (by decide), View.ld_unit_lit' _ b (by decide)]
  exact core_val _ _ _ _ _ _ _ _ _ _ _ _ _ (wt w) (wt_at w _ 0 (by omega) (ld_w0 w)) (wt_at w _ 1 (by omega) (ld_w1 w)) (wt_at w _ 2 (by omega) (ld_w2 w)) (wt_at w _ 3 (by omega) (ld_w3 w)) (wt_at w _ 4 (by omega) (ld_w4 w)) (wt_at w _ 5 (by omega) (ld_w5 w)) (wt_at w _ 6 (by omega) (ld_w6 w)) (wt_at w _ 7 (by omega) (ld_w7 w)) (wt_at w _ 8 (by omega) (ld_w8 w)) N x d

theorem out_at' (x0 : Vec Ideal S6x68x120x256 .fp8e4m3) (x1 : Vec Ideal S6x68x120x256 .f32) (w : Vec Ideal S3x3x256x256 .fp8e4m3) (s b : Vec Ideal S1x256 .f32)
    (j : S408x120x256.Idx) : out0_5 x0 x1 w s b j = outF x0 x1 w s b j := by
  have e : j = ix3 (j 0) (j 1) (j 2) := by funext a; fin_cases a <;> rfl
  rw [e]
  exact out_at x0 x1 w s b _ _ _

theorem e0 (c : Dev nD) : (iblk m c 0 t0_0 : Vec Ideal S6x68x120x256 .fp8e4m3) = V m c main_arg0 := by
  funext i
  have h : ∀ a, win0_0.index t0_0 a = 0 := fun _ => rfl
  obtain ⟨a, b, x, d, rfl⟩ : ∃ a b x d, i = ix4 a b x d := ⟨i 0, i 1, i 2, i 3, by funext a; fin_cases a <;> rfl⟩
  blk_ext [iblk, h]

theorem e1 (c : Dev nD) : (iblk m c 1 t0_0 : Vec Ideal S6x68x120x256 .f32) = V m c main_v2 := by
  funext i
  have h : ∀ a, win0_1.index t0_0 a = 0 := fun _ => rfl
  obtain ⟨a, b, x, d, rfl⟩ : ∃ a b x d, i = ix4 a b x d := ⟨i 0, i 1, i 2, i 3, by funext a; fin_cases a <;> rfl⟩
  blk_ext [iblk, h]

theorem e2 (c : Dev nD) : (iblk m c 2 t0_0 : Vec Ideal S3x3x256x256 .fp8e4m3) = V m c main_arg2 := by
  funext i
  have h : ∀ a, win0_2.index t0_0 a = 0 := fun _ => rfl
  obtain ⟨a, b, x, d, rfl⟩ : ∃ a b x d, i = ix4 a b x d := ⟨i 0, i 1, i 2, i 3, by funext a; fin_cases a <;> rfl⟩
  blk_ext [iblk, h]

theorem e3 (c : Dev nD) : (iblk m c 3 t0_0 : Vec Ideal S1x256 .f32) = V m c main_v3 := by
  funext i
  have h : ∀ a, win0_3.index t0_0 a = 0 := fun _ => rfl
  obtain ⟨a, b, rfl⟩ : ∃ a b, i = ix2 a b := ⟨i 0, i 1, by funext a; fin_cases a <;> rfl⟩
  blk_ext [iblk, h]

theorem e4 (c : Dev nD) : (iblk m c 4 t0_0 : Vec Ideal S1x256 .f32) = V m c main_v4 := by
  funext i
  have h : ∀ a, win0_4.index t0_0 a = 0 := fun _ => rfl
  obtain ⟨a, b, rfl⟩ : ∃ a b, i = ix2 a b := ⟨i 0, i 1, by funext a; fin_cases a <;> rfl⟩
  blk_ext [iblk, h]

theorem final (c : Dev nD) : (dats m 0 c).arrAt 5 (cfgs 0).N
    = outF (V m c main_arg0) (V m c main_v2) (V m c main_arg2) (V m c main_v3) (V m c main_v4) := by
  refine (dats m 0 c).arrAt_eq_of_after_last 5 t0_0 (by decide +kernel) _ fun j => ?_
  blk_simp
  rw [after0_5, e0, e1, e2, e3, e4]
  exact out_at' _ _ _ _ _ j

end Cert.CoarseReferenceIdeal.Val
-- ==== Proof.CEquation.lean ====
/-
  The coarse kernel's convolution and the reference's are one function: the flattened row N is row N % 68 of image N / 68.
-/
module

public import proofs.«01_k».proof.Proof.CValue
public import proofs.«01_k».proof.Proof.CRefFinal

@[expose] public section

set_option maxRecDepth 16384

noncomputable section

namespace Cert.CoarseEqn

open Idealize.ShloMosaic Idealize.ShloMosaic.TcCoe Idealize.SL.Sem Cert.CoarseIdeal Cert.CoarseIdeal.Gen

variable (q : Vec Ideal S408x120x256 .fp8e4m3) (sc : Vec Ideal S408x120x256 .f32) (w' : Vec Ideal S2304x256 .fp8e4m3)
  (x0 : Vec Ideal Cert.CoarseReferenceIdeal.S6x68x120x256 .fp8e4m3) (x1 : Vec Ideal Cert.CoarseReferenceIdeal.S6x68x120x256 .f32)
  (w : Vec Ideal Cert.CoarseReferenceIdeal.S3x3x256x256 .fp8e4m3) (s b : Vec Ideal S1x256 .f32)

/-- One padded pixel, read by flattened row or by image and row. -/
theorem pixel (hq : ∀ (N : Fin 408) (a : Fin 120) (c : Fin 256), q (ix3 N a c) = x0 (ix4 ⟨(N : ℕ) / 68, by omega⟩ ⟨(N : ℕ) % 68, by omega⟩ a c))
    (hs : ∀ (N : Fin 408) (a : Fin 120) (c : Fin 256), sc (ix3 N a c) = x1 (ix4 ⟨(N : ℕ) / 68, by omega⟩ ⟨(N : ℕ) % 68, by omega⟩ a c))
    (N x dy dx c : ℕ) (hN : N < 408) (hx : x < 120) (hdy : dy < 3) (hdx : dx < 3) (hc : c < 256) :
    Val.VP (Val.G (Val.pix q sc) (N / 8) (N % 8 / 4) (N % 8 % 4 + dy)) (x + dx) c
      = Cert.CoarseReferenceIdeal.Val.RP x0 x1 (N / 68) (N % 68 + dy) (x + dx) c := by
  unfold Val.VP Val.G Cert.CoarseReferenceIdeal.Val.RP
  have e : 8 * (N / 8) + 4 * (N % 8 / 4) + (N % 8 % 4 + dy) = N + dy := by omega
  rw [e]
  by_cases h1 : x + dx = 0 ∨ 120 < x + dx
  · rw [if_pos h1, dif_neg (by omega)]
  rw [if_neg h1]
  by_cases h2 : 1 ≤ N % 68 + dy ∧ N % 68 + dy - 1 < 68
  · have r1 : (N + dy - 1) / 68 = N / 68 := by omega
    have r2 : (N + dy - 1) % 68 = N % 68 + dy - 1 := by omega
    rw [if_pos (by omega), dif_pos (by omega)]
    unfold Val.pix
    rw [dif_pos (by omega), hq, hs]
    simp only [r1, r2]
  · rw [if_neg (by omega), dif_neg (by omega)]

/-- The host's layout of the results: the tiles put back into rows. -/
def untile (r : Vec Ideal S408x15x16x128 .bf16) : Vec Ideal S408x120x256 .bf16 :=
  shapeCast S408x120x256 (transpose S408x15x8x2x128 [0, 1, 3, 2, 4] (shapeCast S408x15x2x8x128 r shapeCasts_S408x15x16x128_S408x15x2x8x128)
    transposes_S408x15x2x8x128_S408x15x8x2x128_0_1_3_2_4) shapeCasts_S408x15x8x2x128_S408x120x256
theorem untile_val (r : Vec Ideal S408x15x16x128 .bf16) (N : Fin 408) (x : Fin 120) (d : Fin 256) :
    untile r (ix3 N x d) = r (ix4 N ⟨(x : ℕ) / 8, by omega⟩ ⟨8 * ((d : ℕ) / 128) + (x : ℕ) % 8, by omega⟩ ⟨(d : ℕ) % 128, by omega⟩) := by
  pointwise [untile]
  simp only [Nat.mul_comm]

theorem same (hq : ∀ (N : Fin 408) (a : Fin 120) (c : Fin 256), q (ix3 N a c) = x0 (ix4 ⟨(N : ℕ) / 68, by omega⟩ ⟨(N : ℕ) % 68, by omega⟩ a c))
    (hs : ∀ (N : Fin 408) (a : Fin 120) (c : Fin 256), sc (ix3 N a c) = x1 (ix4 ⟨(N : ℕ) / 68, by omega⟩ ⟨(N : ℕ) % 68, by omega⟩ a c))
    (hw : ∀ (k : Fin 2304) (d : Fin 256), w' (ix2 k d) = w (ix4 ⟨(k : ℕ) / 256 / 3, by omega⟩ ⟨(k : ℕ) / 256 % 3, by omega⟩ ⟨(k : ℕ) % 256, by omega⟩ d)) :
    untile (Val.outF q sc w' s b) = Cert.CoarseReferenceIdeal.Val.outF x0 x1 w s b := by
  funext i
  have hN : (i 0 : ℕ) < 408 := (i 0).isLt
  have hx : (i 1 : ℕ) < 120 := (i 1).isLt
  have hd : (i 2 : ℕ) < 256 := (i 2).isLt
  have hi : i = ix3 (i 0) (i 1) (i 2) := by
    funext a
    fin_cases a <;> rfl
  refine (congrArg (untile (Val.outF q sc w' s b)) hi).trans ((untile_val _ (i 0) (i 1) (i 2)).trans ?_)
  have e1 : 8 * ((i 1 : ℕ) / 8) + (8 * ((i 2 : ℕ) / 128) + (i 1 : ℕ) % 8) % 8 = i 1 := by omega
  have e2 : 128 * ((8 * ((i 2 : ℕ) / 128) + (i 1 : ℕ) % 8) / 8) + (i 2 : ℕ) % 128 = i 2 := by omega
  show Val.convAt (Val.G (Val.pix q sc) ((i 0 : ℕ) / 8)) (Val.wt w') (Val.vec s) (Val.vec b) ((i 0 : ℕ) % 8)
    (8 * ((i 1 : ℕ) / 8) + (8 * ((i 2 : ℕ) / 128) + (i 1 : ℕ) % 8) % 8) (128 * ((8 * ((i 2 : ℕ) / 128) + (i 1 : ℕ) % 8) / 8) + (i 2 : ℕ) % 128) = _
  rw [e1, e2]
  unfold Cert.CoarseReferenceIdeal.Val.outF Val.convAt Val.vec
  rw [dif_pos hd, dif_pos hd]
  refine congrArg₂ (@HAdd.hAdd EReal EReal EReal _) (congrArg₂ (@HMul.hMul EReal EReal EReal _) (Finset.sum_congr rfl fun k _ => ?_) rfl) rfl
  have hk := k.isLt
  rw [pixel q sc x0 x1 hq hs (i 0) (i 1) ((k : ℕ) / 256 / 3) ((k : ℕ) / 256 % 3) ((k : ℕ) % 256) hN hx (by omega) (by omega) (by omega)]
  unfold Val.wt Cert.CoarseReferenceIdeal.Val.wt
  rw [dif_pos ⟨hk, hd⟩, dif_pos ⟨by omega, hd⟩, hw]

end Cert.CoarseEqn
-- ==== Proof.CHost.lean ====
/-
  What the host operations of both coarse programs leave in the arrays the kernels read, element by element.
-/
module
public import proofs.«01_k».proof.Proof.CEquation
@[expose] public section
set_option maxRecDepth 16384
noncomputable section
namespace Cert.CoarseIdeal.Val
open Idealize.ShloMosaic Idealize.ShloMosaic.TcCoe Idealize.SL.Sem Cert.CoarseIdeal Cert.CoarseIdeal.Gen
variable (m : (ℓ : Loc nD τ sig) → Buf (Elt Ideal) ℓ)
theorem V0 (c : Dev nD) (N : Fin 408) (a : Fin 120) (d : Fin 256) : (V m c main_v0 : Vec Ideal S408x120x256 .fp8e4m3) (ix3 N a d) = (m ((c : Thread nD τ).loc main_arg0) : Vec Ideal S6x68x120x256 .fp8e4m3) (ix4 ⟨(N : ℕ) / 68, by omega⟩ ⟨(N : ℕ) % 68, by omega⟩ a d) := by
  entry_read
  simp only [List.flatten_cons, List.flatten_nil, List.append_nil]
  entry_read
  pointwise
theorem V3 (c : Dev nD) (N : Fin 408) (a : Fin 120) (d : Fin 256) : (V m c main_v3 : Vec Ideal S408x120x256 .f32) (ix3 N a d) = (m ((c : Thread nD τ).loc main_arg1) : Vec Ideal S6x68x120x8 .f32) (ix4 ⟨(N : ℕ) / 68, by omega⟩ ⟨(N : ℕ) % 68, by omega⟩ a ⟨(d : ℕ) / 32, by omega⟩) := by
  entry_read
  simp only [List.flatten_cons, List.flatten_nil, List.append_nil]
  entry_read
  pointwise
theorem V4 (c : Dev nD) (k : Fin 2304) (d : Fin 256) : (V m c main_v4 : Vec Ideal S2304x256 .fp8e4m3) (ix2 k d) = (m ((c : Thread nD τ).loc main_arg2) : Vec Ideal S3x3x256x256 .fp8e4m3) (ix4 ⟨(k : ℕ) / 256 / 3, by omega⟩ ⟨(k : ℕ) / 256 % 3, by omega⟩ ⟨(k : ℕ) % 256, by omega⟩ d) := by
  entry_read
  simp only [List.flatten_cons, List.flatten_nil, List.append_nil]
  entry_read
  pointwise
  have e : (k : ℕ) / 256 / 3 = (k : ℕ) / 768 := by omega
  simp only [e]
theorem V5 (c : Dev nD) (d : Fin 256) : (V m c main_v5 : Vec Ideal S1x256 .f32) (ix2 0 d) = (m ((c : Thread nD τ).loc main_arg3) : Vec Ideal S256 .f32) (ix1 d) := by
  entry_read
  simp only [List.flatten_cons, List.flatten_nil, List.append_nil]
  entry_read
  pointwise
theorem V6 (c : Dev nD) (d : Fin 256) : (V m c main_v6 : Vec Ideal S1x256 .f32) (ix2 0 d) = (m ((c : Thread nD τ).loc main_arg4) : Vec Ideal S256 .f32) (ix1 d) := by
  entry_read
  simp only [List.flatten_cons, List.flatten_nil, List.append_nil]
  entry_read
  pointwise
end Cert.CoarseIdeal.Val
namespace Cert.CoarseReferenceIdeal.Val
open Idealize.ShloMosaic Idealize.ShloMosaic.TcCoe Idealize.SL.Sem Cert.CoarseReferenceIdeal Cert.CoarseReferenceIdeal.Gen
variable (m : (ℓ : Loc nD τ sig) → Buf (Elt Ideal) ℓ)
theorem V2 (c : Dev nD) (B : Fin 6) (y : Fin 68) (a : Fin 120) (d : Fin 256) : (V m c main_v2 : Vec Ideal S6x68x120x256 .f32) (ix4 B y a d) = (m ((c : Thread nD τ).loc main_arg1) : Vec Ideal S6x68x120x8 .f32) (ix4 B y a ⟨(d : ℕ) / 32, by omega⟩) := by
  entry_read
  pointwise
theorem V3 (c : Dev nD) (d : Fin 256) : (V m c main_v3 : Vec Ideal S1x256 .f32) (ix2 0 d) = (m ((c : Thread nD τ).loc main_arg3) : Vec Ideal S256 .f32) (ix1 d) := by
  entry_read
  pointwise
theorem V4 (c : Dev nD) (d : Fin 256) : (V m c main_v4 : Vec Ideal S1x256 .f32) (ix2 0 d) = (m ((c : Thread nD τ).loc main_arg4) : Vec Ideal S256 .f32) (ix1 d) := by
  entry_read
  pointwise
end Cert.CoarseReferenceIdeal.Val

namespace Cert.CoarseEqn
open Idealize.ShloMosaic Idealize.ShloMosaic.TcCoe Idealize.SL.Sem

theorem row_ext (s t : Vec Ideal Cert.CoarseIdeal.S1x256 .f32) (h : ∀ d : Fin 256, s (ix2 0 d) = t (ix2 0 d)) : s = t := by
  funext i
  have e : i = ix2 0 (i 1) := by
    funext a
    fin_cases a
    · exact Fin.ext (Nat.lt_one_iff.mp (i 0).isLt)
    · rfl
  rw [e]
  exact h _

open Cert.CoarseIdeal Cert.CoarseIdeal.Gen in
/-- What the program returns: the kernel's result array put back into rows. -/
theorem returned (m : (ℓ : Loc nD τ sig) → Buf (Elt Ideal) ℓ) (c : Dev nD) :
    Pipeline.afterTail₀ cfgs (dats m) 0 (V0 m) [hostOps1] c main_v10 = untile ((dats m 0 c).arrAt 5 (cfgs 0).N) := by
  unfold Pipeline.afterTail₀
  simp only [List.flatten_cons, List.flatten_nil, List.append_nil]
  after_results
  exact congrArg untile (Pipeline.withArrays_arr spec0 launch0.win.arr_inj c (V0 m c) (fun w => (dats m 0 c).arrAt w (cfgs 0).N) 5)

/-- Equal arguments leave equal results. -/
theorem results (m : (ℓ : Loc Cert.CoarseIdeal.nD Cert.CoarseIdeal.τ Cert.CoarseIdeal.sig) → Buf (Elt Ideal) ℓ)
    (m' : (ℓ : Loc Cert.CoarseReferenceIdeal.nD Cert.CoarseReferenceIdeal.τ Cert.CoarseReferenceIdeal.sig) → Buf (Elt Ideal) ℓ) (c : Dev Cert.CoarseIdeal.nD)
    (h0 : m' ((c.tc : Thread Cert.CoarseReferenceIdeal.nD Cert.CoarseReferenceIdeal.τ).loc Cert.CoarseReferenceIdeal.main_arg0) = m ((c.tc : Thread Cert.CoarseIdeal.nD Cert.CoarseIdeal.τ).loc Cert.CoarseIdeal.main_arg0))
    (h1 : m' ((c.tc : Thread Cert.CoarseReferenceIdeal.nD Cert.CoarseReferenceIdeal.τ).loc Cert.CoarseReferenceIdeal.main_arg1) = m ((c.tc : Thread Cert.CoarseIdeal.nD Cert.CoarseIdeal.τ).loc Cert.CoarseIdeal.main_arg1))
    (h2 : m' ((c.tc : Thread Cert.CoarseReferenceIdeal.nD Cert.CoarseReferenceIdeal.τ).loc Cert.CoarseReferenceIdeal.main_arg2) = m ((c.tc : Thread Cert.CoarseIdeal.nD Cert.CoarseIdeal.τ).loc Cert.CoarseIdeal.main_arg2))
    (h3 : m' ((c.tc : Thread Cert.CoarseReferenceIdeal.nD Cert.CoarseReferenceIdeal.τ).loc Cert.CoarseReferenceIdeal.main_arg3) = m ((c.tc : Thread Cert.CoarseIdeal.nD Cert.CoarseIdeal.τ).loc Cert.CoarseIdeal.main_arg3))
    (h4 : m' ((c.tc : Thread Cert.CoarseReferenceIdeal.nD Cert.CoarseReferenceIdeal.τ).loc Cert.CoarseReferenceIdeal.main_arg4) = m ((c.tc : Thread Cert.CoarseIdeal.nD Cert.CoarseIdeal.τ).loc Cert.CoarseIdeal.main_arg4)) :
    (Cert.CoarseReferenceIdeal.Gen.dats m' 0 c).arrAt 5 (Cert.CoarseReferenceIdeal.cfgs 0).N = untile ((Cert.CoarseIdeal.Gen.dats m 0 c).arrAt 5 (Cert.CoarseIdeal.cfgs 0).N) := by
  rw [Cert.CoarseIdeal.Val.final m c, Cert.CoarseReferenceIdeal.Val.final m' c]
  have es : (Cert.CoarseReferenceIdeal.Gen.V m' c Cert.CoarseReferenceIdeal.main_v3 : Vec Ideal Cert.CoarseIdeal.S1x256 .f32) = Cert.CoarseIdeal.Gen.V m c Cert.CoarseIdeal.main_v5 :=
    row_ext _ _ fun d => (Cert.CoarseReferenceIdeal.Val.V3 m' c d).trans ((congrFun h3 (ix1 d)).trans (Cert.CoarseIdeal.Val.V5 m c d).symm)
  have eb : (Cert.CoarseReferenceIdeal.Gen.V m' c Cert.CoarseReferenceIdeal.main_v4 : Vec Ideal Cert.CoarseIdeal.S1x256 .f32) = Cert.CoarseIdeal.Gen.V m c Cert.CoarseIdeal.main_v6 :=
    row_ext _ _ fun d => (Cert.CoarseReferenceIdeal.Val.V4 m' c d).trans ((congrFun h4 (ix1 d)).trans (Cert.CoarseIdeal.Val.V6 m c d).symm)
  rw [es, eb]
  symm
  refine same _ _ _ _ _ _ _ _ (fun N a d => ?_) (fun N a d => ?_) (fun k d => ?_)
  · refine (Cert.CoarseIdeal.Val.V0 m c N a d).trans ?_
    rw [Cert.CoarseReferenceIdeal.Gen.V_main_arg0]
    exact (congrFun h0 _).symm
  · exact (Cert.CoarseIdeal.Val.V3 m c N a d).trans ((congrFun h1 _).symm.trans (Cert.CoarseReferenceIdeal.Val.V2 m' c _ _ a d).symm)
  · refine (Cert.CoarseIdeal.Val.V4 m c k d).trans ?_
    rw [Cert.CoarseReferenceIdeal.Gen.V_main_arg2]
    exact (congrFun h2 _).symm

end Cert.CoarseEqn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Host
public import proofs.«01_k».proof.Proof.Gen.Coarse
public import proofs.«01_k».proof.Proof.Gen.Coarse.Frame
public import proofs.«01_k».proof.Proof.Gen.CoarseIdeal
public import proofs.«01_k».proof.Proof.Gen.CoarseIdeal.Frame
public import proofs.«01_k».proof.Proof.Gen.CoarseReferenceIdeal
public import proofs.«01_k».proof.Proof.Gen.CoarseReferenceIdeal.Frame
public import proofs.«01_k».proof.Proof.CHost
public import Idealize.ShloMosaic.Lib.Bf16PairInverse
public import Idealize.ShloMosaic.Adequacy
public import Idealize.ShloMosaic.Init

@[expose] public section

noncomputable section

namespace Cert.Proof

open Idealize.ShloMosaic Idealize.SL.Sem

/-- The word-packed form computes the packed pairs' values. -/
theorem preserves : Cert.preserves_Kernel_KernelIdeal :=
  open Cert.KernelIdeal IdealRules.bf16_pair in
  ⟨bufferStatement S2x10x2x128x2x128 S2x10x2x128x1x128, statement S2x10x2x128x2x128 S2x10x2x128x1x128,
   selectZeroStatement S2x10x2x128x128, statement S1x4x1x120x2x128 S1x4x1x120x1x128, statement S4x240x128 S4x120x128,
   selectZeroStatement S4x1x128, statement S1x4x1x1x2x128 S1x4x1x1x1x128, selectZeroStatement S120x128,
   statement S1x1x1x120x2x128 S1x1x1x120x1x128, selectZeroStatement S1x128, statement S1x1x1x1x2x128 S1x1x1x1x1x128⟩

theorem algebraic : Cert.algebraic_KernelIdeal_ReferenceIdeal := by
  pair_intro
  · run_from Cert.KernelIdeal.Gen.run_main m g
  · run_from Cert.ReferenceIdeal.Gen.run_main m' g'
    obtain ⟨h0, h1, h2, h3, h4⟩ := hagree c
    exact Cert.Eqn.results m m' c h0 h1 h2 h3 h4

/-- The same of the coarse program. -/
theorem preserves_coarse : Cert.preserves_Coarse_CoarseIdeal :=
  open Cert.CoarseIdeal IdealRules.bf16_pair in
  ⟨bufferStatement S2x2x368x2x128 S2x2x368x1x128, statement S2x2x368x2x128 S2x2x368x1x128, selectZeroStatement S2x2x368x128,
   statement S1x1x240x2x128 S1x1x240x1x128, statement S480x128 S240x128, selectZeroStatement S240x128,
   statement S1x1x60x2x128 S1x1x60x1x128, selectZeroStatement S60x128⟩

theorem algebraic_coarse : Cert.algebraic_CoarseIdeal_CoarseReferenceIdeal := by
  pair_intro
  · run_from Cert.CoarseIdeal.Gen.unchanged m g & Cert.CoarseIdeal.Gen.run_main m g
  · run_from Cert.CoarseReferenceIdeal.Gen.run_main m' g'
    obtain ⟨h0, h1, h2, h3, h4⟩ := hagree c
    exact (Cert.CoarseEqn.results m m' c h0 h1 h2 h3 h4).trans (Cert.CoarseEqn.returned m c).symm

theorem claim : Cert.Claim := ⟨Cert.Kernel.Gen.facts, Cert.KernelIdeal.Gen.facts, Cert.ReferenceIdeal.Gen.facts,
  Cert.Coarse.Gen.facts, Cert.CoarseIdeal.Gen.facts, Cert.CoarseReferenceIdeal.Gen.facts,
  fun m ρ _ => Cert.Kernel.Gen.frame m ρ, fun m ρ _ => Cert.KernelIdeal.Gen.frame m ρ, fun m ρ _ => Cert.ReferenceIdeal.Gen.frame m ρ,
  fun m ρ _ => Cert.Coarse.Gen.frame m ρ, fun m ρ _ => Cert.CoarseIdeal.Gen.frame m ρ, fun m ρ _ => Cert.CoarseReferenceIdeal.Gen.frame m ρ,
  preserves, algebraic, preserves_coarse, algebraic_coarse⟩

end Cert.Proof
